-- ==== Defs.lean ====
def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelWQkv (m : (ℓ : Loc Cert.KernelWQkv.nD Cert.KernelWQkv.τ Cert.KernelWQkv.sig) → Buf (Elt Bits) ℓ) : Prop :=
  True

def Pre_KernelWQkvIdeal (m : (ℓ : Loc Cert.KernelWQkvIdeal.nD Cert.KernelWQkvIdeal.τ Cert.KernelWQkvIdeal.sig) → Buf (Elt Ideal) ℓ) : Prop :=
  True

def Pre_ReferenceWQkvIdeal (m : (ℓ : Loc Cert.ReferenceWQkvIdeal.nD Cert.ReferenceWQkvIdeal.τ Cert.ReferenceWQkvIdeal.sig) → Buf (Elt Ideal) ℓ) : Prop :=
  True

def Pre_KernelWZ (m : (ℓ : Loc Cert.KernelWZ.nD Cert.KernelWZ.τ Cert.KernelWZ.sig) → Buf (Elt Bits) ℓ) : Prop :=
  True

def Pre_KernelWZIdeal (m : (ℓ : Loc Cert.KernelWZIdeal.nD Cert.KernelWZIdeal.τ Cert.KernelWZIdeal.sig) → Buf (Elt Ideal) ℓ) : Prop :=
  True

def Pre_ReferenceWZIdeal (m : (ℓ : Loc Cert.ReferenceWZIdeal.nD Cert.ReferenceWZIdeal.τ Cert.ReferenceWZIdeal.sig) → Buf (Elt Ideal) ℓ) : Prop :=
  True

def Pre_KernelWBa (m : (ℓ : Loc Cert.KernelWBa.nD Cert.KernelWBa.τ Cert.KernelWBa.sig) → Buf (Elt Bits) ℓ) : Prop :=
  True

def Pre_KernelWBaIdeal (m : (ℓ : Loc Cert.KernelWBaIdeal.nD Cert.KernelWBaIdeal.τ Cert.KernelWBaIdeal.sig) → Buf (Elt Ideal) ℓ) : Prop :=
  True

def Pre_ReferenceWBaIdeal (m : (ℓ : Loc Cert.ReferenceWBaIdeal.nD Cert.ReferenceWBaIdeal.τ Cert.ReferenceWBaIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelWQ (m : (ℓ : Loc Cert.KernelWQ.nD Cert.KernelWQ.τ Cert.KernelWQ.sig) → Buf (Elt Bits) ℓ) : Prop :=
  True

def Pre_KernelWQIdeal (m : (ℓ : Loc Cert.KernelWQIdeal.nD Cert.KernelWQIdeal.τ Cert.KernelWQIdeal.sig) → Buf (Elt Ideal) ℓ) : Prop :=
  True

def Pre_ReferenceWQIdeal (m : (ℓ : Loc Cert.ReferenceWQIdeal.nD Cert.ReferenceWQIdeal.τ Cert.ReferenceWQIdeal.sig) → Buf (Elt Ideal) ℓ) : Prop :=
  True

def Pre_KernelWKv (m : (ℓ : Loc Cert.KernelWKv.nD Cert.KernelWKv.τ Cert.KernelWKv.sig) → Buf (Elt Bits) ℓ) : Prop :=
  True

def Pre_KernelWKvIdeal (m : (ℓ : Loc Cert.KernelWKvIdeal.nD Cert.KernelWKvIdeal.τ Cert.KernelWKvIdeal.sig) → Buf (Elt Ideal) ℓ) : Prop :=
  True

def Pre_ReferenceWKvIdeal (m : (ℓ : Loc Cert.ReferenceWKvIdeal.nD Cert.ReferenceWKvIdeal.τ Cert.ReferenceWKvIdeal.sig) → Buf (Elt Ideal) ℓ) : Prop :=
  True

def Pre_KernelWGate (m : (ℓ : Loc Cert.KernelWGate.nD Cert.KernelWGate.τ Cert.KernelWGate.sig) → Buf (Elt Bits) ℓ) : Prop :=
  True

def Pre_KernelWGateIdeal (m : (ℓ : Loc Cert.KernelWGateIdeal.nD Cert.KernelWGateIdeal.τ Cert.KernelWGateIdeal.sig) → Buf (Elt Ideal) ℓ) : Prop :=
  True

def Pre_ReferenceWGateIdeal (m : (ℓ : Loc Cert.ReferenceWGateIdeal.nD Cert.ReferenceWGateIdeal.τ Cert.ReferenceWGateIdeal.sig) → Buf (Elt Ideal) ℓ) : Prop :=
  True

def Pre_KernelAIn (m : (ℓ : Loc Cert.KernelAIn.nD Cert.KernelAIn.τ Cert.KernelAIn.sig) → Buf (Elt Bits) ℓ) : Prop :=
  True

def Pre_KernelAInIdeal (m : (ℓ : Loc Cert.KernelAInIdeal.nD Cert.KernelAInIdeal.τ Cert.KernelAInIdeal.sig) → Buf (Elt Ideal) ℓ) : Prop :=
  True

def Pre_ReferenceAInIdeal (m : (ℓ : Loc Cert.ReferenceAInIdeal.nD Cert.ReferenceAInIdeal.τ Cert.ReferenceAInIdeal.sig) → Buf (Elt Ideal) ℓ) : Prop :=
  True

def Pre_KernelMid (m : (ℓ : Loc Cert.KernelMid.nD Cert.KernelMid.τ Cert.KernelMid.sig) → Buf (Elt Bits) ℓ) : Prop :=
  True

def Pre_KernelMidIdeal (m : (ℓ : Loc Cert.KernelMidIdeal.nD Cert.KernelMidIdeal.τ Cert.KernelMidIdeal.sig) → Buf (Elt Ideal) ℓ) : Prop :=
  True

def Pre_ReferenceMidIdeal (m : (ℓ : Loc Cert.ReferenceMidIdeal.nD Cert.ReferenceMidIdeal.τ Cert.ReferenceMidIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelPairA (m : (ℓ : Loc Cert.KernelPairA.nD Cert.KernelPairA.τ Cert.KernelPairA.sig) → Buf (Elt Bits) ℓ) : Prop :=
  True

def Pre_KernelPairAIdeal (m : (ℓ : Loc Cert.KernelPairAIdeal.nD Cert.KernelPairAIdeal.τ Cert.KernelPairAIdeal.sig) → Buf (Elt Ideal) ℓ) : Prop :=
  True

def Pre_ReferencePairAIdeal (m : (ℓ : Loc Cert.ReferencePairAIdeal.nD Cert.ReferencePairAIdeal.τ Cert.ReferencePairAIdeal.sig) → Buf (Elt Ideal) ℓ) : Prop :=
  True

def Pre_KernelPairB (m : (ℓ : Loc Cert.KernelPairB.nD Cert.KernelPairB.τ Cert.KernelPairB.sig) → Buf (Elt Bits) ℓ) : Prop :=
  True

def Pre_KernelPairBIdeal (m : (ℓ : Loc Cert.KernelPairBIdeal.nD Cert.KernelPairBIdeal.τ Cert.KernelPairBIdeal.sig) → Buf (Elt Ideal) ℓ) : Prop :=
  True

def Pre_ReferencePairBIdeal (m : (ℓ : Loc Cert.ReferencePairBIdeal.nD Cert.ReferencePairBIdeal.τ Cert.ReferencePairBIdeal.sig) → Buf (Elt Ideal) ℓ) : Prop :=
  True

def Pre_KernelAdamA (m : (ℓ : Loc Cert.KernelAdamA.nD Cert.KernelAdamA.τ Cert.KernelAdamA.sig) → Buf (Elt Bits) ℓ) : Prop :=
  True

def Pre_KernelAdamAIdeal (m : (ℓ : Loc Cert.KernelAdamAIdeal.nD Cert.KernelAdamAIdeal.τ Cert.KernelAdamAIdeal.sig) → Buf (Elt Ideal) ℓ) : Prop :=
  True

def Pre_ReferenceAdamAIdeal (m : (ℓ : Loc Cert.ReferenceAdamAIdeal.nD Cert.ReferenceAdamAIdeal.τ Cert.ReferenceAdamAIdeal.sig) → Buf (Elt Ideal) ℓ) : Prop :=
  True

def Pre_KernelAdamB (m : (ℓ : Loc Cert.KernelAdamB.nD Cert.KernelAdamB.τ Cert.KernelAdamB.sig) → Buf (Elt Bits) ℓ) : Prop :=
  True

def Pre_KernelAdamBIdeal (m : (ℓ : Loc Cert.KernelAdamBIdeal.nD Cert.KernelAdamBIdeal.τ Cert.KernelAdamBIdeal.sig) → Buf (Elt Ideal) ℓ) : Prop :=
  True

def Pre_ReferenceAdamBIdeal (m : (ℓ : Loc Cert.ReferenceAdamBIdeal.nD Cert.ReferenceAdamBIdeal.τ Cert.ReferenceAdamBIdeal.sig) → Buf (Elt Ideal) ℓ) : Prop :=
  True

def Pre_KernelAdamC (m : (ℓ : Loc Cert.KernelAdamC.nD Cert.KernelAdamC.τ Cert.KernelAdamC.sig) → Buf (Elt Bits) ℓ) : Prop :=
  True

def Pre_KernelAdamCIdeal (m : (ℓ : Loc Cert.KernelAdamCIdeal.nD Cert.KernelAdamCIdeal.τ Cert.KernelAdamCIdeal.sig) → Buf (Elt Ideal) ℓ) : Prop :=
  True

def Pre_ReferenceAdamCIdeal (m : (ℓ : Loc Cert.ReferenceAdamCIdeal.nD Cert.ReferenceAdamCIdeal.τ Cert.ReferenceAdamCIdeal.sig) → Buf (Elt Ideal) ℓ) : Prop :=
  True

def Pre_KernelAdamS (m : (ℓ : Loc Cert.KernelAdamS.nD Cert.KernelAdamS.τ Cert.KernelAdamS.sig) → Buf (Elt Bits) ℓ) : Prop :=
  True

def Pre_KernelAdamSIdeal (m : (ℓ : Loc Cert.KernelAdamSIdeal.nD Cert.KernelAdamSIdeal.τ Cert.KernelAdamSIdeal.sig) → Buf (Elt Ideal) ℓ) : Prop :=
  True

def Pre_ReferenceAdamSIdeal (m : (ℓ : Loc Cert.ReferenceAdamSIdeal.nD Cert.ReferenceAdamSIdeal.τ Cert.ReferenceAdamSIdeal.sig) → Buf (Elt Ideal) ℓ) : Prop :=
  True

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2)
      ∧ r.2.mem ((c.tc : Thread Cert.KernelGate.nD Cert.KernelGate.τ).loc Cert.KernelGate.main_arg3) = m ((c.tc : Thread Cert.KernelGate.nD Cert.KernelGate.τ).loc Cert.KernelGate.main_arg3)
      ∧ r.2.mem ((c.tc : Thread Cert.KernelGate.nD Cert.KernelGate.τ).loc Cert.KernelGate.main_arg4) = m ((c.tc : Thread Cert.KernelGate.nD Cert.KernelGate.τ).loc Cert.KernelGate.main_arg4))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
      ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
      ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2)
      ∧ r.2.mem ((c.tc : Thread Cert.ReferenceGateIdeal.nD Cert.ReferenceGateIdeal.τ).loc Cert.ReferenceGateIdeal.main_arg3) = m ((c.tc : Thread Cert.ReferenceGateIdeal.nD Cert.ReferenceGateIdeal.τ).loc Cert.ReferenceGateIdeal.main_arg3)
      ∧ r.2.mem ((c.tc : Thread Cert.ReferenceGateIdeal.nD Cert.ReferenceGateIdeal.τ).loc Cert.ReferenceGateIdeal.main_arg4) = m ((c.tc : Thread Cert.ReferenceGateIdeal.nD Cert.ReferenceGateIdeal.τ).loc Cert.ReferenceGateIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3))
      ∧ r.2.sem = fun _ => 0)

def quiescent_KernelWQkv [hKernelWQkv : Cert.KernelWQkv.Facts] : Prop :=
  ∀ (m : (ℓ : Loc Cert.KernelWQkv.nD Cert.KernelWQkv.τ Cert.KernelWQkv.sig) → Buf (Elt Bits) ℓ) (g : Dev Cert.KernelWQkv.nD → PrngReg), Pre_KernelWQkv m →
    θ_run (Cert.KernelWQkv.defs (F := Bits)) (onTc (τ := Cert.KernelWQkv.τ) (Cert.KernelWQkv.main (F := Bits))) ⟨m, fun _ => 0, g⟩ (fun r => (∀ c : Dev Cert.KernelWQkv.nD,
      r.2.mem ((c.tc : Thread Cert.KernelWQkv.nD Cert.KernelWQkv.τ).loc Cert.KernelWQkv.main_arg0) = m ((c.tc : Thread Cert.KernelWQkv.nD Cert.KernelWQkv.τ).loc Cert.KernelWQkv.main_arg0)
      ∧ r.2.mem ((c.tc : Thread Cert.KernelWQkv.nD Cert.KernelWQkv.τ).loc Cert.KernelWQkv.main_arg1) = m ((c.tc : Thread Cert.KernelWQkv.nD Cert.KernelWQkv.τ).loc Cert.KernelWQkv.main_arg1)
      ∧ r.2.mem ((c.tc : Thread Cert.KernelWQkv.nD Cert.KernelWQkv.τ).loc Cert.KernelWQkv.main_arg2) = m ((c.tc : Thread Cert.KernelWQkv.nD Cert.KernelWQkv.τ).loc Cert.KernelWQkv.main_arg2)
      ∧ r.2.mem ((c.tc : Thread Cert.KernelWQkv.nD Cert.KernelWQkv.τ).loc Cert.KernelWQkv.main_arg3) = m ((c.tc : Thread Cert.KernelWQkv.nD Cert.KernelWQkv.τ).loc Cert.KernelWQkv.main_arg3))
      ∧ r.2.sem = fun _ => 0)

def quiescent_KernelWQkvIdeal [hKernelWQkvIdeal : Cert.KernelWQkvIdeal.Facts] : Prop :=
  ∀ (m : (ℓ : Loc Cert.KernelWQkvIdeal.nD Cert.KernelWQkvIdeal.τ Cert.KernelWQkvIdeal.sig) → Buf (Elt Ideal) ℓ) (g : Dev Cert.KernelWQkvIdeal.nD → PrngReg), Pre_KernelWQkvIdeal m →
    θ_run (Cert.KernelWQkvIdeal.defs (F := Ideal)) (onTc (τ := Cert.KernelWQkvIdeal.τ) (Cert.KernelWQkvIdeal.main (F := Ideal))) ⟨m, fun _ => 0, g⟩ (fun r => (∀ c : Dev Cert.KernelWQkvIdeal.nD,
      r.2.mem ((c.tc : Thread Cert.KernelWQkvIdeal.nD Cert.KernelWQkvIdeal.τ).loc Cert.KernelWQkvIdeal.main_arg0) = m ((c.tc : Thread Cert.KernelWQkvIdeal.nD Cert.KernelWQkvIdeal.τ).loc Cert.KernelWQkvIdeal.main_arg0)
      ∧ r.2.mem ((c.tc : Thread Cert.KernelWQkvIdeal.nD Cert.KernelWQkvIdeal.τ).loc Cert.KernelWQkvIdeal.main_arg1) = m ((c.tc : Thread Cert.KernelWQkvIdeal.nD Cert.KernelWQkvIdeal.τ).loc Cert.KernelWQkvIdeal.main_arg1)
      ∧ r.2.mem ((c.tc : Thread Cert.KernelWQkvIdeal.nD Cert.KernelWQkvIdeal.τ).loc Cert.KernelWQkvIdeal.main_arg2) = m ((c.tc : Thread Cert.KernelWQkvIdeal.nD Cert.KernelWQkvIdeal.τ).loc Cert.KernelWQkvIdeal.main_arg2)
      ∧ r.2.mem ((c.tc : Thread Cert.KernelWQkvIdeal.nD Cert.KernelWQkvIdeal.τ).loc Cert.KernelWQkvIdeal.main_arg3) = m ((c.tc : Thread Cert.KernelWQkvIdeal.nD Cert.KernelWQkvIdeal.τ).loc Cert.KernelWQkvIdeal.main_arg3))
      ∧ r.2.sem = fun _ => 0)

def quiescent_ReferenceWQkvIdeal [hReferenceWQkvIdeal : Cert.ReferenceWQkvIdeal.Facts] : Prop :=
  ∀ (m : (ℓ : Loc Cert.ReferenceWQkvIdeal.nD Cert.ReferenceWQkvIdeal.τ Cert.ReferenceWQkvIdeal.sig) → Buf (Elt Ideal) ℓ) (g : Dev Cert.ReferenceWQkvIdeal.nD → PrngReg), Pre_ReferenceWQkvIdeal m →
    θ_run (Cert.ReferenceWQkvIdeal.defs (F := Ideal)) (onTc (τ := Cert.ReferenceWQkvIdeal.τ) (Cert.ReferenceWQkvIdeal.main (F := Ideal))) ⟨m, fun _ => 0, g⟩ (fun r => (∀ c : Dev Cert.ReferenceWQkvIdeal.nD,
      r.2.mem ((c.tc : Thread Cert.ReferenceWQkvIdeal.nD Cert.ReferenceWQkvIdeal.τ).loc Cert.ReferenceWQkvIdeal.main_arg0) = m ((c.tc : Thread Cert.ReferenceWQkvIdeal.nD Cert.ReferenceWQkvIdeal.τ).loc Cert.ReferenceWQkvIdeal.main_arg0)
      ∧ r.2.mem ((c.tc : Thread Cert.ReferenceWQkvIdeal.nD Cert.ReferenceWQkvIdeal.τ).loc Cert.ReferenceWQkvIdeal.main_arg1) = m ((c.tc : Thread Cert.ReferenceWQkvIdeal.nD Cert.ReferenceWQkvIdeal.τ).loc Cert.ReferenceWQkvIdeal.main_arg1)
      ∧ r.2.mem ((c.tc : Thread Cert.ReferenceWQkvIdeal.nD Cert.ReferenceWQkvIdeal.τ).loc Cert.ReferenceWQkvIdeal.main_arg2) = m ((c.tc : Thread Cert.ReferenceWQkvIdeal.nD Cert.ReferenceWQkvIdeal.τ).loc Cert.ReferenceWQkvIdeal.main_arg2)
      ∧ r.2.mem ((c.tc : Thread Cert.ReferenceWQkvIdeal.nD Cert.ReferenceWQkvIdeal.τ).loc Cert.ReferenceWQkvIdeal.main_arg3) = m ((c.tc : Thread Cert.ReferenceWQkvIdeal.nD Cert.ReferenceWQkvIdeal.τ).loc Cert.ReferenceWQkvIdeal.main_arg3))
      ∧ r.2.sem = fun _ => 0)

def quiescent_KernelWZ [hKernelWZ : Cert.KernelWZ.Facts] : Prop :=
  ∀ (m : (ℓ : Loc Cert.KernelWZ.nD Cert.KernelWZ.τ Cert.KernelWZ.sig) → Buf (Elt Bits) ℓ) (g : Dev Cert.KernelWZ.nD → PrngReg), Pre_KernelWZ m →
    θ_run (Cert.KernelWZ.defs (F := Bits)) (onTc (τ := Cert.KernelWZ.τ) (Cert.KernelWZ.main (F := Bits))) ⟨m, fun _ => 0, g⟩ (fun r => (∀ c : Dev Cert.KernelWZ.nD,
      r.2.mem ((c.tc : Thread Cert.KernelWZ.nD Cert.KernelWZ.τ).loc Cert.KernelWZ.main_arg0) = m ((c.tc : Thread Cert.KernelWZ.nD Cert.KernelWZ.τ).loc Cert.KernelWZ.main_arg0)
      ∧ r.2.mem ((c.tc : Thread Cert.KernelWZ.nD Cert.KernelWZ.τ).loc Cert.KernelWZ.main_arg1) = m ((c.tc : Thread Cert.KernelWZ.nD Cert.KernelWZ.τ).loc Cert.KernelWZ.main_arg1)
      ∧ r.2.mem ((c.tc : Thread Cert.KernelWZ.nD Cert.KernelWZ.τ).loc Cert.KernelWZ.main_arg2) = m ((c.tc : Thread Cert.KernelWZ.nD Cert.KernelWZ.τ).loc Cert.KernelWZ.main_arg2)
      ∧ r.2.mem ((c.tc : Thread Cert.KernelWZ.nD Cert.KernelWZ.τ).loc Cert.KernelWZ.main_arg3) = m ((c.tc : Thread Cert.KernelWZ.nD Cert.KernelWZ.τ).loc Cert.KernelWZ.main_arg3))
      ∧ r.2.sem = fun _ => 0)

def quiescent_KernelWZIdeal [hKernelWZIdeal : Cert.KernelWZIdeal.Facts] : Prop :=
  ∀ (m : (ℓ : Loc Cert.KernelWZIdeal.nD Cert.KernelWZIdeal.τ Cert.KernelWZIdeal.sig) → Buf (Elt Ideal) ℓ) (g : Dev Cert.KernelWZIdeal.nD → PrngReg), Pre_KernelWZIdeal m →
    θ_run (Cert.KernelWZIdeal.defs (F := Ideal)) (onTc (τ := Cert.KernelWZIdeal.τ) (Cert.KernelWZIdeal.main (F := Ideal))) ⟨m, fun _ => 0, g⟩ (fun r => (∀ c : Dev Cert.KernelWZIdeal.nD,
      r.2.mem ((c.tc : Thread Cert.KernelWZIdeal.nD Cert.KernelWZIdeal.τ).loc Cert.KernelWZIdeal.main_arg0) = m ((c.tc : Thread Cert.KernelWZIdeal.nD Cert.KernelWZIdeal.τ).loc Cert.KernelWZIdeal.main_arg0)
      ∧ r.2.mem ((c.tc : Thread Cert.KernelWZIdeal.nD Cert.KernelWZIdeal.τ).loc Cert.KernelWZIdeal.main_arg1) = m ((c.tc : Thread Cert.KernelWZIdeal.nD Cert.KernelWZIdeal.τ).loc Cert.KernelWZIdeal.main_arg1)
      ∧ r.2.mem ((c.tc : Thread Cert.KernelWZIdeal.nD Cert.KernelWZIdeal.τ).loc Cert.KernelWZIdeal.main_arg2) = m ((c.tc : Thread Cert.KernelWZIdeal.nD Cert.KernelWZIdeal.τ).loc Cert.KernelWZIdeal.main_arg2)
      ∧ r.2.mem ((c.tc : Thread Cert.KernelWZIdeal.nD Cert.KernelWZIdeal.τ).loc Cert.KernelWZIdeal.main_arg3) = m ((c.tc : Thread Cert.KernelWZIdeal.nD Cert.KernelWZIdeal.τ).loc Cert.KernelWZIdeal.main_arg3))
      ∧ r.2.sem = fun _ => 0)

def quiescent_ReferenceWZIdeal [hReferenceWZIdeal : Cert.ReferenceWZIdeal.Facts] : Prop :=
  ∀ (m : (ℓ : Loc Cert.ReferenceWZIdeal.nD Cert.ReferenceWZIdeal.τ Cert.ReferenceWZIdeal.sig) → Buf (Elt Ideal) ℓ) (g : Dev Cert.ReferenceWZIdeal.nD → PrngReg), Pre_ReferenceWZIdeal m →
    θ_run (Cert.ReferenceWZIdeal.defs (F := Ideal)) (onTc (τ := Cert.ReferenceWZIdeal.τ) (Cert.ReferenceWZIdeal.main (F := Ideal))) ⟨m, fun _ => 0, g⟩ (fun r => (∀ c : Dev Cert.ReferenceWZIdeal.nD,
      r.2.mem ((c.tc : Thread Cert.ReferenceWZIdeal.nD Cert.ReferenceWZIdeal.τ).loc Cert.ReferenceWZIdeal.main_arg0) = m ((c.tc : Thread Cert.ReferenceWZIdeal.nD Cert.ReferenceWZIdeal.τ).loc Cert.ReferenceWZIdeal.main_arg0)
      ∧ r.2.mem ((c.tc : Thread Cert.ReferenceWZIdeal.nD Cert.ReferenceWZIdeal.τ).loc Cert.ReferenceWZIdeal.main_arg1) = m ((c.tc : Thread Cert.ReferenceWZIdeal.nD Cert.ReferenceWZIdeal.τ).loc Cert.ReferenceWZIdeal.main_arg1)
      ∧ r.2.mem ((c.tc : Thread Cert.ReferenceWZIdeal.nD Cert.ReferenceWZIdeal.τ).loc Cert.ReferenceWZIdeal.main_arg2) = m ((c.tc : Thread Cert.ReferenceWZIdeal.nD Cert.ReferenceWZIdeal.τ).loc Cert.ReferenceWZIdeal.main_arg2)
      ∧ r.2.mem ((c.tc : Thread Cert.ReferenceWZIdeal.nD Cert.ReferenceWZIdeal.τ).loc Cert.ReferenceWZIdeal.main_arg3) = m ((c.tc : Thread Cert.ReferenceWZIdeal.nD Cert.ReferenceWZIdeal.τ).loc Cert.ReferenceWZIdeal.main_arg3))
      ∧ r.2.sem = fun _ => 0)

def quiescent_KernelWBa [hKernelWBa : Cert.KernelWBa.Facts] : Prop :=
  ∀ (m : (ℓ : Loc Cert.KernelWBa.nD Cert.KernelWBa.τ Cert.KernelWBa.sig) → Buf (Elt Bits) ℓ) (g : Dev Cert.KernelWBa.nD → PrngReg), Pre_KernelWBa m →
    θ_run (Cert.KernelWBa.defs (F := Bits)) (onTc (τ := Cert.KernelWBa.τ) (Cert.KernelWBa.main (F := Bits))) ⟨m, fun _ => 0, g⟩ (fun r => (∀ c : Dev Cert.KernelWBa.nD,
      r.2.mem ((c.tc : Thread Cert.KernelWBa.nD Cert.KernelWBa.τ).loc Cert.KernelWBa.main_arg0) = m ((c.tc : Thread Cert.KernelWBa.nD Cert.KernelWBa.τ).loc Cert.KernelWBa.main_arg0)
      ∧ r.2.mem ((c.tc : Thread Cert.KernelWBa.nD Cert.KernelWBa.τ).loc Cert.KernelWBa.main_arg1) = m ((c.tc : Thread Cert.KernelWBa.nD Cert.KernelWBa.τ).loc Cert.KernelWBa.main_arg1)
      ∧ r.2.mem ((c.tc : Thread Cert.KernelWBa.nD Cert.KernelWBa.τ).loc Cert.KernelWBa.main_arg2) = m ((c.tc : Thread Cert.KernelWBa.nD Cert.KernelWBa.τ).loc Cert.KernelWBa.main_arg2)
      ∧ r.2.mem ((c.tc : Thread Cert.KernelWBa.nD Cert.KernelWBa.τ).loc Cert.KernelWBa.main_arg3) = m ((c.tc : Thread Cert.KernelWBa.nD Cert.KernelWBa.τ).loc Cert.KernelWBa.main_arg3))
      ∧ r.2.sem = fun _ => 0)

def quiescent_KernelWBaIdeal [hKernelWBaIdeal : Cert.KernelWBaIdeal.Facts] : Prop :=
  ∀ (m : (ℓ : Loc Cert.KernelWBaIdeal.nD Cert.KernelWBaIdeal.τ Cert.KernelWBaIdeal.sig) → Buf (Elt Ideal) ℓ) (g : Dev Cert.KernelWBaIdeal.nD → PrngReg), Pre_KernelWBaIdeal m →
    θ_run (Cert.KernelWBaIdeal.defs (F := Ideal)) (onTc (τ := Cert.KernelWBaIdeal.τ) (Cert.KernelWBaIdeal.main (F := Ideal))) ⟨m, fun _ => 0, g⟩ (fun r => (∀ c : Dev Cert.KernelWBaIdeal.nD,
      r.2.mem ((c.tc : Thread Cert.KernelWBaIdeal.nD Cert.KernelWBaIdeal.τ).loc Cert.KernelWBaIdeal.main_arg0) = m ((c.tc : Thread Cert.KernelWBaIdeal.nD Cert.KernelWBaIdeal.τ).loc Cert.KernelWBaIdeal.main_arg0)
      ∧ r.2.mem ((c.tc : Thread Cert.KernelWBaIdeal.nD Cert.KernelWBaIdeal.τ).loc Cert.KernelWBaIdeal.main_arg1) = m ((c.tc : Thread Cert.KernelWBaIdeal.nD Cert.KernelWBaIdeal.τ).loc Cert.KernelWBaIdeal.main_arg1)
      ∧ r.2.mem ((c.tc : Thread Cert.KernelWBaIdeal.nD Cert.KernelWBaIdeal.τ).loc Cert.KernelWBaIdeal.main_arg2) = m ((c.tc : Thread Cert.KernelWBaIdeal.nD Cert.KernelWBaIdeal.τ).loc Cert.KernelWBaIdeal.main_arg2)
      ∧ r.2.mem ((c.tc : Thread Cert.KernelWBaIdeal.nD Cert.KernelWBaIdeal.τ).loc Cert.KernelWBaIdeal.main_arg3) = m ((c.tc : Thread Cert.KernelWBaIdeal.nD Cert.KernelWBaIdeal.τ).loc Cert.KernelWBaIdeal.main_arg3))
      ∧ r.2.sem = fun _ => 0)

def quiescent_ReferenceWBaIdeal [hReferenceWBaIdeal : Cert.ReferenceWBaIdeal.Facts] : Prop :=
  ∀ (m : (ℓ : Loc Cert.ReferenceWBaIdeal.nD Cert.ReferenceWBaIdeal.τ Cert.ReferenceWBaIdeal.sig) → Buf (Elt Ideal) ℓ) (g : Dev Cert.ReferenceWBaIdeal.nD → PrngReg), Pre_ReferenceWBaIdeal m →
    θ_run (Cert.ReferenceWBaIdeal.defs (F := Ideal)) (onTc (τ := Cert.ReferenceWBaIdeal.τ) (Cert.ReferenceWBaIdeal.main (F := Ideal))) ⟨m, fun _ => 0, g⟩ (fun r => (∀ c : Dev Cert.ReferenceWBaIdeal.nD,
      r.2.mem ((c.tc : Thread Cert.ReferenceWBaIdeal.nD Cert.ReferenceWBaIdeal.τ).loc Cert.ReferenceWBaIdeal.main_arg0) = m ((c.tc : Thread Cert.ReferenceWBaIdeal.nD Cert.ReferenceWBaIdeal.τ).loc Cert.ReferenceWBaIdeal.main_arg0)
      ∧ r.2.mem ((c.tc : Thread Cert.ReferenceWBaIdeal.nD Cert.ReferenceWBaIdeal.τ).loc Cert.ReferenceWBaIdeal.main_arg1) = m ((c.tc : Thread Cert.ReferenceWBaIdeal.nD Cert.ReferenceWBaIdeal.τ).loc Cert.ReferenceWBaIdeal.main_arg1)
      ∧ r.2.mem ((c.tc : Thread Cert.ReferenceWBaIdeal.nD Cert.ReferenceWBaIdeal.τ).loc Cert.ReferenceWBaIdeal.main_arg2) = m ((c.tc : Thread Cert.ReferenceWBaIdeal.nD Cert.ReferenceWBaIdeal.τ).loc Cert.ReferenceWBaIdeal.main_arg2)
      ∧ r.2.mem ((c.tc : Thread Cert.ReferenceWBaIdeal.nD Cert.ReferenceWBaIdeal.τ).loc Cert.ReferenceWBaIdeal.main_arg3) = m ((c.tc : Thread Cert.ReferenceWBaIdeal.nD Cert.ReferenceWBaIdeal.τ).loc Cert.ReferenceWBaIdeal.main_arg3))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1)
      ∧ r.2.mem ((c.tc : Thread Cert.KernelWOut.nD Cert.KernelWOut.τ).loc Cert.KernelWOut.main_arg2) = m ((c.tc : Thread Cert.KernelWOut.nD Cert.KernelWOut.τ).loc Cert.KernelWOut.main_arg2)
      ∧ r.2.mem ((c.tc : Thread Cert.KernelWOut.nD Cert.KernelWOut.τ).loc Cert.KernelWOut.main_arg3) = m ((c.tc : Thread Cert.KernelWOut.nD Cert.KernelWOut.τ).loc Cert.KernelWOut.main_arg3)
      ∧ r.2.mem ((c.tc : Thread Cert.KernelWOut.nD Cert.KernelWOut.τ).loc Cert.KernelWOut.main_arg4) = m ((c.tc : Thread Cert.KernelWOut.nD Cert.KernelWOut.τ).loc Cert.KernelWOut.main_arg4))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
      ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2)
      ∧ r.2.mem ((c.tc : Thread Cert.KernelWOutIdeal.nD Cert.KernelWOutIdeal.τ).loc Cert.KernelWOutIdeal.main_arg3) = m ((c.tc : Thread Cert.KernelWOutIdeal.nD Cert.KernelWOutIdeal.τ).loc Cert.KernelWOutIdeal.main_arg3)
      ∧ r.2.mem ((c.tc : Thread Cert.KernelWOutIdeal.nD Cert.KernelWOutIdeal.τ).loc Cert.KernelWOutIdeal.main_arg4) = m ((c.tc : Thread Cert.KernelWOutIdeal.nD Cert.KernelWOutIdeal.τ).loc Cert.KernelWOutIdeal.main_arg4))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1)
      ∧ r.2.mem ((c.tc : Thread Cert.ReferenceWOutIdeal.nD Cert.ReferenceWOutIdeal.τ).loc Cert.ReferenceWOutIdeal.main_arg2) = m ((c.tc : Thread Cert.ReferenceWOutIdeal.nD Cert.ReferenceWOutIdeal.τ).loc Cert.ReferenceWOutIdeal.main_arg2)
      ∧ r.2.mem ((c.tc : Thread Cert.ReferenceWOutIdeal.nD Cert.ReferenceWOutIdeal.τ).loc Cert.ReferenceWOutIdeal.main_arg3) = m ((c.tc : Thread Cert.ReferenceWOutIdeal.nD Cert.ReferenceWOutIdeal.τ).loc Cert.ReferenceWOutIdeal.main_arg3)
      ∧ r.2.mem ((c.tc : Thread Cert.ReferenceWOutIdeal.nD Cert.ReferenceWOutIdeal.τ).loc Cert.ReferenceWOutIdeal.main_arg4) = m ((c.tc : Thread Cert.ReferenceWOutIdeal.nD Cert.ReferenceWOutIdeal.τ).loc Cert.ReferenceWOutIdeal.main_arg4))
      ∧ r.2.sem = fun _ => 0)

def quiescent_KernelWQ [hKernelWQ : Cert.KernelWQ.Facts] : Prop :=
  ∀ (m : (ℓ : Loc Cert.KernelWQ.nD Cert.KernelWQ.τ Cert.KernelWQ.sig) → Buf (Elt Bits) ℓ) (g : Dev Cert.KernelWQ.nD → PrngReg), Pre_KernelWQ m →
    θ_run (Cert.KernelWQ.defs (F := Bits)) (onTc (τ := Cert.KernelWQ.τ) (Cert.KernelWQ.main (F := Bits))) ⟨m, fun _ => 0, g⟩ (fun r => (∀ c : Dev Cert.KernelWQ.nD,
      r.2.mem ((c.tc : Thread Cert.KernelWQ.nD Cert.KernelWQ.τ).loc Cert.KernelWQ.main_arg0) = m ((c.tc : Thread Cert.KernelWQ.nD Cert.KernelWQ.τ).loc Cert.KernelWQ.main_arg0)
      ∧ r.2.mem ((c.tc : Thread Cert.KernelWQ.nD Cert.KernelWQ.τ).loc Cert.KernelWQ.main_arg1) = m ((c.tc : Thread Cert.KernelWQ.nD Cert.KernelWQ.τ).loc Cert.KernelWQ.main_arg1)
      ∧ r.2.mem ((c.tc : Thread Cert.KernelWQ.nD Cert.KernelWQ.τ).loc Cert.KernelWQ.main_arg2) = m ((c.tc : Thread Cert.KernelWQ.nD Cert.KernelWQ.τ).loc Cert.KernelWQ.main_arg2)
      ∧ r.2.mem ((c.tc : Thread Cert.KernelWQ.nD Cert.KernelWQ.τ).loc Cert.KernelWQ.main_arg3) = m ((c.tc : Thread Cert.KernelWQ.nD Cert.KernelWQ.τ).loc Cert.KernelWQ.main_arg3))
      ∧ r.2.sem = fun _ => 0)

def quiescent_KernelWQIdeal [hKernelWQIdeal : Cert.KernelWQIdeal.Facts] : Prop :=
  ∀ (m : (ℓ : Loc Cert.KernelWQIdeal.nD Cert.KernelWQIdeal.τ Cert.KernelWQIdeal.sig) → Buf (Elt Ideal) ℓ) (g : Dev Cert.KernelWQIdeal.nD → PrngReg), Pre_KernelWQIdeal m →
    θ_run (Cert.KernelWQIdeal.defs (F := Ideal)) (onTc (τ := Cert.KernelWQIdeal.τ) (Cert.KernelWQIdeal.main (F := Ideal))) ⟨m, fun _ => 0, g⟩ (fun r => (∀ c : Dev Cert.KernelWQIdeal.nD,
      r.2.mem ((c.tc : Thread Cert.KernelWQIdeal.nD Cert.KernelWQIdeal.τ).loc Cert.KernelWQIdeal.main_arg0) = m ((c.tc : Thread Cert.KernelWQIdeal.nD Cert.KernelWQIdeal.τ).loc Cert.KernelWQIdeal.main_arg0)
      ∧ r.2.mem ((c.tc : Thread Cert.KernelWQIdeal.nD Cert.KernelWQIdeal.τ).loc Cert.KernelWQIdeal.main_arg1) = m ((c.tc : Thread Cert.KernelWQIdeal.nD Cert.KernelWQIdeal.τ).loc Cert.KernelWQIdeal.main_arg1)
      ∧ r.2.mem ((c.tc : Thread Cert.KernelWQIdeal.nD Cert.KernelWQIdeal.τ).loc Cert.KernelWQIdeal.main_arg2) = m ((c.tc : Thread Cert.KernelWQIdeal.nD Cert.KernelWQIdeal.τ).loc Cert.KernelWQIdeal.main_arg2)
      ∧ r.2.mem ((c.tc : Thread Cert.KernelWQIdeal.nD Cert.KernelWQIdeal.τ).loc Cert.KernelWQIdeal.main_arg3) = m ((c.tc : Thread Cert.KernelWQIdeal.nD Cert.KernelWQIdeal.τ).loc Cert.KernelWQIdeal.main_arg3))
      ∧ r.2.sem = fun _ => 0)

def quiescent_ReferenceWQIdeal [hReferenceWQIdeal : Cert.ReferenceWQIdeal.Facts] : Prop :=
  ∀ (m : (ℓ : Loc Cert.ReferenceWQIdeal.nD Cert.ReferenceWQIdeal.τ Cert.ReferenceWQIdeal.sig) → Buf (Elt Ideal) ℓ) (g : Dev Cert.ReferenceWQIdeal.nD → PrngReg), Pre_ReferenceWQIdeal m →
    θ_run (Cert.ReferenceWQIdeal.defs (F := Ideal)) (onTc (τ := Cert.ReferenceWQIdeal.τ) (Cert.ReferenceWQIdeal.main (F := Ideal))) ⟨m, fun _ => 0, g⟩ (fun r => (∀ c : Dev Cert.ReferenceWQIdeal.nD,
      r.2.mem ((c.tc : Thread Cert.ReferenceWQIdeal.nD Cert.ReferenceWQIdeal.τ).loc Cert.ReferenceWQIdeal.main_arg0) = m ((c.tc : Thread Cert.ReferenceWQIdeal.nD Cert.ReferenceWQIdeal.τ).loc Cert.ReferenceWQIdeal.main_arg0)
      ∧ r.2.mem ((c.tc : Thread Cert.ReferenceWQIdeal.nD Cert.ReferenceWQIdeal.τ).loc Cert.ReferenceWQIdeal.main_arg1) = m ((c.tc : Thread Cert.ReferenceWQIdeal.nD Cert.ReferenceWQIdeal.τ).loc Cert.ReferenceWQIdeal.main_arg1)
      ∧ r.2.mem ((c.tc : Thread Cert.ReferenceWQIdeal.nD Cert.ReferenceWQIdeal.τ).loc Cert.ReferenceWQIdeal.main_arg2) = m ((c.tc : Thread Cert.ReferenceWQIdeal.nD Cert.ReferenceWQIdeal.τ).loc Cert.ReferenceWQIdeal.main_arg2)
      ∧ r.2.mem ((c.tc : Thread Cert.ReferenceWQIdeal.nD Cert.ReferenceWQIdeal.τ).loc Cert.ReferenceWQIdeal.main_arg3) = m ((c.tc : Thread Cert.ReferenceWQIdeal.nD Cert.ReferenceWQIdeal.τ).loc Cert.ReferenceWQIdeal.main_arg3))
      ∧ r.2.sem = fun _ => 0)

def quiescent_KernelWKv [hKernelWKv : Cert.KernelWKv.Facts] : Prop :=
  ∀ (m : (ℓ : Loc Cert.KernelWKv.nD Cert.KernelWKv.τ Cert.KernelWKv.sig) → Buf (Elt Bits) ℓ) (g : Dev Cert.KernelWKv.nD → PrngReg), Pre_KernelWKv m →
    θ_run (Cert.KernelWKv.defs (F := Bits)) (onTc (τ := Cert.KernelWKv.τ) (Cert.KernelWKv.main (F := Bits))) ⟨m, fun _ => 0, g⟩ (fun r => (∀ c : Dev Cert.KernelWKv.nD,
      r.2.mem ((c.tc : Thread Cert.KernelWKv.nD Cert.KernelWKv.τ).loc Cert.KernelWKv.main_arg0) = m ((c.tc : Thread Cert.KernelWKv.nD Cert.KernelWKv.τ).loc Cert.KernelWKv.main_arg0)
      ∧ r.2.mem ((c.tc : Thread Cert.KernelWKv.nD Cert.KernelWKv.τ).loc Cert.KernelWKv.main_arg1) = m ((c.tc : Thread Cert.KernelWKv.nD Cert.KernelWKv.τ).loc Cert.KernelWKv.main_arg1)
      ∧ r.2.mem ((c.tc : Thread Cert.KernelWKv.nD Cert.KernelWKv.τ).loc Cert.KernelWKv.main_arg2) = m ((c.tc : Thread Cert.KernelWKv.nD Cert.KernelWKv.τ).loc Cert.KernelWKv.main_arg2)
      ∧ r.2.mem ((c.tc : Thread Cert.KernelWKv.nD Cert.KernelWKv.τ).loc Cert.KernelWKv.main_arg3) = m ((c.tc : Thread Cert.KernelWKv.nD Cert.KernelWKv.τ).loc Cert.KernelWKv.main_arg3))
      ∧ r.2.sem = fun _ => 0)

def quiescent_KernelWKvIdeal [hKernelWKvIdeal : Cert.KernelWKvIdeal.Facts] : Prop :=
  ∀ (m : (ℓ : Loc Cert.KernelWKvIdeal.nD Cert.KernelWKvIdeal.τ Cert.KernelWKvIdeal.sig) → Buf (Elt Ideal) ℓ) (g : Dev Cert.KernelWKvIdeal.nD → PrngReg), Pre_KernelWKvIdeal m →
    θ_run (Cert.KernelWKvIdeal.defs (F := Ideal)) (onTc (τ := Cert.KernelWKvIdeal.τ) (Cert.KernelWKvIdeal.main (F := Ideal))) ⟨m, fun _ => 0, g⟩ (fun r => (∀ c : Dev Cert.KernelWKvIdeal.nD,
      r.2.mem ((c.tc : Thread Cert.KernelWKvIdeal.nD Cert.KernelWKvIdeal.τ).loc Cert.KernelWKvIdeal.main_arg0) = m ((c.tc : Thread Cert.KernelWKvIdeal.nD Cert.KernelWKvIdeal.τ).loc Cert.KernelWKvIdeal.main_arg0)
      ∧ r.2.mem ((c.tc : Thread Cert.KernelWKvIdeal.nD Cert.KernelWKvIdeal.τ).loc Cert.KernelWKvIdeal.main_arg1) = m ((c.tc : Thread Cert.KernelWKvIdeal.nD Cert.KernelWKvIdeal.τ).loc Cert.KernelWKvIdeal.main_arg1)
      ∧ r.2.mem ((c.tc : Thread Cert.KernelWKvIdeal.nD Cert.KernelWKvIdeal.τ).loc Cert.KernelWKvIdeal.main_arg2) = m ((c.tc : Thread Cert.KernelWKvIdeal.nD Cert.KernelWKvIdeal.τ).loc Cert.KernelWKvIdeal.main_arg2)
      ∧ r.2.mem ((c.tc : Thread Cert.KernelWKvIdeal.nD Cert.KernelWKvIdeal.τ).loc Cert.KernelWKvIdeal.main_arg3) = m ((c.tc : Thread Cert.KernelWKvIdeal.nD Cert.KernelWKvIdeal.τ).loc Cert.KernelWKvIdeal.main_arg3))
      ∧ r.2.sem = fun _ => 0)

def quiescent_ReferenceWKvIdeal [hReferenceWKvIdeal : Cert.ReferenceWKvIdeal.Facts] : Prop :=
  ∀ (m : (ℓ : Loc Cert.ReferenceWKvIdeal.nD Cert.ReferenceWKvIdeal.τ Cert.ReferenceWKvIdeal.sig) → Buf (Elt Ideal) ℓ) (g : Dev Cert.ReferenceWKvIdeal.nD → PrngReg), Pre_ReferenceWKvIdeal m →
    θ_run (Cert.ReferenceWKvIdeal.defs (F := Ideal)) (onTc (τ := Cert.ReferenceWKvIdeal.τ) (Cert.ReferenceWKvIdeal.main (F := Ideal))) ⟨m, fun _ => 0, g⟩ (fun r => (∀ c : Dev Cert.ReferenceWKvIdeal.nD,
      r.2.mem ((c.tc : Thread Cert.ReferenceWKvIdeal.nD Cert.ReferenceWKvIdeal.τ).loc Cert.ReferenceWKvIdeal.main_arg0) = m ((c.tc : Thread Cert.ReferenceWKvIdeal.nD Cert.ReferenceWKvIdeal.τ).loc Cert.ReferenceWKvIdeal.main_arg0)
      ∧ r.2.mem ((c.tc : Thread Cert.ReferenceWKvIdeal.nD Cert.ReferenceWKvIdeal.τ).loc Cert.ReferenceWKvIdeal.main_arg1) = m ((c.tc : Thread Cert.ReferenceWKvIdeal.nD Cert.ReferenceWKvIdeal.τ).loc Cert.ReferenceWKvIdeal.main_arg1)
      ∧ r.2.mem ((c.tc : Thread Cert.ReferenceWKvIdeal.nD Cert.ReferenceWKvIdeal.τ).loc Cert.ReferenceWKvIdeal.main_arg2) = m ((c.tc : Thread Cert.ReferenceWKvIdeal.nD Cert.ReferenceWKvIdeal.τ).loc Cert.ReferenceWKvIdeal.main_arg2)
      ∧ r.2.mem ((c.tc : Thread Cert.ReferenceWKvIdeal.nD Cert.ReferenceWKvIdeal.τ).loc Cert.ReferenceWKvIdeal.main_arg3) = m ((c.tc : Thread Cert.ReferenceWKvIdeal.nD Cert.ReferenceWKvIdeal.τ).loc Cert.ReferenceWKvIdeal.main_arg3))
      ∧ r.2.sem = fun _ => 0)

def quiescent_KernelWGate [hKernelWGate : Cert.KernelWGate.Facts] : Prop :=
  ∀ (m : (ℓ : Loc Cert.KernelWGate.nD Cert.KernelWGate.τ Cert.KernelWGate.sig) → Buf (Elt Bits) ℓ) (g : Dev Cert.KernelWGate.nD → PrngReg), Pre_KernelWGate m →
    θ_run (Cert.KernelWGate.defs (F := Bits)) (onTc (τ := Cert.KernelWGate.τ) (Cert.KernelWGate.main (F := Bits))) ⟨m, fun _ => 0, g⟩ (fun r => (∀ c : Dev Cert.KernelWGate.nD,
      r.2.mem ((c.tc : Thread Cert.KernelWGate.nD Cert.KernelWGate.τ).loc Cert.KernelWGate.main_arg0) = m ((c.tc : Thread Cert.KernelWGate.nD Cert.KernelWGate.τ).loc Cert.KernelWGate.main_arg0)
      ∧ r.2.mem ((c.tc : Thread Cert.KernelWGate.nD Cert.KernelWGate.τ).loc Cert.KernelWGate.main_arg1) = m ((c.tc : Thread Cert.KernelWGate.nD Cert.KernelWGate.τ).loc Cert.KernelWGate.main_arg1)
      ∧ r.2.mem ((c.tc : Thread Cert.KernelWGate.nD Cert.KernelWGate.τ).loc Cert.KernelWGate.main_arg2) = m ((c.tc : Thread Cert.KernelWGate.nD Cert.KernelWGate.τ).loc Cert.KernelWGate.main_arg2)
      ∧ r.2.mem ((c.tc : Thread Cert.KernelWGate.nD Cert.KernelWGate.τ).loc Cert.KernelWGate.main_arg3) = m ((c.tc : Thread Cert.KernelWGate.nD Cert.KernelWGate.τ).loc Cert.KernelWGate.main_arg3))
      ∧ r.2.sem = fun _ => 0)

def quiescent_KernelWGateIdeal [hKernelWGateIdeal : Cert.KernelWGateIdeal.Facts] : Prop :=
  ∀ (m : (ℓ : Loc Cert.KernelWGateIdeal.nD Cert.KernelWGateIdeal.τ Cert.KernelWGateIdeal.sig) → Buf (Elt Ideal) ℓ) (g : Dev Cert.KernelWGateIdeal.nD → PrngReg), Pre_KernelWGateIdeal m →
    θ_run (Cert.KernelWGateIdeal.defs (F := Ideal)) (onTc (τ := Cert.KernelWGateIdeal.τ) (Cert.KernelWGateIdeal.main (F := Ideal))) ⟨m, fun _ => 0, g⟩ (fun r => (∀ c : Dev Cert.KernelWGateIdeal.nD,
      r.2.mem ((c.tc : Thread Cert.KernelWGateIdeal.nD Cert.KernelWGateIdeal.τ).loc Cert.KernelWGateIdeal.main_arg0) = m ((c.tc : Thread Cert.KernelWGateIdeal.nD Cert.KernelWGateIdeal.τ).loc Cert.KernelWGateIdeal.main_arg0)
      ∧ r.2.mem ((c.tc : Thread Cert.KernelWGateIdeal.nD Cert.KernelWGateIdeal.τ).loc Cert.KernelWGateIdeal.main_arg1) = m ((c.tc : Thread Cert.KernelWGateIdeal.nD Cert.KernelWGateIdeal.τ).loc Cert.KernelWGateIdeal.main_arg1)
      ∧ r.2.mem ((c.tc : Thread Cert.KernelWGateIdeal.nD Cert.KernelWGateIdeal.τ).loc Cert.KernelWGateIdeal.main_arg2) = m ((c.tc : Thread Cert.KernelWGateIdeal.nD Cert.KernelWGateIdeal.τ).loc Cert.KernelWGateIdeal.main_arg2)
      ∧ r.2.mem ((c.tc : Thread Cert.KernelWGateIdeal.nD Cert.KernelWGateIdeal.τ).loc Cert.KernelWGateIdeal.main_arg3) = m ((c.tc : Thread Cert.KernelWGateIdeal.nD Cert.KernelWGateIdeal.τ).loc Cert.KernelWGateIdeal.main_arg3))
      ∧ r.2.sem = fun _ => 0)

def quiescent_ReferenceWGateIdeal [hReferenceWGateIdeal : Cert.ReferenceWGateIdeal.Facts] : Prop :=
  ∀ (m : (ℓ : Loc Cert.ReferenceWGateIdeal.nD Cert.ReferenceWGateIdeal.τ Cert.ReferenceWGateIdeal.sig) → Buf (Elt Ideal) ℓ) (g : Dev Cert.ReferenceWGateIdeal.nD → PrngReg), Pre_ReferenceWGateIdeal m →
    θ_run (Cert.ReferenceWGateIdeal.defs (F := Ideal)) (onTc (τ := Cert.ReferenceWGateIdeal.τ) (Cert.ReferenceWGateIdeal.main (F := Ideal))) ⟨m, fun _ => 0, g⟩ (fun r => (∀ c : Dev Cert.ReferenceWGateIdeal.nD,
      r.2.mem ((c.tc : Thread Cert.ReferenceWGateIdeal.nD Cert.ReferenceWGateIdeal.τ).loc Cert.ReferenceWGateIdeal.main_arg0) = m ((c.tc : Thread Cert.ReferenceWGateIdeal.nD Cert.ReferenceWGateIdeal.τ).loc Cert.ReferenceWGateIdeal.main_arg0)
      ∧ r.2.mem ((c.tc : Thread Cert.ReferenceWGateIdeal.nD Cert.ReferenceWGateIdeal.τ).loc Cert.ReferenceWGateIdeal.main_arg1) = m ((c.tc : Thread Cert.ReferenceWGateIdeal.nD Cert.ReferenceWGateIdeal.τ).loc Cert.ReferenceWGateIdeal.main_arg1)
      ∧ r.2.mem ((c.tc : Thread Cert.ReferenceWGateIdeal.nD Cert.ReferenceWGateIdeal.τ).loc Cert.ReferenceWGateIdeal.main_arg2) = m ((c.tc : Thread Cert.ReferenceWGateIdeal.nD Cert.ReferenceWGateIdeal.τ).loc Cert.ReferenceWGateIdeal.main_arg2)
      ∧ r.2.mem ((c.tc : Thread Cert.ReferenceWGateIdeal.nD Cert.ReferenceWGateIdeal.τ).loc Cert.ReferenceWGateIdeal.main_arg3) = m ((c.tc : Thread Cert.ReferenceWGateIdeal.nD Cert.ReferenceWGateIdeal.τ).loc Cert.ReferenceWGateIdeal.main_arg3))
      ∧ r.2.sem = fun _ => 0)

def quiescent_KernelAIn [hKernelAIn : Cert.KernelAIn.Facts] : Prop :=
  ∀ (m : (ℓ : Loc Cert.KernelAIn.nD Cert.KernelAIn.τ Cert.KernelAIn.sig) → Buf (Elt Bits) ℓ) (g : Dev Cert.KernelAIn.nD → PrngReg), Pre_KernelAIn m →
    θ_run (Cert.KernelAIn.defs (F := Bits)) (onTc (τ := Cert.KernelAIn.τ) (Cert.KernelAIn.main (F := Bits))) ⟨m, fun _ => 0, g⟩ (fun r => (∀ c : Dev Cert.KernelAIn.nD,
      r.2.mem ((c.tc : Thread Cert.KernelAIn.nD Cert.KernelAIn.τ).loc Cert.KernelAIn.main_arg0) = m ((c.tc : Thread Cert.KernelAIn.nD Cert.KernelAIn.τ).loc Cert.KernelAIn.main_arg0)
      ∧ r.2.mem ((c.tc : Thread Cert.KernelAIn.nD Cert.KernelAIn.τ).loc Cert.KernelAIn.main_arg1) = m ((c.tc : Thread Cert.KernelAIn.nD Cert.KernelAIn.τ).loc Cert.KernelAIn.main_arg1)
      ∧ r.2.mem ((c.tc : Thread Cert.KernelAIn.nD Cert.KernelAIn.τ).loc Cert.KernelAIn.main_arg2) = m ((c.tc : Thread Cert.KernelAIn.nD Cert.KernelAIn.τ).loc Cert.KernelAIn.main_arg2)
      ∧ r.2.mem ((c.tc : Thread Cert.KernelAIn.nD Cert.KernelAIn.τ).loc Cert.KernelAIn.main_arg3) = m ((c.tc : Thread Cert.KernelAIn.nD Cert.KernelAIn.τ).loc Cert.KernelAIn.main_arg3))
      ∧ r.2.sem = fun _ => 0)

def quiescent_KernelAInIdeal [hKernelAInIdeal : Cert.KernelAInIdeal.Facts] : Prop :=
  ∀ (m : (ℓ : Loc Cert.KernelAInIdeal.nD Cert.KernelAInIdeal.τ Cert.KernelAInIdeal.sig) → Buf (Elt Ideal) ℓ) (g : Dev Cert.KernelAInIdeal.nD → PrngReg), Pre_KernelAInIdeal m →
    θ_run (Cert.KernelAInIdeal.defs (F := Ideal)) (onTc (τ := Cert.KernelAInIdeal.τ) (Cert.KernelAInIdeal.main (F := Ideal))) ⟨m, fun _ => 0, g⟩ (fun r => (∀ c : Dev Cert.KernelAInIdeal.nD,
      r.2.mem ((c.tc : Thread Cert.KernelAInIdeal.nD Cert.KernelAInIdeal.τ).loc Cert.KernelAInIdeal.main_arg0) = m ((c.tc : Thread Cert.KernelAInIdeal.nD Cert.KernelAInIdeal.τ).loc Cert.KernelAInIdeal.main_arg0)
      ∧ r.2.mem ((c.tc : Thread Cert.KernelAInIdeal.nD Cert.KernelAInIdeal.τ).loc Cert.KernelAInIdeal.main_arg1) = m ((c.tc : Thread Cert.KernelAInIdeal.nD Cert.KernelAInIdeal.τ).loc Cert.KernelAInIdeal.main_arg1)
      ∧ r.2.mem ((c.tc : Thread Cert.KernelAInIdeal.nD Cert.KernelAInIdeal.τ).loc Cert.KernelAInIdeal.main_arg2) = m ((c.tc : Thread Cert.KernelAInIdeal.nD Cert.KernelAInIdeal.τ).loc Cert.KernelAInIdeal.main_arg2)
      ∧ r.2.mem ((c.tc : Thread Cert.KernelAInIdeal.nD Cert.KernelAInIdeal.τ).loc Cert.KernelAInIdeal.main_arg3) = m ((c.tc : Thread Cert.KernelAInIdeal.nD Cert.KernelAInIdeal.τ).loc Cert.KernelAInIdeal.main_arg3))
      ∧ r.2.sem = fun _ => 0)

def quiescent_ReferenceAInIdeal [hReferenceAInIdeal : Cert.ReferenceAInIdeal.Facts] : Prop :=
  ∀ (m : (ℓ : Loc Cert.ReferenceAInIdeal.nD Cert.ReferenceAInIdeal.τ Cert.ReferenceAInIdeal.sig) → Buf (Elt Ideal) ℓ) (g : Dev Cert.ReferenceAInIdeal.nD → PrngReg), Pre_ReferenceAInIdeal m →
    θ_run (Cert.ReferenceAInIdeal.defs (F := Ideal)) (onTc (τ := Cert.ReferenceAInIdeal.τ) (Cert.ReferenceAInIdeal.main (F := Ideal))) ⟨m, fun _ => 0, g⟩ (fun r => (∀ c : Dev Cert.ReferenceAInIdeal.nD,
      r.2.mem ((c.tc : Thread Cert.ReferenceAInIdeal.nD Cert.ReferenceAInIdeal.τ).loc Cert.ReferenceAInIdeal.main_arg0) = m ((c.tc : Thread Cert.ReferenceAInIdeal.nD Cert.ReferenceAInIdeal.τ).loc Cert.ReferenceAInIdeal.main_arg0)
      ∧ r.2.mem ((c.tc : Thread Cert.ReferenceAInIdeal.nD Cert.ReferenceAInIdeal.τ).loc Cert.ReferenceAInIdeal.main_arg1) = m ((c.tc : Thread Cert.ReferenceAInIdeal.nD Cert.ReferenceAInIdeal.τ).loc Cert.ReferenceAInIdeal.main_arg1)
      ∧ r.2.mem ((c.tc : Thread Cert.ReferenceAInIdeal.nD Cert.ReferenceAInIdeal.τ).loc Cert.ReferenceAInIdeal.main_arg2) = m ((c.tc : Thread Cert.ReferenceAInIdeal.nD Cert.ReferenceAInIdeal.τ).loc Cert.ReferenceAInIdeal.main_arg2)
      ∧ r.2.mem ((c.tc : Thread Cert.ReferenceAInIdeal.nD Cert.ReferenceAInIdeal.τ).loc Cert.ReferenceAInIdeal.main_arg3) = m ((c.tc : Thread Cert.ReferenceAInIdeal.nD Cert.ReferenceAInIdeal.τ).loc Cert.ReferenceAInIdeal.main_arg3))
      ∧ r.2.sem = fun _ => 0)

def quiescent_KernelMid [hKernelMid : Cert.KernelMid.Facts] : Prop :=
  ∀ (m : (ℓ : Loc Cert.KernelMid.nD Cert.KernelMid.τ Cert.KernelMid.sig) → Buf (Elt Bits) ℓ) (g : Dev Cert.KernelMid.nD → PrngReg), Pre_KernelMid m →
    θ_run (Cert.KernelMid.defs (F := Bits)) (onTc (τ := Cert.KernelMid.τ) (Cert.KernelMid.main (F := Bits))) ⟨m, fun _ => 0, g⟩ (fun r => (∀ c : Dev Cert.KernelMid.nD,
      r.2.mem ((c.tc : Thread Cert.KernelMid.nD Cert.KernelMid.τ).loc Cert.KernelMid.main_arg0) = m ((c.tc : Thread Cert.KernelMid.nD Cert.KernelMid.τ).loc Cert.KernelMid.main_arg0)
      ∧ r.2.mem ((c.tc : Thread Cert.KernelMid.nD Cert.KernelMid.τ).loc Cert.KernelMid.main_arg1) = m ((c.tc : Thread Cert.KernelMid.nD Cert.KernelMid.τ).loc Cert.KernelMid.main_arg1)
      ∧ r.2.mem ((c.tc : Thread Cert.KernelMid.nD Cert.KernelMid.τ).loc Cert.KernelMid.main_arg2) = m ((c.tc : Thread Cert.KernelMid.nD Cert.KernelMid.τ).loc Cert.KernelMid.main_arg2)
      ∧ r.2.mem ((c.tc : Thread Cert.KernelMid.nD Cert.KernelMid.τ).loc Cert.KernelMid.main_arg3) = m ((c.tc : Thread Cert.KernelMid.nD Cert.KernelMid.τ).loc Cert.KernelMid.main_arg3)
      ∧ r.2.mem ((c.tc : Thread Cert.KernelMid.nD Cert.KernelMid.τ).loc Cert.KernelMid.main_arg4) = m ((c.tc : Thread Cert.KernelMid.nD Cert.KernelMid.τ).loc Cert.KernelMid.main_arg4)
      ∧ r.2.mem ((c.tc : Thread Cert.KernelMid.nD Cert.KernelMid.τ).loc Cert.KernelMid.main_arg5) = m ((c.tc : Thread Cert.KernelMid.nD Cert.KernelMid.τ).loc Cert.KernelMid.main_arg5)
      ∧ r.2.mem ((c.tc : Thread Cert.KernelMid.nD Cert.KernelMid.τ).loc Cert.KernelMid.main_arg6) = m ((c.tc : Thread Cert.KernelMid.nD Cert.KernelMid.τ).loc Cert.KernelMid.main_arg6))
      ∧ r.2.sem = fun _ => 0)

def quiescent_KernelMidIdeal [hKernelMidIdeal : Cert.KernelMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg), Pre_KernelMidIdeal m →
    θ_run (Cert.KernelMidIdeal.defs (F := Ideal)) (onTc (τ := Cert.KernelMidIdeal.τ) (Cert.KernelMidIdeal.main (F := Ideal))) ⟨m, fun _ => 0, g⟩ (fun r => (∀ c : Dev Cert.KernelMidIdeal.nD,
      r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
      ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
      ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
      ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
      ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
      ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
      ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6))
      ∧ r.2.sem = fun _ => 0)

def quiescent_ReferenceMidIdeal [hReferenceMidIdeal : Cert.ReferenceMidIdeal.Facts] : Prop :=
  ∀ (m : (ℓ : Loc Cert.ReferenceMidIdeal.nD Cert.ReferenceMidIdeal.τ Cert.ReferenceMidIdeal.sig) → Buf (Elt Ideal) ℓ) (g : Dev Cert.ReferenceMidIdeal.nD → PrngReg), Pre_ReferenceMidIdeal m →
    θ_run (Cert.ReferenceMidIdeal.defs (F := Ideal)) (onTc (τ := Cert.ReferenceMidIdeal.τ) (Cert.ReferenceMidIdeal.main (F := Ideal))) ⟨m, fun _ => 0, g⟩ (fun r => (∀ c : Dev Cert.ReferenceMidIdeal.nD,
      r.2.mem ((c.tc : Thread Cert.ReferenceMidIdeal.nD Cert.ReferenceMidIdeal.τ).loc Cert.ReferenceMidIdeal.main_arg0) = m ((c.tc : Thread Cert.ReferenceMidIdeal.nD Cert.ReferenceMidIdeal.τ).loc Cert.ReferenceMidIdeal.main_arg0)
      ∧ r.2.mem ((c.tc : Thread Cert.ReferenceMidIdeal.nD Cert.ReferenceMidIdeal.τ).loc Cert.ReferenceMidIdeal.main_arg1) = m ((c.tc : Thread Cert.ReferenceMidIdeal.nD Cert.ReferenceMidIdeal.τ).loc Cert.ReferenceMidIdeal.main_arg1)
      ∧ r.2.mem ((c.tc : Thread Cert.ReferenceMidIdeal.nD Cert.ReferenceMidIdeal.τ).loc Cert.ReferenceMidIdeal.main_arg2) = m ((c.tc : Thread Cert.ReferenceMidIdeal.nD Cert.ReferenceMidIdeal.τ).loc Cert.ReferenceMidIdeal.main_arg2)
      ∧ r.2.mem ((c.tc : Thread Cert.ReferenceMidIdeal.nD Cert.ReferenceMidIdeal.τ).loc Cert.ReferenceMidIdeal.main_arg3) = m ((c.tc : Thread Cert.ReferenceMidIdeal.nD Cert.ReferenceMidIdeal.τ).loc Cert.ReferenceMidIdeal.main_arg3)
      ∧ r.2.mem ((c.tc : Thread Cert.ReferenceMidIdeal.nD Cert.ReferenceMidIdeal.τ).loc Cert.ReferenceMidIdeal.main_arg4) = m ((c.tc : Thread Cert.ReferenceMidIdeal.nD Cert.ReferenceMidIdeal.τ).loc Cert.ReferenceMidIdeal.main_arg4)
      ∧ r.2.mem ((c.tc : Thread Cert.ReferenceMidIdeal.nD Cert.ReferenceMidIdeal.τ).loc Cert.ReferenceMidIdeal.main_arg5) = m ((c.tc : Thread Cert.ReferenceMidIdeal.nD Cert.ReferenceMidIdeal.τ).loc Cert.ReferenceMidIdeal.main_arg5)
      ∧ r.2.mem ((c.tc : Thread Cert.ReferenceMidIdeal.nD Cert.ReferenceMidIdeal.τ).loc Cert.ReferenceMidIdeal.main_arg6) = m ((c.tc : Thread Cert.ReferenceMidIdeal.nD Cert.ReferenceMidIdeal.τ).loc Cert.ReferenceMidIdeal.main_arg6))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2)
      ∧ r.2.mem ((c.tc : Thread Cert.KernelConv.nD Cert.KernelConv.τ).loc Cert.KernelConv.main_arg3) = m ((c.tc : Thread Cert.KernelConv.nD Cert.KernelConv.τ).loc Cert.KernelConv.main_arg3)
      ∧ r.2.mem ((c.tc : Thread Cert.KernelConv.nD Cert.KernelConv.τ).loc Cert.KernelConv.main_arg4) = m ((c.tc : Thread Cert.KernelConv.nD Cert.KernelConv.τ).loc Cert.KernelConv.main_arg4))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
      ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
      ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2)
      ∧ r.2.mem ((c.tc : Thread Cert.ReferenceConvIdeal.nD Cert.ReferenceConvIdeal.τ).loc Cert.ReferenceConvIdeal.main_arg3) = m ((c.tc : Thread Cert.ReferenceConvIdeal.nD Cert.ReferenceConvIdeal.τ).loc Cert.ReferenceConvIdeal.main_arg3)
      ∧ r.2.mem ((c.tc : Thread Cert.ReferenceConvIdeal.nD Cert.ReferenceConvIdeal.τ).loc Cert.ReferenceConvIdeal.main_arg4) = m ((c.tc : Thread Cert.ReferenceConvIdeal.nD Cert.ReferenceConvIdeal.τ).loc Cert.ReferenceConvIdeal.main_arg4))
      ∧ r.2.sem = fun _ => 0)

def quiescent_KernelPairA [hKernelPairA : Cert.KernelPairA.Facts] : Prop :=
  ∀ (m : (ℓ : Loc Cert.KernelPairA.nD Cert.KernelPairA.τ Cert.KernelPairA.sig) → Buf (Elt Bits) ℓ) (g : Dev Cert.KernelPairA.nD → PrngReg), Pre_KernelPairA m →
    θ_run (Cert.KernelPairA.defs (F := Bits)) (onTc (τ := Cert.KernelPairA.τ) (Cert.KernelPairA.main (F := Bits))) ⟨m, fun _ => 0, g⟩ (fun r => (∀ c : Dev Cert.KernelPairA.nD,
      r.2.mem ((c.tc : Thread Cert.KernelPairA.nD Cert.KernelPairA.τ).loc Cert.KernelPairA.main_arg0) = m ((c.tc : Thread Cert.KernelPairA.nD Cert.KernelPairA.τ).loc Cert.KernelPairA.main_arg0)
      ∧ r.2.mem ((c.tc : Thread Cert.KernelPairA.nD Cert.KernelPairA.τ).loc Cert.KernelPairA.main_arg1) = m ((c.tc : Thread Cert.KernelPairA.nD Cert.KernelPairA.τ).loc Cert.KernelPairA.main_arg1))
      ∧ r.2.sem = fun _ => 0)

def quiescent_KernelPairAIdeal [hKernelPairAIdeal : Cert.KernelPairAIdeal.Facts] : Prop :=
  ∀ (m : (ℓ : Loc Cert.KernelPairAIdeal.nD Cert.KernelPairAIdeal.τ Cert.KernelPairAIdeal.sig) → Buf (Elt Ideal) ℓ) (g : Dev Cert.KernelPairAIdeal.nD → PrngReg), Pre_KernelPairAIdeal m →
    θ_run (Cert.KernelPairAIdeal.defs (F := Ideal)) (onTc (τ := Cert.KernelPairAIdeal.τ) (Cert.KernelPairAIdeal.main (F := Ideal))) ⟨m, fun _ => 0, g⟩ (fun r => (∀ c : Dev Cert.KernelPairAIdeal.nD,
      r.2.mem ((c.tc : Thread Cert.KernelPairAIdeal.nD Cert.KernelPairAIdeal.τ).loc Cert.KernelPairAIdeal.main_arg0) = m ((c.tc : Thread Cert.KernelPairAIdeal.nD Cert.KernelPairAIdeal.τ).loc Cert.KernelPairAIdeal.main_arg0)
      ∧ r.2.mem ((c.tc : Thread Cert.KernelPairAIdeal.nD Cert.KernelPairAIdeal.τ).loc Cert.KernelPairAIdeal.main_arg1) = m ((c.tc : Thread Cert.KernelPairAIdeal.nD Cert.KernelPairAIdeal.τ).loc Cert.KernelPairAIdeal.main_arg1))
      ∧ r.2.sem = fun _ => 0)

def quiescent_ReferencePairAIdeal [hReferencePairAIdeal : Cert.ReferencePairAIdeal.Facts] : Prop :=
  ∀ (m : (ℓ : Loc Cert.ReferencePairAIdeal.nD Cert.ReferencePairAIdeal.τ Cert.ReferencePairAIdeal.sig) → Buf (Elt Ideal) ℓ) (g : Dev Cert.ReferencePairAIdeal.nD → PrngReg), Pre_ReferencePairAIdeal m →
    θ_run (Cert.ReferencePairAIdeal.defs (F := Ideal)) (onTc (τ := Cert.ReferencePairAIdeal.τ) (Cert.ReferencePairAIdeal.main (F := Ideal))) ⟨m, fun _ => 0, g⟩ (fun r => (∀ c : Dev Cert.ReferencePairAIdeal.nD,
      r.2.mem ((c.tc : Thread Cert.ReferencePairAIdeal.nD Cert.ReferencePairAIdeal.τ).loc Cert.ReferencePairAIdeal.main_arg0) = m ((c.tc : Thread Cert.ReferencePairAIdeal.nD Cert.ReferencePairAIdeal.τ).loc Cert.ReferencePairAIdeal.main_arg0)
      ∧ r.2.mem ((c.tc : Thread Cert.ReferencePairAIdeal.nD Cert.ReferencePairAIdeal.τ).loc Cert.ReferencePairAIdeal.main_arg1) = m ((c.tc : Thread Cert.ReferencePairAIdeal.nD Cert.ReferencePairAIdeal.τ).loc Cert.ReferencePairAIdeal.main_arg1))
      ∧ r.2.sem = fun _ => 0)

def quiescent_KernelPairB [hKernelPairB : Cert.KernelPairB.Facts] : Prop :=
  ∀ (m : (ℓ : Loc Cert.KernelPairB.nD Cert.KernelPairB.τ Cert.KernelPairB.sig) → Buf (Elt Bits) ℓ) (g : Dev Cert.KernelPairB.nD → PrngReg), Pre_KernelPairB m →
    θ_run (Cert.KernelPairB.defs (F := Bits)) (onTc (τ := Cert.KernelPairB.τ) (Cert.KernelPairB.main (F := Bits))) ⟨m, fun _ => 0, g⟩ (fun r => (∀ c : Dev Cert.KernelPairB.nD,
      r.2.mem ((c.tc : Thread Cert.KernelPairB.nD Cert.KernelPairB.τ).loc Cert.KernelPairB.main_arg0) = m ((c.tc : Thread Cert.KernelPairB.nD Cert.KernelPairB.τ).loc Cert.KernelPairB.main_arg0)
      ∧ r.2.mem ((c.tc : Thread Cert.KernelPairB.nD Cert.KernelPairB.τ).loc Cert.KernelPairB.main_arg1) = m ((c.tc : Thread Cert.KernelPairB.nD Cert.KernelPairB.τ).loc Cert.KernelPairB.main_arg1))
      ∧ r.2.sem = fun _ => 0)

def quiescent_KernelPairBIdeal [hKernelPairBIdeal : Cert.KernelPairBIdeal.Facts] : Prop :=
  ∀ (m : (ℓ : Loc Cert.KernelPairBIdeal.nD Cert.KernelPairBIdeal.τ Cert.KernelPairBIdeal.sig) → Buf (Elt Ideal) ℓ) (g : Dev Cert.KernelPairBIdeal.nD → PrngReg), Pre_KernelPairBIdeal m →
    θ_run (Cert.KernelPairBIdeal.defs (F := Ideal)) (onTc (τ := Cert.KernelPairBIdeal.τ) (Cert.KernelPairBIdeal.main (F := Ideal))) ⟨m, fun _ => 0, g⟩ (fun r => (∀ c : Dev Cert.KernelPairBIdeal.nD,
      r.2.mem ((c.tc : Thread Cert.KernelPairBIdeal.nD Cert.KernelPairBIdeal.τ).loc Cert.KernelPairBIdeal.main_arg0) = m ((c.tc : Thread Cert.KernelPairBIdeal.nD Cert.KernelPairBIdeal.τ).loc Cert.KernelPairBIdeal.main_arg0)
      ∧ r.2.mem ((c.tc : Thread Cert.KernelPairBIdeal.nD Cert.KernelPairBIdeal.τ).loc Cert.KernelPairBIdeal.main_arg1) = m ((c.tc : Thread Cert.KernelPairBIdeal.nD Cert.KernelPairBIdeal.τ).loc Cert.KernelPairBIdeal.main_arg1))
      ∧ r.2.sem = fun _ => 0)

def quiescent_ReferencePairBIdeal [hReferencePairBIdeal : Cert.ReferencePairBIdeal.Facts] : Prop :=
  ∀ (m : (ℓ : Loc Cert.ReferencePairBIdeal.nD Cert.ReferencePairBIdeal.τ Cert.ReferencePairBIdeal.sig) → Buf (Elt Ideal) ℓ) (g : Dev Cert.ReferencePairBIdeal.nD → PrngReg), Pre_ReferencePairBIdeal m →
    θ_run (Cert.ReferencePairBIdeal.defs (F := Ideal)) (onTc (τ := Cert.ReferencePairBIdeal.τ) (Cert.ReferencePairBIdeal.main (F := Ideal))) ⟨m, fun _ => 0, g⟩ (fun r => (∀ c : Dev Cert.ReferencePairBIdeal.nD,
      r.2.mem ((c.tc : Thread Cert.ReferencePairBIdeal.nD Cert.ReferencePairBIdeal.τ).loc Cert.ReferencePairBIdeal.main_arg0) = m ((c.tc : Thread Cert.ReferencePairBIdeal.nD Cert.ReferencePairBIdeal.τ).loc Cert.ReferencePairBIdeal.main_arg0)
      ∧ r.2.mem ((c.tc : Thread Cert.ReferencePairBIdeal.nD Cert.ReferencePairBIdeal.τ).loc Cert.ReferencePairBIdeal.main_arg1) = m ((c.tc : Thread Cert.ReferencePairBIdeal.nD Cert.ReferencePairBIdeal.τ).loc Cert.ReferencePairBIdeal.main_arg1))
      ∧ r.2.sem = fun _ => 0)

def quiescent_KernelAdamA [hKernelAdamA : Cert.KernelAdamA.Facts] : Prop :=
  ∀ (m : (ℓ : Loc Cert.KernelAdamA.nD Cert.KernelAdamA.τ Cert.KernelAdamA.sig) → Buf (Elt Bits) ℓ) (g : Dev Cert.KernelAdamA.nD → PrngReg), Pre_KernelAdamA m →
    θ_run (Cert.KernelAdamA.defs (F := Bits)) (onTc (τ := Cert.KernelAdamA.τ) (Cert.KernelAdamA.main (F := Bits))) ⟨m, fun _ => 0, g⟩ (fun r => (∀ c : Dev Cert.KernelAdamA.nD,
      r.2.mem ((c.tc : Thread Cert.KernelAdamA.nD Cert.KernelAdamA.τ).loc Cert.KernelAdamA.main_arg0) = m ((c.tc : Thread Cert.KernelAdamA.nD Cert.KernelAdamA.τ).loc Cert.KernelAdamA.main_arg0)
      ∧ r.2.mem ((c.tc : Thread Cert.KernelAdamA.nD Cert.KernelAdamA.τ).loc Cert.KernelAdamA.main_arg1) = m ((c.tc : Thread Cert.KernelAdamA.nD Cert.KernelAdamA.τ).loc Cert.KernelAdamA.main_arg1)
      ∧ r.2.mem ((c.tc : Thread Cert.KernelAdamA.nD Cert.KernelAdamA.τ).loc Cert.KernelAdamA.main_arg2) = m ((c.tc : Thread Cert.KernelAdamA.nD Cert.KernelAdamA.τ).loc Cert.KernelAdamA.main_arg2)
      ∧ r.2.mem ((c.tc : Thread Cert.KernelAdamA.nD Cert.KernelAdamA.τ).loc Cert.KernelAdamA.main_arg3) = m ((c.tc : Thread Cert.KernelAdamA.nD Cert.KernelAdamA.τ).loc Cert.KernelAdamA.main_arg3))
      ∧ r.2.sem = fun _ => 0)

def quiescent_KernelAdamAIdeal [hKernelAdamAIdeal : Cert.KernelAdamAIdeal.Facts] : Prop :=
  ∀ (m : (ℓ : Loc Cert.KernelAdamAIdeal.nD Cert.KernelAdamAIdeal.τ Cert.KernelAdamAIdeal.sig) → Buf (Elt Ideal) ℓ) (g : Dev Cert.KernelAdamAIdeal.nD → PrngReg), Pre_KernelAdamAIdeal m →
    θ_run (Cert.KernelAdamAIdeal.defs (F := Ideal)) (onTc (τ := Cert.KernelAdamAIdeal.τ) (Cert.KernelAdamAIdeal.main (F := Ideal))) ⟨m, fun _ => 0, g⟩ (fun r => (∀ c : Dev Cert.KernelAdamAIdeal.nD,
      r.2.mem ((c.tc : Thread Cert.KernelAdamAIdeal.nD Cert.KernelAdamAIdeal.τ).loc Cert.KernelAdamAIdeal.main_arg0) = m ((c.tc : Thread Cert.KernelAdamAIdeal.nD Cert.KernelAdamAIdeal.τ).loc Cert.KernelAdamAIdeal.main_arg0)
      ∧ r.2.mem ((c.tc : Thread Cert.KernelAdamAIdeal.nD Cert.KernelAdamAIdeal.τ).loc Cert.KernelAdamAIdeal.main_arg1) = m ((c.tc : Thread Cert.KernelAdamAIdeal.nD Cert.KernelAdamAIdeal.τ).loc Cert.KernelAdamAIdeal.main_arg1)
      ∧ r.2.mem ((c.tc : Thread Cert.KernelAdamAIdeal.nD Cert.KernelAdamAIdeal.τ).loc Cert.KernelAdamAIdeal.main_arg2) = m ((c.tc : Thread Cert.KernelAdamAIdeal.nD Cert.KernelAdamAIdeal.τ).loc Cert.KernelAdamAIdeal.main_arg2)
      ∧ r.2.mem ((c.tc : Thread Cert.KernelAdamAIdeal.nD Cert.KernelAdamAIdeal.τ).loc Cert.KernelAdamAIdeal.main_arg3) = m ((c.tc : Thread Cert.KernelAdamAIdeal.nD Cert.KernelAdamAIdeal.τ).loc Cert.KernelAdamAIdeal.main_arg3))
      ∧ r.2.sem = fun _ => 0)

def quiescent_ReferenceAdamAIdeal [hReferenceAdamAIdeal : Cert.ReferenceAdamAIdeal.Facts] : Prop :=
  ∀ (m : (ℓ : Loc Cert.ReferenceAdamAIdeal.nD Cert.ReferenceAdamAIdeal.τ Cert.ReferenceAdamAIdeal.sig) → Buf (Elt Ideal) ℓ) (g : Dev Cert.ReferenceAdamAIdeal.nD → PrngReg), Pre_ReferenceAdamAIdeal m →
    θ_run (Cert.ReferenceAdamAIdeal.defs (F := Ideal)) (onTc (τ := Cert.ReferenceAdamAIdeal.τ) (Cert.ReferenceAdamAIdeal.main (F := Ideal))) ⟨m, fun _ => 0, g⟩ (fun r => (∀ c : Dev Cert.ReferenceAdamAIdeal.nD,
      r.2.mem ((c.tc : Thread Cert.ReferenceAdamAIdeal.nD Cert.ReferenceAdamAIdeal.τ).loc Cert.ReferenceAdamAIdeal.main_arg0) = m ((c.tc : Thread Cert.ReferenceAdamAIdeal.nD Cert.ReferenceAdamAIdeal.τ).loc Cert.ReferenceAdamAIdeal.main_arg0)
      ∧ r.2.mem ((c.tc : Thread Cert.ReferenceAdamAIdeal.nD Cert.ReferenceAdamAIdeal.τ).loc Cert.ReferenceAdamAIdeal.main_arg1) = m ((c.tc : Thread Cert.ReferenceAdamAIdeal.nD Cert.ReferenceAdamAIdeal.τ).loc Cert.ReferenceAdamAIdeal.main_arg1)
      ∧ r.2.mem ((c.tc : Thread Cert.ReferenceAdamAIdeal.nD Cert.ReferenceAdamAIdeal.τ).loc Cert.ReferenceAdamAIdeal.main_arg2) = m ((c.tc : Thread Cert.ReferenceAdamAIdeal.nD Cert.ReferenceAdamAIdeal.τ).loc Cert.ReferenceAdamAIdeal.main_arg2)
      ∧ r.2.mem ((c.tc : Thread Cert.ReferenceAdamAIdeal.nD Cert.ReferenceAdamAIdeal.τ).loc Cert.ReferenceAdamAIdeal.main_arg3) = m ((c.tc : Thread Cert.ReferenceAdamAIdeal.nD Cert.ReferenceAdamAIdeal.τ).loc Cert.ReferenceAdamAIdeal.main_arg3))
      ∧ r.2.sem = fun _ => 0)

def quiescent_KernelAdamB [hKernelAdamB : Cert.KernelAdamB.Facts] : Prop :=
  ∀ (m : (ℓ : Loc Cert.KernelAdamB.nD Cert.KernelAdamB.τ Cert.KernelAdamB.sig) → Buf (Elt Bits) ℓ) (g : Dev Cert.KernelAdamB.nD → PrngReg), Pre_KernelAdamB m →
    θ_run (Cert.KernelAdamB.defs (F := Bits)) (onTc (τ := Cert.KernelAdamB.τ) (Cert.KernelAdamB.main (F := Bits))) ⟨m, fun _ => 0, g⟩ (fun r => (∀ c : Dev Cert.KernelAdamB.nD,
      r.2.mem ((c.tc : Thread Cert.KernelAdamB.nD Cert.KernelAdamB.τ).loc Cert.KernelAdamB.main_arg0) = m ((c.tc : Thread Cert.KernelAdamB.nD Cert.KernelAdamB.τ).loc Cert.KernelAdamB.main_arg0)
      ∧ r.2.mem ((c.tc : Thread Cert.KernelAdamB.nD Cert.KernelAdamB.τ).loc Cert.KernelAdamB.main_arg1) = m ((c.tc : Thread Cert.KernelAdamB.nD Cert.KernelAdamB.τ).loc Cert.KernelAdamB.main_arg1)
      ∧ r.2.mem ((c.tc : Thread Cert.KernelAdamB.nD Cert.KernelAdamB.τ).loc Cert.KernelAdamB.main_arg2) = m ((c.tc : Thread Cert.KernelAdamB.nD Cert.KernelAdamB.τ).loc Cert.KernelAdamB.main_arg2)
      ∧ r.2.mem ((c.tc : Thread Cert.KernelAdamB.nD Cert.KernelAdamB.τ).loc Cert.KernelAdamB.main_arg3) = m ((c.tc : Thread Cert.KernelAdamB.nD Cert.KernelAdamB.τ).loc Cert.KernelAdamB.main_arg3))
      ∧ r.2.sem = fun _ => 0)

def quiescent_KernelAdamBIdeal [hKernelAdamBIdeal : Cert.KernelAdamBIdeal.Facts] : Prop :=
  ∀ (m : (ℓ : Loc Cert.KernelAdamBIdeal.nD Cert.KernelAdamBIdeal.τ Cert.KernelAdamBIdeal.sig) → Buf (Elt Ideal) ℓ) (g : Dev Cert.KernelAdamBIdeal.nD → PrngReg), Pre_KernelAdamBIdeal m →
    θ_run (Cert.KernelAdamBIdeal.defs (F := Ideal)) (onTc (τ := Cert.KernelAdamBIdeal.τ) (Cert.KernelAdamBIdeal.main (F := Ideal))) ⟨m, fun _ => 0, g⟩ (fun r => (∀ c : Dev Cert.KernelAdamBIdeal.nD,
      r.2.mem ((c.tc : Thread Cert.KernelAdamBIdeal.nD Cert.KernelAdamBIdeal.τ).loc Cert.KernelAdamBIdeal.main_arg0) = m ((c.tc : Thread Cert.KernelAdamBIdeal.nD Cert.KernelAdamBIdeal.τ).loc Cert.KernelAdamBIdeal.main_arg0)
      ∧ r.2.mem ((c.tc : Thread Cert.KernelAdamBIdeal.nD Cert.KernelAdamBIdeal.τ).loc Cert.KernelAdamBIdeal.main_arg1) = m ((c.tc : Thread Cert.KernelAdamBIdeal.nD Cert.KernelAdamBIdeal.τ).loc Cert.KernelAdamBIdeal.main_arg1)
      ∧ r.2.mem ((c.tc : Thread Cert.KernelAdamBIdeal.nD Cert.KernelAdamBIdeal.τ).loc Cert.KernelAdamBIdeal.main_arg2) = m ((c.tc : Thread Cert.KernelAdamBIdeal.nD Cert.KernelAdamBIdeal.τ).loc Cert.KernelAdamBIdeal.main_arg2)
      ∧ r.2.mem ((c.tc : Thread Cert.KernelAdamBIdeal.nD Cert.KernelAdamBIdeal.τ).loc Cert.KernelAdamBIdeal.main_arg3) = m ((c.tc : Thread Cert.KernelAdamBIdeal.nD Cert.KernelAdamBIdeal.τ).loc Cert.KernelAdamBIdeal.main_arg3))
      ∧ r.2.sem = fun _ => 0)

def quiescent_ReferenceAdamBIdeal [hReferenceAdamBIdeal : Cert.ReferenceAdamBIdeal.Facts] : Prop :=
  ∀ (m : (ℓ : Loc Cert.ReferenceAdamBIdeal.nD Cert.ReferenceAdamBIdeal.τ Cert.ReferenceAdamBIdeal.sig) → Buf (Elt Ideal) ℓ) (g : Dev Cert.ReferenceAdamBIdeal.nD → PrngReg), Pre_ReferenceAdamBIdeal m →
    θ_run (Cert.ReferenceAdamBIdeal.defs (F := Ideal)) (onTc (τ := Cert.ReferenceAdamBIdeal.τ) (Cert.ReferenceAdamBIdeal.main (F := Ideal))) ⟨m, fun _ => 0, g⟩ (fun r => (∀ c : Dev Cert.ReferenceAdamBIdeal.nD,
      r.2.mem ((c.tc : Thread Cert.ReferenceAdamBIdeal.nD Cert.ReferenceAdamBIdeal.τ).loc Cert.ReferenceAdamBIdeal.main_arg0) = m ((c.tc : Thread Cert.ReferenceAdamBIdeal.nD Cert.ReferenceAdamBIdeal.τ).loc Cert.ReferenceAdamBIdeal.main_arg0)
      ∧ r.2.mem ((c.tc : Thread Cert.ReferenceAdamBIdeal.nD Cert.ReferenceAdamBIdeal.τ).loc Cert.ReferenceAdamBIdeal.main_arg1) = m ((c.tc : Thread Cert.ReferenceAdamBIdeal.nD Cert.ReferenceAdamBIdeal.τ).loc Cert.ReferenceAdamBIdeal.main_arg1)
      ∧ r.2.mem ((c.tc : Thread Cert.ReferenceAdamBIdeal.nD Cert.ReferenceAdamBIdeal.τ).loc Cert.ReferenceAdamBIdeal.main_arg2) = m ((c.tc : Thread Cert.ReferenceAdamBIdeal.nD Cert.ReferenceAdamBIdeal.τ).loc Cert.ReferenceAdamBIdeal.main_arg2)
      ∧ r.2.mem ((c.tc : Thread Cert.ReferenceAdamBIdeal.nD Cert.ReferenceAdamBIdeal.τ).loc Cert.ReferenceAdamBIdeal.main_arg3) = m ((c.tc : Thread Cert.ReferenceAdamBIdeal.nD Cert.ReferenceAdamBIdeal.τ).loc Cert.ReferenceAdamBIdeal.main_arg3))
      ∧ r.2.sem = fun _ => 0)

def quiescent_KernelAdamC [hKernelAdamC : Cert.KernelAdamC.Facts] : Prop :=
  ∀ (m : (ℓ : Loc Cert.KernelAdamC.nD Cert.KernelAdamC.τ Cert.KernelAdamC.sig) → Buf (Elt Bits) ℓ) (g : Dev Cert.KernelAdamC.nD → PrngReg), Pre_KernelAdamC m →
    θ_run (Cert.KernelAdamC.defs (F := Bits)) (onTc (τ := Cert.KernelAdamC.τ) (Cert.KernelAdamC.main (F := Bits))) ⟨m, fun _ => 0, g⟩ (fun r => (∀ c : Dev Cert.KernelAdamC.nD,
      r.2.mem ((c.tc : Thread Cert.KernelAdamC.nD Cert.KernelAdamC.τ).loc Cert.KernelAdamC.main_arg0) = m ((c.tc : Thread Cert.KernelAdamC.nD Cert.KernelAdamC.τ).loc Cert.KernelAdamC.main_arg0)
      ∧ r.2.mem ((c.tc : Thread Cert.KernelAdamC.nD Cert.KernelAdamC.τ).loc Cert.KernelAdamC.main_arg1) = m ((c.tc : Thread Cert.KernelAdamC.nD Cert.KernelAdamC.τ).loc Cert.KernelAdamC.main_arg1)
      ∧ r.2.mem ((c.tc : Thread Cert.KernelAdamC.nD Cert.KernelAdamC.τ).loc Cert.KernelAdamC.main_arg2) = m ((c.tc : Thread Cert.KernelAdamC.nD Cert.KernelAdamC.τ).loc Cert.KernelAdamC.main_arg2)
      ∧ r.2.mem ((c.tc : Thread Cert.KernelAdamC.nD Cert.KernelAdamC.τ).loc Cert.KernelAdamC.main_arg3) = m ((c.tc : Thread Cert.KernelAdamC.nD Cert.KernelAdamC.τ).loc Cert.KernelAdamC.main_arg3))
      ∧ r.2.sem = fun _ => 0)

def quiescent_KernelAdamCIdeal [hKernelAdamCIdeal : Cert.KernelAdamCIdeal.Facts] : Prop :=
  ∀ (m : (ℓ : Loc Cert.KernelAdamCIdeal.nD Cert.KernelAdamCIdeal.τ Cert.KernelAdamCIdeal.sig) → Buf (Elt Ideal) ℓ) (g : Dev Cert.KernelAdamCIdeal.nD → PrngReg), Pre_KernelAdamCIdeal m →
    θ_run (Cert.KernelAdamCIdeal.defs (F := Ideal)) (onTc (τ := Cert.KernelAdamCIdeal.τ) (Cert.KernelAdamCIdeal.main (F := Ideal))) ⟨m, fun _ => 0, g⟩ (fun r => (∀ c : Dev Cert.KernelAdamCIdeal.nD,
      r.2.mem ((c.tc : Thread Cert.KernelAdamCIdeal.nD Cert.KernelAdamCIdeal.τ).loc Cert.KernelAdamCIdeal.main_arg0) = m ((c.tc : Thread Cert.KernelAdamCIdeal.nD Cert.KernelAdamCIdeal.τ).loc Cert.KernelAdamCIdeal.main_arg0)
      ∧ r.2.mem ((c.tc : Thread Cert.KernelAdamCIdeal.nD Cert.KernelAdamCIdeal.τ).loc Cert.KernelAdamCIdeal.main_arg1) = m ((c.tc : Thread Cert.KernelAdamCIdeal.nD Cert.KernelAdamCIdeal.τ).loc Cert.KernelAdamCIdeal.main_arg1)
      ∧ r.2.mem ((c.tc : Thread Cert.KernelAdamCIdeal.nD Cert.KernelAdamCIdeal.τ).loc Cert.KernelAdamCIdeal.main_arg2) = m ((c.tc : Thread Cert.KernelAdamCIdeal.nD Cert.KernelAdamCIdeal.τ).loc Cert.KernelAdamCIdeal.main_arg2)
      ∧ r.2.mem ((c.tc : Thread Cert.KernelAdamCIdeal.nD Cert.KernelAdamCIdeal.τ).loc Cert.KernelAdamCIdeal.main_arg3) = m ((c.tc : Thread Cert.KernelAdamCIdeal.nD Cert.KernelAdamCIdeal.τ).loc Cert.KernelAdamCIdeal.main_arg3))
      ∧ r.2.sem = fun _ => 0)

def quiescent_ReferenceAdamCIdeal [hReferenceAdamCIdeal : Cert.ReferenceAdamCIdeal.Facts] : Prop :=
  ∀ (m : (ℓ : Loc Cert.ReferenceAdamCIdeal.nD Cert.ReferenceAdamCIdeal.τ Cert.ReferenceAdamCIdeal.sig) → Buf (Elt Ideal) ℓ) (g : Dev Cert.ReferenceAdamCIdeal.nD → PrngReg), Pre_ReferenceAdamCIdeal m →
    θ_run (Cert.ReferenceAdamCIdeal.defs (F := Ideal)) (onTc (τ := Cert.ReferenceAdamCIdeal.τ) (Cert.ReferenceAdamCIdeal.main (F := Ideal))) ⟨m, fun _ => 0, g⟩ (fun r => (∀ c : Dev Cert.ReferenceAdamCIdeal.nD,
      r.2.mem ((c.tc : Thread Cert.ReferenceAdamCIdeal.nD Cert.ReferenceAdamCIdeal.τ).loc Cert.ReferenceAdamCIdeal.main_arg0) = m ((c.tc : Thread Cert.ReferenceAdamCIdeal.nD Cert.ReferenceAdamCIdeal.τ).loc Cert.ReferenceAdamCIdeal.main_arg0)
      ∧ r.2.mem ((c.tc : Thread Cert.ReferenceAdamCIdeal.nD Cert.ReferenceAdamCIdeal.τ).loc Cert.ReferenceAdamCIdeal.main_arg1) = m ((c.tc : Thread Cert.ReferenceAdamCIdeal.nD Cert.ReferenceAdamCIdeal.τ).loc Cert.ReferenceAdamCIdeal.main_arg1)
      ∧ r.2.mem ((c.tc : Thread Cert.ReferenceAdamCIdeal.nD Cert.ReferenceAdamCIdeal.τ).loc Cert.ReferenceAdamCIdeal.main_arg2) = m ((c.tc : Thread Cert.ReferenceAdamCIdeal.nD Cert.ReferenceAdamCIdeal.τ).loc Cert.ReferenceAdamCIdeal.main_arg2)
      ∧ r.2.mem ((c.tc : Thread Cert.ReferenceAdamCIdeal.nD Cert.ReferenceAdamCIdeal.τ).loc Cert.ReferenceAdamCIdeal.main_arg3) = m ((c.tc : Thread Cert.ReferenceAdamCIdeal.nD Cert.ReferenceAdamCIdeal.τ).loc Cert.ReferenceAdamCIdeal.main_arg3))
      ∧ r.2.sem = fun _ => 0)

def quiescent_KernelAdamS [hKernelAdamS : Cert.KernelAdamS.Facts] : Prop :=
  ∀ (m : (ℓ : Loc Cert.KernelAdamS.nD Cert.KernelAdamS.τ Cert.KernelAdamS.sig) → Buf (Elt Bits) ℓ) (g : Dev Cert.KernelAdamS.nD → PrngReg), Pre_KernelAdamS m →
    θ_run (Cert.KernelAdamS.defs (F := Bits)) (onTc (τ := Cert.KernelAdamS.τ) (Cert.KernelAdamS.main (F := Bits))) ⟨m, fun _ => 0, g⟩ (fun r => (∀ c : Dev Cert.KernelAdamS.nD,
      r.2.mem ((c.tc : Thread Cert.KernelAdamS.nD Cert.KernelAdamS.τ).loc Cert.KernelAdamS.main_arg0) = m ((c.tc : Thread Cert.KernelAdamS.nD Cert.KernelAdamS.τ).loc Cert.KernelAdamS.main_arg0)
      ∧ r.2.mem ((c.tc : Thread Cert.KernelAdamS.nD Cert.KernelAdamS.τ).loc Cert.KernelAdamS.main_arg1) = m ((c.tc : Thread Cert.KernelAdamS.nD Cert.KernelAdamS.τ).loc Cert.KernelAdamS.main_arg1)
      ∧ r.2.mem ((c.tc : Thread Cert.KernelAdamS.nD Cert.KernelAdamS.τ).loc Cert.KernelAdamS.main_arg2) = m ((c.tc : Thread Cert.KernelAdamS.nD Cert.KernelAdamS.τ).loc Cert.KernelAdamS.main_arg2)
      ∧ r.2.mem ((c.tc : Thread Cert.KernelAdamS.nD Cert.KernelAdamS.τ).loc Cert.KernelAdamS.main_arg3) = m ((c.tc : Thread Cert.KernelAdamS.nD Cert.KernelAdamS.τ).loc Cert.KernelAdamS.main_arg3))
      ∧ r.2.sem = fun _ => 0)

def quiescent_KernelAdamSIdeal [hKernelAdamSIdeal : Cert.KernelAdamSIdeal.Facts] : Prop :=
  ∀ (m : (ℓ : Loc Cert.KernelAdamSIdeal.nD Cert.KernelAdamSIdeal.τ Cert.KernelAdamSIdeal.sig) → Buf (Elt Ideal) ℓ) (g : Dev Cert.KernelAdamSIdeal.nD → PrngReg), Pre_KernelAdamSIdeal m →
    θ_run (Cert.KernelAdamSIdeal.defs (F := Ideal)) (onTc (τ := Cert.KernelAdamSIdeal.τ) (Cert.KernelAdamSIdeal.main (F := Ideal))) ⟨m, fun _ => 0, g⟩ (fun r => (∀ c : Dev Cert.KernelAdamSIdeal.nD,
      r.2.mem ((c.tc : Thread Cert.KernelAdamSIdeal.nD Cert.KernelAdamSIdeal.τ).loc Cert.KernelAdamSIdeal.main_arg0) = m ((c.tc : Thread Cert.KernelAdamSIdeal.nD Cert.KernelAdamSIdeal.τ).loc Cert.KernelAdamSIdeal.main_arg0)
      ∧ r.2.mem ((c.tc : Thread Cert.KernelAdamSIdeal.nD Cert.KernelAdamSIdeal.τ).loc Cert.KernelAdamSIdeal.main_arg1) = m ((c.tc : Thread Cert.KernelAdamSIdeal.nD Cert.KernelAdamSIdeal.τ).loc Cert.KernelAdamSIdeal.main_arg1)
      ∧ r.2.mem ((c.tc : Thread Cert.KernelAdamSIdeal.nD Cert.KernelAdamSIdeal.τ).loc Cert.KernelAdamSIdeal.main_arg2) = m ((c.tc : Thread Cert.KernelAdamSIdeal.nD Cert.KernelAdamSIdeal.τ).loc Cert.KernelAdamSIdeal.main_arg2)
      ∧ r.2.mem ((c.tc : Thread Cert.KernelAdamSIdeal.nD Cert.KernelAdamSIdeal.τ).loc Cert.KernelAdamSIdeal.main_arg3) = m ((c.tc : Thread Cert.KernelAdamSIdeal.nD Cert.KernelAdamSIdeal.τ).loc Cert.KernelAdamSIdeal.main_arg3))
      ∧ r.2.sem = fun _ => 0)

def quiescent_ReferenceAdamSIdeal [hReferenceAdamSIdeal : Cert.ReferenceAdamSIdeal.Facts] : Prop :=
  ∀ (m : (ℓ : Loc Cert.ReferenceAdamSIdeal.nD Cert.ReferenceAdamSIdeal.τ Cert.ReferenceAdamSIdeal.sig) → Buf (Elt Ideal) ℓ) (g : Dev Cert.ReferenceAdamSIdeal.nD → PrngReg), Pre_ReferenceAdamSIdeal m →
    θ_run (Cert.ReferenceAdamSIdeal.defs (F := Ideal)) (onTc (τ := Cert.ReferenceAdamSIdeal.τ) (Cert.ReferenceAdamSIdeal.main (F := Ideal))) ⟨m, fun _ => 0, g⟩ (fun r => (∀ c : Dev Cert.ReferenceAdamSIdeal.nD,
      r.2.mem ((c.tc : Thread Cert.ReferenceAdamSIdeal.nD Cert.ReferenceAdamSIdeal.τ).loc Cert.ReferenceAdamSIdeal.main_arg0) = m ((c.tc : Thread Cert.ReferenceAdamSIdeal.nD Cert.ReferenceAdamSIdeal.τ).loc Cert.ReferenceAdamSIdeal.main_arg0)
      ∧ r.2.mem ((c.tc : Thread Cert.ReferenceAdamSIdeal.nD Cert.ReferenceAdamSIdeal.τ).loc Cert.ReferenceAdamSIdeal.main_arg1) = m ((c.tc : Thread Cert.ReferenceAdamSIdeal.nD Cert.ReferenceAdamSIdeal.τ).loc Cert.ReferenceAdamSIdeal.main_arg1)
      ∧ r.2.mem ((c.tc : Thread Cert.ReferenceAdamSIdeal.nD Cert.ReferenceAdamSIdeal.τ).loc Cert.ReferenceAdamSIdeal.main_arg2) = m ((c.tc : Thread Cert.ReferenceAdamSIdeal.nD Cert.ReferenceAdamSIdeal.τ).loc Cert.ReferenceAdamSIdeal.main_arg2)
      ∧ r.2.mem ((c.tc : Thread Cert.ReferenceAdamSIdeal.nD Cert.ReferenceAdamSIdeal.τ).loc Cert.ReferenceAdamSIdeal.main_arg3) = m ((c.tc : Thread Cert.ReferenceAdamSIdeal.nD Cert.ReferenceAdamSIdeal.τ).loc Cert.ReferenceAdamSIdeal.main_arg3))
      ∧ r.2.sem = fun _ => 0)

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)
      ∧ m' ((c.tc : Thread Cert.ReferenceGateIdeal.nD Cert.ReferenceGateIdeal.τ).loc Cert.ReferenceGateIdeal.main_arg3) = m ((c.tc : Thread Cert.KernelGateIdeal.nD Cert.KernelGateIdeal.τ).loc Cert.KernelGateIdeal.main_arg3)
      ∧ m' ((c.tc : Thread Cert.ReferenceGateIdeal.nD Cert.ReferenceGateIdeal.τ).loc Cert.ReferenceGateIdeal.main_arg4) = m ((c.tc : Thread Cert.KernelGateIdeal.nD Cert.KernelGateIdeal.τ).loc Cert.KernelGateIdeal.main_arg4)) →
    ∃ (v0 : (c : Dev Cert.KernelGateIdeal.nD) → Buf (Elt Ideal) ((c.tc : Thread Cert.KernelGateIdeal.nD Cert.KernelGateIdeal.τ).loc Cert.KernelGateIdeal.main_v1_0)) (v1 : (c : Dev Cert.KernelGateIdeal.nD) → Buf (Elt Ideal) ((c.tc : Thread Cert.KernelGateIdeal.nD Cert.KernelGateIdeal.τ).loc Cert.KernelGateIdeal.main_v1_1)) (v2 : (c : Dev Cert.KernelGateIdeal.nD) → Buf (Elt Ideal) ((c.tc : Thread Cert.KernelGateIdeal.nD Cert.KernelGateIdeal.τ).loc Cert.KernelGateIdeal.main_v1_2)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1_0) = v0 c
          ∧ r.2.mem ((c.tc : Thread Cert.KernelGateIdeal.nD Cert.KernelGateIdeal.τ).loc Cert.KernelGateIdeal.main_v1_1) = v1 c
          ∧ r.2.mem ((c.tc : Thread Cert.KernelGateIdeal.nD Cert.KernelGateIdeal.τ).loc Cert.KernelGateIdeal.main_v1_2) = v2 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2)
          ∧ r.2.mem ((c.tc : Thread Cert.KernelGateIdeal.nD Cert.KernelGateIdeal.τ).loc Cert.KernelGateIdeal.main_arg3) = m ((c.tc : Thread Cert.KernelGateIdeal.nD Cert.KernelGateIdeal.τ).loc Cert.KernelGateIdeal.main_arg3)
          ∧ r.2.mem ((c.tc : Thread Cert.KernelGateIdeal.nD Cert.KernelGateIdeal.τ).loc Cert.KernelGateIdeal.main_arg4) = m ((c.tc : Thread Cert.KernelGateIdeal.nD Cert.KernelGateIdeal.τ).loc Cert.KernelGateIdeal.main_arg4))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v50) = v0 c
          ∧ r.2.mem ((c.tc : Thread Cert.ReferenceGateIdeal.nD Cert.ReferenceGateIdeal.τ).loc Cert.ReferenceGateIdeal.main_v28) = v1 c
          ∧ r.2.mem ((c.tc : Thread Cert.ReferenceGateIdeal.nD Cert.ReferenceGateIdeal.τ).loc Cert.ReferenceGateIdeal.main_v49) = v2 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2)
          ∧ r.2.mem ((c.tc : Thread Cert.ReferenceGateIdeal.nD Cert.ReferenceGateIdeal.τ).loc Cert.ReferenceGateIdeal.main_arg3) = m' ((c.tc : Thread Cert.ReferenceGateIdeal.nD Cert.ReferenceGateIdeal.τ).loc Cert.ReferenceGateIdeal.main_arg3)
          ∧ r.2.mem ((c.tc : Thread Cert.ReferenceGateIdeal.nD Cert.ReferenceGateIdeal.τ).loc Cert.ReferenceGateIdeal.main_arg4) = m' ((c.tc : Thread Cert.ReferenceGateIdeal.nD Cert.ReferenceGateIdeal.τ).loc Cert.ReferenceGateIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)) →
    ∃ (v0 : (c : Dev Cert.KernelInIdeal.nD) → Buf (Elt Ideal) ((c.tc : Thread Cert.KernelInIdeal.nD Cert.KernelInIdeal.τ).loc Cert.KernelInIdeal.main_v1_0)) (v1 : (c : Dev Cert.KernelInIdeal.nD) → Buf (Elt Ideal) ((c.tc : Thread Cert.KernelInIdeal.nD Cert.KernelInIdeal.τ).loc Cert.KernelInIdeal.main_v1_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v1_0) = v0 c
          ∧ r.2.mem ((c.tc : Thread Cert.KernelInIdeal.nD Cert.KernelInIdeal.τ).loc Cert.KernelInIdeal.main_v1_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v48) = v0 c
          ∧ r.2.mem ((c.tc : Thread Cert.ReferenceInIdeal.nD Cert.ReferenceInIdeal.τ).loc Cert.ReferenceInIdeal.main_v43) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)) →
    ∃ (v0 : (c : Dev Cert.KernelOutIdeal.nD) → Buf (Elt Ideal) ((c.tc : Thread Cert.KernelOutIdeal.nD Cert.KernelOutIdeal.τ).loc Cert.KernelOutIdeal.main_v1_0)) (v1 : (c : Dev Cert.KernelOutIdeal.nD) → Buf (Elt Ideal) ((c.tc : Thread Cert.KernelOutIdeal.nD Cert.KernelOutIdeal.τ).loc Cert.KernelOutIdeal.main_v1_1)) (v2 : (c : Dev Cert.KernelOutIdeal.nD) → Buf (Elt Ideal) ((c.tc : Thread Cert.KernelOutIdeal.nD Cert.KernelOutIdeal.τ).loc Cert.KernelOutIdeal.main_v1_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1_0) = v0 c
          ∧ r.2.mem ((c.tc : Thread Cert.KernelOutIdeal.nD Cert.KernelOutIdeal.τ).loc Cert.KernelOutIdeal.main_v1_1) = v1 c
          ∧ r.2.mem ((c.tc : Thread Cert.KernelOutIdeal.nD Cert.KernelOutIdeal.τ).loc Cert.KernelOutIdeal.main_v1_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v7) = v0 c
          ∧ r.2.mem ((c.tc : Thread Cert.ReferenceOutIdeal.nD Cert.ReferenceOutIdeal.τ).loc Cert.ReferenceOutIdeal.main_v8) = v1 c
          ∧ r.2.mem ((c.tc : Thread Cert.ReferenceOutIdeal.nD Cert.ReferenceOutIdeal.τ).loc Cert.ReferenceOutIdeal.main_v4) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3))

def preserves_KernelWQkv_KernelWQkvIdeal : Prop :=
  True

def algebraic_KernelWQkvIdeal_ReferenceWQkvIdeal [hKernelWQkvIdeal : Cert.KernelWQkvIdeal.Facts] [hReferenceWQkvIdeal : Cert.ReferenceWQkvIdeal.Facts] : Prop :=
  ∀ (m : (ℓ : Loc Cert.KernelWQkvIdeal.nD Cert.KernelWQkvIdeal.τ Cert.KernelWQkvIdeal.sig) → Buf (Elt Ideal) ℓ) (g : Dev Cert.KernelWQkvIdeal.nD → PrngReg)
    (m' : (ℓ : Loc Cert.ReferenceWQkvIdeal.nD Cert.ReferenceWQkvIdeal.τ Cert.ReferenceWQkvIdeal.sig) → Buf (Elt Ideal) ℓ) (g' : Dev Cert.ReferenceWQkvIdeal.nD → PrngReg), Pre_KernelWQkvIdeal m →
    (∀ c : Dev Cert.KernelWQkvIdeal.nD,
      m' ((c.tc : Thread Cert.ReferenceWQkvIdeal.nD Cert.ReferenceWQkvIdeal.τ).loc Cert.ReferenceWQkvIdeal.main_arg0) = m ((c.tc : Thread Cert.KernelWQkvIdeal.nD Cert.KernelWQkvIdeal.τ).loc Cert.KernelWQkvIdeal.main_arg0)
      ∧ m' ((c.tc : Thread Cert.ReferenceWQkvIdeal.nD Cert.ReferenceWQkvIdeal.τ).loc Cert.ReferenceWQkvIdeal.main_arg1) = m ((c.tc : Thread Cert.KernelWQkvIdeal.nD Cert.KernelWQkvIdeal.τ).loc Cert.KernelWQkvIdeal.main_arg1)
      ∧ m' ((c.tc : Thread Cert.ReferenceWQkvIdeal.nD Cert.ReferenceWQkvIdeal.τ).loc Cert.ReferenceWQkvIdeal.main_arg2) = m ((c.tc : Thread Cert.KernelWQkvIdeal.nD Cert.KernelWQkvIdeal.τ).loc Cert.KernelWQkvIdeal.main_arg2)
      ∧ m' ((c.tc : Thread Cert.ReferenceWQkvIdeal.nD Cert.ReferenceWQkvIdeal.τ).loc Cert.ReferenceWQkvIdeal.main_arg3) = m ((c.tc : Thread Cert.KernelWQkvIdeal.nD Cert.KernelWQkvIdeal.τ).loc Cert.KernelWQkvIdeal.main_arg3)) →
    ∃ (v0 : (c : Dev Cert.KernelWQkvIdeal.nD) → Buf (Elt Ideal) ((c.tc : Thread Cert.KernelWQkvIdeal.nD Cert.KernelWQkvIdeal.τ).loc Cert.KernelWQkvIdeal.main_v15)),
      θ_run (Cert.KernelWQkvIdeal.defs (F := Ideal)) (onTc (τ := Cert.KernelWQkvIdeal.τ) (Cert.KernelWQkvIdeal.main (F := Ideal))) ⟨m, fun _ => 0, g⟩ (fun r => ∀ c : Dev Cert.KernelWQkvIdeal.nD,
          r.2.mem ((c.tc : Thread Cert.KernelWQkvIdeal.nD Cert.KernelWQkvIdeal.τ).loc Cert.KernelWQkvIdeal.main_v15) = v0 c
          ∧ r.2.mem ((c.tc : Thread Cert.KernelWQkvIdeal.nD Cert.KernelWQkvIdeal.τ).loc Cert.KernelWQkvIdeal.main_arg0) = m ((c.tc : Thread Cert.KernelWQkvIdeal.nD Cert.KernelWQkvIdeal.τ).loc Cert.KernelWQkvIdeal.main_arg0)
          ∧ r.2.mem ((c.tc : Thread Cert.KernelWQkvIdeal.nD Cert.KernelWQkvIdeal.τ).loc Cert.KernelWQkvIdeal.main_arg1) = m ((c.tc : Thread Cert.KernelWQkvIdeal.nD Cert.KernelWQkvIdeal.τ).loc Cert.KernelWQkvIdeal.main_arg1)
          ∧ r.2.mem ((c.tc : Thread Cert.KernelWQkvIdeal.nD Cert.KernelWQkvIdeal.τ).loc Cert.KernelWQkvIdeal.main_arg2) = m ((c.tc : Thread Cert.KernelWQkvIdeal.nD Cert.KernelWQkvIdeal.τ).loc Cert.KernelWQkvIdeal.main_arg2)
          ∧ r.2.mem ((c.tc : Thread Cert.KernelWQkvIdeal.nD Cert.KernelWQkvIdeal.τ).loc Cert.KernelWQkvIdeal.main_arg3) = m ((c.tc : Thread Cert.KernelWQkvIdeal.nD Cert.KernelWQkvIdeal.τ).loc Cert.KernelWQkvIdeal.main_arg3))
      ∧ θ_run (Cert.ReferenceWQkvIdeal.defs (F := Ideal)) (onTc (τ := Cert.ReferenceWQkvIdeal.τ) (Cert.ReferenceWQkvIdeal.main (F := Ideal))) ⟨m', fun _ => 0, g'⟩ (fun r => ∀ c : Dev Cert.ReferenceWQkvIdeal.nD,
          r.2.mem ((c.tc : Thread Cert.ReferenceWQkvIdeal.nD Cert.ReferenceWQkvIdeal.τ).loc Cert.ReferenceWQkvIdeal.main_v16) = v0 c
          ∧ r.2.mem ((c.tc : Thread Cert.ReferenceWQkvIdeal.nD Cert.ReferenceWQkvIdeal.τ).loc Cert.ReferenceWQkvIdeal.main_arg0) = m' ((c.tc : Thread Cert.ReferenceWQkvIdeal.nD Cert.ReferenceWQkvIdeal.τ).loc Cert.ReferenceWQkvIdeal.main_arg0)
          ∧ r.2.mem ((c.tc : Thread Cert.ReferenceWQkvIdeal.nD Cert.ReferenceWQkvIdeal.τ).loc Cert.ReferenceWQkvIdeal.main_arg1) = m' ((c.tc : Thread Cert.ReferenceWQkvIdeal.nD Cert.ReferenceWQkvIdeal.τ).loc Cert.ReferenceWQkvIdeal.main_arg1)
          ∧ r.2.mem ((c.tc : Thread Cert.ReferenceWQkvIdeal.nD Cert.ReferenceWQkvIdeal.τ).loc Cert.ReferenceWQkvIdeal.main_arg2) = m' ((c.tc : Thread Cert.ReferenceWQkvIdeal.nD Cert.ReferenceWQkvIdeal.τ).loc Cert.ReferenceWQkvIdeal.main_arg2)
          ∧ r.2.mem ((c.tc : Thread Cert.ReferenceWQkvIdeal.nD Cert.ReferenceWQkvIdeal.τ).loc Cert.ReferenceWQkvIdeal.main_arg3) = m' ((c.tc : Thread Cert.ReferenceWQkvIdeal.nD Cert.ReferenceWQkvIdeal.τ).loc Cert.ReferenceWQkvIdeal.main_arg3))

def preserves_KernelWZ_KernelWZIdeal : Prop :=
  True

def algebraic_KernelWZIdeal_ReferenceWZIdeal [hKernelWZIdeal : Cert.KernelWZIdeal.Facts] [hReferenceWZIdeal : Cert.ReferenceWZIdeal.Facts] : Prop :=
  ∀ (m : (ℓ : Loc Cert.KernelWZIdeal.nD Cert.KernelWZIdeal.τ Cert.KernelWZIdeal.sig) → Buf (Elt Ideal) ℓ) (g : Dev Cert.KernelWZIdeal.nD → PrngReg)
    (m' : (ℓ : Loc Cert.ReferenceWZIdeal.nD Cert.ReferenceWZIdeal.τ Cert.ReferenceWZIdeal.sig) → Buf (Elt Ideal) ℓ) (g' : Dev Cert.ReferenceWZIdeal.nD → PrngReg), Pre_KernelWZIdeal m →
    (∀ c : Dev Cert.KernelWZIdeal.nD,
      m' ((c.tc : Thread Cert.ReferenceWZIdeal.nD Cert.ReferenceWZIdeal.τ).loc Cert.ReferenceWZIdeal.main_arg0) = m ((c.tc : Thread Cert.KernelWZIdeal.nD Cert.KernelWZIdeal.τ).loc Cert.KernelWZIdeal.main_arg0)
      ∧ m' ((c.tc : Thread Cert.ReferenceWZIdeal.nD Cert.ReferenceWZIdeal.τ).loc Cert.ReferenceWZIdeal.main_arg1) = m ((c.tc : Thread Cert.KernelWZIdeal.nD Cert.KernelWZIdeal.τ).loc Cert.KernelWZIdeal.main_arg1)
      ∧ m' ((c.tc : Thread Cert.ReferenceWZIdeal.nD Cert.ReferenceWZIdeal.τ).loc Cert.ReferenceWZIdeal.main_arg2) = m ((c.tc : Thread Cert.KernelWZIdeal.nD Cert.KernelWZIdeal.τ).loc Cert.KernelWZIdeal.main_arg2)
      ∧ m' ((c.tc : Thread Cert.ReferenceWZIdeal.nD Cert.ReferenceWZIdeal.τ).loc Cert.ReferenceWZIdeal.main_arg3) = m ((c.tc : Thread Cert.KernelWZIdeal.nD Cert.KernelWZIdeal.τ).loc Cert.KernelWZIdeal.main_arg3)) →
    ∃ (v0 : (c : Dev Cert.KernelWZIdeal.nD) → Buf (Elt Ideal) ((c.tc : Thread Cert.KernelWZIdeal.nD Cert.KernelWZIdeal.τ).loc Cert.KernelWZIdeal.main_v15)),
      θ_run (Cert.KernelWZIdeal.defs (F := Ideal)) (onTc (τ := Cert.KernelWZIdeal.τ) (Cert.KernelWZIdeal.main (F := Ideal))) ⟨m, fun _ => 0, g⟩ (fun r => ∀ c : Dev Cert.KernelWZIdeal.nD,
          r.2.mem ((c.tc : Thread Cert.KernelWZIdeal.nD Cert.KernelWZIdeal.τ).loc Cert.KernelWZIdeal.main_v15) = v0 c
          ∧ r.2.mem ((c.tc : Thread Cert.KernelWZIdeal.nD Cert.KernelWZIdeal.τ).loc Cert.KernelWZIdeal.main_arg0) = m ((c.tc : Thread Cert.KernelWZIdeal.nD Cert.KernelWZIdeal.τ).loc Cert.KernelWZIdeal.main_arg0)
          ∧ r.2.mem ((c.tc : Thread Cert.KernelWZIdeal.nD Cert.KernelWZIdeal.τ).loc Cert.KernelWZIdeal.main_arg1) = m ((c.tc : Thread Cert.KernelWZIdeal.nD Cert.KernelWZIdeal.τ).loc Cert.KernelWZIdeal.main_arg1)
          ∧ r.2.mem ((c.tc : Thread Cert.KernelWZIdeal.nD Cert.KernelWZIdeal.τ).loc Cert.KernelWZIdeal.main_arg2) = m ((c.tc : Thread Cert.KernelWZIdeal.nD Cert.KernelWZIdeal.τ).loc Cert.KernelWZIdeal.main_arg2)
          ∧ r.2.mem ((c.tc : Thread Cert.KernelWZIdeal.nD Cert.KernelWZIdeal.τ).loc Cert.KernelWZIdeal.main_arg3) = m ((c.tc : Thread Cert.KernelWZIdeal.nD Cert.KernelWZIdeal.τ).loc Cert.KernelWZIdeal.main_arg3))
      ∧ θ_run (Cert.ReferenceWZIdeal.defs (F := Ideal)) (onTc (τ := Cert.ReferenceWZIdeal.τ) (Cert.ReferenceWZIdeal.main (F := Ideal))) ⟨m', fun _ => 0, g'⟩ (fun r => ∀ c : Dev Cert.ReferenceWZIdeal.nD,
          r.2.mem ((c.tc : Thread Cert.ReferenceWZIdeal.nD Cert.ReferenceWZIdeal.τ).loc Cert.ReferenceWZIdeal.main_v16) = v0 c
          ∧ r.2.mem ((c.tc : Thread Cert.ReferenceWZIdeal.nD Cert.ReferenceWZIdeal.τ).loc Cert.ReferenceWZIdeal.main_arg0) = m' ((c.tc : Thread Cert.ReferenceWZIdeal.nD Cert.ReferenceWZIdeal.τ).loc Cert.ReferenceWZIdeal.main_arg0)
          ∧ r.2.mem ((c.tc : Thread Cert.ReferenceWZIdeal.nD Cert.ReferenceWZIdeal.τ).loc Cert.ReferenceWZIdeal.main_arg1) = m' ((c.tc : Thread Cert.ReferenceWZIdeal.nD Cert.ReferenceWZIdeal.τ).loc Cert.ReferenceWZIdeal.main_arg1)
          ∧ r.2.mem ((c.tc : Thread Cert.ReferenceWZIdeal.nD Cert.ReferenceWZIdeal.τ).loc Cert.ReferenceWZIdeal.main_arg2) = m' ((c.tc : Thread Cert.ReferenceWZIdeal.nD Cert.ReferenceWZIdeal.τ).loc Cert.ReferenceWZIdeal.main_arg2)
          ∧ r.2.mem ((c.tc : Thread Cert.ReferenceWZIdeal.nD Cert.ReferenceWZIdeal.τ).loc Cert.ReferenceWZIdeal.main_arg3) = m' ((c.tc : Thread Cert.ReferenceWZIdeal.nD Cert.ReferenceWZIdeal.τ).loc Cert.ReferenceWZIdeal.main_arg3))

def preserves_KernelWBa_KernelWBaIdeal : Prop :=
  True

def algebraic_KernelWBaIdeal_ReferenceWBaIdeal [hKernelWBaIdeal : Cert.KernelWBaIdeal.Facts] [hReferenceWBaIdeal : Cert.ReferenceWBaIdeal.Facts] : Prop :=
  ∀ (m : (ℓ : Loc Cert.KernelWBaIdeal.nD Cert.KernelWBaIdeal.τ Cert.KernelWBaIdeal.sig) → Buf (Elt Ideal) ℓ) (g : Dev Cert.KernelWBaIdeal.nD → PrngReg)
    (m' : (ℓ : Loc Cert.ReferenceWBaIdeal.nD Cert.ReferenceWBaIdeal.τ Cert.ReferenceWBaIdeal.sig) → Buf (Elt Ideal) ℓ) (g' : Dev Cert.ReferenceWBaIdeal.nD → PrngReg), Pre_KernelWBaIdeal m →
    (∀ c : Dev Cert.KernelWBaIdeal.nD,
      m' ((c.tc : Thread Cert.ReferenceWBaIdeal.nD Cert.ReferenceWBaIdeal.τ).loc Cert.ReferenceWBaIdeal.main_arg0) = m ((c.tc : Thread Cert.KernelWBaIdeal.nD Cert.KernelWBaIdeal.τ).loc Cert.KernelWBaIdeal.main_arg0)
      ∧ m' ((c.tc : Thread Cert.ReferenceWBaIdeal.nD Cert.ReferenceWBaIdeal.τ).loc Cert.ReferenceWBaIdeal.main_arg1) = m ((c.tc : Thread Cert.KernelWBaIdeal.nD Cert.KernelWBaIdeal.τ).loc Cert.KernelWBaIdeal.main_arg1)
      ∧ m' ((c.tc : Thread Cert.ReferenceWBaIdeal.nD Cert.ReferenceWBaIdeal.τ).loc Cert.ReferenceWBaIdeal.main_arg2) = m ((c.tc : Thread Cert.KernelWBaIdeal.nD Cert.KernelWBaIdeal.τ).loc Cert.KernelWBaIdeal.main_arg2)
      ∧ m' ((c.tc : Thread Cert.ReferenceWBaIdeal.nD Cert.ReferenceWBaIdeal.τ).loc Cert.ReferenceWBaIdeal.main_arg3) = m ((c.tc : Thread Cert.KernelWBaIdeal.nD Cert.KernelWBaIdeal.τ).loc Cert.KernelWBaIdeal.main_arg3)) →
    ∃ (v0 : (c : Dev Cert.KernelWBaIdeal.nD) → Buf (Elt Ideal) ((c.tc : Thread Cert.KernelWBaIdeal.nD Cert.KernelWBaIdeal.τ).loc Cert.KernelWBaIdeal.main_v15)),
      θ_run (Cert.KernelWBaIdeal.defs (F := Ideal)) (onTc (τ := Cert.KernelWBaIdeal.τ) (Cert.KernelWBaIdeal.main (F := Ideal))) ⟨m, fun _ => 0, g⟩ (fun r => ∀ c : Dev Cert.KernelWBaIdeal.nD,
          r.2.mem ((c.tc : Thread Cert.KernelWBaIdeal.nD Cert.KernelWBaIdeal.τ).loc Cert.KernelWBaIdeal.main_v15) = v0 c
          ∧ r.2.mem ((c.tc : Thread Cert.KernelWBaIdeal.nD Cert.KernelWBaIdeal.τ).loc Cert.KernelWBaIdeal.main_arg0) = m ((c.tc : Thread Cert.KernelWBaIdeal.nD Cert.KernelWBaIdeal.τ).loc Cert.KernelWBaIdeal.main_arg0)
          ∧ r.2.mem ((c.tc : Thread Cert.KernelWBaIdeal.nD Cert.KernelWBaIdeal.τ).loc Cert.KernelWBaIdeal.main_arg1) = m ((c.tc : Thread Cert.KernelWBaIdeal.nD Cert.KernelWBaIdeal.τ).loc Cert.KernelWBaIdeal.main_arg1)
          ∧ r.2.mem ((c.tc : Thread Cert.KernelWBaIdeal.nD Cert.KernelWBaIdeal.τ).loc Cert.KernelWBaIdeal.main_arg2) = m ((c.tc : Thread Cert.KernelWBaIdeal.nD Cert.KernelWBaIdeal.τ).loc Cert.KernelWBaIdeal.main_arg2)
          ∧ r.2.mem ((c.tc : Thread Cert.KernelWBaIdeal.nD Cert.KernelWBaIdeal.τ).loc Cert.KernelWBaIdeal.main_arg3) = m ((c.tc : Thread Cert.KernelWBaIdeal.nD Cert.KernelWBaIdeal.τ).loc Cert.KernelWBaIdeal.main_arg3))
      ∧ θ_run (Cert.ReferenceWBaIdeal.defs (F := Ideal)) (onTc (τ := Cert.ReferenceWBaIdeal.τ) (Cert.ReferenceWBaIdeal.main (F := Ideal))) ⟨m', fun _ => 0, g'⟩ (fun r => ∀ c : Dev Cert.ReferenceWBaIdeal.nD,
          r.2.mem ((c.tc : Thread Cert.ReferenceWBaIdeal.nD Cert.ReferenceWBaIdeal.τ).loc Cert.ReferenceWBaIdeal.main_v16) = v0 c
          ∧ r.2.mem ((c.tc : Thread Cert.ReferenceWBaIdeal.nD Cert.ReferenceWBaIdeal.τ).loc Cert.ReferenceWBaIdeal.main_arg0) = m' ((c.tc : Thread Cert.ReferenceWBaIdeal.nD Cert.ReferenceWBaIdeal.τ).loc Cert.ReferenceWBaIdeal.main_arg0)
          ∧ r.2.mem ((c.tc : Thread Cert.ReferenceWBaIdeal.nD Cert.ReferenceWBaIdeal.τ).loc Cert.ReferenceWBaIdeal.main_arg1) = m' ((c.tc : Thread Cert.ReferenceWBaIdeal.nD Cert.ReferenceWBaIdeal.τ).loc Cert.ReferenceWBaIdeal.main_arg1)
          ∧ r.2.mem ((c.tc : Thread Cert.ReferenceWBaIdeal.nD Cert.ReferenceWBaIdeal.τ).loc Cert.ReferenceWBaIdeal.main_arg2) = m' ((c.tc : Thread Cert.ReferenceWBaIdeal.nD Cert.ReferenceWBaIdeal.τ).loc Cert.ReferenceWBaIdeal.main_arg2)
          ∧ r.2.mem ((c.tc : Thread Cert.ReferenceWBaIdeal.nD Cert.ReferenceWBaIdeal.τ).loc Cert.ReferenceWBaIdeal.main_arg3) = m' ((c.tc : Thread Cert.ReferenceWBaIdeal.nD Cert.ReferenceWBaIdeal.τ).loc Cert.ReferenceWBaIdeal.main_arg3))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)
      ∧ m' ((c.tc : Thread Cert.ReferenceWOutIdeal.nD Cert.ReferenceWOutIdeal.τ).loc Cert.ReferenceWOutIdeal.main_arg2) = m ((c.tc : Thread Cert.KernelWOutIdeal.nD Cert.KernelWOutIdeal.τ).loc Cert.KernelWOutIdeal.main_arg2)
      ∧ m' ((c.tc : Thread Cert.ReferenceWOutIdeal.nD Cert.ReferenceWOutIdeal.τ).loc Cert.ReferenceWOutIdeal.main_arg3) = m ((c.tc : Thread Cert.KernelWOutIdeal.nD Cert.KernelWOutIdeal.τ).loc Cert.KernelWOutIdeal.main_arg3)
      ∧ m' ((c.tc : Thread Cert.ReferenceWOutIdeal.nD Cert.ReferenceWOutIdeal.τ).loc Cert.ReferenceWOutIdeal.main_arg4) = m ((c.tc : Thread Cert.KernelWOutIdeal.nD Cert.KernelWOutIdeal.τ).loc Cert.KernelWOutIdeal.main_arg4)) →
    ∃ (v0 : (c : Dev Cert.KernelWOutIdeal.nD) → Buf (Elt Ideal) ((c.tc : Thread Cert.KernelWOutIdeal.nD Cert.KernelWOutIdeal.τ).loc Cert.KernelWOutIdeal.main_v26)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v26) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1)
          ∧ r.2.mem ((c.tc : Thread Cert.KernelWOutIdeal.nD Cert.KernelWOutIdeal.τ).loc Cert.KernelWOutIdeal.main_arg2) = m ((c.tc : Thread Cert.KernelWOutIdeal.nD Cert.KernelWOutIdeal.τ).loc Cert.KernelWOutIdeal.main_arg2)
          ∧ r.2.mem ((c.tc : Thread Cert.KernelWOutIdeal.nD Cert.KernelWOutIdeal.τ).loc Cert.KernelWOutIdeal.main_arg3) = m ((c.tc : Thread Cert.KernelWOutIdeal.nD Cert.KernelWOutIdeal.τ).loc Cert.KernelWOutIdeal.main_arg3)
          ∧ r.2.mem ((c.tc : Thread Cert.KernelWOutIdeal.nD Cert.KernelWOutIdeal.τ).loc Cert.KernelWOutIdeal.main_arg4) = m ((c.tc : Thread Cert.KernelWOutIdeal.nD Cert.KernelWOutIdeal.τ).loc Cert.KernelWOutIdeal.main_arg4))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v21) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1)
          ∧ r.2.mem ((c.tc : Thread Cert.ReferenceWOutIdeal.nD Cert.ReferenceWOutIdeal.τ).loc Cert.ReferenceWOutIdeal.main_arg2) = m' ((c.tc : Thread Cert.ReferenceWOutIdeal.nD Cert.ReferenceWOutIdeal.τ).loc Cert.ReferenceWOutIdeal.main_arg2)
          ∧ r.2.mem ((c.tc : Thread Cert.ReferenceWOutIdeal.nD Cert.ReferenceWOutIdeal.τ).loc Cert.ReferenceWOutIdeal.main_arg3) = m' ((c.tc : Thread Cert.ReferenceWOutIdeal.nD Cert.ReferenceWOutIdeal.τ).loc Cert.ReferenceWOutIdeal.main_arg3)
          ∧ r.2.mem ((c.tc : Thread Cert.ReferenceWOutIdeal.nD Cert.ReferenceWOutIdeal.τ).loc Cert.ReferenceWOutIdeal.main_arg4) = m' ((c.tc : Thread Cert.ReferenceWOutIdeal.nD Cert.ReferenceWOutIdeal.τ).loc Cert.ReferenceWOutIdeal.main_arg4))

def preserves_KernelWQ_KernelWQIdeal : Prop :=
  True

def algebraic_KernelWQIdeal_ReferenceWQIdeal [hKernelWQIdeal : Cert.KernelWQIdeal.Facts] [hReferenceWQIdeal : Cert.ReferenceWQIdeal.Facts] : Prop :=
  ∀ (m : (ℓ : Loc Cert.KernelWQIdeal.nD Cert.KernelWQIdeal.τ Cert.KernelWQIdeal.sig) → Buf (Elt Ideal) ℓ) (g : Dev Cert.KernelWQIdeal.nD → PrngReg)
    (m' : (ℓ : Loc Cert.ReferenceWQIdeal.nD Cert.ReferenceWQIdeal.τ Cert.ReferenceWQIdeal.sig) → Buf (Elt Ideal) ℓ) (g' : Dev Cert.ReferenceWQIdeal.nD → PrngReg), Pre_KernelWQIdeal m →
    (∀ c : Dev Cert.KernelWQIdeal.nD,
      m' ((c.tc : Thread Cert.ReferenceWQIdeal.nD Cert.ReferenceWQIdeal.τ).loc Cert.ReferenceWQIdeal.main_arg0) = m ((c.tc : Thread Cert.KernelWQIdeal.nD Cert.KernelWQIdeal.τ).loc Cert.KernelWQIdeal.main_arg0)
      ∧ m' ((c.tc : Thread Cert.ReferenceWQIdeal.nD Cert.ReferenceWQIdeal.τ).loc Cert.ReferenceWQIdeal.main_arg1) = m ((c.tc : Thread Cert.KernelWQIdeal.nD Cert.KernelWQIdeal.τ).loc Cert.KernelWQIdeal.main_arg1)
      ∧ m' ((c.tc : Thread Cert.ReferenceWQIdeal.nD Cert.ReferenceWQIdeal.τ).loc Cert.ReferenceWQIdeal.main_arg2) = m ((c.tc : Thread Cert.KernelWQIdeal.nD Cert.KernelWQIdeal.τ).loc Cert.KernelWQIdeal.main_arg2)
      ∧ m' ((c.tc : Thread Cert.ReferenceWQIdeal.nD Cert.ReferenceWQIdeal.τ).loc Cert.ReferenceWQIdeal.main_arg3) = m ((c.tc : Thread Cert.KernelWQIdeal.nD Cert.KernelWQIdeal.τ).loc Cert.KernelWQIdeal.main_arg3)) →
    ∃ (v0 : (c : Dev Cert.KernelWQIdeal.nD) → Buf (Elt Ideal) ((c.tc : Thread Cert.KernelWQIdeal.nD Cert.KernelWQIdeal.τ).loc Cert.KernelWQIdeal.main_v15)),
      θ_run (Cert.KernelWQIdeal.defs (F := Ideal)) (onTc (τ := Cert.KernelWQIdeal.τ) (Cert.KernelWQIdeal.main (F := Ideal))) ⟨m, fun _ => 0, g⟩ (fun r => ∀ c : Dev Cert.KernelWQIdeal.nD,
          r.2.mem ((c.tc : Thread Cert.KernelWQIdeal.nD Cert.KernelWQIdeal.τ).loc Cert.KernelWQIdeal.main_v15) = v0 c
          ∧ r.2.mem ((c.tc : Thread Cert.KernelWQIdeal.nD Cert.KernelWQIdeal.τ).loc Cert.KernelWQIdeal.main_arg0) = m ((c.tc : Thread Cert.KernelWQIdeal.nD Cert.KernelWQIdeal.τ).loc Cert.KernelWQIdeal.main_arg0)
          ∧ r.2.mem ((c.tc : Thread Cert.KernelWQIdeal.nD Cert.KernelWQIdeal.τ).loc Cert.KernelWQIdeal.main_arg1) = m ((c.tc : Thread Cert.KernelWQIdeal.nD Cert.KernelWQIdeal.τ).loc Cert.KernelWQIdeal.main_arg1)
          ∧ r.2.mem ((c.tc : Thread Cert.KernelWQIdeal.nD Cert.KernelWQIdeal.τ).loc Cert.KernelWQIdeal.main_arg2) = m ((c.tc : Thread Cert.KernelWQIdeal.nD Cert.KernelWQIdeal.τ).loc Cert.KernelWQIdeal.main_arg2)
          ∧ r.2.mem ((c.tc : Thread Cert.KernelWQIdeal.nD Cert.KernelWQIdeal.τ).loc Cert.KernelWQIdeal.main_arg3) = m ((c.tc : Thread Cert.KernelWQIdeal.nD Cert.KernelWQIdeal.τ).loc Cert.KernelWQIdeal.main_arg3))
      ∧ θ_run (Cert.ReferenceWQIdeal.defs (F := Ideal)) (onTc (τ := Cert.ReferenceWQIdeal.τ) (Cert.ReferenceWQIdeal.main (F := Ideal))) ⟨m', fun _ => 0, g'⟩ (fun r => ∀ c : Dev Cert.ReferenceWQIdeal.nD,
          r.2.mem ((c.tc : Thread Cert.ReferenceWQIdeal.nD Cert.ReferenceWQIdeal.τ).loc Cert.ReferenceWQIdeal.main_v16) = v0 c
          ∧ r.2.mem ((c.tc : Thread Cert.ReferenceWQIdeal.nD Cert.ReferenceWQIdeal.τ).loc Cert.ReferenceWQIdeal.main_arg0) = m' ((c.tc : Thread Cert.ReferenceWQIdeal.nD Cert.ReferenceWQIdeal.τ).loc Cert.ReferenceWQIdeal.main_arg0)
          ∧ r.2.mem ((c.tc : Thread Cert.ReferenceWQIdeal.nD Cert.ReferenceWQIdeal.τ).loc Cert.ReferenceWQIdeal.main_arg1) = m' ((c.tc : Thread Cert.ReferenceWQIdeal.nD Cert.ReferenceWQIdeal.τ).loc Cert.ReferenceWQIdeal.main_arg1)
          ∧ r.2.mem ((c.tc : Thread Cert.ReferenceWQIdeal.nD Cert.ReferenceWQIdeal.τ).loc Cert.ReferenceWQIdeal.main_arg2) = m' ((c.tc : Thread Cert.ReferenceWQIdeal.nD Cert.ReferenceWQIdeal.τ).loc Cert.ReferenceWQIdeal.main_arg2)
          ∧ r.2.mem ((c.tc : Thread Cert.ReferenceWQIdeal.nD Cert.ReferenceWQIdeal.τ).loc Cert.ReferenceWQIdeal.main_arg3) = m' ((c.tc : Thread Cert.ReferenceWQIdeal.nD Cert.ReferenceWQIdeal.τ).loc Cert.ReferenceWQIdeal.main_arg3))

def preserves_KernelWKv_KernelWKvIdeal : Prop :=
  True

def algebraic_KernelWKvIdeal_ReferenceWKvIdeal [hKernelWKvIdeal : Cert.KernelWKvIdeal.Facts] [hReferenceWKvIdeal : Cert.ReferenceWKvIdeal.Facts] : Prop :=
  ∀ (m : (ℓ : Loc Cert.KernelWKvIdeal.nD Cert.KernelWKvIdeal.τ Cert.KernelWKvIdeal.sig) → Buf (Elt Ideal) ℓ) (g : Dev Cert.KernelWKvIdeal.nD → PrngReg)
    (m' : (ℓ : Loc Cert.ReferenceWKvIdeal.nD Cert.ReferenceWKvIdeal.τ Cert.ReferenceWKvIdeal.sig) → Buf (Elt Ideal) ℓ) (g' : Dev Cert.ReferenceWKvIdeal.nD → PrngReg), Pre_KernelWKvIdeal m →
    (∀ c : Dev Cert.KernelWKvIdeal.nD,
      m' ((c.tc : Thread Cert.ReferenceWKvIdeal.nD Cert.ReferenceWKvIdeal.τ).loc Cert.ReferenceWKvIdeal.main_arg0) = m ((c.tc : Thread Cert.KernelWKvIdeal.nD Cert.KernelWKvIdeal.τ).loc Cert.KernelWKvIdeal.main_arg0)
      ∧ m' ((c.tc : Thread Cert.ReferenceWKvIdeal.nD Cert.ReferenceWKvIdeal.τ).loc Cert.ReferenceWKvIdeal.main_arg1) = m ((c.tc : Thread Cert.KernelWKvIdeal.nD Cert.KernelWKvIdeal.τ).loc Cert.KernelWKvIdeal.main_arg1)
      ∧ m' ((c.tc : Thread Cert.ReferenceWKvIdeal.nD Cert.ReferenceWKvIdeal.τ).loc Cert.ReferenceWKvIdeal.main_arg2) = m ((c.tc : Thread Cert.KernelWKvIdeal.nD Cert.KernelWKvIdeal.τ).loc Cert.KernelWKvIdeal.main_arg2)
      ∧ m' ((c.tc : Thread Cert.ReferenceWKvIdeal.nD Cert.ReferenceWKvIdeal.τ).loc Cert.ReferenceWKvIdeal.main_arg3) = m ((c.tc : Thread Cert.KernelWKvIdeal.nD Cert.KernelWKvIdeal.τ).loc Cert.KernelWKvIdeal.main_arg3)) →
    ∃ (v0 : (c : Dev Cert.KernelWKvIdeal.nD) → Buf (Elt Ideal) ((c.tc : Thread Cert.KernelWKvIdeal.nD Cert.KernelWKvIdeal.τ).loc Cert.KernelWKvIdeal.main_v15)),
      θ_run (Cert.KernelWKvIdeal.defs (F := Ideal)) (onTc (τ := Cert.KernelWKvIdeal.τ) (Cert.KernelWKvIdeal.main (F := Ideal))) ⟨m, fun _ => 0, g⟩ (fun r => ∀ c : Dev Cert.KernelWKvIdeal.nD,
          r.2.mem ((c.tc : Thread Cert.KernelWKvIdeal.nD Cert.KernelWKvIdeal.τ).loc Cert.KernelWKvIdeal.main_v15) = v0 c
          ∧ r.2.mem ((c.tc : Thread Cert.KernelWKvIdeal.nD Cert.KernelWKvIdeal.τ).loc Cert.KernelWKvIdeal.main_arg0) = m ((c.tc : Thread Cert.KernelWKvIdeal.nD Cert.KernelWKvIdeal.τ).loc Cert.KernelWKvIdeal.main_arg0)
          ∧ r.2.mem ((c.tc : Thread Cert.KernelWKvIdeal.nD Cert.KernelWKvIdeal.τ).loc Cert.KernelWKvIdeal.main_arg1) = m ((c.tc : Thread Cert.KernelWKvIdeal.nD Cert.KernelWKvIdeal.τ).loc Cert.KernelWKvIdeal.main_arg1)
          ∧ r.2.mem ((c.tc : Thread Cert.KernelWKvIdeal.nD Cert.KernelWKvIdeal.τ).loc Cert.KernelWKvIdeal.main_arg2) = m ((c.tc : Thread Cert.KernelWKvIdeal.nD Cert.KernelWKvIdeal.τ).loc Cert.KernelWKvIdeal.main_arg2)
          ∧ r.2.mem ((c.tc : Thread Cert.KernelWKvIdeal.nD Cert.KernelWKvIdeal.τ).loc Cert.KernelWKvIdeal.main_arg3) = m ((c.tc : Thread Cert.KernelWKvIdeal.nD Cert.KernelWKvIdeal.τ).loc Cert.KernelWKvIdeal.main_arg3))
      ∧ θ_run (Cert.ReferenceWKvIdeal.defs (F := Ideal)) (onTc (τ := Cert.ReferenceWKvIdeal.τ) (Cert.ReferenceWKvIdeal.main (F := Ideal))) ⟨m', fun _ => 0, g'⟩ (fun r => ∀ c : Dev Cert.ReferenceWKvIdeal.nD,
          r.2.mem ((c.tc : Thread Cert.ReferenceWKvIdeal.nD Cert.ReferenceWKvIdeal.τ).loc Cert.ReferenceWKvIdeal.main_v16) = v0 c
          ∧ r.2.mem ((c.tc : Thread Cert.ReferenceWKvIdeal.nD Cert.ReferenceWKvIdeal.τ).loc Cert.ReferenceWKvIdeal.main_arg0) = m' ((c.tc : Thread Cert.ReferenceWKvIdeal.nD Cert.ReferenceWKvIdeal.τ).loc Cert.ReferenceWKvIdeal.main_arg0)
          ∧ r.2.mem ((c.tc : Thread Cert.ReferenceWKvIdeal.nD Cert.ReferenceWKvIdeal.τ).loc Cert.ReferenceWKvIdeal.main_arg1) = m' ((c.tc : Thread Cert.ReferenceWKvIdeal.nD Cert.ReferenceWKvIdeal.τ).loc Cert.ReferenceWKvIdeal.main_arg1)
          ∧ r.2.mem ((c.tc : Thread Cert.ReferenceWKvIdeal.nD Cert.ReferenceWKvIdeal.τ).loc Cert.ReferenceWKvIdeal.main_arg2) = m' ((c.tc : Thread Cert.ReferenceWKvIdeal.nD Cert.ReferenceWKvIdeal.τ).loc Cert.ReferenceWKvIdeal.main_arg2)
          ∧ r.2.mem ((c.tc : Thread Cert.ReferenceWKvIdeal.nD Cert.ReferenceWKvIdeal.τ).loc Cert.ReferenceWKvIdeal.main_arg3) = m' ((c.tc : Thread Cert.ReferenceWKvIdeal.nD Cert.ReferenceWKvIdeal.τ).loc Cert.ReferenceWKvIdeal.main_arg3))

def preserves_KernelWGate_KernelWGateIdeal : Prop :=
  True

def algebraic_KernelWGateIdeal_ReferenceWGateIdeal [hKernelWGateIdeal : Cert.KernelWGateIdeal.Facts] [hReferenceWGateIdeal : Cert.ReferenceWGateIdeal.Facts] : Prop :=
  ∀ (m : (ℓ : Loc Cert.KernelWGateIdeal.nD Cert.KernelWGateIdeal.τ Cert.KernelWGateIdeal.sig) → Buf (Elt Ideal) ℓ) (g : Dev Cert.KernelWGateIdeal.nD → PrngReg)
    (m' : (ℓ : Loc Cert.ReferenceWGateIdeal.nD Cert.ReferenceWGateIdeal.τ Cert.ReferenceWGateIdeal.sig) → Buf (Elt Ideal) ℓ) (g' : Dev Cert.ReferenceWGateIdeal.nD → PrngReg), Pre_KernelWGateIdeal m →
    (∀ c : Dev Cert.KernelWGateIdeal.nD,
      m' ((c.tc : Thread Cert.ReferenceWGateIdeal.nD Cert.ReferenceWGateIdeal.τ).loc Cert.ReferenceWGateIdeal.main_arg0) = m ((c.tc : Thread Cert.KernelWGateIdeal.nD Cert.KernelWGateIdeal.τ).loc Cert.KernelWGateIdeal.main_arg0)
      ∧ m' ((c.tc : Thread Cert.ReferenceWGateIdeal.nD Cert.ReferenceWGateIdeal.τ).loc Cert.ReferenceWGateIdeal.main_arg1) = m ((c.tc : Thread Cert.KernelWGateIdeal.nD Cert.KernelWGateIdeal.τ).loc Cert.KernelWGateIdeal.main_arg1)
      ∧ m' ((c.tc : Thread Cert.ReferenceWGateIdeal.nD Cert.ReferenceWGateIdeal.τ).loc Cert.ReferenceWGateIdeal.main_arg2) = m ((c.tc : Thread Cert.KernelWGateIdeal.nD Cert.KernelWGateIdeal.τ).loc Cert.KernelWGateIdeal.main_arg2)
      ∧ m' ((c.tc : Thread Cert.ReferenceWGateIdeal.nD Cert.ReferenceWGateIdeal.τ).loc Cert.ReferenceWGateIdeal.main_arg3) = m ((c.tc : Thread Cert.KernelWGateIdeal.nD Cert.KernelWGateIdeal.τ).loc Cert.KernelWGateIdeal.main_arg3)) →
    ∃ (v0 : (c : Dev Cert.KernelWGateIdeal.nD) → Buf (Elt Ideal) ((c.tc : Thread Cert.KernelWGateIdeal.nD Cert.KernelWGateIdeal.τ).loc Cert.KernelWGateIdeal.main_v15)),
      θ_run (Cert.KernelWGateIdeal.defs (F := Ideal)) (onTc (τ := Cert.KernelWGateIdeal.τ) (Cert.KernelWGateIdeal.main (F := Ideal))) ⟨m, fun _ => 0, g⟩ (fun r => ∀ c : Dev Cert.KernelWGateIdeal.nD,
          r.2.mem ((c.tc : Thread Cert.KernelWGateIdeal.nD Cert.KernelWGateIdeal.τ).loc Cert.KernelWGateIdeal.main_v15) = v0 c
          ∧ r.2.mem ((c.tc : Thread Cert.KernelWGateIdeal.nD Cert.KernelWGateIdeal.τ).loc Cert.KernelWGateIdeal.main_arg0) = m ((c.tc : Thread Cert.KernelWGateIdeal.nD Cert.KernelWGateIdeal.τ).loc Cert.KernelWGateIdeal.main_arg0)
          ∧ r.2.mem ((c.tc : Thread Cert.KernelWGateIdeal.nD Cert.KernelWGateIdeal.τ).loc Cert.KernelWGateIdeal.main_arg1) = m ((c.tc : Thread Cert.KernelWGateIdeal.nD Cert.KernelWGateIdeal.τ).loc Cert.KernelWGateIdeal.main_arg1)
          ∧ r.2.mem ((c.tc : Thread Cert.KernelWGateIdeal.nD Cert.KernelWGateIdeal.τ).loc Cert.KernelWGateIdeal.main_arg2) = m ((c.tc : Thread Cert.KernelWGateIdeal.nD Cert.KernelWGateIdeal.τ).loc Cert.KernelWGateIdeal.main_arg2)
          ∧ r.2.mem ((c.tc : Thread Cert.KernelWGateIdeal.nD Cert.KernelWGateIdeal.τ).loc Cert.KernelWGateIdeal.main_arg3) = m ((c.tc : Thread Cert.KernelWGateIdeal.nD Cert.KernelWGateIdeal.τ).loc Cert.KernelWGateIdeal.main_arg3))
      ∧ θ_run (Cert.ReferenceWGateIdeal.defs (F := Ideal)) (onTc (τ := Cert.ReferenceWGateIdeal.τ) (Cert.ReferenceWGateIdeal.main (F := Ideal))) ⟨m', fun _ => 0, g'⟩ (fun r => ∀ c : Dev Cert.ReferenceWGateIdeal.nD,
          r.2.mem ((c.tc : Thread Cert.ReferenceWGateIdeal.nD Cert.ReferenceWGateIdeal.τ).loc Cert.ReferenceWGateIdeal.main_v16) = v0 c
          ∧ r.2.mem ((c.tc : Thread Cert.ReferenceWGateIdeal.nD Cert.ReferenceWGateIdeal.τ).loc Cert.ReferenceWGateIdeal.main_arg0) = m' ((c.tc : Thread Cert.ReferenceWGateIdeal.nD Cert.ReferenceWGateIdeal.τ).loc Cert.ReferenceWGateIdeal.main_arg0)
          ∧ r.2.mem ((c.tc : Thread Cert.ReferenceWGateIdeal.nD Cert.ReferenceWGateIdeal.τ).loc Cert.ReferenceWGateIdeal.main_arg1) = m' ((c.tc : Thread Cert.ReferenceWGateIdeal.nD Cert.ReferenceWGateIdeal.τ).loc Cert.ReferenceWGateIdeal.main_arg1)
          ∧ r.2.mem ((c.tc : Thread Cert.ReferenceWGateIdeal.nD Cert.ReferenceWGateIdeal.τ).loc Cert.ReferenceWGateIdeal.main_arg2) = m' ((c.tc : Thread Cert.ReferenceWGateIdeal.nD Cert.ReferenceWGateIdeal.τ).loc Cert.ReferenceWGateIdeal.main_arg2)
          ∧ r.2.mem ((c.tc : Thread Cert.ReferenceWGateIdeal.nD Cert.ReferenceWGateIdeal.τ).loc Cert.ReferenceWGateIdeal.main_arg3) = m' ((c.tc : Thread Cert.ReferenceWGateIdeal.nD Cert.ReferenceWGateIdeal.τ).loc Cert.ReferenceWGateIdeal.main_arg3))

def preserves_KernelAIn_KernelAInIdeal : Prop :=
  True

def algebraic_KernelAInIdeal_ReferenceAInIdeal [hKernelAInIdeal : Cert.KernelAInIdeal.Facts] [hReferenceAInIdeal : Cert.ReferenceAInIdeal.Facts] : Prop :=
  ∀ (m : (ℓ : Loc Cert.KernelAInIdeal.nD Cert.KernelAInIdeal.τ Cert.KernelAInIdeal.sig) → Buf (Elt Ideal) ℓ) (g : Dev Cert.KernelAInIdeal.nD → PrngReg)
    (m' : (ℓ : Loc Cert.ReferenceAInIdeal.nD Cert.ReferenceAInIdeal.τ Cert.ReferenceAInIdeal.sig) → Buf (Elt Ideal) ℓ) (g' : Dev Cert.ReferenceAInIdeal.nD → PrngReg), Pre_KernelAInIdeal m →
    (∀ c : Dev Cert.KernelAInIdeal.nD,
      m' ((c.tc : Thread Cert.ReferenceAInIdeal.nD Cert.ReferenceAInIdeal.τ).loc Cert.ReferenceAInIdeal.main_arg0) = m ((c.tc : Thread Cert.KernelAInIdeal.nD Cert.KernelAInIdeal.τ).loc Cert.KernelAInIdeal.main_arg0)
      ∧ m' ((c.tc : Thread Cert.ReferenceAInIdeal.nD Cert.ReferenceAInIdeal.τ).loc Cert.ReferenceAInIdeal.main_arg1) = m ((c.tc : Thread Cert.KernelAInIdeal.nD Cert.KernelAInIdeal.τ).loc Cert.KernelAInIdeal.main_arg1)
      ∧ m' ((c.tc : Thread Cert.ReferenceAInIdeal.nD Cert.ReferenceAInIdeal.τ).loc Cert.ReferenceAInIdeal.main_arg2) = m ((c.tc : Thread Cert.KernelAInIdeal.nD Cert.KernelAInIdeal.τ).loc Cert.KernelAInIdeal.main_arg2)
      ∧ m' ((c.tc : Thread Cert.ReferenceAInIdeal.nD Cert.ReferenceAInIdeal.τ).loc Cert.ReferenceAInIdeal.main_arg3) = m ((c.tc : Thread Cert.KernelAInIdeal.nD Cert.KernelAInIdeal.τ).loc Cert.KernelAInIdeal.main_arg3)) →
    ∃ (v0 : (c : Dev Cert.KernelAInIdeal.nD) → Buf (Elt Ideal) ((c.tc : Thread Cert.KernelAInIdeal.nD Cert.KernelAInIdeal.τ).loc Cert.KernelAInIdeal.main_v3_0)) (v1 : (c : Dev Cert.KernelAInIdeal.nD) → Buf (Elt Ideal) ((c.tc : Thread Cert.KernelAInIdeal.nD Cert.KernelAInIdeal.τ).loc Cert.KernelAInIdeal.main_v3_1)) (v2 : (c : Dev Cert.KernelAInIdeal.nD) → Buf (Elt Ideal) ((c.tc : Thread Cert.KernelAInIdeal.nD Cert.KernelAInIdeal.τ).loc Cert.KernelAInIdeal.main_v3_2)) (v3 : (c : Dev Cert.KernelAInIdeal.nD) → Buf (Elt Ideal) ((c.tc : Thread Cert.KernelAInIdeal.nD Cert.KernelAInIdeal.τ).loc Cert.KernelAInIdeal.main_v3_3)),
      θ_run (Cert.KernelAInIdeal.defs (F := Ideal)) (onTc (τ := Cert.KernelAInIdeal.τ) (Cert.KernelAInIdeal.main (F := Ideal))) ⟨m, fun _ => 0, g⟩ (fun r => ∀ c : Dev Cert.KernelAInIdeal.nD,
          r.2.mem ((c.tc : Thread Cert.KernelAInIdeal.nD Cert.KernelAInIdeal.τ).loc Cert.KernelAInIdeal.main_v3_0) = v0 c
          ∧ r.2.mem ((c.tc : Thread Cert.KernelAInIdeal.nD Cert.KernelAInIdeal.τ).loc Cert.KernelAInIdeal.main_v3_1) = v1 c
          ∧ r.2.mem ((c.tc : Thread Cert.KernelAInIdeal.nD Cert.KernelAInIdeal.τ).loc Cert.KernelAInIdeal.main_v3_2) = v2 c
          ∧ r.2.mem ((c.tc : Thread Cert.KernelAInIdeal.nD Cert.KernelAInIdeal.τ).loc Cert.KernelAInIdeal.main_v3_3) = v3 c
          ∧ r.2.mem ((c.tc : Thread Cert.KernelAInIdeal.nD Cert.KernelAInIdeal.τ).loc Cert.KernelAInIdeal.main_arg0) = m ((c.tc : Thread Cert.KernelAInIdeal.nD Cert.KernelAInIdeal.τ).loc Cert.KernelAInIdeal.main_arg0)
          ∧ r.2.mem ((c.tc : Thread Cert.KernelAInIdeal.nD Cert.KernelAInIdeal.τ).loc Cert.KernelAInIdeal.main_arg1) = m ((c.tc : Thread Cert.KernelAInIdeal.nD Cert.KernelAInIdeal.τ).loc Cert.KernelAInIdeal.main_arg1)
          ∧ r.2.mem ((c.tc : Thread Cert.KernelAInIdeal.nD Cert.KernelAInIdeal.τ).loc Cert.KernelAInIdeal.main_arg2) = m ((c.tc : Thread Cert.KernelAInIdeal.nD Cert.KernelAInIdeal.τ).loc Cert.KernelAInIdeal.main_arg2)
          ∧ r.2.mem ((c.tc : Thread Cert.KernelAInIdeal.nD Cert.KernelAInIdeal.τ).loc Cert.KernelAInIdeal.main_arg3) = m ((c.tc : Thread Cert.KernelAInIdeal.nD Cert.KernelAInIdeal.τ).loc Cert.KernelAInIdeal.main_arg3))
      ∧ θ_run (Cert.ReferenceAInIdeal.defs (F := Ideal)) (onTc (τ := Cert.ReferenceAInIdeal.τ) (Cert.ReferenceAInIdeal.main (F := Ideal))) ⟨m', fun _ => 0, g'⟩ (fun r => ∀ c : Dev Cert.ReferenceAInIdeal.nD,
          r.2.mem ((c.tc : Thread Cert.ReferenceAInIdeal.nD Cert.ReferenceAInIdeal.τ).loc Cert.ReferenceAInIdeal.main_v20) = v0 c
          ∧ r.2.mem ((c.tc : Thread Cert.ReferenceAInIdeal.nD Cert.ReferenceAInIdeal.τ).loc Cert.ReferenceAInIdeal.main_v17) = v1 c
          ∧ r.2.mem ((c.tc : Thread Cert.ReferenceAInIdeal.nD Cert.ReferenceAInIdeal.τ).loc Cert.ReferenceAInIdeal.main_v18) = v2 c
          ∧ r.2.mem ((c.tc : Thread Cert.ReferenceAInIdeal.nD Cert.ReferenceAInIdeal.τ).loc Cert.ReferenceAInIdeal.main_v19) = v3 c
          ∧ r.2.mem ((c.tc : Thread Cert.ReferenceAInIdeal.nD Cert.ReferenceAInIdeal.τ).loc Cert.ReferenceAInIdeal.main_arg0) = m' ((c.tc : Thread Cert.ReferenceAInIdeal.nD Cert.ReferenceAInIdeal.τ).loc Cert.ReferenceAInIdeal.main_arg0)
          ∧ r.2.mem ((c.tc : Thread Cert.ReferenceAInIdeal.nD Cert.ReferenceAInIdeal.τ).loc Cert.ReferenceAInIdeal.main_arg1) = m' ((c.tc : Thread Cert.ReferenceAInIdeal.nD Cert.ReferenceAInIdeal.τ).loc Cert.ReferenceAInIdeal.main_arg1)
          ∧ r.2.mem ((c.tc : Thread Cert.ReferenceAInIdeal.nD Cert.ReferenceAInIdeal.τ).loc Cert.ReferenceAInIdeal.main_arg2) = m' ((c.tc : Thread Cert.ReferenceAInIdeal.nD Cert.ReferenceAInIdeal.τ).loc Cert.ReferenceAInIdeal.main_arg2)
          ∧ r.2.mem ((c.tc : Thread Cert.ReferenceAInIdeal.nD Cert.ReferenceAInIdeal.τ).loc Cert.ReferenceAInIdeal.main_arg3) = m' ((c.tc : Thread Cert.ReferenceAInIdeal.nD Cert.ReferenceAInIdeal.τ).loc Cert.ReferenceAInIdeal.main_arg3))

def preserves_KernelMid_KernelMidIdeal : Prop :=
  True

def algebraic_KernelMidIdeal_ReferenceMidIdeal [hKernelMidIdeal : Cert.KernelMidIdeal.Facts] [hReferenceMidIdeal : Cert.ReferenceMidIdeal.Facts] : Prop :=
  ∀ (m : (ℓ : Loc Cert.KernelMidIdeal.nD Cert.KernelMidIdeal.τ Cert.KernelMidIdeal.sig) → Buf (Elt Ideal) ℓ) (g : Dev Cert.KernelMidIdeal.nD → PrngReg)
    (m' : (ℓ : Loc Cert.ReferenceMidIdeal.nD Cert.ReferenceMidIdeal.τ Cert.ReferenceMidIdeal.sig) → Buf (Elt Ideal) ℓ) (g' : Dev Cert.ReferenceMidIdeal.nD → PrngReg), Pre_KernelMidIdeal m →
    (∀ c : Dev Cert.KernelMidIdeal.nD,
      m' ((c.tc : Thread Cert.ReferenceMidIdeal.nD Cert.ReferenceMidIdeal.τ).loc Cert.ReferenceMidIdeal.main_arg0) = m ((c.tc : Thread Cert.KernelMidIdeal.nD Cert.KernelMidIdeal.τ).loc Cert.KernelMidIdeal.main_arg0)
      ∧ m' ((c.tc : Thread Cert.ReferenceMidIdeal.nD Cert.ReferenceMidIdeal.τ).loc Cert.ReferenceMidIdeal.main_arg1) = m ((c.tc : Thread Cert.KernelMidIdeal.nD Cert.KernelMidIdeal.τ).loc Cert.KernelMidIdeal.main_arg1)
      ∧ m' ((c.tc : Thread Cert.ReferenceMidIdeal.nD Cert.ReferenceMidIdeal.τ).loc Cert.ReferenceMidIdeal.main_arg2) = m ((c.tc : Thread Cert.KernelMidIdeal.nD Cert.KernelMidIdeal.τ).loc Cert.KernelMidIdeal.main_arg2)
      ∧ m' ((c.tc : Thread Cert.ReferenceMidIdeal.nD Cert.ReferenceMidIdeal.τ).loc Cert.ReferenceMidIdeal.main_arg3) = m ((c.tc : Thread Cert.KernelMidIdeal.nD Cert.KernelMidIdeal.τ).loc Cert.KernelMidIdeal.main_arg3)
      ∧ m' ((c.tc : Thread Cert.ReferenceMidIdeal.nD Cert.ReferenceMidIdeal.τ).loc Cert.ReferenceMidIdeal.main_arg4) = m ((c.tc : Thread Cert.KernelMidIdeal.nD Cert.KernelMidIdeal.τ).loc Cert.KernelMidIdeal.main_arg4)
      ∧ m' ((c.tc : Thread Cert.ReferenceMidIdeal.nD Cert.ReferenceMidIdeal.τ).loc Cert.ReferenceMidIdeal.main_arg5) = m ((c.tc : Thread Cert.KernelMidIdeal.nD Cert.KernelMidIdeal.τ).loc Cert.KernelMidIdeal.main_arg5)
      ∧ m' ((c.tc : Thread Cert.ReferenceMidIdeal.nD Cert.ReferenceMidIdeal.τ).loc Cert.ReferenceMidIdeal.main_arg6) = m ((c.tc : Thread Cert.KernelMidIdeal.nD Cert.KernelMidIdeal.τ).loc Cert.KernelMidIdeal.main_arg6)) →
    ∃ (v0 : (c : Dev Cert.KernelMidIdeal.nD) → Buf (Elt Ideal) ((c.tc : Thread Cert.KernelMidIdeal.nD Cert.KernelMidIdeal.τ).loc Cert.KernelMidIdeal.main_v4_0)) (v1 : (c : Dev Cert.KernelMidIdeal.nD) → Buf (Elt Ideal) ((c.tc : Thread Cert.KernelMidIdeal.nD Cert.KernelMidIdeal.τ).loc Cert.KernelMidIdeal.main_v4_1)) (v2 : (c : Dev Cert.KernelMidIdeal.nD) → Buf (Elt Ideal) ((c.tc : Thread Cert.KernelMidIdeal.nD Cert.KernelMidIdeal.τ).loc Cert.KernelMidIdeal.main_v4_2)) (v3 : (c : Dev Cert.KernelMidIdeal.nD) → Buf (Elt Ideal) ((c.tc : Thread Cert.KernelMidIdeal.nD Cert.KernelMidIdeal.τ).loc Cert.KernelMidIdeal.main_v4_3)) (v4 : (c : Dev Cert.KernelMidIdeal.nD) → Buf (Elt Ideal) ((c.tc : Thread Cert.KernelMidIdeal.nD Cert.KernelMidIdeal.τ).loc Cert.KernelMidIdeal.main_v4_4)),
      θ_run (Cert.KernelMidIdeal.defs (F := Ideal)) (onTc (τ := Cert.KernelMidIdeal.τ) (Cert.KernelMidIdeal.main (F := Ideal))) ⟨m, fun _ => 0, g⟩ (fun r => ∀ c : Dev Cert.KernelMidIdeal.nD,
          r.2.mem ((c.tc : Thread Cert.KernelMidIdeal.nD Cert.KernelMidIdeal.τ).loc Cert.KernelMidIdeal.main_v4_0) = v0 c
          ∧ r.2.mem ((c.tc : Thread Cert.KernelMidIdeal.nD Cert.KernelMidIdeal.τ).loc Cert.KernelMidIdeal.main_v4_1) = v1 c
          ∧ r.2.mem ((c.tc : Thread Cert.KernelMidIdeal.nD Cert.KernelMidIdeal.τ).loc Cert.KernelMidIdeal.main_v4_2) = v2 c
          ∧ r.2.mem ((c.tc : Thread Cert.KernelMidIdeal.nD Cert.KernelMidIdeal.τ).loc Cert.KernelMidIdeal.main_v4_3) = v3 c
          ∧ r.2.mem ((c.tc : Thread Cert.KernelMidIdeal.nD Cert.KernelMidIdeal.τ).loc Cert.KernelMidIdeal.main_v4_4) = v4 c
          ∧ r.2.mem ((c.tc : Thread Cert.KernelMidIdeal.nD Cert.KernelMidIdeal.τ).loc Cert.KernelMidIdeal.main_arg0) = m ((c.tc : Thread Cert.KernelMidIdeal.nD Cert.KernelMidIdeal.τ).loc Cert.KernelMidIdeal.main_arg0)
          ∧ r.2.mem ((c.tc : Thread Cert.KernelMidIdeal.nD Cert.KernelMidIdeal.τ).loc Cert.KernelMidIdeal.main_arg1) = m ((c.tc : Thread Cert.KernelMidIdeal.nD Cert.KernelMidIdeal.τ).loc Cert.KernelMidIdeal.main_arg1)
          ∧ r.2.mem ((c.tc : Thread Cert.KernelMidIdeal.nD Cert.KernelMidIdeal.τ).loc Cert.KernelMidIdeal.main_arg2) = m ((c.tc : Thread Cert.KernelMidIdeal.nD Cert.KernelMidIdeal.τ).loc Cert.KernelMidIdeal.main_arg2)
          ∧ r.2.mem ((c.tc : Thread Cert.KernelMidIdeal.nD Cert.KernelMidIdeal.τ).loc Cert.KernelMidIdeal.main_arg3) = m ((c.tc : Thread Cert.KernelMidIdeal.nD Cert.KernelMidIdeal.τ).loc Cert.KernelMidIdeal.main_arg3)
          ∧ r.2.mem ((c.tc : Thread Cert.KernelMidIdeal.nD Cert.KernelMidIdeal.τ).loc Cert.KernelMidIdeal.main_arg4) = m ((c.tc : Thread Cert.KernelMidIdeal.nD Cert.KernelMidIdeal.τ).loc Cert.KernelMidIdeal.main_arg4)
          ∧ r.2.mem ((c.tc : Thread Cert.KernelMidIdeal.nD Cert.KernelMidIdeal.τ).loc Cert.KernelMidIdeal.main_arg5) = m ((c.tc : Thread Cert.KernelMidIdeal.nD Cert.KernelMidIdeal.τ).loc Cert.KernelMidIdeal.main_arg5)
          ∧ r.2.mem ((c.tc : Thread Cert.KernelMidIdeal.nD Cert.KernelMidIdeal.τ).loc Cert.KernelMidIdeal.main_arg6) = m ((c.tc : Thread Cert.KernelMidIdeal.nD Cert.KernelMidIdeal.τ).loc Cert.KernelMidIdeal.main_arg6))
      ∧ θ_run (Cert.ReferenceMidIdeal.defs (F := Ideal)) (onTc (τ := Cert.ReferenceMidIdeal.τ) (Cert.ReferenceMidIdeal.main (F := Ideal))) ⟨m', fun _ => 0, g'⟩ (fun r => ∀ c : Dev Cert.ReferenceMidIdeal.nD,
          r.2.mem ((c.tc : Thread Cert.ReferenceMidIdeal.nD Cert.ReferenceMidIdeal.τ).loc Cert.ReferenceMidIdeal.main_v5) = v0 c
          ∧ r.2.mem ((c.tc : Thread Cert.ReferenceMidIdeal.nD Cert.ReferenceMidIdeal.τ).loc Cert.ReferenceMidIdeal.main_v24) = v1 c
          ∧ r.2.mem ((c.tc : Thread Cert.ReferenceMidIdeal.nD Cert.ReferenceMidIdeal.τ).loc Cert.ReferenceMidIdeal.main_v21) = v2 c
          ∧ r.2.mem ((c.tc : Thread Cert.ReferenceMidIdeal.nD Cert.ReferenceMidIdeal.τ).loc Cert.ReferenceMidIdeal.main_v22) = v3 c
          ∧ r.2.mem ((c.tc : Thread Cert.ReferenceMidIdeal.nD Cert.ReferenceMidIdeal.τ).loc Cert.ReferenceMidIdeal.main_v23) = v4 c
          ∧ r.2.mem ((c.tc : Thread Cert.ReferenceMidIdeal.nD Cert.ReferenceMidIdeal.τ).loc Cert.ReferenceMidIdeal.main_arg0) = m' ((c.tc : Thread Cert.ReferenceMidIdeal.nD Cert.ReferenceMidIdeal.τ).loc Cert.ReferenceMidIdeal.main_arg0)
          ∧ r.2.mem ((c.tc : Thread Cert.ReferenceMidIdeal.nD Cert.ReferenceMidIdeal.τ).loc Cert.ReferenceMidIdeal.main_arg1) = m' ((c.tc : Thread Cert.ReferenceMidIdeal.nD Cert.ReferenceMidIdeal.τ).loc Cert.ReferenceMidIdeal.main_arg1)
          ∧ r.2.mem ((c.tc : Thread Cert.ReferenceMidIdeal.nD Cert.ReferenceMidIdeal.τ).loc Cert.ReferenceMidIdeal.main_arg2) = m' ((c.tc : Thread Cert.ReferenceMidIdeal.nD Cert.ReferenceMidIdeal.τ).loc Cert.ReferenceMidIdeal.main_arg2)
          ∧ r.2.mem ((c.tc : Thread Cert.ReferenceMidIdeal.nD Cert.ReferenceMidIdeal.τ).loc Cert.ReferenceMidIdeal.main_arg3) = m' ((c.tc : Thread Cert.ReferenceMidIdeal.nD Cert.ReferenceMidIdeal.τ).loc Cert.ReferenceMidIdeal.main_arg3)
          ∧ r.2.mem ((c.tc : Thread Cert.ReferenceMidIdeal.nD Cert.ReferenceMidIdeal.τ).loc Cert.ReferenceMidIdeal.main_arg4) = m' ((c.tc : Thread Cert.ReferenceMidIdeal.nD Cert.ReferenceMidIdeal.τ).loc Cert.ReferenceMidIdeal.main_arg4)
          ∧ r.2.mem ((c.tc : Thread Cert.ReferenceMidIdeal.nD Cert.ReferenceMidIdeal.τ).loc Cert.ReferenceMidIdeal.main_arg5) = m' ((c.tc : Thread Cert.ReferenceMidIdeal.nD Cert.ReferenceMidIdeal.τ).loc Cert.ReferenceMidIdeal.main_arg5)
          ∧ r.2.mem ((c.tc : Thread Cert.ReferenceMidIdeal.nD Cert.ReferenceMidIdeal.τ).loc Cert.ReferenceMidIdeal.main_arg6) = m' ((c.tc : Thread Cert.ReferenceMidIdeal.nD Cert.ReferenceMidIdeal.τ).loc Cert.ReferenceMidIdeal.main_arg6))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)) →
    ∃ (v0 : (c : Dev Cert.KernelLossIdeal.nD) → Buf (Elt Ideal) ((c.tc : Thread Cert.KernelLossIdeal.nD Cert.KernelLossIdeal.τ).loc Cert.KernelLossIdeal.main_v1_0)) (v1 : (c : Dev Cert.KernelLossIdeal.nD) → Buf (Elt Ideal) ((c.tc : Thread Cert.KernelLossIdeal.nD Cert.KernelLossIdeal.τ).loc Cert.KernelLossIdeal.main_v1_1)) (v2 : (c : Dev Cert.KernelLossIdeal.nD) → Buf (Elt Ideal) ((c.tc : Thread Cert.KernelLossIdeal.nD Cert.KernelLossIdeal.τ).loc Cert.KernelLossIdeal.main_v1_2)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v1_0) = v0 c
          ∧ r.2.mem ((c.tc : Thread Cert.KernelLossIdeal.nD Cert.KernelLossIdeal.τ).loc Cert.KernelLossIdeal.main_v1_1) = v1 c
          ∧ r.2.mem ((c.tc : Thread Cert.KernelLossIdeal.nD Cert.KernelLossIdeal.τ).loc Cert.KernelLossIdeal.main_v1_2) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v37) = v0 c
          ∧ r.2.mem ((c.tc : Thread Cert.ReferenceLossIdeal.nD Cert.ReferenceLossIdeal.τ).loc Cert.ReferenceLossIdeal.main_v38) = v1 c
          ∧ r.2.mem ((c.tc : Thread Cert.ReferenceLossIdeal.nD Cert.ReferenceLossIdeal.τ).loc Cert.ReferenceLossIdeal.main_v39) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)
      ∧ m' ((c.tc : Thread Cert.ReferenceConvIdeal.nD Cert.ReferenceConvIdeal.τ).loc Cert.ReferenceConvIdeal.main_arg3) = m ((c.tc : Thread Cert.KernelConvIdeal.nD Cert.KernelConvIdeal.τ).loc Cert.KernelConvIdeal.main_arg3)
      ∧ m' ((c.tc : Thread Cert.ReferenceConvIdeal.nD Cert.ReferenceConvIdeal.τ).loc Cert.ReferenceConvIdeal.main_arg4) = m ((c.tc : Thread Cert.KernelConvIdeal.nD Cert.KernelConvIdeal.τ).loc Cert.KernelConvIdeal.main_arg4)) →
    ∃ (v0 : (c : Dev Cert.KernelConvIdeal.nD) → Buf (Elt Ideal) ((c.tc : Thread Cert.KernelConvIdeal.nD Cert.KernelConvIdeal.τ).loc Cert.KernelConvIdeal.main_v0_0)) (v1 : (c : Dev Cert.KernelConvIdeal.nD) → Buf (Elt Ideal) ((c.tc : Thread Cert.KernelConvIdeal.nD Cert.KernelConvIdeal.τ).loc Cert.KernelConvIdeal.main_v0_1)) (v2 : (c : Dev Cert.KernelConvIdeal.nD) → Buf (Elt Ideal) ((c.tc : Thread Cert.KernelConvIdeal.nD Cert.KernelConvIdeal.τ).loc Cert.KernelConvIdeal.main_v0_2)) (v3 : (c : Dev Cert.KernelConvIdeal.nD) → Buf (Elt Ideal) ((c.tc : Thread Cert.KernelConvIdeal.nD Cert.KernelConvIdeal.τ).loc Cert.KernelConvIdeal.main_v0_3)) (v4 : (c : Dev Cert.KernelConvIdeal.nD) → Buf (Elt Ideal) ((c.tc : Thread Cert.KernelConvIdeal.nD Cert.KernelConvIdeal.τ).loc Cert.KernelConvIdeal.main_v0_4)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v0_0) = v0 c
          ∧ r.2.mem ((c.tc : Thread Cert.KernelConvIdeal.nD Cert.KernelConvIdeal.τ).loc Cert.KernelConvIdeal.main_v0_1) = v1 c
          ∧ r.2.mem ((c.tc : Thread Cert.KernelConvIdeal.nD Cert.KernelConvIdeal.τ).loc Cert.KernelConvIdeal.main_v0_2) = v2 c
          ∧ r.2.mem ((c.tc : Thread Cert.KernelConvIdeal.nD Cert.KernelConvIdeal.τ).loc Cert.KernelConvIdeal.main_v0_3) = v3 c
          ∧ r.2.mem ((c.tc : Thread Cert.KernelConvIdeal.nD Cert.KernelConvIdeal.τ).loc Cert.KernelConvIdeal.main_v0_4) = v4 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2)
          ∧ r.2.mem ((c.tc : Thread Cert.KernelConvIdeal.nD Cert.KernelConvIdeal.τ).loc Cert.KernelConvIdeal.main_arg3) = m ((c.tc : Thread Cert.KernelConvIdeal.nD Cert.KernelConvIdeal.τ).loc Cert.KernelConvIdeal.main_arg3)
          ∧ r.2.mem ((c.tc : Thread Cert.KernelConvIdeal.nD Cert.KernelConvIdeal.τ).loc Cert.KernelConvIdeal.main_arg4) = m ((c.tc : Thread Cert.KernelConvIdeal.nD Cert.KernelConvIdeal.τ).loc Cert.KernelConvIdeal.main_arg4))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v75) = v0 c
          ∧ r.2.mem ((c.tc : Thread Cert.ReferenceConvIdeal.nD Cert.ReferenceConvIdeal.τ).loc Cert.ReferenceConvIdeal.main_v76) = v1 c
          ∧ r.2.mem ((c.tc : Thread Cert.ReferenceConvIdeal.nD Cert.ReferenceConvIdeal.τ).loc Cert.ReferenceConvIdeal.main_v33) = v2 c
          ∧ r.2.mem ((c.tc : Thread Cert.ReferenceConvIdeal.nD Cert.ReferenceConvIdeal.τ).loc Cert.ReferenceConvIdeal.main_v77) = v3 c
          ∧ r.2.mem ((c.tc : Thread Cert.ReferenceConvIdeal.nD Cert.ReferenceConvIdeal.τ).loc Cert.ReferenceConvIdeal.main_v78) = v4 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2)
          ∧ r.2.mem ((c.tc : Thread Cert.ReferenceConvIdeal.nD Cert.ReferenceConvIdeal.τ).loc Cert.ReferenceConvIdeal.main_arg3) = m' ((c.tc : Thread Cert.ReferenceConvIdeal.nD Cert.ReferenceConvIdeal.τ).loc Cert.ReferenceConvIdeal.main_arg3)
          ∧ r.2.mem ((c.tc : Thread Cert.ReferenceConvIdeal.nD Cert.ReferenceConvIdeal.τ).loc Cert.ReferenceConvIdeal.main_arg4) = m' ((c.tc : Thread Cert.ReferenceConvIdeal.nD Cert.ReferenceConvIdeal.τ).loc Cert.ReferenceConvIdeal.main_arg4))

def preserves_KernelPairA_KernelPairAIdeal : Prop :=
  True

def algebraic_KernelPairAIdeal_ReferencePairAIdeal [hKernelPairAIdeal : Cert.KernelPairAIdeal.Facts] [hReferencePairAIdeal : Cert.ReferencePairAIdeal.Facts] : Prop :=
  ∀ (m : (ℓ : Loc Cert.KernelPairAIdeal.nD Cert.KernelPairAIdeal.τ Cert.KernelPairAIdeal.sig) → Buf (Elt Ideal) ℓ) (g : Dev Cert.KernelPairAIdeal.nD → PrngReg)
    (m' : (ℓ : Loc Cert.ReferencePairAIdeal.nD Cert.ReferencePairAIdeal.τ Cert.ReferencePairAIdeal.sig) → Buf (Elt Ideal) ℓ) (g' : Dev Cert.ReferencePairAIdeal.nD → PrngReg), Pre_KernelPairAIdeal m →
    (∀ c : Dev Cert.KernelPairAIdeal.nD,
      m' ((c.tc : Thread Cert.ReferencePairAIdeal.nD Cert.ReferencePairAIdeal.τ).loc Cert.ReferencePairAIdeal.main_arg0) = m ((c.tc : Thread Cert.KernelPairAIdeal.nD Cert.KernelPairAIdeal.τ).loc Cert.KernelPairAIdeal.main_arg0)
      ∧ m' ((c.tc : Thread Cert.ReferencePairAIdeal.nD Cert.ReferencePairAIdeal.τ).loc Cert.ReferencePairAIdeal.main_arg1) = m ((c.tc : Thread Cert.KernelPairAIdeal.nD Cert.KernelPairAIdeal.τ).loc Cert.KernelPairAIdeal.main_arg1)) →
    ∃ (v0 : (c : Dev Cert.KernelPairAIdeal.nD) → Buf (Elt Ideal) ((c.tc : Thread Cert.KernelPairAIdeal.nD Cert.KernelPairAIdeal.τ).loc Cert.KernelPairAIdeal.main_v0)),
      θ_run (Cert.KernelPairAIdeal.defs (F := Ideal)) (onTc (τ := Cert.KernelPairAIdeal.τ) (Cert.KernelPairAIdeal.main (F := Ideal))) ⟨m, fun _ => 0, g⟩ (fun r => ∀ c : Dev Cert.KernelPairAIdeal.nD,
          r.2.mem ((c.tc : Thread Cert.KernelPairAIdeal.nD Cert.KernelPairAIdeal.τ).loc Cert.KernelPairAIdeal.main_v0) = v0 c
          ∧ r.2.mem ((c.tc : Thread Cert.KernelPairAIdeal.nD Cert.KernelPairAIdeal.τ).loc Cert.KernelPairAIdeal.main_arg0) = m ((c.tc : Thread Cert.KernelPairAIdeal.nD Cert.KernelPairAIdeal.τ).loc Cert.KernelPairAIdeal.main_arg0)
          ∧ r.2.mem ((c.tc : Thread Cert.KernelPairAIdeal.nD Cert.KernelPairAIdeal.τ).loc Cert.KernelPairAIdeal.main_arg1) = m ((c.tc : Thread Cert.KernelPairAIdeal.nD Cert.KernelPairAIdeal.τ).loc Cert.KernelPairAIdeal.main_arg1))
      ∧ θ_run (Cert.ReferencePairAIdeal.defs (F := Ideal)) (onTc (τ := Cert.ReferencePairAIdeal.τ) (Cert.ReferencePairAIdeal.main (F := Ideal))) ⟨m', fun _ => 0, g'⟩ (fun r => ∀ c : Dev Cert.ReferencePairAIdeal.nD,
          r.2.mem ((c.tc : Thread Cert.ReferencePairAIdeal.nD Cert.ReferencePairAIdeal.τ).loc Cert.ReferencePairAIdeal.main_v5) = v0 c
          ∧ r.2.mem ((c.tc : Thread Cert.ReferencePairAIdeal.nD Cert.ReferencePairAIdeal.τ).loc Cert.ReferencePairAIdeal.main_arg0) = m' ((c.tc : Thread Cert.ReferencePairAIdeal.nD Cert.ReferencePairAIdeal.τ).loc Cert.ReferencePairAIdeal.main_arg0)
          ∧ r.2.mem ((c.tc : Thread Cert.ReferencePairAIdeal.nD Cert.ReferencePairAIdeal.τ).loc Cert.ReferencePairAIdeal.main_arg1) = m' ((c.tc : Thread Cert.ReferencePairAIdeal.nD Cert.ReferencePairAIdeal.τ).loc Cert.ReferencePairAIdeal.main_arg1))

def preserves_KernelPairB_KernelPairBIdeal : Prop :=
  True

def algebraic_KernelPairBIdeal_ReferencePairBIdeal [hKernelPairBIdeal : Cert.KernelPairBIdeal.Facts] [hReferencePairBIdeal : Cert.ReferencePairBIdeal.Facts] : Prop :=
  ∀ (m : (ℓ : Loc Cert.KernelPairBIdeal.nD Cert.KernelPairBIdeal.τ Cert.KernelPairBIdeal.sig) → Buf (Elt Ideal) ℓ) (g : Dev Cert.KernelPairBIdeal.nD → PrngReg)
    (m' : (ℓ : Loc Cert.ReferencePairBIdeal.nD Cert.ReferencePairBIdeal.τ Cert.ReferencePairBIdeal.sig) → Buf (Elt Ideal) ℓ) (g' : Dev Cert.ReferencePairBIdeal.nD → PrngReg), Pre_KernelPairBIdeal m →
    (∀ c : Dev Cert.KernelPairBIdeal.nD,
      m' ((c.tc : Thread Cert.ReferencePairBIdeal.nD Cert.ReferencePairBIdeal.τ).loc Cert.ReferencePairBIdeal.main_arg0) = m ((c.tc : Thread Cert.KernelPairBIdeal.nD Cert.KernelPairBIdeal.τ).loc Cert.KernelPairBIdeal.main_arg0)
      ∧ m' ((c.tc : Thread Cert.ReferencePairBIdeal.nD Cert.ReferencePairBIdeal.τ).loc Cert.ReferencePairBIdeal.main_arg1) = m ((c.tc : Thread Cert.KernelPairBIdeal.nD Cert.KernelPairBIdeal.τ).loc Cert.KernelPairBIdeal.main_arg1)) →
    ∃ (v0 : (c : Dev Cert.KernelPairBIdeal.nD) → Buf (Elt Ideal) ((c.tc : Thread Cert.KernelPairBIdeal.nD Cert.KernelPairBIdeal.τ).loc Cert.KernelPairBIdeal.main_v0)),
      θ_run (Cert.KernelPairBIdeal.defs (F := Ideal)) (onTc (τ := Cert.KernelPairBIdeal.τ) (Cert.KernelPairBIdeal.main (F := Ideal))) ⟨m, fun _ => 0, g⟩ (fun r => ∀ c : Dev Cert.KernelPairBIdeal.nD,
          r.2.mem ((c.tc : Thread Cert.KernelPairBIdeal.nD Cert.KernelPairBIdeal.τ).loc Cert.KernelPairBIdeal.main_v0) = v0 c
          ∧ r.2.mem ((c.tc : Thread Cert.KernelPairBIdeal.nD Cert.KernelPairBIdeal.τ).loc Cert.KernelPairBIdeal.main_arg0) = m ((c.tc : Thread Cert.KernelPairBIdeal.nD Cert.KernelPairBIdeal.τ).loc Cert.KernelPairBIdeal.main_arg0)
          ∧ r.2.mem ((c.tc : Thread Cert.KernelPairBIdeal.nD Cert.KernelPairBIdeal.τ).loc Cert.KernelPairBIdeal.main_arg1) = m ((c.tc : Thread Cert.KernelPairBIdeal.nD Cert.KernelPairBIdeal.τ).loc Cert.KernelPairBIdeal.main_arg1))
      ∧ θ_run (Cert.ReferencePairBIdeal.defs (F := Ideal)) (onTc (τ := Cert.ReferencePairBIdeal.τ) (Cert.ReferencePairBIdeal.main (F := Ideal))) ⟨m', fun _ => 0, g'⟩ (fun r => ∀ c : Dev Cert.ReferencePairBIdeal.nD,
          r.2.mem ((c.tc : Thread Cert.ReferencePairBIdeal.nD Cert.ReferencePairBIdeal.τ).loc Cert.ReferencePairBIdeal.main_v5) = v0 c
          ∧ r.2.mem ((c.tc : Thread Cert.ReferencePairBIdeal.nD Cert.ReferencePairBIdeal.τ).loc Cert.ReferencePairBIdeal.main_arg0) = m' ((c.tc : Thread Cert.ReferencePairBIdeal.nD Cert.ReferencePairBIdeal.τ).loc Cert.ReferencePairBIdeal.main_arg0)
          ∧ r.2.mem ((c.tc : Thread Cert.ReferencePairBIdeal.nD Cert.ReferencePairBIdeal.τ).loc Cert.ReferencePairBIdeal.main_arg1) = m' ((c.tc : Thread Cert.ReferencePairBIdeal.nD Cert.ReferencePairBIdeal.τ).loc Cert.ReferencePairBIdeal.main_arg1))

def preserves_KernelAdamA_KernelAdamAIdeal : Prop :=
  True

def algebraic_KernelAdamAIdeal_ReferenceAdamAIdeal [hKernelAdamAIdeal : Cert.KernelAdamAIdeal.Facts] [hReferenceAdamAIdeal : Cert.ReferenceAdamAIdeal.Facts] : Prop :=
  ∀ (m : (ℓ : Loc Cert.KernelAdamAIdeal.nD Cert.KernelAdamAIdeal.τ Cert.KernelAdamAIdeal.sig) → Buf (Elt Ideal) ℓ) (g : Dev Cert.KernelAdamAIdeal.nD → PrngReg)
    (m' : (ℓ : Loc Cert.ReferenceAdamAIdeal.nD Cert.ReferenceAdamAIdeal.τ Cert.ReferenceAdamAIdeal.sig) → Buf (Elt Ideal) ℓ) (g' : Dev Cert.ReferenceAdamAIdeal.nD → PrngReg), Pre_KernelAdamAIdeal m →
    (∀ c : Dev Cert.KernelAdamAIdeal.nD,
      m' ((c.tc : Thread Cert.ReferenceAdamAIdeal.nD Cert.ReferenceAdamAIdeal.τ).loc Cert.ReferenceAdamAIdeal.main_arg0) = m ((c.tc : Thread Cert.KernelAdamAIdeal.nD Cert.KernelAdamAIdeal.τ).loc Cert.KernelAdamAIdeal.main_arg0)
      ∧ m' ((c.tc : Thread Cert.ReferenceAdamAIdeal.nD Cert.ReferenceAdamAIdeal.τ).loc Cert.ReferenceAdamAIdeal.main_arg1) = m ((c.tc : Thread Cert.KernelAdamAIdeal.nD Cert.KernelAdamAIdeal.τ).loc Cert.KernelAdamAIdeal.main_arg1)
      ∧ m' ((c.tc : Thread Cert.ReferenceAdamAIdeal.nD Cert.ReferenceAdamAIdeal.τ).loc Cert.ReferenceAdamAIdeal.main_arg2) = m ((c.tc : Thread Cert.KernelAdamAIdeal.nD Cert.KernelAdamAIdeal.τ).loc Cert.KernelAdamAIdeal.main_arg2)
      ∧ m' ((c.tc : Thread Cert.ReferenceAdamAIdeal.nD Cert.ReferenceAdamAIdeal.τ).loc Cert.ReferenceAdamAIdeal.main_arg3) = m ((c.tc : Thread Cert.KernelAdamAIdeal.nD Cert.KernelAdamAIdeal.τ).loc Cert.KernelAdamAIdeal.main_arg3)) →
    ∃ (v0 : (c : Dev Cert.KernelAdamAIdeal.nD) → Buf (Elt Ideal) ((c.tc : Thread Cert.KernelAdamAIdeal.nD Cert.KernelAdamAIdeal.τ).loc Cert.KernelAdamAIdeal.main_v0_0)) (v1 : (c : Dev Cert.KernelAdamAIdeal.nD) → Buf (Elt Ideal) ((c.tc : Thread Cert.KernelAdamAIdeal.nD Cert.KernelAdamAIdeal.τ).loc Cert.KernelAdamAIdeal.main_v0_1)) (v2 : (c : Dev Cert.KernelAdamAIdeal.nD) → Buf (Elt Ideal) ((c.tc : Thread Cert.KernelAdamAIdeal.nD Cert.KernelAdamAIdeal.τ).loc Cert.KernelAdamAIdeal.main_v0_2)) (v3 : (c : Dev Cert.KernelAdamAIdeal.nD) → Buf (Elt Ideal) ((c.tc : Thread Cert.KernelAdamAIdeal.nD Cert.KernelAdamAIdeal.τ).loc Cert.KernelAdamAIdeal.main_v0_3)),
      θ_run (Cert.KernelAdamAIdeal.defs (F := Ideal)) (onTc (τ := Cert.KernelAdamAIdeal.τ) (Cert.KernelAdamAIdeal.main (F := Ideal))) ⟨m, fun _ => 0, g⟩ (fun r => ∀ c : Dev Cert.KernelAdamAIdeal.nD,
          r.2.mem ((c.tc : Thread Cert.KernelAdamAIdeal.nD Cert.KernelAdamAIdeal.τ).loc Cert.KernelAdamAIdeal.main_v0_0) = v0 c
          ∧ r.2.mem ((c.tc : Thread Cert.KernelAdamAIdeal.nD Cert.KernelAdamAIdeal.τ).loc Cert.KernelAdamAIdeal.main_v0_1) = v1 c
          ∧ r.2.mem ((c.tc : Thread Cert.KernelAdamAIdeal.nD Cert.KernelAdamAIdeal.τ).loc Cert.KernelAdamAIdeal.main_v0_2) = v2 c
          ∧ r.2.mem ((c.tc : Thread Cert.KernelAdamAIdeal.nD Cert.KernelAdamAIdeal.τ).loc Cert.KernelAdamAIdeal.main_v0_3) = v3 c
          ∧ r.2.mem ((c.tc : Thread Cert.KernelAdamAIdeal.nD Cert.KernelAdamAIdeal.τ).loc Cert.KernelAdamAIdeal.main_arg0) = m ((c.tc : Thread Cert.KernelAdamAIdeal.nD Cert.KernelAdamAIdeal.τ).loc Cert.KernelAdamAIdeal.main_arg0)
          ∧ r.2.mem ((c.tc : Thread Cert.KernelAdamAIdeal.nD Cert.KernelAdamAIdeal.τ).loc Cert.KernelAdamAIdeal.main_arg1) = m ((c.tc : Thread Cert.KernelAdamAIdeal.nD Cert.KernelAdamAIdeal.τ).loc Cert.KernelAdamAIdeal.main_arg1)
          ∧ r.2.mem ((c.tc : Thread Cert.KernelAdamAIdeal.nD Cert.KernelAdamAIdeal.τ).loc Cert.KernelAdamAIdeal.main_arg2) = m ((c.tc : Thread Cert.KernelAdamAIdeal.nD Cert.KernelAdamAIdeal.τ).loc Cert.KernelAdamAIdeal.main_arg2)
          ∧ r.2.mem ((c.tc : Thread Cert.KernelAdamAIdeal.nD Cert.KernelAdamAIdeal.τ).loc Cert.KernelAdamAIdeal.main_arg3) = m ((c.tc : Thread Cert.KernelAdamAIdeal.nD Cert.KernelAdamAIdeal.τ).loc Cert.KernelAdamAIdeal.main_arg3))
      ∧ θ_run (Cert.ReferenceAdamAIdeal.defs (F := Ideal)) (onTc (τ := Cert.ReferenceAdamAIdeal.τ) (Cert.ReferenceAdamAIdeal.main (F := Ideal))) ⟨m', fun _ => 0, g'⟩ (fun r => ∀ c : Dev Cert.ReferenceAdamAIdeal.nD,
          r.2.mem ((c.tc : Thread Cert.ReferenceAdamAIdeal.nD Cert.ReferenceAdamAIdeal.τ).loc Cert.ReferenceAdamAIdeal.main_v1) = v0 c
          ∧ r.2.mem ((c.tc : Thread Cert.ReferenceAdamAIdeal.nD Cert.ReferenceAdamAIdeal.τ).loc Cert.ReferenceAdamAIdeal.main_v25) = v1 c
          ∧ r.2.mem ((c.tc : Thread Cert.ReferenceAdamAIdeal.nD Cert.ReferenceAdamAIdeal.τ).loc Cert.ReferenceAdamAIdeal.main_v6) = v2 c
          ∧ r.2.mem ((c.tc : Thread Cert.ReferenceAdamAIdeal.nD Cert.ReferenceAdamAIdeal.τ).loc Cert.ReferenceAdamAIdeal.main_v12) = v3 c
          ∧ r.2.mem ((c.tc : Thread Cert.ReferenceAdamAIdeal.nD Cert.ReferenceAdamAIdeal.τ).loc Cert.ReferenceAdamAIdeal.main_arg0) = m' ((c.tc : Thread Cert.ReferenceAdamAIdeal.nD Cert.ReferenceAdamAIdeal.τ).loc Cert.ReferenceAdamAIdeal.main_arg0)
          ∧ r.2.mem ((c.tc : Thread Cert.ReferenceAdamAIdeal.nD Cert.ReferenceAdamAIdeal.τ).loc Cert.ReferenceAdamAIdeal.main_arg1) = m' ((c.tc : Thread Cert.ReferenceAdamAIdeal.nD Cert.ReferenceAdamAIdeal.τ).loc Cert.ReferenceAdamAIdeal.main_arg1)
          ∧ r.2.mem ((c.tc : Thread Cert.ReferenceAdamAIdeal.nD Cert.ReferenceAdamAIdeal.τ).loc Cert.ReferenceAdamAIdeal.main_arg2) = m' ((c.tc : Thread Cert.ReferenceAdamAIdeal.nD Cert.ReferenceAdamAIdeal.τ).loc Cert.ReferenceAdamAIdeal.main_arg2)
          ∧ r.2.mem ((c.tc : Thread Cert.ReferenceAdamAIdeal.nD Cert.ReferenceAdamAIdeal.τ).loc Cert.ReferenceAdamAIdeal.main_arg3) = m' ((c.tc : Thread Cert.ReferenceAdamAIdeal.nD Cert.ReferenceAdamAIdeal.τ).loc Cert.ReferenceAdamAIdeal.main_arg3))

def preserves_KernelAdamB_KernelAdamBIdeal : Prop :=
  True

def algebraic_KernelAdamBIdeal_ReferenceAdamBIdeal [hKernelAdamBIdeal : Cert.KernelAdamBIdeal.Facts] [hReferenceAdamBIdeal : Cert.ReferenceAdamBIdeal.Facts] : Prop :=
  ∀ (m : (ℓ : Loc Cert.KernelAdamBIdeal.nD Cert.KernelAdamBIdeal.τ Cert.KernelAdamBIdeal.sig) → Buf (Elt Ideal) ℓ) (g : Dev Cert.KernelAdamBIdeal.nD → PrngReg)
    (m' : (ℓ : Loc Cert.ReferenceAdamBIdeal.nD Cert.ReferenceAdamBIdeal.τ Cert.ReferenceAdamBIdeal.sig) → Buf (Elt Ideal) ℓ) (g' : Dev Cert.ReferenceAdamBIdeal.nD → PrngReg), Pre_KernelAdamBIdeal m →
    (∀ c : Dev Cert.KernelAdamBIdeal.nD,
      m' ((c.tc : Thread Cert.ReferenceAdamBIdeal.nD Cert.ReferenceAdamBIdeal.τ).loc Cert.ReferenceAdamBIdeal.main_arg0) = m ((c.tc : Thread Cert.KernelAdamBIdeal.nD Cert.KernelAdamBIdeal.τ).loc Cert.KernelAdamBIdeal.main_arg0)
      ∧ m' ((c.tc : Thread Cert.ReferenceAdamBIdeal.nD Cert.ReferenceAdamBIdeal.τ).loc Cert.ReferenceAdamBIdeal.main_arg1) = m ((c.tc : Thread Cert.KernelAdamBIdeal.nD Cert.KernelAdamBIdeal.τ).loc Cert.KernelAdamBIdeal.main_arg1)
      ∧ m' ((c.tc : Thread Cert.ReferenceAdamBIdeal.nD Cert.ReferenceAdamBIdeal.τ).loc Cert.ReferenceAdamBIdeal.main_arg2) = m ((c.tc : Thread Cert.KernelAdamBIdeal.nD Cert.KernelAdamBIdeal.τ).loc Cert.KernelAdamBIdeal.main_arg2)
      ∧ m' ((c.tc : Thread Cert.ReferenceAdamBIdeal.nD Cert.ReferenceAdamBIdeal.τ).loc Cert.ReferenceAdamBIdeal.main_arg3) = m ((c.tc : Thread Cert.KernelAdamBIdeal.nD Cert.KernelAdamBIdeal.τ).loc Cert.KernelAdamBIdeal.main_arg3)) →
    ∃ (v0 : (c : Dev Cert.KernelAdamBIdeal.nD) → Buf (Elt Ideal) ((c.tc : Thread Cert.KernelAdamBIdeal.nD Cert.KernelAdamBIdeal.τ).loc Cert.KernelAdamBIdeal.main_v0_0)) (v1 : (c : Dev Cert.KernelAdamBIdeal.nD) → Buf (Elt Ideal) ((c.tc : Thread Cert.KernelAdamBIdeal.nD Cert.KernelAdamBIdeal.τ).loc Cert.KernelAdamBIdeal.main_v0_1)) (v2 : (c : Dev Cert.KernelAdamBIdeal.nD) → Buf (Elt Ideal) ((c.tc : Thread Cert.KernelAdamBIdeal.nD Cert.KernelAdamBIdeal.τ).loc Cert.KernelAdamBIdeal.main_v0_2)) (v3 : (c : Dev Cert.KernelAdamBIdeal.nD) → Buf (Elt Ideal) ((c.tc : Thread Cert.KernelAdamBIdeal.nD Cert.KernelAdamBIdeal.τ).loc Cert.KernelAdamBIdeal.main_v0_3)),
      θ_run (Cert.KernelAdamBIdeal.defs (F := Ideal)) (onTc (τ := Cert.KernelAdamBIdeal.τ) (Cert.KernelAdamBIdeal.main (F := Ideal))) ⟨m, fun _ => 0, g⟩ (fun r => ∀ c : Dev Cert.KernelAdamBIdeal.nD,
          r.2.mem ((c.tc : Thread Cert.KernelAdamBIdeal.nD Cert.KernelAdamBIdeal.τ).loc Cert.KernelAdamBIdeal.main_v0_0) = v0 c
          ∧ r.2.mem ((c.tc : Thread Cert.KernelAdamBIdeal.nD Cert.KernelAdamBIdeal.τ).loc Cert.KernelAdamBIdeal.main_v0_1) = v1 c
          ∧ r.2.mem ((c.tc : Thread Cert.KernelAdamBIdeal.nD Cert.KernelAdamBIdeal.τ).loc Cert.KernelAdamBIdeal.main_v0_2) = v2 c
          ∧ r.2.mem ((c.tc : Thread Cert.KernelAdamBIdeal.nD Cert.KernelAdamBIdeal.τ).loc Cert.KernelAdamBIdeal.main_v0_3) = v3 c
          ∧ r.2.mem ((c.tc : Thread Cert.KernelAdamBIdeal.nD Cert.KernelAdamBIdeal.τ).loc Cert.KernelAdamBIdeal.main_arg0) = m ((c.tc : Thread Cert.KernelAdamBIdeal.nD Cert.KernelAdamBIdeal.τ).loc Cert.KernelAdamBIdeal.main_arg0)
          ∧ r.2.mem ((c.tc : Thread Cert.KernelAdamBIdeal.nD Cert.KernelAdamBIdeal.τ).loc Cert.KernelAdamBIdeal.main_arg1) = m ((c.tc : Thread Cert.KernelAdamBIdeal.nD Cert.KernelAdamBIdeal.τ).loc Cert.KernelAdamBIdeal.main_arg1)
          ∧ r.2.mem ((c.tc : Thread Cert.KernelAdamBIdeal.nD Cert.KernelAdamBIdeal.τ).loc Cert.KernelAdamBIdeal.main_arg2) = m ((c.tc : Thread Cert.KernelAdamBIdeal.nD Cert.KernelAdamBIdeal.τ).loc Cert.KernelAdamBIdeal.main_arg2)
          ∧ r.2.mem ((c.tc : Thread Cert.KernelAdamBIdeal.nD Cert.KernelAdamBIdeal.τ).loc Cert.KernelAdamBIdeal.main_arg3) = m ((c.tc : Thread Cert.KernelAdamBIdeal.nD Cert.KernelAdamBIdeal.τ).loc Cert.KernelAdamBIdeal.main_arg3))
      ∧ θ_run (Cert.ReferenceAdamBIdeal.defs (F := Ideal)) (onTc (τ := Cert.ReferenceAdamBIdeal.τ) (Cert.ReferenceAdamBIdeal.main (F := Ideal))) ⟨m', fun _ => 0, g'⟩ (fun r => ∀ c : Dev Cert.ReferenceAdamBIdeal.nD,
          r.2.mem ((c.tc : Thread Cert.ReferenceAdamBIdeal.nD Cert.ReferenceAdamBIdeal.τ).loc Cert.ReferenceAdamBIdeal.main_v1) = v0 c
          ∧ r.2.mem ((c.tc : Thread Cert.ReferenceAdamBIdeal.nD Cert.ReferenceAdamBIdeal.τ).loc Cert.ReferenceAdamBIdeal.main_v25) = v1 c
          ∧ r.2.mem ((c.tc : Thread Cert.ReferenceAdamBIdeal.nD Cert.ReferenceAdamBIdeal.τ).loc Cert.ReferenceAdamBIdeal.main_v6) = v2 c
          ∧ r.2.mem ((c.tc : Thread Cert.ReferenceAdamBIdeal.nD Cert.ReferenceAdamBIdeal.τ).loc Cert.ReferenceAdamBIdeal.main_v12) = v3 c
          ∧ r.2.mem ((c.tc : Thread Cert.ReferenceAdamBIdeal.nD Cert.ReferenceAdamBIdeal.τ).loc Cert.ReferenceAdamBIdeal.main_arg0) = m' ((c.tc : Thread Cert.ReferenceAdamBIdeal.nD Cert.ReferenceAdamBIdeal.τ).loc Cert.ReferenceAdamBIdeal.main_arg0)
          ∧ r.2.mem ((c.tc : Thread Cert.ReferenceAdamBIdeal.nD Cert.ReferenceAdamBIdeal.τ).loc Cert.ReferenceAdamBIdeal.main_arg1) = m' ((c.tc : Thread Cert.ReferenceAdamBIdeal.nD Cert.ReferenceAdamBIdeal.τ).loc Cert.ReferenceAdamBIdeal.main_arg1)
          ∧ r.2.mem ((c.tc : Thread Cert.ReferenceAdamBIdeal.nD Cert.ReferenceAdamBIdeal.τ).loc Cert.ReferenceAdamBIdeal.main_arg2) = m' ((c.tc : Thread Cert.ReferenceAdamBIdeal.nD Cert.ReferenceAdamBIdeal.τ).loc Cert.ReferenceAdamBIdeal.main_arg2)
          ∧ r.2.mem ((c.tc : Thread Cert.ReferenceAdamBIdeal.nD Cert.ReferenceAdamBIdeal.τ).loc Cert.ReferenceAdamBIdeal.main_arg3) = m' ((c.tc : Thread Cert.ReferenceAdamBIdeal.nD Cert.ReferenceAdamBIdeal.τ).loc Cert.ReferenceAdamBIdeal.main_arg3))

def preserves_KernelAdamC_KernelAdamCIdeal : Prop :=
  True

def algebraic_KernelAdamCIdeal_ReferenceAdamCIdeal [hKernelAdamCIdeal : Cert.KernelAdamCIdeal.Facts] [hReferenceAdamCIdeal : Cert.ReferenceAdamCIdeal.Facts] : Prop :=
  ∀ (m : (ℓ : Loc Cert.KernelAdamCIdeal.nD Cert.KernelAdamCIdeal.τ Cert.KernelAdamCIdeal.sig) → Buf (Elt Ideal) ℓ) (g : Dev Cert.KernelAdamCIdeal.nD → PrngReg)
    (m' : (ℓ : Loc Cert.ReferenceAdamCIdeal.nD Cert.ReferenceAdamCIdeal.τ Cert.ReferenceAdamCIdeal.sig) → Buf (Elt Ideal) ℓ) (g' : Dev Cert.ReferenceAdamCIdeal.nD → PrngReg), Pre_KernelAdamCIdeal m →
    (∀ c : Dev Cert.KernelAdamCIdeal.nD,
      m' ((c.tc : Thread Cert.ReferenceAdamCIdeal.nD Cert.ReferenceAdamCIdeal.τ).loc Cert.ReferenceAdamCIdeal.main_arg0) = m ((c.tc : Thread Cert.KernelAdamCIdeal.nD Cert.KernelAdamCIdeal.τ).loc Cert.KernelAdamCIdeal.main_arg0)
      ∧ m' ((c.tc : Thread Cert.ReferenceAdamCIdeal.nD Cert.ReferenceAdamCIdeal.τ).loc Cert.ReferenceAdamCIdeal.main_arg1) = m ((c.tc : Thread Cert.KernelAdamCIdeal.nD Cert.KernelAdamCIdeal.τ).loc Cert.KernelAdamCIdeal.main_arg1)
      ∧ m' ((c.tc : Thread Cert.ReferenceAdamCIdeal.nD Cert.ReferenceAdamCIdeal.τ).loc Cert.ReferenceAdamCIdeal.main_arg2) = m ((c.tc : Thread Cert.KernelAdamCIdeal.nD Cert.KernelAdamCIdeal.τ).loc Cert.KernelAdamCIdeal.main_arg2)
      ∧ m' ((c.tc : Thread Cert.ReferenceAdamCIdeal.nD Cert.ReferenceAdamCIdeal.τ).loc Cert.ReferenceAdamCIdeal.main_arg3) = m ((c.tc : Thread Cert.KernelAdamCIdeal.nD Cert.KernelAdamCIdeal.τ).loc Cert.KernelAdamCIdeal.main_arg3)) →
    ∃ (v0 : (c : Dev Cert.KernelAdamCIdeal.nD) → Buf (Elt Ideal) ((c.tc : Thread Cert.KernelAdamCIdeal.nD Cert.KernelAdamCIdeal.τ).loc Cert.KernelAdamCIdeal.main_v0_0)) (v1 : (c : Dev Cert.KernelAdamCIdeal.nD) → Buf (Elt Ideal) ((c.tc : Thread Cert.KernelAdamCIdeal.nD Cert.KernelAdamCIdeal.τ).loc Cert.KernelAdamCIdeal.main_v0_1)) (v2 : (c : Dev Cert.KernelAdamCIdeal.nD) → Buf (Elt Ideal) ((c.tc : Thread Cert.KernelAdamCIdeal.nD Cert.KernelAdamCIdeal.τ).loc Cert.KernelAdamCIdeal.main_v0_2)) (v3 : (c : Dev Cert.KernelAdamCIdeal.nD) → Buf (Elt Ideal) ((c.tc : Thread Cert.KernelAdamCIdeal.nD Cert.KernelAdamCIdeal.τ).loc Cert.KernelAdamCIdeal.main_v0_3)),
      θ_run (Cert.KernelAdamCIdeal.defs (F := Ideal)) (onTc (τ := Cert.KernelAdamCIdeal.τ) (Cert.KernelAdamCIdeal.main (F := Ideal))) ⟨m, fun _ => 0, g⟩ (fun r => ∀ c : Dev Cert.KernelAdamCIdeal.nD,
          r.2.mem ((c.tc : Thread Cert.KernelAdamCIdeal.nD Cert.KernelAdamCIdeal.τ).loc Cert.KernelAdamCIdeal.main_v0_0) = v0 c
          ∧ r.2.mem ((c.tc : Thread Cert.KernelAdamCIdeal.nD Cert.KernelAdamCIdeal.τ).loc Cert.KernelAdamCIdeal.main_v0_1) = v1 c
          ∧ r.2.mem ((c.tc : Thread Cert.KernelAdamCIdeal.nD Cert.KernelAdamCIdeal.τ).loc Cert.KernelAdamCIdeal.main_v0_2) = v2 c
          ∧ r.2.mem ((c.tc : Thread Cert.KernelAdamCIdeal.nD Cert.KernelAdamCIdeal.τ).loc Cert.KernelAdamCIdeal.main_v0_3) = v3 c
          ∧ r.2.mem ((c.tc : Thread Cert.KernelAdamCIdeal.nD Cert.KernelAdamCIdeal.τ).loc Cert.KernelAdamCIdeal.main_arg0) = m ((c.tc : Thread Cert.KernelAdamCIdeal.nD Cert.KernelAdamCIdeal.τ).loc Cert.KernelAdamCIdeal.main_arg0)
          ∧ r.2.mem ((c.tc : Thread Cert.KernelAdamCIdeal.nD Cert.KernelAdamCIdeal.τ).loc Cert.KernelAdamCIdeal.main_arg1) = m ((c.tc : Thread Cert.KernelAdamCIdeal.nD Cert.KernelAdamCIdeal.τ).loc Cert.KernelAdamCIdeal.main_arg1)
          ∧ r.2.mem ((c.tc : Thread Cert.KernelAdamCIdeal.nD Cert.KernelAdamCIdeal.τ).loc Cert.KernelAdamCIdeal.main_arg2) = m ((c.tc : Thread Cert.KernelAdamCIdeal.nD Cert.KernelAdamCIdeal.τ).loc Cert.KernelAdamCIdeal.main_arg2)
          ∧ r.2.mem ((c.tc : Thread Cert.KernelAdamCIdeal.nD Cert.KernelAdamCIdeal.τ).loc Cert.KernelAdamCIdeal.main_arg3) = m ((c.tc : Thread Cert.KernelAdamCIdeal.nD Cert.KernelAdamCIdeal.τ).loc Cert.KernelAdamCIdeal.main_arg3))
      ∧ θ_run (Cert.ReferenceAdamCIdeal.defs (F := Ideal)) (onTc (τ := Cert.ReferenceAdamCIdeal.τ) (Cert.ReferenceAdamCIdeal.main (F := Ideal))) ⟨m', fun _ => 0, g'⟩ (fun r => ∀ c : Dev Cert.ReferenceAdamCIdeal.nD,
          r.2.mem ((c.tc : Thread Cert.ReferenceAdamCIdeal.nD Cert.ReferenceAdamCIdeal.τ).loc Cert.ReferenceAdamCIdeal.main_v0) = v0 c
          ∧ r.2.mem ((c.tc : Thread Cert.ReferenceAdamCIdeal.nD Cert.ReferenceAdamCIdeal.τ).loc Cert.ReferenceAdamCIdeal.main_v24) = v1 c
          ∧ r.2.mem ((c.tc : Thread Cert.ReferenceAdamCIdeal.nD Cert.ReferenceAdamCIdeal.τ).loc Cert.ReferenceAdamCIdeal.main_v5) = v2 c
          ∧ r.2.mem ((c.tc : Thread Cert.ReferenceAdamCIdeal.nD Cert.ReferenceAdamCIdeal.τ).loc Cert.ReferenceAdamCIdeal.main_v11) = v3 c
          ∧ r.2.mem ((c.tc : Thread Cert.ReferenceAdamCIdeal.nD Cert.ReferenceAdamCIdeal.τ).loc Cert.ReferenceAdamCIdeal.main_arg0) = m' ((c.tc : Thread Cert.ReferenceAdamCIdeal.nD Cert.ReferenceAdamCIdeal.τ).loc Cert.ReferenceAdamCIdeal.main_arg0)
          ∧ r.2.mem ((c.tc : Thread Cert.ReferenceAdamCIdeal.nD Cert.ReferenceAdamCIdeal.τ).loc Cert.ReferenceAdamCIdeal.main_arg1) = m' ((c.tc : Thread Cert.ReferenceAdamCIdeal.nD Cert.ReferenceAdamCIdeal.τ).loc Cert.ReferenceAdamCIdeal.main_arg1)
          ∧ r.2.mem ((c.tc : Thread Cert.ReferenceAdamCIdeal.nD Cert.ReferenceAdamCIdeal.τ).loc Cert.ReferenceAdamCIdeal.main_arg2) = m' ((c.tc : Thread Cert.ReferenceAdamCIdeal.nD Cert.ReferenceAdamCIdeal.τ).loc Cert.ReferenceAdamCIdeal.main_arg2)
          ∧ r.2.mem ((c.tc : Thread Cert.ReferenceAdamCIdeal.nD Cert.ReferenceAdamCIdeal.τ).loc Cert.ReferenceAdamCIdeal.main_arg3) = m' ((c.tc : Thread Cert.ReferenceAdamCIdeal.nD Cert.ReferenceAdamCIdeal.τ).loc Cert.ReferenceAdamCIdeal.main_arg3))

def preserves_KernelAdamS_KernelAdamSIdeal : Prop :=
  True

def algebraic_KernelAdamSIdeal_ReferenceAdamSIdeal [hKernelAdamSIdeal : Cert.KernelAdamSIdeal.Facts] [hReferenceAdamSIdeal : Cert.ReferenceAdamSIdeal.Facts] : Prop :=
  ∀ (m : (ℓ : Loc Cert.KernelAdamSIdeal.nD Cert.KernelAdamSIdeal.τ Cert.KernelAdamSIdeal.sig) → Buf (Elt Ideal) ℓ) (g : Dev Cert.KernelAdamSIdeal.nD → PrngReg)
    (m' : (ℓ : Loc Cert.ReferenceAdamSIdeal.nD Cert.ReferenceAdamSIdeal.τ Cert.ReferenceAdamSIdeal.sig) → Buf (Elt Ideal) ℓ) (g' : Dev Cert.ReferenceAdamSIdeal.nD → PrngReg), Pre_KernelAdamSIdeal m →
    (∀ c : Dev Cert.KernelAdamSIdeal.nD,
      m' ((c.tc : Thread Cert.ReferenceAdamSIdeal.nD Cert.ReferenceAdamSIdeal.τ).loc Cert.ReferenceAdamSIdeal.main_arg0) = m ((c.tc : Thread Cert.KernelAdamSIdeal.nD Cert.KernelAdamSIdeal.τ).loc Cert.KernelAdamSIdeal.main_arg0)
      ∧ m' ((c.tc : Thread Cert.ReferenceAdamSIdeal.nD Cert.ReferenceAdamSIdeal.τ).loc Cert.ReferenceAdamSIdeal.main_arg1) = m ((c.tc : Thread Cert.KernelAdamSIdeal.nD Cert.KernelAdamSIdeal.τ).loc Cert.KernelAdamSIdeal.main_arg1)
      ∧ m' ((c.tc : Thread Cert.ReferenceAdamSIdeal.nD Cert.ReferenceAdamSIdeal.τ).loc Cert.ReferenceAdamSIdeal.main_arg2) = m ((c.tc : Thread Cert.KernelAdamSIdeal.nD Cert.KernelAdamSIdeal.τ).loc Cert.KernelAdamSIdeal.main_arg2)
      ∧ m' ((c.tc : Thread Cert.ReferenceAdamSIdeal.nD Cert.ReferenceAdamSIdeal.τ).loc Cert.ReferenceAdamSIdeal.main_arg3) = m ((c.tc : Thread Cert.KernelAdamSIdeal.nD Cert.KernelAdamSIdeal.τ).loc Cert.KernelAdamSIdeal.main_arg3)) →
    ∃ (v0 : (c : Dev Cert.KernelAdamSIdeal.nD) → Buf (Elt Ideal) ((c.tc : Thread Cert.KernelAdamSIdeal.nD Cert.KernelAdamSIdeal.τ).loc Cert.KernelAdamSIdeal.main_v0_0)) (v1 : (c : Dev Cert.KernelAdamSIdeal.nD) → Buf (Elt Ideal) ((c.tc : Thread Cert.KernelAdamSIdeal.nD Cert.KernelAdamSIdeal.τ).loc Cert.KernelAdamSIdeal.main_v0_1)) (v2 : (c : Dev Cert.KernelAdamSIdeal.nD) → Buf (Elt Ideal) ((c.tc : Thread Cert.KernelAdamSIdeal.nD Cert.KernelAdamSIdeal.τ).loc Cert.KernelAdamSIdeal.main_v0_2)) (v3 : (c : Dev Cert.KernelAdamSIdeal.nD) → Buf (Elt Ideal) ((c.tc : Thread Cert.KernelAdamSIdeal.nD Cert.KernelAdamSIdeal.τ).loc Cert.KernelAdamSIdeal.main_v0_3)),
      θ_run (Cert.KernelAdamSIdeal.defs (F := Ideal)) (onTc (τ := Cert.KernelAdamSIdeal.τ) (Cert.KernelAdamSIdeal.main (F := Ideal))) ⟨m, fun _ => 0, g⟩ (fun r => ∀ c : Dev Cert.KernelAdamSIdeal.nD,
          r.2.mem ((c.tc : Thread Cert.KernelAdamSIdeal.nD Cert.KernelAdamSIdeal.τ).loc Cert.KernelAdamSIdeal.main_v0_0) = v0 c
          ∧ r.2.mem ((c.tc : Thread Cert.KernelAdamSIdeal.nD Cert.KernelAdamSIdeal.τ).loc Cert.KernelAdamSIdeal.main_v0_1) = v1 c
          ∧ r.2.mem ((c.tc : Thread Cert.KernelAdamSIdeal.nD Cert.KernelAdamSIdeal.τ).loc Cert.KernelAdamSIdeal.main_v0_2) = v2 c
          ∧ r.2.mem ((c.tc : Thread Cert.KernelAdamSIdeal.nD Cert.KernelAdamSIdeal.τ).loc Cert.KernelAdamSIdeal.main_v0_3) = v3 c
          ∧ r.2.mem ((c.tc : Thread Cert.KernelAdamSIdeal.nD Cert.KernelAdamSIdeal.τ).loc Cert.KernelAdamSIdeal.main_arg0) = m ((c.tc : Thread Cert.KernelAdamSIdeal.nD Cert.KernelAdamSIdeal.τ).loc Cert.KernelAdamSIdeal.main_arg0)
          ∧ r.2.mem ((c.tc : Thread Cert.KernelAdamSIdeal.nD Cert.KernelAdamSIdeal.τ).loc Cert.KernelAdamSIdeal.main_arg1) = m ((c.tc : Thread Cert.KernelAdamSIdeal.nD Cert.KernelAdamSIdeal.τ).loc Cert.KernelAdamSIdeal.main_arg1)
          ∧ r.2.mem ((c.tc : Thread Cert.KernelAdamSIdeal.nD Cert.KernelAdamSIdeal.τ).loc Cert.KernelAdamSIdeal.main_arg2) = m ((c.tc : Thread Cert.KernelAdamSIdeal.nD Cert.KernelAdamSIdeal.τ).loc Cert.KernelAdamSIdeal.main_arg2)
          ∧ r.2.mem ((c.tc : Thread Cert.KernelAdamSIdeal.nD Cert.KernelAdamSIdeal.τ).loc Cert.KernelAdamSIdeal.main_arg3) = m ((c.tc : Thread Cert.KernelAdamSIdeal.nD Cert.KernelAdamSIdeal.τ).loc Cert.KernelAdamSIdeal.main_arg3))
      ∧ θ_run (Cert.ReferenceAdamSIdeal.defs (F := Ideal)) (onTc (τ := Cert.ReferenceAdamSIdeal.τ) (Cert.ReferenceAdamSIdeal.main (F := Ideal))) ⟨m', fun _ => 0, g'⟩ (fun r => ∀ c : Dev Cert.ReferenceAdamSIdeal.nD,
          r.2.mem ((c.tc : Thread Cert.ReferenceAdamSIdeal.nD Cert.ReferenceAdamSIdeal.τ).loc Cert.ReferenceAdamSIdeal.main_v0) = v0 c
          ∧ r.2.mem ((c.tc : Thread Cert.ReferenceAdamSIdeal.nD Cert.ReferenceAdamSIdeal.τ).loc Cert.ReferenceAdamSIdeal.main_v24) = v1 c
          ∧ r.2.mem ((c.tc : Thread Cert.ReferenceAdamSIdeal.nD Cert.ReferenceAdamSIdeal.τ).loc Cert.ReferenceAdamSIdeal.main_v5) = v2 c
          ∧ r.2.mem ((c.tc : Thread Cert.ReferenceAdamSIdeal.nD Cert.ReferenceAdamSIdeal.τ).loc Cert.ReferenceAdamSIdeal.main_v11) = v3 c
          ∧ r.2.mem ((c.tc : Thread Cert.ReferenceAdamSIdeal.nD Cert.ReferenceAdamSIdeal.τ).loc Cert.ReferenceAdamSIdeal.main_arg0) = m' ((c.tc : Thread Cert.ReferenceAdamSIdeal.nD Cert.ReferenceAdamSIdeal.τ).loc Cert.ReferenceAdamSIdeal.main_arg0)
          ∧ r.2.mem ((c.tc : Thread Cert.ReferenceAdamSIdeal.nD Cert.ReferenceAdamSIdeal.τ).loc Cert.ReferenceAdamSIdeal.main_arg1) = m' ((c.tc : Thread Cert.ReferenceAdamSIdeal.nD Cert.ReferenceAdamSIdeal.τ).loc Cert.ReferenceAdamSIdeal.main_arg1)
          ∧ r.2.mem ((c.tc : Thread Cert.ReferenceAdamSIdeal.nD Cert.ReferenceAdamSIdeal.τ).loc Cert.ReferenceAdamSIdeal.main_arg2) = m' ((c.tc : Thread Cert.ReferenceAdamSIdeal.nD Cert.ReferenceAdamSIdeal.τ).loc Cert.ReferenceAdamSIdeal.main_arg2)
          ∧ r.2.mem ((c.tc : Thread Cert.ReferenceAdamSIdeal.nD Cert.ReferenceAdamSIdeal.τ).loc Cert.ReferenceAdamSIdeal.main_arg3) = m' ((c.tc : Thread Cert.ReferenceAdamSIdeal.nD Cert.ReferenceAdamSIdeal.τ).loc Cert.ReferenceAdamSIdeal.main_arg3))

def Claim : Prop :=
  ∃ (hKernelGate : Cert.KernelGate.Facts) (hKernelGateIdeal : Cert.KernelGateIdeal.Facts) (hReferenceGateIdeal : Cert.ReferenceGateIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelWQkv : Cert.KernelWQkv.Facts) (hKernelWQkvIdeal : Cert.KernelWQkvIdeal.Facts) (hReferenceWQkvIdeal : Cert.ReferenceWQkvIdeal.Facts) (hKernelWZ : Cert.KernelWZ.Facts) (hKernelWZIdeal : Cert.KernelWZIdeal.Facts) (hReferenceWZIdeal : Cert.ReferenceWZIdeal.Facts) (hKernelWBa : Cert.KernelWBa.Facts) (hKernelWBaIdeal : Cert.KernelWBaIdeal.Facts) (hReferenceWBaIdeal : Cert.ReferenceWBaIdeal.Facts) (hKernelWOut : Cert.KernelWOut.Facts) (hKernelWOutIdeal : Cert.KernelWOutIdeal.Facts) (hReferenceWOutIdeal : Cert.ReferenceWOutIdeal.Facts) (hKernelWQ : Cert.KernelWQ.Facts) (hKernelWQIdeal : Cert.KernelWQIdeal.Facts) (hReferenceWQIdeal : Cert.ReferenceWQIdeal.Facts) (hKernelWKv : Cert.KernelWKv.Facts) (hKernelWKvIdeal : Cert.KernelWKvIdeal.Facts) (hReferenceWKvIdeal : Cert.ReferenceWKvIdeal.Facts) (hKernelWGate : Cert.KernelWGate.Facts) (hKernelWGateIdeal : Cert.KernelWGateIdeal.Facts) (hReferenceWGateIdeal : Cert.ReferenceWGateIdeal.Facts) (hKernelAIn : Cert.KernelAIn.Facts) (hKernelAInIdeal : Cert.KernelAInIdeal.Facts) (hReferenceAInIdeal : Cert.ReferenceAInIdeal.Facts) (hKernelMid : Cert.KernelMid.Facts) (hKernelMidIdeal : Cert.KernelMidIdeal.Facts) (hReferenceMidIdeal : Cert.ReferenceMidIdeal.Facts) (hKernelLoss : Cert.KernelLoss.Facts) (hKernelLossIdeal : Cert.KernelLossIdeal.Facts) (hReferenceLossIdeal : Cert.ReferenceLossIdeal.Facts) (hKernelConv : Cert.KernelConv.Facts) (hKernelConvIdeal : Cert.KernelConvIdeal.Facts) (hReferenceConvIdeal : Cert.ReferenceConvIdeal.Facts) (hKernelPairA : Cert.KernelPairA.Facts) (hKernelPairAIdeal : Cert.KernelPairAIdeal.Facts) (hReferencePairAIdeal : Cert.ReferencePairAIdeal.Facts) (hKernelPairB : Cert.KernelPairB.Facts) (hKernelPairBIdeal : Cert.KernelPairBIdeal.Facts) (hReferencePairBIdeal : Cert.ReferencePairBIdeal.Facts) (hKernelAdamA : Cert.KernelAdamA.Facts) (hKernelAdamAIdeal : Cert.KernelAdamAIdeal.Facts) (hReferenceAdamAIdeal : Cert.ReferenceAdamAIdeal.Facts) (hKernelAdamB : Cert.KernelAdamB.Facts) (hKernelAdamBIdeal : Cert.KernelAdamBIdeal.Facts) (hReferenceAdamBIdeal : Cert.ReferenceAdamBIdeal.Facts) (hKernelAdamC : Cert.KernelAdamC.Facts) (hKernelAdamCIdeal : Cert.KernelAdamCIdeal.Facts) (hReferenceAdamCIdeal : Cert.ReferenceAdamCIdeal.Facts) (hKernelAdamS : Cert.KernelAdamS.Facts) (hKernelAdamSIdeal : Cert.KernelAdamSIdeal.Facts) (hReferenceAdamSIdeal : Cert.ReferenceAdamSIdeal.Facts),
    quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelWQkv (hKernelWQkv := hKernelWQkv)
    ∧ quiescent_KernelWQkvIdeal (hKernelWQkvIdeal := hKernelWQkvIdeal)
    ∧ quiescent_ReferenceWQkvIdeal (hReferenceWQkvIdeal := hReferenceWQkvIdeal)
    ∧ quiescent_KernelWZ (hKernelWZ := hKernelWZ)
    ∧ quiescent_KernelWZIdeal (hKernelWZIdeal := hKernelWZIdeal)
    ∧ quiescent_ReferenceWZIdeal (hReferenceWZIdeal := hReferenceWZIdeal)
    ∧ quiescent_KernelWBa (hKernelWBa := hKernelWBa)
    ∧ quiescent_KernelWBaIdeal (hKernelWBaIdeal := hKernelWBaIdeal)
    ∧ quiescent_ReferenceWBaIdeal (hReferenceWBaIdeal := hReferenceWBaIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelWQ (hKernelWQ := hKernelWQ)
    ∧ quiescent_KernelWQIdeal (hKernelWQIdeal := hKernelWQIdeal)
    ∧ quiescent_ReferenceWQIdeal (hReferenceWQIdeal := hReferenceWQIdeal)
    ∧ quiescent_KernelWKv (hKernelWKv := hKernelWKv)
    ∧ quiescent_KernelWKvIdeal (hKernelWKvIdeal := hKernelWKvIdeal)
    ∧ quiescent_ReferenceWKvIdeal (hReferenceWKvIdeal := hReferenceWKvIdeal)
    ∧ quiescent_KernelWGate (hKernelWGate := hKernelWGate)
    ∧ quiescent_KernelWGateIdeal (hKernelWGateIdeal := hKernelWGateIdeal)
    ∧ quiescent_ReferenceWGateIdeal (hReferenceWGateIdeal := hReferenceWGateIdeal)
    ∧ quiescent_KernelAIn (hKernelAIn := hKernelAIn)
    ∧ quiescent_KernelAInIdeal (hKernelAInIdeal := hKernelAInIdeal)
    ∧ quiescent_ReferenceAInIdeal (hReferenceAInIdeal := hReferenceAInIdeal)
    ∧ quiescent_KernelMid (hKernelMid := hKernelMid)
    ∧ quiescent_KernelMidIdeal (hKernelMidIdeal := hKernelMidIdeal)
    ∧ quiescent_ReferenceMidIdeal (hReferenceMidIdeal := hReferenceMidIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelPairA (hKernelPairA := hKernelPairA)
    ∧ quiescent_KernelPairAIdeal (hKernelPairAIdeal := hKernelPairAIdeal)
    ∧ quiescent_ReferencePairAIdeal (hReferencePairAIdeal := hReferencePairAIdeal)
    ∧ quiescent_KernelPairB (hKernelPairB := hKernelPairB)
    ∧ quiescent_KernelPairBIdeal (hKernelPairBIdeal := hKernelPairBIdeal)
    ∧ quiescent_ReferencePairBIdeal (hReferencePairBIdeal := hReferencePairBIdeal)
    ∧ quiescent_KernelAdamA (hKernelAdamA := hKernelAdamA)
    ∧ quiescent_KernelAdamAIdeal (hKernelAdamAIdeal := hKernelAdamAIdeal)
    ∧ quiescent_ReferenceAdamAIdeal (hReferenceAdamAIdeal := hReferenceAdamAIdeal)
    ∧ quiescent_KernelAdamB (hKernelAdamB := hKernelAdamB)
    ∧ quiescent_KernelAdamBIdeal (hKernelAdamBIdeal := hKernelAdamBIdeal)
    ∧ quiescent_ReferenceAdamBIdeal (hReferenceAdamBIdeal := hReferenceAdamBIdeal)
    ∧ quiescent_KernelAdamC (hKernelAdamC := hKernelAdamC)
    ∧ quiescent_KernelAdamCIdeal (hKernelAdamCIdeal := hKernelAdamCIdeal)
    ∧ quiescent_ReferenceAdamCIdeal (hReferenceAdamCIdeal := hReferenceAdamCIdeal)
    ∧ quiescent_KernelAdamS (hKernelAdamS := hKernelAdamS)
    ∧ quiescent_KernelAdamSIdeal (hKernelAdamSIdeal := hKernelAdamSIdeal)
    ∧ quiescent_ReferenceAdamSIdeal (hReferenceAdamSIdeal := hReferenceAdamSIdeal)
    ∧ preserves_KernelGate_KernelGateIdeal
    ∧ algebraic_KernelGateIdeal_ReferenceGateIdeal (hKernelGateIdeal := hKernelGateIdeal) (hReferenceGateIdeal := hReferenceGateIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelWQkv_KernelWQkvIdeal
    ∧ algebraic_KernelWQkvIdeal_ReferenceWQkvIdeal (hKernelWQkvIdeal := hKernelWQkvIdeal) (hReferenceWQkvIdeal := hReferenceWQkvIdeal)
    ∧ preserves_KernelWZ_KernelWZIdeal
    ∧ algebraic_KernelWZIdeal_ReferenceWZIdeal (hKernelWZIdeal := hKernelWZIdeal) (hReferenceWZIdeal := hReferenceWZIdeal)
    ∧ preserves_KernelWBa_KernelWBaIdeal
    ∧ algebraic_KernelWBaIdeal_ReferenceWBaIdeal (hKernelWBaIdeal := hKernelWBaIdeal) (hReferenceWBaIdeal := hReferenceWBaIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelWQ_KernelWQIdeal
    ∧ algebraic_KernelWQIdeal_ReferenceWQIdeal (hKernelWQIdeal := hKernelWQIdeal) (hReferenceWQIdeal := hReferenceWQIdeal)
    ∧ preserves_KernelWKv_KernelWKvIdeal
    ∧ algebraic_KernelWKvIdeal_ReferenceWKvIdeal (hKernelWKvIdeal := hKernelWKvIdeal) (hReferenceWKvIdeal := hReferenceWKvIdeal)
    ∧ preserves_KernelWGate_KernelWGateIdeal
    ∧ algebraic_KernelWGateIdeal_ReferenceWGateIdeal (hKernelWGateIdeal := hKernelWGateIdeal) (hReferenceWGateIdeal := hReferenceWGateIdeal)
    ∧ preserves_KernelAIn_KernelAInIdeal
    ∧ algebraic_KernelAInIdeal_ReferenceAInIdeal (hKernelAInIdeal := hKernelAInIdeal) (hReferenceAInIdeal := hReferenceAInIdeal)
    ∧ preserves_KernelMid_KernelMidIdeal
    ∧ algebraic_KernelMidIdeal_ReferenceMidIdeal (hKernelMidIdeal := hKernelMidIdeal) (hReferenceMidIdeal := hReferenceMidIdeal)
    ∧ preserves_KernelLoss_KernelLossIdeal
    ∧ algebraic_KernelLossIdeal_ReferenceLossIdeal (hKernelLossIdeal := hKernelLossIdeal) (hReferenceLossIdeal := hReferenceLossIdeal)
    ∧ preserves_KernelConv_KernelConvIdeal
    ∧ algebraic_KernelConvIdeal_ReferenceConvIdeal (hKernelConvIdeal := hKernelConvIdeal) (hReferenceConvIdeal := hReferenceConvIdeal)
    ∧ preserves_KernelPairA_KernelPairAIdeal
    ∧ algebraic_KernelPairAIdeal_ReferencePairAIdeal (hKernelPairAIdeal := hKernelPairAIdeal) (hReferencePairAIdeal := hReferencePairAIdeal)
    ∧ preserves_KernelPairB_KernelPairBIdeal
    ∧ algebraic_KernelPairBIdeal_ReferencePairBIdeal (hKernelPairBIdeal := hKernelPairBIdeal) (hReferencePairBIdeal := hReferencePairBIdeal)
    ∧ preserves_KernelAdamA_KernelAdamAIdeal
    ∧ algebraic_KernelAdamAIdeal_ReferenceAdamAIdeal (hKernelAdamAIdeal := hKernelAdamAIdeal) (hReferenceAdamAIdeal := hReferenceAdamAIdeal)
    ∧ preserves_KernelAdamB_KernelAdamBIdeal
    ∧ algebraic_KernelAdamBIdeal_ReferenceAdamBIdeal (hKernelAdamBIdeal := hKernelAdamBIdeal) (hReferenceAdamBIdeal := hReferenceAdamBIdeal)
    ∧ preserves_KernelAdamC_KernelAdamCIdeal
    ∧ algebraic_KernelAdamCIdeal_ReferenceAdamCIdeal (hKernelAdamCIdeal := hKernelAdamCIdeal) (hReferenceAdamCIdeal := hReferenceAdamCIdeal)
    ∧ preserves_KernelAdamS_KernelAdamSIdeal
    ∧ algebraic_KernelAdamSIdeal_ReferenceAdamSIdeal (hKernelAdamSIdeal := hKernelAdamSIdeal) (hReferenceAdamSIdeal := hReferenceAdamSIdeal)
-- ==== KernelGate.lean ====
abbrev S16512x1024 : Shape := ⟨2, ![16512, 1024]⟩
abbrev S16512x2048 : Shape := ⟨2, ![16512, 2048]⟩
abbrev S2048x1024 : Shape := ⟨2, ![2048, 1024]⟩
abbrev S1x128 : Shape := ⟨2, ![1, 128]⟩
abbrev S384x1024 : Shape := ⟨2, ![384, 1024]⟩
abbrev S384x2048 : Shape := ⟨2, ![384, 2048]⟩
abbrev S1024x1024 : Shape := ⟨2, ![1024, 1024]⟩
abbrev S384x128 : Shape := ⟨2, ![384, 128]⟩
abbrev S384 : Shape := ⟨1, ![384]⟩
abbrev S384x1 : Shape := ⟨2, ![384, 1]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S16512x1024, .f32⟩
  | .hbm, ⟨1, _⟩ => ⟨S16512x2048, .f32⟩
  | .hbm, ⟨2, _⟩ => ⟨S16512x2048, .f32⟩
  | .hbm, ⟨3, _⟩ => ⟨S2048x1024, .f32⟩
  | .hbm, ⟨4, _⟩ => ⟨S1x128, .f32⟩
  | .hbm, ⟨5, _⟩ => ⟨S2048x1024, .bf16⟩
  | .hbm, ⟨6, _⟩ => ⟨S16512x2048, .f32⟩
  | .hbm, ⟨7, _⟩ => ⟨S16512x2048, .f32⟩
  | .hbm, ⟨8, _⟩ => ⟨S1x128, .f32⟩
  | .local _ .vmem, ⟨0, _⟩ => ⟨S384x1024, .f32⟩
  | .local _ .vmem, ⟨1, _⟩ => ⟨S384x1024, .f32⟩
  | .local _ .vmem, ⟨2, _⟩ => ⟨S384x2048, .f32⟩
  | .local _ .vmem, ⟨3, _⟩ => ⟨S384x2048, .f32⟩
  | .local _ .vmem, ⟨4, _⟩ => ⟨S384x2048, .f32⟩
  | .local _ .vmem, ⟨5, _⟩ => ⟨S384x2048, .f32⟩
  | .local _ .vmem, ⟨6, _⟩ => ⟨S2048x1024, .bf16⟩
  | .local _ .vmem, ⟨7, _⟩ => ⟨S1x128, .f32⟩
  | .local _ .vmem, ⟨8, _⟩ => ⟨S384x2048, .f32⟩
  | .local _ .vmem, ⟨9, _⟩ => ⟨S384x2048, .f32⟩
  | .local _ .vmem, ⟨10, _⟩ => ⟨S384x2048, .f32⟩
  | .local _ .vmem, ⟨11, _⟩ => ⟨S384x2048, .f32⟩
  | .local _ .vmem, ⟨12, _⟩ => ⟨S1x128, .f32⟩
  | .local _ .vmem, ⟨13, _⟩ => ⟨S384x2048, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceGateIdeal.lean ====
abbrev S16512x1024 : Shape := ⟨2, ![16512, 1024]⟩
abbrev S16512x2048 : Shape := ⟨2, ![16512, 2048]⟩
abbrev S2048x1024 : Shape := ⟨2, ![2048, 1024]⟩
abbrev S1x128 : Shape := ⟨2, ![1, 128]⟩
abbrev S16512x16x128 : Shape := ⟨3, ![16512, 16, 128]⟩
abbrev S128 : Shape := ⟨1, ![128]⟩
abbrev S_ : Shape := ⟨0, ![]⟩
abbrev S16512x16 : Shape := ⟨2, ![16512, 16]⟩
abbrev S16512x16x1 : Shape := ⟨3, ![16512, 16, 1]⟩
abbrev S1x1x128 : Shape := ⟨3, ![1, 1, 128]⟩

abbrev nBuf : Space → Nat
  | .hbm => 80
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x2048, .f32⟩
  | .hbm, ⟨2, _⟩ => ⟨S16512x2048, .f32⟩
  | .hbm, ⟨3, _⟩ => ⟨S2048x1024, .f32⟩
  | .hbm, ⟨4, _⟩ => ⟨S1x128, .f32⟩
  | .hbm, ⟨5, _⟩ => ⟨S16512x16x128, .f32⟩
  | .hbm, ⟨6, _⟩ => ⟨S128, .f32⟩
  | .hbm, ⟨7, _⟩ => ⟨S16512x16x128, .f32⟩
  | .hbm, ⟨8, _⟩ => ⟨S_, .f32⟩
  | .hbm, ⟨9, _⟩ => ⟨S16512x16, .f32⟩
  | .hbm, ⟨10, _⟩ => ⟨S16512x16x1, .f32⟩
  | .hbm, ⟨11, _⟩ => ⟨S_, .f32⟩
  | .hbm, ⟨12, _⟩ => ⟨S16512x16x1, .f32⟩
  | .hbm, ⟨13, _⟩ => ⟨S16512x16x1, .f32⟩
  | .hbm, ⟨14, _⟩ => ⟨S_, .f32⟩
  | .hbm, ⟨15, _⟩ => ⟨S16512x16x1, .f32⟩
  | .hbm, ⟨16, _⟩ => ⟨S16512x16x1, .f32⟩
  | .hbm, ⟨17, _⟩ => ⟨S16512x16x1, .f32⟩
  | .hbm, ⟨18, _⟩ => ⟨S16512x16x1, .f32⟩
  | .hbm, ⟨19, _⟩ => ⟨S_, .f32⟩
  | .hbm, ⟨20, _⟩ => ⟨S16512x16x1, .f32⟩
  | .hbm, ⟨21, _⟩ => ⟨S16512x16x1, .f32⟩
  | .hbm, ⟨22, _⟩ => ⟨S16512x16x128, .f32⟩
  | .hbm, ⟨23, _⟩ => ⟨S16512x16x128, .f32⟩
  | .hbm, ⟨24, _⟩ => ⟨S1x1x128, .f32⟩
  | .hbm, ⟨25, _⟩ => ⟨S16512x16x128, .f32⟩
  | .hbm, ⟨26, _⟩ => ⟨S16512x16x128, .f32⟩
  | .hbm, ⟨27, _⟩ => ⟨S16512x16x128, .f32⟩
  | .hbm, ⟨28, _⟩ => ⟨S16512x16x128, .f32⟩
  | .hbm, ⟨29, _⟩ => ⟨S16512x16x128, .f32⟩
  | .hbm, ⟨30, _⟩ => ⟨S_, .f32⟩
  | .hbm, ⟨31, _⟩ => ⟨S16512x16x128, .f32⟩
  | .hbm, ⟨32, _⟩ => ⟨S16512x16x128, .f32⟩
  | .hbm, ⟨33, _⟩ => ⟨S_, .f32⟩
  | .hbm, ⟨34, _⟩ => ⟨S16512x16x128, .f32⟩
  | .hbm, ⟨35, _⟩ => ⟨S16512x16x128, .f32⟩
  | .hbm, ⟨36, _⟩ => ⟨S_, .f32⟩
  | .hbm, ⟨37, _⟩ => ⟨S16512x16x128, .f32⟩
  | .hbm, ⟨38, _⟩ => ⟨S16512x16x128, .f32⟩
  | .hbm, ⟨39, _⟩ => ⟨S16512x16x128, .f32⟩
  | .hbm, ⟨40, _⟩ => ⟨S16512x16x128, .f32⟩
  | .hbm, ⟨41, _⟩ => ⟨S16512x16x128, .f32⟩
  | .hbm, ⟨42, _⟩ => ⟨S16512x2048, .f32⟩
  | .hbm, ⟨43, _⟩ => ⟨S16512x1024, .f32⟩
  | .hbm, ⟨44, _⟩ => ⟨S16512x2048, .f32⟩
  | .hbm, ⟨45, _⟩ => ⟨S16512x16x128, .f32⟩
  | .hbm, ⟨46, _⟩ => ⟨S16512x16x128, .f32⟩
  | .hbm, ⟨47, _⟩ => ⟨S16512x16x128, .f32⟩
  | .hbm, ⟨48, _⟩ => ⟨S16512x16x128, .f32⟩
  | .hbm, ⟨49, _⟩ => ⟨S16512x16x128, .f32⟩
  | .hbm, ⟨50, _⟩ => ⟨S16512x16x128, .f32⟩
  | .hbm, ⟨51, _⟩ => ⟨S16512x16x128, .f32⟩
  | .hbm, ⟨52, _⟩ => ⟨S16512x2048, .f32⟩
  | .hbm, ⟨53, _⟩ => ⟨S16512x16x128, .f32⟩
  | .hbm, ⟨54, _⟩ => ⟨S_, .f32⟩
  | .hbm, ⟨55, _⟩ => ⟨S128, .f32⟩
  | .hbm, ⟨56, _⟩ => ⟨S1x1x128, .f32⟩
  | .hbm, ⟨57, _⟩ => ⟨S16512x16x128, .f32⟩
  | .hbm, ⟨58, _⟩ => ⟨S16512x16x128, .f32⟩
  | .hbm, ⟨59, _⟩ => ⟨S_, .f32⟩
  | .hbm, ⟨60, _⟩ => ⟨S128, .f32⟩
  | .hbm, ⟨61, _⟩ => ⟨S16512x16x128, .f32⟩
  | .hbm, ⟨62, _⟩ => ⟨S_, .f32⟩
  | .hbm, ⟨63, _⟩ => ⟨S16512x16, .f32⟩
  | .hbm, ⟨64, _⟩ => ⟨S16512x16x1, .f32⟩
  | .hbm, ⟨65, _⟩ => ⟨S16512x16x128, .f32⟩
  | .hbm, ⟨66, _⟩ => ⟨S16512x16x128, .f32⟩
  | .hbm, ⟨67, _⟩ => ⟨S16512x16x1, .f32⟩
  | .hbm, ⟨68, _⟩ => ⟨S_, .f32⟩
  | .hbm, ⟨69, _⟩ => ⟨S16512x16x1, .f32⟩
  | .hbm, ⟨70, _⟩ => ⟨S16512x16x1, .f32⟩
  | .hbm, ⟨71, _⟩ => ⟨S_, .f32⟩
  | .hbm, ⟨72, _⟩ => ⟨S16512x16, .f32⟩
  | .hbm, ⟨73, _⟩ => ⟨S16512x16x128, .f32⟩
  | .hbm, ⟨74, _⟩ => ⟨S16512x16x128, .f32⟩
  | .hbm, ⟨75, _⟩ => ⟨S16512x16x128, .f32⟩
  | .hbm, ⟨76, _⟩ => ⟨S16512x16x128, .f32⟩
  | .hbm, ⟨77, _⟩ => ⟨S16512x16x128, .f32⟩
  | .hbm, ⟨78, _⟩ => ⟨S1x128, .f32⟩
  | .hbm, ⟨79, _⟩ => ⟨S16512x2048, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== KernelIn.lean ====
abbrev S16512x4096 : Shape := ⟨2, ![16512, 4096]⟩
abbrev S16512x2048 : Shape := ⟨2, ![16512, 2048]⟩
abbrev S16512x32 : Shape := ⟨2, ![16512, 32]⟩
abbrev S16512x1024 : Shape := ⟨2, ![16512, 1024]⟩
abbrev S1x1024 : Shape := ⟨2, ![1, 1024]⟩
abbrev S1024x6176 : Shape := ⟨2, ![1024, 6176]⟩
abbrev S384x4096 : Shape := ⟨2, ![384, 4096]⟩
abbrev S384x2048 : Shape := ⟨2, ![384, 2048]⟩
abbrev S384x32 : Shape := ⟨2, ![384, 32]⟩
abbrev S384x1024 : Shape := ⟨2, ![384, 1024]⟩
abbrev S1024x4096 : Shape := ⟨2, ![1024, 4096]⟩
abbrev S1024x2048 : Shape := ⟨2, ![1024, 2048]⟩
abbrev S1024x32 : Shape := ⟨2, ![1024, 32]⟩
abbrev S384 : Shape := ⟨1, ![384]⟩
abbrev S384x1 : Shape := ⟨2, ![384, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S16512x4096, .f32⟩
  | .hbm, ⟨1, _⟩ => ⟨S16512x2048, .f32⟩
  | .hbm, ⟨2, _⟩ => ⟨S16512x32, .f32⟩
  | .hbm, ⟨3, _⟩ => ⟨S16512x1024, .f32⟩
  | .hbm, ⟨4, _⟩ => ⟨S16512x1024, .f32⟩
  | .hbm, ⟨5, _⟩ => ⟨S1x1024, .f32⟩
  | .hbm, ⟨6, _⟩ => ⟨S1024x6176, .f32⟩
  | .hbm, ⟨7, _⟩ => ⟨S1024x6176, .bf16⟩
  | .hbm, ⟨8, _⟩ => ⟨S16512x1024, .f32⟩
  | .hbm, ⟨9, _⟩ => ⟨S1x1024, .f32⟩
  | .local _ .vmem, ⟨0, _⟩ => ⟨S384x4096, .f32⟩
  | .local _ .vmem, ⟨1, _⟩ => ⟨S384x4096, .f32⟩
  | .local _ .vmem, ⟨2, _⟩ => ⟨S384x2048, .f32⟩
  | .local _ .vmem, ⟨3, _⟩ => ⟨S384x2048, .f32⟩
  | .local _ .vmem, ⟨4, _⟩ => ⟨S384x32, .f32⟩
  | .local _ .vmem, ⟨5, _⟩ => ⟨S384x32, .f32⟩
  | .local _ .vmem, ⟨6, _⟩ => ⟨S384x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | .local _ .vmem, ⟨11, _⟩ => ⟨S1024x6176, .bf16⟩
  | .local _ .vmem, ⟨12, _⟩ => ⟨S384x1024, .f32⟩
  | .local _ .vmem, ⟨13, _⟩ => ⟨S384x1024, .f32⟩
  | .local _ .vmem, ⟨14, _⟩ => ⟨S1x1024, .f32⟩
  | _, _ => ⟨S16512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x6176 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceInIdeal.lean ====
abbrev S16512x4096 : Shape := ⟨2, ![16512, 4096]⟩
abbrev S16512x2048 : Shape := ⟨2, ![16512, 2048]⟩
abbrev S16512x32 : Shape := ⟨2, ![16512, 32]⟩
abbrev S16512x1024 : Shape := ⟨2, ![16512, 1024]⟩
abbrev S1x1024 : Shape := ⟨2, ![1, 1024]⟩
abbrev S1024x6176 : Shape := ⟨2, ![1024, 6176]⟩
abbrev S1024 : Shape := ⟨1, ![1024]⟩
abbrev S_ : Shape := ⟨0, ![]⟩
abbrev S16512 : Shape := ⟨1, ![16512]⟩
abbrev S16512x1 : Shape := ⟨2, ![16512, 1]⟩
abbrev S16512x6176 : Shape := ⟨2, ![16512, 6176]⟩

abbrev nBuf : Space → Nat
  | .hbm => 69
  | .vmem => 0
  | .smem => 0
  | _ => 0

abbrev bufTy : (tb : Table) → Fin (tcTables nBuf tb) → BufTy
  | .hbm, ⟨0, _⟩ => ⟨S16512x4096, .f32⟩
  | .hbm, ⟨1, _⟩ => ⟨S16512x2048, .f32⟩
  | .hbm, ⟨2, _⟩ => ⟨S16512x32, .f32⟩
  | .hbm, ⟨3, _⟩ => ⟨S16512x1024, .f32⟩
  | .hbm, ⟨4, _⟩ => ⟨S16512x1024, .f32⟩
  | .hbm, ⟨5, _⟩ => ⟨S1x1024, .f32⟩
  | .hbm, ⟨6, _⟩ => ⟨S1024x6176, .f32⟩
  | .hbm, ⟨7, _⟩ => ⟨S1024, .f32⟩
  | .hbm, ⟨8, _⟩ => ⟨S16512x1024, .f32⟩
  | .hbm, ⟨9, _⟩ => ⟨S_, .f32⟩
  | .hbm, ⟨10, _⟩ => ⟨S16512, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S_, .f32⟩
  | .hbm, ⟨16, _⟩ => ⟨S16512x1, .f32⟩
  | .hbm, ⟨17, _⟩ => ⟨S16512x1, .f32⟩
  | .hbm, ⟨18, _⟩ => ⟨S16512x1, .f32⟩
  | .hbm, ⟨19, _⟩ => ⟨S16512x1, .f32⟩
  | .hbm, ⟨20, _⟩ => ⟨S_, .f32⟩
  | .hbm, ⟨21, _⟩ => ⟨S16512x1, .f32⟩
  | .hbm, ⟨22, _⟩ => ⟨S16512x1, .f32⟩
  | .hbm, ⟨23, _⟩ => ⟨S16512x1024, .f32⟩
  | .hbm, ⟨24, _⟩ => ⟨S16512x1024, .f32⟩
  | .hbm, ⟨25, _⟩ => ⟨S1x1024, .f32⟩
  | .hbm, ⟨26, _⟩ => ⟨S16512x1024, .f32⟩
  | .hbm, ⟨27, _⟩ => ⟨S16512x1024, .f32⟩
  | .hbm, ⟨28, _⟩ => ⟨S16512x6176, .f32⟩
  | .hbm, ⟨29, _⟩ => ⟨S16512x4096, .f32⟩
  | .hbm, ⟨30, _⟩ => ⟨S16512x2048, .f32⟩
  | .hbm, ⟨31, _⟩ => ⟨S16512x32, .f32⟩
  | .hbm, ⟨32, _⟩ => ⟨S16512x6176, .f32⟩
  | .hbm, ⟨33, _⟩ => ⟨S16512x1024, .f32⟩
  | .hbm, ⟨34, _⟩ => ⟨S16512x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S16512x1024, .f32⟩
  | .hbm, ⟨39, _⟩ => ⟨S16512x1024, .f32⟩
  | .hbm, ⟨40, _⟩ => ⟨S_, .f32⟩
  | .hbm, ⟨41, _⟩ => ⟨S1024, .f32⟩
  | .hbm, ⟨42, _⟩ => ⟨S16512x1024, .f32⟩
  | .hbm, ⟨43, _⟩ => ⟨S_, .f32⟩
  | .hbm, ⟨44, _⟩ => ⟨S16512, .f32⟩
  | .hbm, ⟨45, _⟩ => ⟨S16512x1, .f32⟩
  | .hbm, ⟨46, _⟩ => ⟨S16512x1024, .f32⟩
  | .hbm, ⟨47, _⟩ => ⟨S16512x1024, .f32⟩
  | .hbm, ⟨48, _⟩ => ⟨S16512x1, .f32⟩
  | .hbm, ⟨49, _⟩ => ⟨S_, .f32⟩
  | .hbm, ⟨50, _⟩ => ⟨S16512x1, .f32⟩
  | .hbm, ⟨51, _⟩ => ⟨S16512x1, .f32⟩
  | .hbm, ⟨52, _⟩ => ⟨S_, .f32⟩
  | .hbm, ⟨53, _⟩ => ⟨S16512, .f32⟩
  | .hbm, ⟨54, _⟩ => ⟨S16512x1024, .f32⟩
  | .hbm, ⟨55, _⟩ => ⟨S16512x1024, .f32⟩
  | .hbm, ⟨56, _⟩ => ⟨S16512x1024, .f32⟩
  | .hbm, ⟨57, _⟩ => ⟨S16512x1024, .f32⟩
  | .hbm, ⟨58, _⟩ => ⟨S16512x1024, .f32⟩
  | .hbm, ⟨59, _⟩ => ⟨S1x1024, .f32⟩
  | .hbm, ⟨60, _⟩ => ⟨S16512x1024, .i32⟩
  | .hbm, ⟨61, _⟩ => ⟨S_, .i32⟩
  | .hbm, ⟨62, _⟩ => ⟨S16512x1024, .i32⟩
  | .hbm, ⟨63, _⟩ => ⟨S16512x1024, .i1⟩
  | .hbm, ⟨64, _⟩ => ⟨S16512x1024, .f32⟩
  | .hbm, ⟨65, _⟩ => ⟨S_, .f32⟩
  | .hbm, ⟨66, _⟩ => ⟨S_, .f32⟩
  | .hbm, ⟨67, _⟩ => ⟨S16512x1024, .f32⟩
  | .hbm, ⟨68, _⟩ => ⟨S16512x1024, .f32⟩
  | _, _ => ⟨S16512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_call0_v0 : Ref sig .tc := ⟨.hbm, 66, rfl⟩
abbrev main_call0_v1 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== KernelOut.lean ====
abbrev S16512x1024 : Shape := ⟨2, ![16512, 1024]⟩
abbrev S1024x1024 : Shape := ⟨2, ![1024, 1024]⟩
abbrev S384x1024 : Shape := ⟨2, ![384, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S16512x1024, .f32⟩
  | .hbm, ⟨3, _⟩ => ⟨S1024x1024, .f32⟩
  | .hbm, ⟨4, _⟩ => ⟨S1024x1024, .bf16⟩
  | .hbm, ⟨5, _⟩ => ⟨S16512x1024, .f32⟩
  | .hbm, ⟨6, _⟩ => ⟨S16512x1024, .f32⟩
  | .hbm, ⟨7, _⟩ => ⟨S1024x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1024x1024, .bf16⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceOutIdeal.lean ====
abbrev S16512x1024 : Shape := ⟨2, ![16512, 1024]⟩
abbrev S1024x1024 : Shape := ⟨2, ![1024, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S16512x1024, .f32⟩
  | .hbm, ⟨3, _⟩ => ⟨S1024x1024, .f32⟩
  | .hbm, ⟨4, _⟩ => ⟨S16512x1024, .f32⟩
  | .hbm, ⟨5, _⟩ => ⟨S16512x1024, .f32⟩
  | .hbm, ⟨6, _⟩ => ⟨S_, .f32⟩
  | .hbm, ⟨7, _⟩ => ⟨S16512x1024, .f32⟩
  | .hbm, ⟨8, _⟩ => ⟨S16512x1024, .f32⟩
  | .hbm, ⟨9, _⟩ => ⟨S_, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S16512x1024, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S1024x1024, .f32⟩
  | .hbm, ⟨20, _⟩ => ⟨S1024x1024, .f32⟩
  | .hbm, ⟨21, _⟩ => ⟨S16512x1024, .f32⟩
  | .hbm, ⟨22, _⟩ => ⟨S16512x1024, .f32⟩
  | .hbm, ⟨23, _⟩ => ⟨S16512x1024, .f32⟩
  | .hbm, ⟨24, _⟩ => ⟨S16512x1024, .f32⟩
  | .hbm, ⟨25, _⟩ => ⟨S16512x1024, .f32⟩
  | .hbm, ⟨26, _⟩ => ⟨S16512x1024, .f32⟩
  | .hbm, ⟨27, _⟩ => ⟨S16512x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== KernelWQkv.lean ====
abbrev S16512x1024 : Shape := ⟨2, ![16512, 1024]⟩
abbrev S1x1024 : Shape := ⟨2, ![1, 1024]⟩
abbrev S1024x4096 : Shape := ⟨2, ![1024, 4096]⟩
abbrev S16512x4096 : Shape := ⟨2, ![16512, 4096]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2752x1024 : Shape := ⟨2, ![2752, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x4096, .f32⟩
  | .hbm, ⟨3, _⟩ => ⟨S16512x4096, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .bf16⟩
  | .hbm, ⟨22, _⟩ => ⟨S1024x4096, .f32⟩
  | .local _ .vmem, ⟨0, _⟩ => ⟨S2752x1024, .bf16⟩
  | .local _ .vmem, ⟨1, _⟩ => ⟨S2752x1024, .bf16⟩
  | .local _ .vmem, ⟨2, _⟩ => ⟨S2752x1024, .f32⟩
  | .local _ .vmem, ⟨3, _⟩ => ⟨S2752x1024, .f32⟩
  | .local _ .vmem, ⟨4, _⟩ => ⟨S1024x1024, .f32⟩
  | .local _ .vmem, ⟨5, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2752x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWQkvIdeal.lean ====
abbrev S16512x1024 : Shape := ⟨2, ![16512, 1024]⟩
abbrev S1x1024 : Shape := ⟨2, ![1, 1024]⟩
abbrev S1024x4096 : Shape := ⟨2, ![1024, 4096]⟩
abbrev S16512x4096 : Shape := ⟨2, ![16512, 4096]⟩
abbrev S1024 : Shape := ⟨1, ![1024]⟩
abbrev S_ : Shape := ⟨0, ![]⟩
abbrev S16512 : Shape := ⟨1, ![16512]⟩
abbrev S16512x1 : Shape := ⟨2, ![16512, 1]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x4096, .f32⟩
  | .hbm, ⟨3, _⟩ => ⟨S16512x4096, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x4096, .f32⟩
  | .hbm, ⟨22, _⟩ => ⟨S4096x1024, .f32⟩
  | .hbm, ⟨23, _⟩ => ⟨S1024x4096, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelWZ.lean ====
abbrev S16512x1024 : Shape := ⟨2, ![16512, 1024]⟩
abbrev S1x1024 : Shape := ⟨2, ![1, 1024]⟩
abbrev S1024x2048 : Shape := ⟨2, ![1024, 2048]⟩
abbrev S16512x2048 : Shape := ⟨2, ![16512, 2048]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2752x1024 : Shape := ⟨2, ![2752, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x2048, .f32⟩
  | .hbm, ⟨3, _⟩ => ⟨S16512x2048, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .bf16⟩
  | .hbm, ⟨22, _⟩ => ⟨S1024x2048, .f32⟩
  | .local _ .vmem, ⟨0, _⟩ => ⟨S2752x1024, .bf16⟩
  | .local _ .vmem, ⟨1, _⟩ => ⟨S2752x1024, .bf16⟩
  | .local _ .vmem, ⟨2, _⟩ => ⟨S2752x1024, .f32⟩
  | .local _ .vmem, ⟨3, _⟩ => ⟨S2752x1024, .f32⟩
  | .local _ .vmem, ⟨4, _⟩ => ⟨S1024x1024, .f32⟩
  | .local _ .vmem, ⟨5, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2752x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceWZIdeal.lean ====
abbrev S16512x1024 : Shape := ⟨2, ![16512, 1024]⟩
abbrev S1x1024 : Shape := ⟨2, ![1, 1024]⟩
abbrev S1024x2048 : Shape := ⟨2, ![1024, 2048]⟩
abbrev S16512x2048 : Shape := ⟨2, ![16512, 2048]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2048x1024 : Shape := ⟨2, ![2048, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x2048, .f32⟩
  | .hbm, ⟨3, _⟩ => ⟨S16512x2048, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x2048, .f32⟩
  | .hbm, ⟨22, _⟩ => ⟨S2048x1024, .f32⟩
  | .hbm, ⟨23, _⟩ => ⟨S1024x2048, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelWBa.lean ====
abbrev S16512x1024 : Shape := ⟨2, ![16512, 1024]⟩
abbrev S1x1024 : Shape := ⟨2, ![1, 1024]⟩
abbrev S1024x32 : Shape := ⟨2, ![1024, 32]⟩
abbrev S16512x32 : Shape := ⟨2, ![16512, 32]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2752x1024 : Shape := ⟨2, ![2752, 1024]⟩
abbrev S2752x32 : Shape := ⟨2, ![2752, 32]⟩

abbrev nBuf : Space → Nat
  | .hbm => 23
  | .vmem => 5
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x32, .f32⟩
  | .hbm, ⟨3, _⟩ => ⟨S16512x32, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .bf16⟩
  | .hbm, ⟨22, _⟩ => ⟨S1024x32, .f32⟩
  | .local _ .vmem, ⟨0, _⟩ => ⟨S2752x1024, .bf16⟩
  | .local _ .vmem, ⟨1, _⟩ => ⟨S2752x1024, .bf16⟩
  | .local _ .vmem, ⟨2, _⟩ => ⟨S2752x32, .f32⟩
  | .local _ .vmem, ⟨3, _⟩ => ⟨S2752x32, .f32⟩
  | .local _ .vmem, ⟨4, _⟩ => ⟨S1024x32, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2752x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWBaIdeal.lean ====
abbrev S16512x1024 : Shape := ⟨2, ![16512, 1024]⟩
abbrev S1x1024 : Shape := ⟨2, ![1, 1024]⟩
abbrev S1024x32 : Shape := ⟨2, ![1024, 32]⟩
abbrev S16512x32 : Shape := ⟨2, ![16512, 32]⟩
abbrev S1024 : Shape := ⟨1, ![1024]⟩
abbrev S_ : Shape := ⟨0, ![]⟩
abbrev S16512 : Shape := ⟨1, ![16512]⟩
abbrev S16512x1 : Shape := ⟨2, ![16512, 1]⟩
abbrev S32x1024 : Shape := ⟨2, ![32, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x32, .f32⟩
  | .hbm, ⟨3, _⟩ => ⟨S16512x32, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x32, .f32⟩
  | .hbm, ⟨22, _⟩ => ⟨S32x1024, .f32⟩
  | .hbm, ⟨23, _⟩ => ⟨S1024x32, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelWOut.lean ====
abbrev S16512x2048 : Shape := ⟨2, ![16512, 2048]⟩
abbrev S1x128 : Shape := ⟨2, ![1, 128]⟩
abbrev S2048x1024 : Shape := ⟨2, ![2048, 1024]⟩
abbrev S16512x1024 : Shape := ⟨2, ![16512, 1024]⟩
abbrev S16512x16x128 : Shape := ⟨3, ![16512, 16, 128]⟩
abbrev S128 : Shape := ⟨1, ![128]⟩
abbrev S_ : Shape := ⟨0, ![]⟩
abbrev S16512x16 : Shape := ⟨2, ![16512, 16]⟩
abbrev S16512x16x1 : Shape := ⟨3, ![16512, 16, 1]⟩
abbrev S1x1x128 : Shape := ⟨3, ![1, 1, 128]⟩
abbrev S1376x2048 : Shape := ⟨2, ![1376, 2048]⟩
abbrev S1376x1024 : Shape := ⟨2, ![1376, 1024]⟩

abbrev nBuf : Space → Nat
  | .hbm => 37
  | .vmem => 5
  | .smem => 0
  | _ => 0

abbrev bufTy : (tb : Table) → Fin (tcTables nBuf tb) → BufTy
  | .hbm, ⟨0, _⟩ => ⟨S16512x2048, .f32⟩
  | .hbm, ⟨1, _⟩ => ⟨S16512x2048, .f32⟩
  | .hbm, ⟨2, _⟩ => ⟨S1x128, .f32⟩
  | .hbm, ⟨3, _⟩ => ⟨S2048x1024, .f32⟩
  | .hbm, ⟨4, _⟩ => ⟨S16512x1024, .f32⟩
  | .hbm, ⟨5, _⟩ => ⟨S16512x16x128, .f32⟩
  | .hbm, ⟨6, _⟩ => ⟨S128, .f32⟩
  | .hbm, ⟨7, _⟩ => ⟨S16512x16x128, .f32⟩
  | .hbm, ⟨8, _⟩ => ⟨S_, .f32⟩
  | .hbm, ⟨9, _⟩ => ⟨S16512x16, .f32⟩
  | .hbm, ⟨10, _⟩ => ⟨S16512x16x1, .f32⟩
  | .hbm, ⟨11, _⟩ => ⟨S_, .f32⟩
  | .hbm, ⟨12, _⟩ => ⟨S16512x16x1, .f32⟩
  | .hbm, ⟨13, _⟩ => ⟨S16512x16x1, .f32⟩
  | .hbm, ⟨14, _⟩ => ⟨S_, .f32⟩
  | .hbm, ⟨15, _⟩ => ⟨S16512x16x1, .f32⟩
  | .hbm, ⟨16, _⟩ => ⟨S16512x16x1, .f32⟩
  | .hbm, ⟨17, _⟩ => ⟨S16512x16x1, .f32⟩
  | .hbm, ⟨18, _⟩ => ⟨S16512x16x128, .f32⟩
  | .hbm, ⟨19, _⟩ => ⟨S16512x16x128, .f32⟩
  | .hbm, ⟨20, _⟩ => ⟨S1x1x128, .f32⟩
  | .hbm, ⟨21, _⟩ => ⟨S16512x16x128, .f32⟩
  | .hbm, ⟨22, _⟩ => ⟨S16512x16x128, .f32⟩
  | .hbm, ⟨23, _⟩ => ⟨S16512x16x128, .f32⟩
  | .hbm, ⟨24, _⟩ => ⟨S16512x16x128, .f32⟩
  | .hbm, ⟨25, _⟩ => ⟨S16512x16x128, .f32⟩
  | .hbm, ⟨26, _⟩ => ⟨S_, .f32⟩
  | .hbm, ⟨27, _⟩ => ⟨S16512x16x128, .f32⟩
  | .hbm, ⟨28, _⟩ => ⟨S16512x16x128, .f32⟩
  | .hbm, ⟨29, _⟩ => ⟨S_, .f32⟩
  | .hbm, ⟨30, _⟩ => ⟨S16512x16x128, .f32⟩
  | .hbm, ⟨31, _⟩ => ⟨S16512x16x128, .f32⟩
  | .hbm, ⟨32, _⟩ => ⟨S16512x16x128, .f32⟩
  | .hbm, ⟨33, _⟩ => ⟨S16512x16x128, .f32⟩
  | .hbm, ⟨34, _⟩ => ⟨S16512x2048, .f32⟩
  | .hbm, ⟨35, _⟩ => ⟨S16512x2048, .bf16⟩
  | .hbm, ⟨36, _⟩ => ⟨S2048x1024, .f32⟩
  | .local _ .vmem, ⟨0, _⟩ => ⟨S1376x2048, .bf16⟩
  | .local _ .vmem, ⟨1, _⟩ => ⟨S1376x2048, .bf16⟩
  | .local _ .vmem, ⟨2, _⟩ => ⟨S1376x1024, .f32⟩
  | .local _ .vmem, ⟨3, _⟩ => ⟨S1376x1024, .f32⟩
  | .local _ .vmem, ⟨4, _⟩ => ⟨S2048x1024, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1376x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1376x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWOutIdeal.lean ====
abbrev S16512x2048 : Shape := ⟨2, ![16512, 2048]⟩
abbrev S1x128 : Shape := ⟨2, ![1, 128]⟩
abbrev S2048x1024 : Shape := ⟨2, ![2048, 1024]⟩
abbrev S16512x1024 : Shape := ⟨2, ![16512, 1024]⟩
abbrev S16512x16x128 : Shape := ⟨3, ![16512, 16, 128]⟩
abbrev S128 : Shape := ⟨1, ![128]⟩
abbrev S_ : Shape := ⟨0, ![]⟩
abbrev S16512x16 : Shape := ⟨2, ![16512, 16]⟩
abbrev S16512x16x1 : Shape := ⟨3, ![16512, 16, 1]⟩
abbrev S1x1x128 : Shape := ⟨3, ![1, 1, 128]⟩
abbrev S1024x2048 : Shape := ⟨2, ![1024, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S16512x2048, .f32⟩
  | .hbm, ⟨2, _⟩ => ⟨S1x128, .f32⟩
  | .hbm, ⟨3, _⟩ => ⟨S2048x1024, .f32⟩
  | .hbm, ⟨4, _⟩ => ⟨S16512x1024, .f32⟩
  | .hbm, ⟨5, _⟩ => ⟨S16512x16x128, .f32⟩
  | .hbm, ⟨6, _⟩ => ⟨S128, .f32⟩
  | .hbm, ⟨7, _⟩ => ⟨S16512x16x128, .f32⟩
  | .hbm, ⟨8, _⟩ => ⟨S_, .f32⟩
  | .hbm, ⟨9, _⟩ => ⟨S16512x16, .f32⟩
  | .hbm, ⟨10, _⟩ => ⟨S16512x16x1, .f32⟩
  | .hbm, ⟨11, _⟩ => ⟨S_, .f32⟩
  | .hbm, ⟨12, _⟩ => ⟨S16512x16x1, .f32⟩
  | .hbm, ⟨13, _⟩ => ⟨S16512x16x1, .f32⟩
  | .hbm, ⟨14, _⟩ => ⟨S_, .f32⟩
  | .hbm, ⟨15, _⟩ => ⟨S16512x16x1, .f32⟩
  | .hbm, ⟨16, _⟩ => ⟨S16512x16x1, .f32⟩
  | .hbm, ⟨17, _⟩ => ⟨S16512x16x1, .f32⟩
  | .hbm, ⟨18, _⟩ => ⟨S16512x16x128, .f32⟩
  | .hbm, ⟨19, _⟩ => ⟨S16512x16x128, .f32⟩
  | .hbm, ⟨20, _⟩ => ⟨S1x1x128, .f32⟩
  | .hbm, ⟨21, _⟩ => ⟨S16512x16x128, .f32⟩
  | .hbm, ⟨22, _⟩ => ⟨S16512x16x128, .f32⟩
  | .hbm, ⟨23, _⟩ => ⟨S16512x16x128, .f32⟩
  | .hbm, ⟨24, _⟩ => ⟨S16512x16x128, .f32⟩
  | .hbm, ⟨25, _⟩ => ⟨S16512x16x128, .f32⟩
  | .hbm, ⟨26, _⟩ => ⟨S_, .f32⟩
  | .hbm, ⟨27, _⟩ => ⟨S16512x16x128, .f32⟩
  | .hbm, ⟨28, _⟩ => ⟨S16512x16x128, .f32⟩
  | .hbm, ⟨29, _⟩ => ⟨S_, .f32⟩
  | .hbm, ⟨30, _⟩ => ⟨S16512x16x128, .f32⟩
  | .hbm, ⟨31, _⟩ => ⟨S16512x16x128, .f32⟩
  | .hbm, ⟨32, _⟩ => ⟨S16512x16x128, .f32⟩
  | .hbm, ⟨33, _⟩ => ⟨S16512x16x128, .f32⟩
  | .hbm, ⟨34, _⟩ => ⟨S16512x2048, .f32⟩
  | .hbm, ⟨35, _⟩ => ⟨S16512x1024, .f32⟩
  | .hbm, ⟨36, _⟩ => ⟨S1024x2048, .f32⟩
  | .hbm, ⟨37, _⟩ => ⟨S2048x1024, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== KernelWQ.lean ====
abbrev S16512x1024 : Shape := ⟨2, ![16512, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2752x1024 : Shape := ⟨2, ![2752, 1024]⟩

abbrev nBuf : Space → Nat
  | .hbm => 23
  | .vmem => 5
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x1024, .f32⟩
  | .hbm, ⟨3, _⟩ => ⟨S16512x1024, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .bf16⟩
  | .hbm, ⟨22, _⟩ => ⟨S1024x1024, .f32⟩
  | .local _ .vmem, ⟨0, _⟩ => ⟨S2752x1024, .bf16⟩
  | .local _ .vmem, ⟨1, _⟩ => ⟨S2752x1024, .bf16⟩
  | .local _ .vmem, ⟨2, _⟩ => ⟨S2752x1024, .f32⟩
  | .local _ .vmem, ⟨3, _⟩ => ⟨S2752x1024, .f32⟩
  | .local _ .vmem, ⟨4, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2752x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWQIdeal.lean ====
abbrev S16512x1024 : Shape := ⟨2, ![16512, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S16512 : Shape := ⟨1, ![16512]⟩
abbrev S16512x1 : Shape := ⟨2, ![16512, 1]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x1024, .f32⟩
  | .hbm, ⟨3, _⟩ => ⟨S16512x1024, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S1024x1024, .f32⟩
  | .hbm, ⟨23, _⟩ => ⟨S1024x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelWKv.lean ====
abbrev S16512x1024 : Shape := ⟨2, ![16512, 1024]⟩
abbrev S1x1024 : Shape := ⟨2, ![1, 1024]⟩
abbrev S1024x256 : Shape := ⟨2, ![1024, 256]⟩
abbrev S16512x256 : Shape := ⟨2, ![16512, 256]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2752x1024 : Shape := ⟨2, ![2752, 1024]⟩
abbrev S2752x256 : Shape := ⟨2, ![2752, 256]⟩

abbrev nBuf : Space → Nat
  | .hbm => 23
  | .vmem => 5
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x256, .f32⟩
  | .hbm, ⟨3, _⟩ => ⟨S16512x256, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .bf16⟩
  | .hbm, ⟨22, _⟩ => ⟨S1024x256, .f32⟩
  | .local _ .vmem, ⟨0, _⟩ => ⟨S2752x1024, .bf16⟩
  | .local _ .vmem, ⟨1, _⟩ => ⟨S2752x1024, .bf16⟩
  | .local _ .vmem, ⟨2, _⟩ => ⟨S2752x256, .f32⟩
  | .local _ .vmem, ⟨3, _⟩ => ⟨S2752x256, .f32⟩
  | .local _ .vmem, ⟨4, _⟩ => ⟨S1024x256, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2752x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWKvIdeal.lean ====
abbrev S16512x1024 : Shape := ⟨2, ![16512, 1024]⟩
abbrev S1x1024 : Shape := ⟨2, ![1, 1024]⟩
abbrev S1024x256 : Shape := ⟨2, ![1024, 256]⟩
abbrev S16512x256 : Shape := ⟨2, ![16512, 256]⟩
abbrev S1024 : Shape := ⟨1, ![1024]⟩
abbrev S_ : Shape := ⟨0, ![]⟩
abbrev S16512 : Shape := ⟨1, ![16512]⟩
abbrev S16512x1 : Shape := ⟨2, ![16512, 1]⟩
abbrev S256x1024 : Shape := ⟨2, ![256, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x256, .f32⟩
  | .hbm, ⟨3, _⟩ => ⟨S16512x256, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x256, .f32⟩
  | .hbm, ⟨22, _⟩ => ⟨S256x1024, .f32⟩
  | .hbm, ⟨23, _⟩ => ⟨S1024x256, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelWGate.lean ====
abbrev S16512x1024 : Shape := ⟨2, ![16512, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S16512 : Shape := ⟨1, ![16512]⟩
abbrev S16512x1 : Shape := ⟨2, ![16512, 1]⟩
abbrev S2752x1024 : Shape := ⟨2, ![2752, 1024]⟩

abbrev nBuf : Space → Nat
  | .hbm => 23
  | .vmem => 5
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x1024, .f32⟩
  | .hbm, ⟨3, _⟩ => ⟨S16512x1024, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .bf16⟩
  | .hbm, ⟨22, _⟩ => ⟨S1024x1024, .f32⟩
  | .local _ .vmem, ⟨0, _⟩ => ⟨S2752x1024, .bf16⟩
  | .local _ .vmem, ⟨1, _⟩ => ⟨S2752x1024, .bf16⟩
  | .local _ .vmem, ⟨2, _⟩ => ⟨S2752x1024, .f32⟩
  | .local _ .vmem, ⟨3, _⟩ => ⟨S2752x1024, .f32⟩
  | .local _ .vmem, ⟨4, _⟩ => ⟨S1024x1024, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2752x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2752x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceWGateIdeal.lean ====
abbrev S16512x1024 : Shape := ⟨2, ![16512, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S16512 : Shape := ⟨1, ![16512]⟩
abbrev S16512x1 : Shape := ⟨2, ![16512, 1]⟩

abbrev nBuf : Space → Nat
  | .hbm => 24
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S1x1024, .f32⟩
  | .hbm, ⟨2, _⟩ => ⟨S1024x1024, .f32⟩
  | .hbm, ⟨3, _⟩ => ⟨S16512x1024, .f32⟩
  | .hbm, ⟨4, _⟩ => ⟨S1024, .f32⟩
  | .hbm, ⟨5, _⟩ => ⟨S16512x1024, .f32⟩
  | .hbm, ⟨6, _⟩ => ⟨S_, .f32⟩
  | .hbm, ⟨7, _⟩ => ⟨S16512, .f32⟩
  | .hbm, ⟨8, _⟩ => ⟨S16512x1, .f32⟩
  | .hbm, ⟨9, _⟩ => ⟨S_, .f32⟩
  | .hbm, ⟨10, _⟩ => ⟨S16512x1, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S16512x1, .f32⟩
  | .hbm, ⟨16, _⟩ => ⟨S16512x1024, .f32⟩
  | .hbm, ⟨17, _⟩ => ⟨S16512x1024, .f32⟩
  | .hbm, ⟨18, _⟩ => ⟨S1x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S1024x1024, .f32⟩
  | .hbm, ⟨23, _⟩ => ⟨S1024x1024, .f32⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== KernelAIn.lean ====
abbrev S16384x1024 : Shape := ⟨2, ![16384, 1024]⟩
abbrev S16x1024 : Shape := ⟨2, ![16, 1024]⟩
abbrev S1x1024 : Shape := ⟨2, ![1, 1024]⟩
abbrev S1024x2304 : Shape := ⟨2, ![1024, 2304]⟩
abbrev S_ : Shape := ⟨0, ![]⟩
abbrev S112x1024 : Shape := ⟨2, ![112, 1024]⟩
abbrev S128x1024 : Shape := ⟨2, ![128, 1024]⟩
abbrev S16512x1024 : Shape := ⟨2, ![16512, 1024]⟩
abbrev S16512x256 : Shape := ⟨2, ![16512, 256]⟩
abbrev S384x1024 : Shape := ⟨2, ![384, 1024]⟩
abbrev S384x256 : Shape := ⟨2, ![384, 256]⟩
abbrev S384 : Shape := ⟨1, ![384]⟩
abbrev S384x1 : Shape := ⟨2, ![384, 1]⟩
abbrev S1024x1024 : Shape := ⟨2, ![1024, 1024]⟩
abbrev S1024x256 : Shape := ⟨2, ![1024, 256]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1x1024, .f32⟩
  | .hbm, ⟨3, _⟩ => ⟨S1024x2304, .f32⟩
  | .hbm, ⟨4, _⟩ => ⟨S_, .f32⟩
  | .hbm, ⟨5, _⟩ => ⟨S112x1024, .f32⟩
  | .hbm, ⟨6, _⟩ => ⟨S128x1024, .f32⟩
  | .hbm, ⟨7, _⟩ => ⟨S1024x2304, .bf16⟩
  | .hbm, ⟨8, _⟩ => ⟨S16512x1024, .bf16⟩
  | .hbm, ⟨9, _⟩ => ⟨S16512x1024, .f32⟩
  | .hbm, ⟨10, _⟩ => ⟨S16512x256, .f32⟩
  | .hbm, ⟨11, _⟩ => ⟨S16512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S1x1024, .f32⟩
  | .local _ .vmem, ⟨8, _⟩ => ⟨S1024x2304, .bf16⟩
  | .local _ .vmem, ⟨9, _⟩ => ⟨S384x1024, .bf16⟩
  | .local _ .vmem, ⟨10, _⟩ => ⟨S384x1024, .bf16⟩
  | .local _ .vmem, ⟨11, _⟩ => ⟨S384x1024, .f32⟩
  | .local _ .vmem, ⟨12, _⟩ => ⟨S384x1024, .f32⟩
  | .local _ .vmem, ⟨13, _⟩ => ⟨S384x256, .f32⟩
  | .local _ .vmem, ⟨14, _⟩ => ⟨S384x256, .f32⟩
  | .local _ .vmem, ⟨15, _⟩ => ⟨S384x1024, .f32⟩
  | .local _ .vmem, ⟨16, _⟩ => ⟨S384x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceAInIdeal.lean ====
abbrev S16384x1024 : Shape := ⟨2, ![16384, 1024]⟩
abbrev S16x1024 : Shape := ⟨2, ![16, 1024]⟩
abbrev S1x1024 : Shape := ⟨2, ![1, 1024]⟩
abbrev S1024x2304 : Shape := ⟨2, ![1024, 2304]⟩
abbrev S_ : Shape := ⟨0, ![]⟩
abbrev S112x1024 : Shape := ⟨2, ![112, 1024]⟩
abbrev S16512x1024 : Shape := ⟨2, ![16512, 1024]⟩
abbrev S1024 : Shape := ⟨1, ![1024]⟩
abbrev S16512 : Shape := ⟨1, ![16512]⟩
abbrev S16512x1 : Shape := ⟨2, ![16512, 1]⟩
abbrev S16512x2304 : Shape := ⟨2, ![16512, 2304]⟩
abbrev S16512x256 : Shape := ⟨2, ![16512, 256]⟩

abbrev nBuf : Space → Nat
  | .hbm => 29
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16x1024, .f32⟩
  | .hbm, ⟨2, _⟩ => ⟨S1x1024, .f32⟩
  | .hbm, ⟨3, _⟩ => ⟨S1024x2304, .f32⟩
  | .hbm, ⟨4, _⟩ => ⟨S_, .f32⟩
  | .hbm, ⟨5, _⟩ => ⟨S112x1024, .f32⟩
  | .hbm, ⟨6, _⟩ => ⟨S16512x1024, .f32⟩
  | .hbm, ⟨7, _⟩ => ⟨S1024, .f32⟩
  | .hbm, ⟨8, _⟩ => ⟨S16512x1024, .f32⟩
  | .hbm, ⟨9, _⟩ => ⟨S_, .f32⟩
  | .hbm, ⟨10, _⟩ => ⟨S16512, .f32⟩
  | .hbm, ⟨11, _⟩ => ⟨S16512x1, .f32⟩
  | .hbm, ⟨12, _⟩ => ⟨S_, .f32⟩
  | .hbm, ⟨13, _⟩ => ⟨S16512x1, .f32⟩
  | .hbm, ⟨14, _⟩ => ⟨S16512x1, .f32⟩
  | .hbm, ⟨15, _⟩ => ⟨S_, .f32⟩
  | .hbm, ⟨16, _⟩ => ⟨S16512x1, .f32⟩
  | .hbm, ⟨17, _⟩ => ⟨S16512x1, .f32⟩
  | .hbm, ⟨18, _⟩ => ⟨S16512x1, .f32⟩
  | .hbm, ⟨19, _⟩ => ⟨S16512x1024, .f32⟩
  | .hbm, ⟨20, _⟩ => ⟨S16512x1024, .f32⟩
  | .hbm, ⟨21, _⟩ => ⟨S1x1024, .f32⟩
  | .hbm, ⟨22, _⟩ => ⟨S16512x1024, .f32⟩
  | .hbm, ⟨23, _⟩ => ⟨S16512x1024, .f32⟩
  | .hbm, ⟨24, _⟩ => ⟨S16512x2304, .f32⟩
  | .hbm, ⟨25, _⟩ => ⟨S16512x1024, .f32⟩
  | .hbm, ⟨26, _⟩ => ⟨S16512x256, .f32⟩
  | .hbm, ⟨27, _⟩ => ⟨S16512x1024, .f32⟩
  | .hbm, ⟨28, _⟩ => ⟨S16512x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelMid.lean ====
abbrev S16512x1024 : Shape := ⟨2, ![16512, 1024]⟩
abbrev S16384x1024 : Shape := ⟨2, ![16384, 1024]⟩
abbrev S16x1024 : Shape := ⟨2, ![16, 1024]⟩
abbrev S1024x1024 : Shape := ⟨2, ![1024, 1024]⟩
abbrev S1x1024 : Shape := ⟨2, ![1, 1024]⟩
abbrev S1024x6176 : Shape := ⟨2, ![1024, 6176]⟩
abbrev S_ : Shape := ⟨0, ![]⟩
abbrev S112x1024 : Shape := ⟨2, ![112, 1024]⟩
abbrev S128x1024 : Shape := ⟨2, ![128, 1024]⟩
abbrev S16512x4096 : Shape := ⟨2, ![16512, 4096]⟩
abbrev S16512x2048 : Shape := ⟨2, ![16512, 2048]⟩
abbrev S16512x32 : Shape := ⟨2, ![16512, 32]⟩
abbrev S384x1024 : Shape := ⟨2, ![384, 1024]⟩
abbrev S384x4096 : Shape := ⟨2, ![384, 4096]⟩
abbrev S384x2048 : Shape := ⟨2, ![384, 2048]⟩
abbrev S384x32 : Shape := ⟨2, ![384, 32]⟩
abbrev S384 : Shape := ⟨1, ![384]⟩
abbrev S384x1 : Shape := ⟨2, ![384, 1]⟩
abbrev S1024x4096 : Shape := ⟨2, ![1024, 4096]⟩
abbrev S1024x2048 : Shape := ⟨2, ![1024, 2048]⟩
abbrev S1024x32 : Shape := ⟨2, ![1024, 32]⟩

abbrev nBuf : Space → Nat
  | .hbm => 17
  | .vmem => 24
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S16384x1024, .f32⟩
  | .hbm, ⟨3, _⟩ => ⟨S16x1024, .f32⟩
  | .hbm, ⟨4, _⟩ => ⟨S1024x1024, .f32⟩
  | .hbm, ⟨5, _⟩ => ⟨S1x1024, .f32⟩
  | .hbm, ⟨6, _⟩ => ⟨S1024x6176, .f32⟩
  | .hbm, ⟨7, _⟩ => ⟨S_, .f32⟩
  | .hbm, ⟨8, _⟩ => ⟨S112x1024, .f32⟩
  | .hbm, ⟨9, _⟩ => ⟨S128x1024, .f32⟩
  | .hbm, ⟨10, _⟩ => ⟨S1024x1024, .bf16⟩
  | .hbm, ⟨11, _⟩ => ⟨S1024x6176, .bf16⟩
  | .hbm, ⟨12, _⟩ => ⟨S16512x1024, .f32⟩
  | .hbm, ⟨13, _⟩ => ⟨S16512x1024, .bf16⟩
  | .hbm, ⟨14, _⟩ => ⟨S16512x4096, .f32⟩
  | .hbm, ⟨15, _⟩ => ⟨S16512x2048, .f32⟩
  | .hbm, ⟨16, _⟩ => ⟨S16512x32, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S1024x1024, .bf16⟩
  | .local _ .vmem, ⟨12, _⟩ => ⟨S1x1024, .f32⟩
  | .local _ .vmem, ⟨13, _⟩ => ⟨S1024x6176, .bf16⟩
  | .local _ .vmem, ⟨14, _⟩ => ⟨S384x1024, .f32⟩
  | .local _ .vmem, ⟨15, _⟩ => ⟨S384x1024, .f32⟩
  | .local _ .vmem, ⟨16, _⟩ => ⟨S384x1024, .bf16⟩
  | .local _ .vmem, ⟨17, _⟩ => ⟨S384x1024, .bf16⟩
  | .local _ .vmem, ⟨18, _⟩ => ⟨S384x4096, .f32⟩
  | .local _ .vmem, ⟨19, _⟩ => ⟨S384x4096, .f32⟩
  | .local _ .vmem, ⟨20, _⟩ => ⟨S384x2048, .f32⟩
  | .local _ .vmem, ⟨21, _⟩ => ⟨S384x2048, .f32⟩
  | .local _ .vmem, ⟨22, _⟩ => ⟨S384x32, .f32⟩
  | .local _ .vmem, ⟨23, _⟩ => ⟨S384x32, .f32⟩
  | _, _ => ⟨S16512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x6176 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceMidIdeal.lean ====
abbrev S16512x1024 : Shape := ⟨2, ![16512, 1024]⟩
abbrev S16384x1024 : Shape := ⟨2, ![16384, 1024]⟩
abbrev S16x1024 : Shape := ⟨2, ![16, 1024]⟩
abbrev S1024x1024 : Shape := ⟨2, ![1024, 1024]⟩
abbrev S1x1024 : Shape := ⟨2, ![1, 1024]⟩
abbrev S1024x6176 : Shape := ⟨2, ![1024, 6176]⟩
abbrev S_ : Shape := ⟨0, ![]⟩
abbrev S112x1024 : Shape := ⟨2, ![112, 1024]⟩
abbrev S1024 : Shape := ⟨1, ![1024]⟩
abbrev S16512 : Shape := ⟨1, ![16512]⟩
abbrev S16512x1 : Shape := ⟨2, ![16512, 1]⟩
abbrev S16512x6176 : Shape := ⟨2, ![16512, 6176]⟩
abbrev S16512x4096 : Shape := ⟨2, ![16512, 4096]⟩
abbrev S16512x2048 : Shape := ⟨2, ![16512, 2048]⟩
abbrev S16512x32 : Shape := ⟨2, ![16512, 32]⟩

abbrev nBuf : Space → Nat
  | .hbm => 44
  | .vmem => 0
  | .smem => 0
  | _ => 0

abbrev bufTy : (tb : Table) → Fin (tcTables nBuf tb) → BufTy
  | .hbm, ⟨0, _⟩ => ⟨S16512x1024, .f32⟩
  | .hbm, ⟨1, _⟩ => ⟨S16512x1024, .f32⟩
  | .hbm, ⟨2, _⟩ => ⟨S16384x1024, .f32⟩
  | .hbm, ⟨3, _⟩ => ⟨S16x1024, .f32⟩
  | .hbm, ⟨4, _⟩ => ⟨S1024x1024, .f32⟩
  | .hbm, ⟨5, _⟩ => ⟨S1x1024, .f32⟩
  | .hbm, ⟨6, _⟩ => ⟨S1024x6176, .f32⟩
  | .hbm, ⟨7, _⟩ => ⟨S_, .f32⟩
  | .hbm, ⟨8, _⟩ => ⟨S112x1024, .f32⟩
  | .hbm, ⟨9, _⟩ => ⟨S16512x1024, .f32⟩
  | .hbm, ⟨10, _⟩ => ⟨S16512x1024, .f32⟩
  | .hbm, ⟨11, _⟩ => ⟨S16512x1024, .f32⟩
  | .hbm, ⟨12, _⟩ => ⟨S_, .f32⟩
  | .hbm, ⟨13, _⟩ => ⟨S16512x1024, .f32⟩
  | .hbm, ⟨14, _⟩ => ⟨S16512x1024, .f32⟩
  | .hbm, ⟨15, _⟩ => ⟨S_, .f32⟩
  | .hbm, ⟨16, _⟩ => ⟨S16512x1024, .f32⟩
  | .hbm, ⟨17, _⟩ => ⟨S16512x1024, .f32⟩
  | .hbm, ⟨18, _⟩ => ⟨S16512x1024, .f32⟩
  | .hbm, ⟨19, _⟩ => ⟨S16512x1024, .f32⟩
  | .hbm, ⟨20, _⟩ => ⟨S16512x1024, .f32⟩
  | .hbm, ⟨21, _⟩ => ⟨S16512x1024, .f32⟩
  | .hbm, ⟨22, _⟩ => ⟨S1024, .f32⟩
  | .hbm, ⟨23, _⟩ => ⟨S16512x1024, .f32⟩
  | .hbm, ⟨24, _⟩ => ⟨S_, .f32⟩
  | .hbm, ⟨25, _⟩ => ⟨S16512, .f32⟩
  | .hbm, ⟨26, _⟩ => ⟨S16512x1, .f32⟩
  | .hbm, ⟨27, _⟩ => ⟨S_, .f32⟩
  | .hbm, ⟨28, _⟩ => ⟨S16512x1, .f32⟩
  | .hbm, ⟨29, _⟩ => ⟨S16512x1, .f32⟩
  | .hbm, ⟨30, _⟩ => ⟨S_, .f32⟩
  | .hbm, ⟨31, _⟩ => ⟨S16512x1, .f32⟩
  | .hbm, ⟨32, _⟩ => ⟨S16512x1, .f32⟩
  | .hbm, ⟨33, _⟩ => ⟨S16512x1, .f32⟩
  | .hbm, ⟨34, _⟩ => ⟨S16512x1024, .f32⟩
  | .hbm, ⟨35, _⟩ => ⟨S16512x1024, .f32⟩
  | .hbm, ⟨36, _⟩ => ⟨S1x1024, .f32⟩
  | .hbm, ⟨37, _⟩ => ⟨S16512x1024, .f32⟩
  | .hbm, ⟨38, _⟩ => ⟨S16512x1024, .f32⟩
  | .hbm, ⟨39, _⟩ => ⟨S16512x6176, .f32⟩
  | .hbm, ⟨40, _⟩ => ⟨S16512x4096, .f32⟩
  | .hbm, ⟨41, _⟩ => ⟨S16512x2048, .f32⟩
  | .hbm, ⟨42, _⟩ => ⟨S16512x32, .f32⟩
  | .hbm, ⟨43, _⟩ => ⟨S16512x1024, .bf16⟩
  | _, _ => ⟨S16512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== KernelLoss.lean ====
abbrev S16512x2048 : Shape := ⟨2, ![16512, 2048]⟩
abbrev S16512x1024 : Shape := ⟨2, ![16512, 1024]⟩
abbrev S16384x1024 : Shape := ⟨2, ![16384, 1024]⟩
abbrev S2048x1024 : Shape := ⟨2, ![2048, 1024]⟩
abbrev S1x128 : Shape := ⟨2, ![1, 128]⟩
abbrev S384x2048 : Shape := ⟨2, ![384, 2048]⟩
abbrev S384x1024 : Shape := ⟨2, ![384, 1024]⟩
abbrev S128x1024 : Shape := ⟨2, ![128, 1024]⟩
abbrev S384x128 : Shape := ⟨2, ![384, 128]⟩
abbrev S384 : Shape := ⟨1, ![384]⟩
abbrev S384x1 : Shape := ⟨2, ![384, 1]⟩
abbrev S1x384x1024 : Shape := ⟨3, ![1, 384, 1024]⟩
abbrev S1 : Shape := ⟨1, ![1]⟩
abbrev S1x1x1 : Shape := ⟨3, ![1, 1, 1]⟩

abbrev nBuf : Space → Nat
  | .hbm => 10
  | .vmem => 19
  | .smem => 0
  | _ => 0

abbrev bufTy : (tb : Table) → Fin (tcTables nBuf tb) → BufTy
  | .hbm, ⟨0, _⟩ => ⟨S16512x2048, .f32⟩
  | .hbm, ⟨1, _⟩ => ⟨S16512x2048, .f32⟩
  | .hbm, ⟨2, _⟩ => ⟨S16512x1024, .f32⟩
  | .hbm, ⟨3, _⟩ => ⟨S16384x1024, .f32⟩
  | .hbm, ⟨4, _⟩ => ⟨S2048x1024, .f32⟩
  | .hbm, ⟨5, _⟩ => ⟨S1x128, .f32⟩
  | .hbm, ⟨6, _⟩ => ⟨S2048x1024, .bf16⟩
  | .hbm, ⟨7, _⟩ => ⟨S16512x1024, .f32⟩
  | .hbm, ⟨8, _⟩ => ⟨S16512x2048, .bf16⟩
  | .hbm, ⟨9, _⟩ => ⟨S1x128, .f32⟩
  | .local _ .vmem, ⟨0, _⟩ => ⟨S384x2048, .f32⟩
  | .local _ .vmem, ⟨1, _⟩ => ⟨S384x2048, .f32⟩
  | .local _ .vmem, ⟨2, _⟩ => ⟨S384x2048, .f32⟩
  | .local _ .vmem, ⟨3, _⟩ => ⟨S384x2048, .f32⟩
  | .local _ .vmem, ⟨4, _⟩ => ⟨S384x1024, .f32⟩
  | .local _ .vmem, ⟨5, _⟩ => ⟨S384x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S2048x1024, .bf16⟩
  | .local _ .vmem, ⟨13, _⟩ => ⟨S1x128, .f32⟩
  | .local _ .vmem, ⟨14, _⟩ => ⟨S384x1024, .f32⟩
  | .local _ .vmem, ⟨15, _⟩ => ⟨S384x1024, .f32⟩
  | .local _ .vmem, ⟨16, _⟩ => ⟨S384x2048, .bf16⟩
  | .local _ .vmem, ⟨17, _⟩ => ⟨S384x2048, .bf16⟩
  | .local _ .vmem, ⟨18, _⟩ => ⟨S1x128, .f32⟩
  | _, _ => ⟨S16512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.addi v1 c0_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_4 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c1_i32_0 : BitVec 32 := 1#32
  let v2 : BitVec 32 := Scalar.addi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_5 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c2_i32 : BitVec 32 := 2#32
  let v2 : BitVec 32 := Scalar.addi v1 c2_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceLossIdeal.lean ====
abbrev S16512x2048 : Shape := ⟨2, ![16512, 2048]⟩
abbrev S16512x1024 : Shape := ⟨2, ![16512, 1024]⟩
abbrev S16384x1024 : Shape := ⟨2, ![16384, 1024]⟩
abbrev S2048x1024 : Shape := ⟨2, ![2048, 1024]⟩
abbrev S1x128 : Shape := ⟨2, ![1, 128]⟩
abbrev S16512x16x128 : Shape := ⟨3, ![16512, 16, 128]⟩
abbrev S128 : Shape := ⟨1, ![128]⟩
abbrev S_ : Shape := ⟨0, ![]⟩
abbrev S16512x16 : Shape := ⟨2, ![16512, 16]⟩
abbrev S16512x16x1 : Shape := ⟨3, ![16512, 16, 1]⟩
abbrev S1x1x128 : Shape := ⟨3, ![1, 1, 128]⟩
abbrev S16384 : Shape := ⟨1, ![16384]⟩

abbrev nBuf : Space → Nat
  | .hbm => 66
  | .vmem => 0
  | .smem => 0
  | _ => 0

abbrev bufTy : (tb : Table) → Fin (tcTables nBuf tb) → BufTy
  | .hbm, ⟨0, _⟩ => ⟨S16512x2048, .f32⟩
  | .hbm, ⟨1, _⟩ => ⟨S16512x2048, .f32⟩
  | .hbm, ⟨2, _⟩ => ⟨S16512x1024, .f32⟩
  | .hbm, ⟨3, _⟩ => ⟨S16384x1024, .f32⟩
  | .hbm, ⟨4, _⟩ => ⟨S2048x1024, .f32⟩
  | .hbm, ⟨5, _⟩ => ⟨S1x128, .f32⟩
  | .hbm, ⟨6, _⟩ => ⟨S16512x16x128, .f32⟩
  | .hbm, ⟨7, _⟩ => ⟨S128, .f32⟩
  | .hbm, ⟨8, _⟩ => ⟨S16512x16x128, .f32⟩
  | .hbm, ⟨9, _⟩ => ⟨S_, .f32⟩
  | .hbm, ⟨10, _⟩ => ⟨S16512x16, .f32⟩
  | .hbm, ⟨11, _⟩ => ⟨S16512x16x1, .f32⟩
  | .hbm, ⟨12, _⟩ => ⟨S_, .f32⟩
  | .hbm, ⟨13, _⟩ => ⟨S16512x16x1, .f32⟩
  | .hbm, ⟨14, _⟩ => ⟨S16512x16x1, .f32⟩
  | .hbm, ⟨15, _⟩ => ⟨S_, .f32⟩
  | .hbm, ⟨16, _⟩ => ⟨S16512x16x1, .f32⟩
  | .hbm, ⟨17, _⟩ => ⟨S16512x16x1, .f32⟩
  | .hbm, ⟨18, _⟩ => ⟨S16512x16x1, .f32⟩
  | .hbm, ⟨19, _⟩ => ⟨S16512x16x128, .f32⟩
  | .hbm, ⟨20, _⟩ => ⟨S16512x16x128, .f32⟩
  | .hbm, ⟨21, _⟩ => ⟨S1x1x128, .f32⟩
  | .hbm, ⟨22, _⟩ => ⟨S16512x16x128, .f32⟩
  | .hbm, ⟨23, _⟩ => ⟨S16512x16x128, .f32⟩
  | .hbm, ⟨24, _⟩ => ⟨S16512x16x128, .f32⟩
  | .hbm, ⟨25, _⟩ => ⟨S16512x16x128, .f32⟩
  | .hbm, ⟨26, _⟩ => ⟨S16512x16x128, .f32⟩
  | .hbm, ⟨27, _⟩ => ⟨S_, .f32⟩
  | .hbm, ⟨28, _⟩ => ⟨S16512x16x128, .f32⟩
  | .hbm, ⟨29, _⟩ => ⟨S16512x16x128, .f32⟩
  | .hbm, ⟨30, _⟩ => ⟨S_, .f32⟩
  | .hbm, ⟨31, _⟩ => ⟨S16512x16x128, .f32⟩
  | .hbm, ⟨32, _⟩ => ⟨S16512x16x128, .f32⟩
  | .hbm, ⟨33, _⟩ => ⟨S16512x16x128, .f32⟩
  | .hbm, ⟨34, _⟩ => ⟨S16512x16x128, .f32⟩
  | .hbm, ⟨35, _⟩ => ⟨S16512x2048, .f32⟩
  | .hbm, ⟨36, _⟩ => ⟨S16512x1024, .f32⟩
  | .hbm, ⟨37, _⟩ => ⟨S16512x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16512x1024, .f32⟩
  | .hbm, ⟨64, _⟩ => ⟨S16512x2048, .bf16⟩
  | .hbm, ⟨65, _⟩ => ⟨S1x128, .f32⟩
  | _, _ => ⟨S16512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_cst_7 : Ref sig .tc := ⟨.hbm, 53, rfl⟩
abbrev main_cst_8 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_10 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩

abbrev nD : Nat := 1
abbrev τ : Topo := Topo.v7x

variable {F : FTy → Type} [FloatOps F]
-- ==== KernelConv.lean ====
abbrev S16512x4096 : Shape := ⟨2, ![16512, 4096]⟩
abbrev S16512x32 : Shape := ⟨2, ![16512, 32]⟩
abbrev S4x4096 : Shape := ⟨2, ![4, 4096]⟩
abbrev S1x16 : Shape := ⟨2, ![1, 16]⟩
abbrev S16512x1024 : Shape := ⟨2, ![16512, 1024]⟩
abbrev S16512x2048 : Shape := ⟨2, ![16512, 2048]⟩
abbrev S384x4096 : Shape := ⟨2, ![384, 4096]⟩
abbrev S384x32 : Shape := ⟨2, ![384, 32]⟩
abbrev S8x4096 : Shape := ⟨2, ![8, 4096]⟩
abbrev S384x1024 : Shape := ⟨2, ![384, 1024]⟩
abbrev S384x2048 : Shape := ⟨2, ![384, 2048]⟩
abbrev S384x128 : Shape := ⟨2, ![384, 128]⟩
abbrev S8x128 : Shape := ⟨2, ![8, 128]⟩
abbrev S376x128 : Shape := ⟨2, ![376, 128]⟩
abbrev S4x128 : Shape := ⟨2, ![4, 128]⟩
abbrev S1x128 : Shape := ⟨2, ![1, 128]⟩
abbrev S384 : Shape := ⟨1, ![384]⟩
abbrev S384x1 : Shape := ⟨2, ![384, 1]⟩
abbrev S384x16 : Shape := ⟨2, ![384, 16]⟩

abbrev nBuf : Space → Nat
  | .hbm => 10
  | .vmem => 19
  | .smem => 0
  | _ => 0

abbrev bufTy : (tb : Table) → Fin (tcTables nBuf tb) → BufTy
  | .hbm, ⟨0, _⟩ => ⟨S16512x4096, .f32⟩
  | .hbm, ⟨1, _⟩ => ⟨S16512x32, .f32⟩
  | .hbm, ⟨2, _⟩ => ⟨S4x4096, .f32⟩
  | .hbm, ⟨3, _⟩ => ⟨S1x16, .f32⟩
  | .hbm, ⟨4, _⟩ => ⟨S1x16, .f32⟩
  | .hbm, ⟨5, _⟩ => ⟨S16512x1024, .f32⟩
  | .hbm, ⟨6, _⟩ => ⟨S16512x1024, .f32⟩
  | .hbm, ⟨7, _⟩ => ⟨S16512x2048, .f32⟩
  | .hbm, ⟨8, _⟩ => ⟨S16512x32, .f32⟩
  | .hbm, ⟨9, _⟩ => ⟨S16512x4096, .bf16⟩
  | .local _ .vmem, ⟨0, _⟩ => ⟨S384x4096, .f32⟩
  | .local _ .vmem, ⟨1, _⟩ => ⟨S384x4096, .f32⟩
  | .local _ .vmem, ⟨2, _⟩ => ⟨S384x32, .f32⟩
  | .local _ .vmem, ⟨3, _⟩ => ⟨S384x32, .f32⟩
  | .local _ .vmem, ⟨4, _⟩ => ⟨S8x4096, .f32⟩
  | .local _ .vmem, ⟨5, _⟩ => ⟨S8x4096, .f32⟩
  | .local _ .vmem, ⟨6, _⟩ => ⟨S4x4096, .f32⟩
  | .local _ .vmem, ⟨7, _⟩ => ⟨S1x16, .f32⟩
  | .local _ .vmem, ⟨8, _⟩ => ⟨S1x16, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x2048, .f32⟩
  | .local _ .vmem, ⟨14, _⟩ => ⟨S384x2048, .f32⟩
  | .local _ .vmem, ⟨15, _⟩ => ⟨S384x32, .f32⟩
  | .local _ .vmem, ⟨16, _⟩ => ⟨S384x32, .f32⟩
  | .local _ .vmem, ⟨17, _⟩ => ⟨S384x4096, .bf16⟩
  | .local _ .vmem, ⟨18, _⟩ => ⟨S384x4096, .bf16⟩
  | _, _ => ⟨S16512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c48_i32 : BitVec 32 := 48#32
  let v0 : BitVec 32 := Scalar.muli arg0 c48_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceConvIdeal.lean ====
abbrev S16512x4096 : Shape := ⟨2, ![16512, 4096]⟩
abbrev S16512x32 : Shape := ⟨2, ![16512, 32]⟩
abbrev S4x4096 : Shape := ⟨2, ![4, 4096]⟩
abbrev S1x16 : Shape := ⟨2, ![1, 16]⟩
abbrev S_ : Shape := ⟨0, ![]⟩
abbrev S16515x4096 : Shape := ⟨2, ![16515, 4096]⟩
abbrev S1x4096 : Shape := ⟨2, ![1, 4096]⟩
abbrev S4096 : Shape := ⟨1, ![4096]⟩
abbrev S16512x1024 : Shape := ⟨2, ![16512, 1024]⟩
abbrev S16512x2048 : Shape := ⟨2, ![16512, 2048]⟩
abbrev S16512x8x128 : Shape := ⟨3, ![16512, 8, 128]⟩
abbrev S16512x8 : Shape := ⟨2, ![16512, 8]⟩
abbrev S16512x8x1 : Shape := ⟨3, ![16512, 8, 1]⟩
abbrev S16400x32 : Shape := ⟨2, ![16400, 32]⟩
abbrev S16400x16 : Shape := ⟨2, ![16400, 16]⟩
abbrev S16 : Shape := ⟨1, ![16]⟩

abbrev nBuf : Space → Nat
  | .hbm => 117
  | .vmem => 0
  | .smem => 0
  | _ => 0

abbrev bufTy : (tb : Table) → Fin (tcTables nBuf tb) → BufTy
  | .hbm, ⟨0, _⟩ => ⟨S16512x4096, .f32⟩
  | .hbm, ⟨1, _⟩ => ⟨S16512x32, .f32⟩
  | .hbm, ⟨2, _⟩ => ⟨S4x4096, .f32⟩
  | .hbm, ⟨3, _⟩ => ⟨S1x16, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S16515x4096, .f32⟩
  | .hbm, ⟨8, _⟩ => ⟨S1x4096, .f32⟩
  | .hbm, ⟨9, _⟩ => ⟨S4096, .f32⟩
  | .hbm, ⟨10, _⟩ => ⟨S16512x4096, .f32⟩
  | .hbm, ⟨11, _⟩ => ⟨S1x4096, .f32⟩
  | .hbm, ⟨12, _⟩ => ⟨S16512x4096, .f32⟩
  | .hbm, ⟨13, _⟩ => ⟨S16512x4096, .f32⟩
  | .hbm, ⟨14, _⟩ => ⟨S_, .f32⟩
  | .hbm, ⟨15, _⟩ => ⟨S16512x4096, .f32⟩
  | .hbm, ⟨16, _⟩ => ⟨S16512x4096, .f32⟩
  | .hbm, ⟨17, _⟩ => ⟨S1x4096, .f32⟩
  | .hbm, ⟨18, _⟩ => ⟨S4096, .f32⟩
  | .hbm, ⟨19, _⟩ => ⟨S16512x4096, .f32⟩
  | .hbm, ⟨20, _⟩ => ⟨S1x4096, .f32⟩
  | .hbm, ⟨21, _⟩ => ⟨S16512x4096, .f32⟩
  | .hbm, ⟨22, _⟩ => ⟨S16512x4096, .f32⟩
  | .hbm, ⟨23, _⟩ => ⟨S16512x4096, .f32⟩
  | .hbm, ⟨24, _⟩ => ⟨S1x4096, .f32⟩
  | .hbm, ⟨25, _⟩ => ⟨S4096, .f32⟩
  | .hbm, ⟨26, _⟩ => ⟨S16512x4096, .f32⟩
  | .hbm, ⟨27, _⟩ => ⟨S1x4096, .f32⟩
  | .hbm, ⟨28, _⟩ => ⟨S16512x4096, .f32⟩
  | .hbm, ⟨29, _⟩ => ⟨S16512x4096, .f32⟩
  | .hbm, ⟨30, _⟩ => ⟨S16512x4096, .f32⟩
  | .hbm, ⟨31, _⟩ => ⟨S1x4096, .f32⟩
  | .hbm, ⟨32, _⟩ => ⟨S4096, .f32⟩
  | .hbm, ⟨33, _⟩ => ⟨S16512x4096, .f32⟩
  | .hbm, ⟨34, _⟩ => ⟨S1x4096, .f32⟩
  | .hbm, ⟨35, _⟩ => ⟨S16512x4096, .f32⟩
  | .hbm, ⟨36, _⟩ => ⟨S16512x4096, .f32⟩
  | .hbm, ⟨37, _⟩ => ⟨S16512x4096, .f32⟩
  | .hbm, ⟨38, _⟩ => ⟨S16512x4096, .f32⟩
  | .hbm, ⟨39, _⟩ => ⟨S16512x4096, .f32⟩
  | .hbm, ⟨40, _⟩ => ⟨S_, .f32⟩
  | .hbm, ⟨41, _⟩ => ⟨S16512x4096, .f32⟩
  | .hbm, ⟨42, _⟩ => ⟨S16512x4096, .f32⟩
  | .hbm, ⟨43, _⟩ => ⟨S_, .f32⟩
  | .hbm, ⟨44, _⟩ => ⟨S16512x4096, .f32⟩
  | .hbm, ⟨45, _⟩ => ⟨S16512x4096, .f32⟩
  | .hbm, ⟨46, _⟩ => ⟨S16512x4096, .f32⟩
  | .hbm, ⟨47, _⟩ => ⟨S16512x1024, .f32⟩
  | .hbm, ⟨48, _⟩ => ⟨S16512x1024, .f32⟩
  | .hbm, ⟨49, _⟩ => ⟨S16512x2048, .f32⟩
  | .hbm, ⟨50, _⟩ => ⟨S16512x8x128, .f32⟩
  | .hbm, ⟨51, _⟩ => ⟨S16512x8x128, .f32⟩
  | .hbm, ⟨52, _⟩ => ⟨S_, .f32⟩
  | .hbm, ⟨53, _⟩ => ⟨S16512x8, .f32⟩
  | .hbm, ⟨54, _⟩ => ⟨S16512x8x1, .f32⟩
  | .hbm, ⟨55, _⟩ => ⟨S_, .f32⟩
  | .hbm, ⟨56, _⟩ => ⟨S16512x8x1, .f32⟩
  | .hbm, ⟨57, _⟩ => ⟨S16512x8x1, .f32⟩
  | .hbm, ⟨58, _⟩ => ⟨S16512x8x1, .f32⟩
  | .hbm, ⟨59, _⟩ => ⟨S16512x8x128, .f32⟩
  | .hbm, ⟨60, _⟩ => ⟨S16512x8x128, .f32⟩
  | .hbm, ⟨61, _⟩ => ⟨S_, .f32⟩
  | .hbm, ⟨62, _⟩ => ⟨S16512x8x128, .f32⟩
  | .hbm, ⟨63, _⟩ => ⟨S16512x8x128, .f32⟩
  | .hbm, ⟨64, _⟩ => ⟨S16512x8x128, .f32⟩
  | .hbm, ⟨65, _⟩ => ⟨S16512x8x128, .f32⟩
  | .hbm, ⟨66, _⟩ => ⟨S_, .f32⟩
  | .hbm, ⟨67, _⟩ => ⟨S16512x8, .f32⟩
  | .hbm, ⟨68, _⟩ => ⟨S16512x8x1, .f32⟩
  | .hbm, ⟨69, _⟩ => ⟨S_, .f32⟩
  | .hbm, ⟨70, _⟩ => ⟨S16512x8x1, .f32⟩
  | .hbm, ⟨71, _⟩ => ⟨S16512x8x1, .f32⟩
  | .hbm, ⟨72, _⟩ => ⟨S16512x8x1, .f32⟩
  | .hbm, ⟨73, _⟩ => ⟨S16512x8x128, .f32⟩
  | .hbm, ⟨74, _⟩ => ⟨S16512x8x128, .f32⟩
  | .hbm, ⟨75, _⟩ => ⟨S16400x32, .f32⟩
  | .hbm, ⟨76, _⟩ => ⟨S16400x16, .f32⟩
  | .hbm, ⟨77, _⟩ => ⟨S16400x16, .f32⟩
  | .hbm, ⟨78, _⟩ => ⟨S16400x16, .f32⟩
  | .hbm, ⟨79, _⟩ => ⟨S16400x16, .f32⟩
  | .hbm, ⟨80, _⟩ => ⟨S_, .f32⟩
  | .hbm, ⟨81, _⟩ => ⟨S16400x16, .f32⟩
  | .hbm, ⟨82, _⟩ => ⟨S16400x16, .f32⟩
  | .hbm, ⟨83, _⟩ => ⟨S_, .f32⟩
  | .hbm, ⟨84, _⟩ => ⟨S16400x16, .f32⟩
  | .hbm, ⟨85, _⟩ => ⟨S16400x16, .f32⟩
  | .hbm, ⟨86, _⟩ => ⟨S16, .f32⟩
  | .hbm, ⟨87, _⟩ => ⟨S16, .f32⟩
  | .hbm, ⟨88, _⟩ => ⟨S16, .f32⟩
  | .hbm, ⟨89, _⟩ => ⟨S16, .f32⟩
  | .hbm, ⟨90, _⟩ => ⟨S1x16, .f32⟩
  | .hbm, ⟨91, _⟩ => ⟨S16400x16, .f32⟩
  | .hbm, ⟨92, _⟩ => ⟨S16400x16, .f32⟩
  | .hbm, ⟨93, _⟩ => ⟨S_, .f32⟩
  | .hbm, ⟨94, _⟩ => ⟨S16400x16, .f32⟩
  | .hbm, ⟨95, _⟩ => ⟨S16400x16, .f32⟩
  | .hbm, ⟨96, _⟩ => ⟨S16400x16, .f32⟩
  | .hbm, ⟨97, _⟩ => ⟨S16400x16, .f32⟩
  | .hbm, ⟨98, _⟩ => ⟨S16400x16, .i1⟩
  | .hbm, ⟨99, _⟩ => ⟨S16400x16, .f32⟩
  | .hbm, ⟨100, _⟩ => ⟨S16400x16, .f32⟩
  | .hbm, ⟨101, _⟩ => ⟨S16400x16, .f32⟩
  | .hbm, ⟨102, _⟩ => ⟨S16400x16, .f32⟩
  | .hbm, ⟨103, _⟩ => ⟨S16400x16, .f32⟩
  | .hbm, ⟨104, _⟩ => ⟨S16400x16, .f32⟩
  | .hbm, ⟨105, _⟩ => ⟨S16400x16, .f32⟩
  | .hbm, ⟨106, _⟩ => ⟨S16400x16, .f32⟩
  | .hbm, ⟨107, _⟩ => ⟨S1x16, .f32⟩
  | .hbm, ⟨108, _⟩ => ⟨S16400x16, .f32⟩
  | .hbm, ⟨109, _⟩ => ⟨S16400x16, .f32⟩
  | .hbm, ⟨110, _⟩ => ⟨S16400x32, .f32⟩
  | .hbm, ⟨111, _⟩ => ⟨S16512x1024, .f32⟩
  | .hbm, ⟨112, _⟩ => ⟨S16512x1024, .f32⟩
  | .hbm, ⟨113, _⟩ => ⟨S_, .i32⟩
  | .hbm, ⟨114, _⟩ => ⟨S_, .f32⟩
  | .hbm, ⟨115, _⟩ => ⟨S16512x32, .f32⟩
  | .hbm, ⟨116, _⟩ => ⟨S16512x4096, .bf16⟩
  | _, _ => ⟨S16512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_0 : Ref sig .tc := ⟨.hbm, 52, rfl⟩
abbrev main_v36 : Ref sig .tc := ⟨.hbm, 53, rfl⟩
abbrev main_v37 : Ref sig .tc := ⟨.hbm, 54, rfl⟩
abbrev main_cst_1 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_2 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_3 : Ref sig .tc := ⟨.hbm, 66, rfl⟩
abbrev main_v47 : Ref sig .tc := ⟨.hbm, 67, rfl⟩
abbrev main_v48 : Ref sig .tc := ⟨.hbm, 68, rfl⟩
abbrev main_cst_4 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_5 : Ref sig .tc := ⟨.hbm, 80, rfl⟩
abbrev main_v59 : Ref sig .tc := ⟨.hbm, 81, rfl⟩
abbrev main_v60 : Ref sig .tc := ⟨.hbm, 82, rfl⟩
abbrev main_cst_6 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_7 : Ref sig .tc := ⟨.hbm, 113, rfl⟩
abbrev main_call3_v0 : Ref sig .tc := ⟨.hbm, 114, rfl⟩
abbrev main_v77 : Ref sig .tc := ⟨.hbm, 115, rfl⟩
abbrev main_v78 : Ref sig .tc := ⟨.hbm, 116, rfl⟩

abbrev nD : Nat := 1
abbrev τ : Topo := Topo.v7x

variable {F : FTy → Type} [FloatOps F]
-- ==== KernelPairA.lean ====
abbrev S4096x1060 : Shape := ⟨2, ![4096, 1060]⟩
abbrev S128x1060 : Shape := ⟨2, ![128, 1060]⟩

abbrev nBuf : Space → Nat
  | .hbm => 3
  | .vmem => 6
  | .smem => 0
  | _ => 0

abbrev bufTy : (tb : Table) → Fin (tcTables nBuf tb) → BufTy
  | .hbm, ⟨0, _⟩ => ⟨S4096x1060, .bf16⟩
  | .hbm, ⟨1, _⟩ => ⟨S4096x1060, .bf16⟩
  | .hbm, ⟨2, _⟩ => ⟨S4096x1060, .bf16⟩
  | .local _ .vmem, ⟨0, _⟩ => ⟨S128x1060, .bf16⟩
  | .local _ .vmem, ⟨1, _⟩ => ⟨S128x1060, .bf16⟩
  | .local _ .vmem, ⟨2, _⟩ => ⟨S128x1060, .bf16⟩
  | .local _ .vmem, ⟨3, _⟩ => ⟨S128x1060, .bf16⟩
  | .local _ .vmem, ⟨4, _⟩ => ⟨S128x1060, .bf16⟩
  | .local _ .vmem, ⟨5, _⟩ => ⟨S128x1060, .bf16⟩
  | _, _ => ⟨S4096x1060, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1060 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1060 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1060 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePairAIdeal.lean ====
abbrev S4096x1060 : Shape := ⟨2, ![4096, 1060]⟩
abbrev S1x4096x1060 : Shape := ⟨3, ![1, 4096, 1060]⟩
abbrev S2x4096x1060 : Shape := ⟨3, ![2, 4096, 1060]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1060, .bf16⟩
  | .hbm, ⟨1, _⟩ => ⟨S4096x1060, .bf16⟩
  | .hbm, ⟨2, _⟩ => ⟨S1x4096x1060, .bf16⟩
  | .hbm, ⟨3, _⟩ => ⟨S1x4096x1060, .bf16⟩
  | .hbm, ⟨4, _⟩ => ⟨S2x4096x1060, .bf16⟩
  | .hbm, ⟨5, _⟩ => ⟨S2x4096x1060, .f32⟩
  | .hbm, ⟨6, _⟩ => ⟨S_, .f32⟩
  | .hbm, ⟨7, _⟩ => ⟨S4096x1060, .f32⟩
  | .hbm, ⟨8, _⟩ => ⟨S4096x1060, .bf16⟩
  | _, _ => ⟨S4096x1060, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelPairB.lean ====
abbrev S1536x1024 : Shape := ⟨2, ![1536, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1536x1024, .bf16⟩
  | .hbm, ⟨1, _⟩ => ⟨S1536x1024, .bf16⟩
  | .hbm, ⟨2, _⟩ => ⟨S1536x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePairBIdeal.lean ====
abbrev S1536x1024 : Shape := ⟨2, ![1536, 1024]⟩
abbrev S1x1536x1024 : Shape := ⟨3, ![1, 1536, 1024]⟩
abbrev S2x1536x1024 : Shape := ⟨3, ![2, 1536, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S1536x1024, .bf16⟩
  | .hbm, ⟨2, _⟩ => ⟨S1x1536x1024, .bf16⟩
  | .hbm, ⟨3, _⟩ => ⟨S1x1536x1024, .bf16⟩
  | .hbm, ⟨4, _⟩ => ⟨S2x1536x1024, .bf16⟩
  | .hbm, ⟨5, _⟩ => ⟨S2x1536x1024, .f32⟩
  | .hbm, ⟨6, _⟩ => ⟨S_, .f32⟩
  | .hbm, ⟨7, _⟩ => ⟨S1536x1024, .f32⟩
  | .hbm, ⟨8, _⟩ => ⟨S1536x1024, .bf16⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAdamA.lean ====
abbrev S4x1024x1060 : Shape := ⟨3, ![4, 1024, 1060]⟩
abbrev S1024x1060 : Shape := ⟨2, ![1024, 1060]⟩
abbrev S4x128x1060 : Shape := ⟨3, ![4, 128, 1060]⟩
abbrev S128x1060 : Shape := ⟨2, ![128, 1060]⟩
abbrev S1x128x1060 : Shape := ⟨3, ![1, 128, 1060]⟩

abbrev nBuf : Space → Nat
  | .hbm => 8
  | .vmem => 16
  | .smem => 0
  | _ => 0

abbrev bufTy : (tb : Table) → Fin (tcTables nBuf tb) → BufTy
  | .hbm, ⟨0, _⟩ => ⟨S4x1024x1060, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S1024x1060, .f32⟩
  | .hbm, ⟨5, _⟩ => ⟨S1024x1060, .f32⟩
  | .hbm, ⟨6, _⟩ => ⟨S1024x1060, .f32⟩
  | .hbm, ⟨7, _⟩ => ⟨S1024x1060, .f32⟩
  | .local _ .vmem, ⟨0, _⟩ => ⟨S4x128x1060, .bf16⟩
  | .local _ .vmem, ⟨1, _⟩ => ⟨S4x128x1060, .bf16⟩
  | .local _ .vmem, ⟨2, _⟩ => ⟨S128x1060, .f32⟩
  | .local _ .vmem, ⟨3, _⟩ => ⟨S128x1060, .f32⟩
  | .local _ .vmem, ⟨4, _⟩ => ⟨S128x1060, .f32⟩
  | .local _ .vmem, ⟨5, _⟩ => ⟨S128x1060, .f32⟩
  | .local _ .vmem, ⟨6, _⟩ => ⟨S128x1060, .f32⟩
  | .local _ .vmem, ⟨7, _⟩ => ⟨S128x1060, .f32⟩
  | .local _ .vmem, ⟨8, _⟩ => ⟨S128x1060, .f32⟩
  | .local _ .vmem, ⟨9, _⟩ => ⟨S128x1060, .f32⟩
  | .local _ .vmem, ⟨10, _⟩ => ⟨S128x1060, .f32⟩
  | .local _ .vmem, ⟨11, _⟩ => ⟨S128x1060, .f32⟩
  | .local _ .vmem, ⟨12, _⟩ => ⟨S128x1060, .f32⟩
  | .local _ .vmem, ⟨13, _⟩ => ⟨S128x1060, .f32⟩
  | .local _ .vmem, ⟨14, _⟩ => ⟨S128x1060, .f32⟩
  | .local _ .vmem, ⟨15, _⟩ => ⟨S128x1060, .f32⟩
  | _, _ => ⟨S4x1024x1060, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1060 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1060 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1060 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1060 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1060 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1060 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1060 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1060 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamAIdeal.lean ====
abbrev S4x1024x1060 : Shape := ⟨3, ![4, 1024, 1060]⟩
abbrev S1024x1060 : Shape := ⟨2, ![1024, 1060]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1060, .bf16⟩
  | .hbm, ⟨1, _⟩ => ⟨S1024x1060, .f32⟩
  | .hbm, ⟨2, _⟩ => ⟨S1024x1060, .f32⟩
  | .hbm, ⟨3, _⟩ => ⟨S1024x1060, .f32⟩
  | .hbm, ⟨4, _⟩ => ⟨S4x1024x1060, .f32⟩
  | .hbm, ⟨5, _⟩ => ⟨S_, .f32⟩
  | .hbm, ⟨6, _⟩ => ⟨S1024x1060, .f32⟩
  | .hbm, ⟨7, _⟩ => ⟨S_, .f32⟩
  | .hbm, ⟨8, _⟩ => ⟨S1024x1060, .f32⟩
  | .hbm, ⟨9, _⟩ => ⟨S1024x1060, .f32⟩
  | .hbm, ⟨10, _⟩ => ⟨S_, .f32⟩
  | .hbm, ⟨11, _⟩ => ⟨S1024x1060, .f32⟩
  | .hbm, ⟨12, _⟩ => ⟨S1024x1060, .f32⟩
  | .hbm, ⟨13, _⟩ => ⟨S1024x1060, .f32⟩
  | .hbm, ⟨14, _⟩ => ⟨S_, .f32⟩
  | .hbm, ⟨15, _⟩ => ⟨S1024x1060, .f32⟩
  | .hbm, ⟨16, _⟩ => ⟨S1024x1060, .f32⟩
  | .hbm, ⟨17, _⟩ => ⟨S1024x1060, .f32⟩
  | .hbm, ⟨18, _⟩ => ⟨S_, .f32⟩
  | .hbm, ⟨19, _⟩ => ⟨S1024x1060, .f32⟩
  | .hbm, ⟨20, _⟩ => ⟨S1024x1060, .f32⟩
  | .hbm, ⟨21, _⟩ => ⟨S1024x1060, .f32⟩
  | .hbm, ⟨22, _⟩ => ⟨S_, .f32⟩
  | .hbm, ⟨23, _⟩ => ⟨S1024x1060, .f32⟩
  | .hbm, ⟨24, _⟩ => ⟨S1024x1060, .f32⟩
  | .hbm, ⟨25, _⟩ => ⟨S_, .f32⟩
  | .hbm, ⟨26, _⟩ => ⟨S1024x1060, .f32⟩
  | .hbm, ⟨27, _⟩ => ⟨S1024x1060, .f32⟩
  | .hbm, ⟨28, _⟩ => ⟨S1024x1060, .f32⟩
  | .hbm, ⟨29, _⟩ => ⟨S_, .f32⟩
  | .hbm, ⟨30, _⟩ => ⟨S1024x1060, .f32⟩
  | .hbm, ⟨31, _⟩ => ⟨S1024x1060, .f32⟩
  | .hbm, ⟨32, _⟩ => ⟨S1024x1060, .f32⟩
  | .hbm, ⟨33, _⟩ => ⟨S_, .f32⟩
  | .hbm, ⟨34, _⟩ => ⟨S1024x1060, .f32⟩
  | .hbm, ⟨35, _⟩ => ⟨S1024x1060, .f32⟩
  | .hbm, ⟨36, _⟩ => ⟨S1024x1060, .f32⟩
  | .hbm, ⟨37, _⟩ => ⟨S_, .f32⟩
  | .hbm, ⟨38, _⟩ => ⟨S1024x1060, .f32⟩
  | .hbm, ⟨39, _⟩ => ⟨S1024x1060, .f32⟩
  | _, _ => ⟨S4x1024x1060, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamB.lean ====
abbrev S4x384x1024 : Shape := ⟨3, ![4, 384, 1024]⟩
abbrev S384x1024 : Shape := ⟨2, ![384, 1024]⟩
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S4x128x1024, .bf16⟩
  | .local _ .vmem, ⟨1, _⟩ => ⟨S4x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamBIdeal.lean ====
abbrev S4x384x1024 : Shape := ⟨3, ![4, 384, 1024]⟩
abbrev S384x1024 : Shape := ⟨2, ![384, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x384x1024, .bf16⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S4x384x1024, .f32⟩
  | .hbm, ⟨5, _⟩ => ⟨S_, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S_, .f32⟩
  | .hbm, ⟨11, _⟩ => ⟨S384x1024, .f32⟩
  | .hbm, ⟨12, _⟩ => ⟨S384x1024, .f32⟩
  | .hbm, ⟨13, _⟩ => ⟨S384x1024, .f32⟩
  | .hbm, ⟨14, _⟩ => ⟨S_, .f32⟩
  | .hbm, ⟨15, _⟩ => ⟨S384x1024, .f32⟩
  | .hbm, ⟨16, _⟩ => ⟨S384x1024, .f32⟩
  | .hbm, ⟨17, _⟩ => ⟨S384x1024, .f32⟩
  | .hbm, ⟨18, _⟩ => ⟨S_, .f32⟩
  | .hbm, ⟨19, _⟩ => ⟨S384x1024, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S_, .f32⟩
  | .hbm, ⟨26, _⟩ => ⟨S384x1024, .f32⟩
  | .hbm, ⟨27, _⟩ => ⟨S384x1024, .f32⟩
  | .hbm, ⟨28, _⟩ => ⟨S384x1024, .f32⟩
  | .hbm, ⟨29, _⟩ => ⟨S_, .f32⟩
  | .hbm, ⟨30, _⟩ => ⟨S384x1024, .f32⟩
  | .hbm, ⟨31, _⟩ => ⟨S384x1024, .f32⟩
  | .hbm, ⟨32, _⟩ => ⟨S384x1024, .f32⟩
  | .hbm, ⟨33, _⟩ => ⟨S_, .f32⟩
  | .hbm, ⟨34, _⟩ => ⟨S384x1024, .f32⟩
  | .hbm, ⟨35, _⟩ => ⟨S384x1024, .f32⟩
  | .hbm, ⟨36, _⟩ => ⟨S384x1024, .f32⟩
  | .hbm, ⟨37, _⟩ => ⟨S_, .f32⟩
  | .hbm, ⟨38, _⟩ => ⟨S384x1024, .f32⟩
  | .hbm, ⟨39, _⟩ => ⟨S384x1024, .f32⟩
  | _, _ => ⟨S4x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamC.lean ====
abbrev S8x40x128 : Shape := ⟨3, ![8, 40, 128]⟩
abbrev S40x128 : Shape := ⟨2, ![40, 128]⟩
abbrev S1x40x128 : Shape := ⟨3, ![1, 40, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S40x128, .f32⟩
  | .hbm, ⟨5, _⟩ => ⟨S40x128, .f32⟩
  | .hbm, ⟨6, _⟩ => ⟨S40x128, .f32⟩
  | .hbm, ⟨7, _⟩ => ⟨S40x128, .f32⟩
  | .local _ .vmem, ⟨0, _⟩ => ⟨S8x40x128, .f32⟩
  | .local _ .vmem, ⟨1, _⟩ => ⟨S40x128, .f32⟩
  | .local _ .vmem, ⟨2, _⟩ => ⟨S40x128, .f32⟩
  | .local _ .vmem, ⟨3, _⟩ => ⟨S40x128, .f32⟩
  | .local _ .vmem, ⟨4, _⟩ => ⟨S40x128, .f32⟩
  | .local _ .vmem, ⟨5, _⟩ => ⟨S40x128, .f32⟩
  | .local _ .vmem, ⟨6, _⟩ => ⟨S40x128, .f32⟩
  | .local _ .vmem, ⟨7, _⟩ => ⟨S40x128, .f32⟩
  | _, _ => ⟨S8x40x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S40x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S40x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S40x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S40x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S40x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S40x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamCIdeal.lean ====
abbrev S8x40x128 : Shape := ⟨3, ![8, 40, 128]⟩
abbrev S40x128 : Shape := ⟨2, ![40, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x40x128, .f32⟩
  | .hbm, ⟨1, _⟩ => ⟨S40x128, .f32⟩
  | .hbm, ⟨2, _⟩ => ⟨S40x128, .f32⟩
  | .hbm, ⟨3, _⟩ => ⟨S40x128, .f32⟩
  | .hbm, ⟨4, _⟩ => ⟨S_, .f32⟩
  | .hbm, ⟨5, _⟩ => ⟨S40x128, .f32⟩
  | .hbm, ⟨6, _⟩ => ⟨S_, .f32⟩
  | .hbm, ⟨7, _⟩ => ⟨S40x128, .f32⟩
  | .hbm, ⟨8, _⟩ => ⟨S40x128, .f32⟩
  | .hbm, ⟨9, _⟩ => ⟨S_, .f32⟩
  | .hbm, ⟨10, _⟩ => ⟨S40x128, .f32⟩
  | .hbm, ⟨11, _⟩ => ⟨S40x128, .f32⟩
  | .hbm, ⟨12, _⟩ => ⟨S40x128, .f32⟩
  | .hbm, ⟨13, _⟩ => ⟨S_, .f32⟩
  | .hbm, ⟨14, _⟩ => ⟨S40x128, .f32⟩
  | .hbm, ⟨15, _⟩ => ⟨S40x128, .f32⟩
  | .hbm, ⟨16, _⟩ => ⟨S40x128, .f32⟩
  | .hbm, ⟨17, _⟩ => ⟨S_, .f32⟩
  | .hbm, ⟨18, _⟩ => ⟨S40x128, .f32⟩
  | .hbm, ⟨19, _⟩ => ⟨S40x128, .f32⟩
  | .hbm, ⟨20, _⟩ => ⟨S40x128, .f32⟩
  | .hbm, ⟨21, _⟩ => ⟨S_, .f32⟩
  | .hbm, ⟨22, _⟩ => ⟨S40x128, .f32⟩
  | .hbm, ⟨23, _⟩ => ⟨S40x128, .f32⟩
  | .hbm, ⟨24, _⟩ => ⟨S_, .f32⟩
  | .hbm, ⟨25, _⟩ => ⟨S40x128, .f32⟩
  | .hbm, ⟨26, _⟩ => ⟨S40x128, .f32⟩
  | .hbm, ⟨27, _⟩ => ⟨S40x128, .f32⟩
  | .hbm, ⟨28, _⟩ => ⟨S_, .f32⟩
  | .hbm, ⟨29, _⟩ => ⟨S40x128, .f32⟩
  | .hbm, ⟨30, _⟩ => ⟨S40x128, .f32⟩
  | .hbm, ⟨31, _⟩ => ⟨S40x128, .f32⟩
  | .hbm, ⟨32, _⟩ => ⟨S_, .f32⟩
  | .hbm, ⟨33, _⟩ => ⟨S40x128, .f32⟩
  | .hbm, ⟨34, _⟩ => ⟨S40x128, .f32⟩
  | .hbm, ⟨35, _⟩ => ⟨S40x128, .f32⟩
  | .hbm, ⟨36, _⟩ => ⟨S_, .f32⟩
  | .hbm, ⟨37, _⟩ => ⟨S40x128, .f32⟩
  | .hbm, ⟨38, _⟩ => ⟨S40x128, .f32⟩
  | _, _ => ⟨S8x40x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== KernelAdamS.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S16x128, .f32⟩
  | .hbm, ⟨5, _⟩ => ⟨S16x128, .f32⟩
  | .hbm, ⟨6, _⟩ => ⟨S16x128, .f32⟩
  | .hbm, ⟨7, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ReferenceAdamSIdeal.lean ====
abbrev S8x16x128 : Shape := ⟨3, ![8, 16, 128]⟩
abbrev S16x128 : Shape := ⟨2, ![16, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .hbm, ⟨3, _⟩ => ⟨S16x128, .f32⟩
  | .hbm, ⟨4, _⟩ => ⟨S_, .f32⟩
  | .hbm, ⟨5, _⟩ => ⟨S16x128, .f32⟩
  | .hbm, ⟨6, _⟩ => ⟨S_, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S16x128, .f32⟩
  | .hbm, ⟨13, _⟩ => ⟨S_, .f32⟩
  | .hbm, ⟨14, _⟩ => ⟨S16x128, .f32⟩
  | .hbm, ⟨15, _⟩ => ⟨S16x128, .f32⟩
  | .hbm, ⟨16, _⟩ => ⟨S16x128, .f32⟩
  | .hbm, ⟨17, _⟩ => ⟨S_, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S_, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S_, .f32⟩
  | .hbm, ⟨29, _⟩ => ⟨S16x128, .f32⟩
  | .hbm, ⟨30, _⟩ => ⟨S16x128, .f32⟩
  | .hbm, ⟨31, _⟩ => ⟨S16x128, .f32⟩
  | .hbm, ⟨32, _⟩ => ⟨S_, .f32⟩
  | .hbm, ⟨33, _⟩ => ⟨S16x128, .f32⟩
  | .hbm, ⟨34, _⟩ => ⟨S16x128, .f32⟩
  | .hbm, ⟨35, _⟩ => ⟨S16x128, .f32⟩
  | .hbm, ⟨36, _⟩ => ⟨S_, .f32⟩
  | .hbm, ⟨37, _⟩ => ⟨S16x128, .f32⟩
  | .hbm, ⟨38, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.GateRef.lean ====
module

public import proofs.«01_k».proof.Proof.Gen.ReferenceGateIdeal.Run
public import Idealize.ShloMosaic.PureOps.Ideal

/-! The reference's results as functions of its arguments, over the extended reals. -/

@[expose] public section

set_option maxRecDepth 16384

noncomputable section

namespace Cert.ReferenceGateIdeal.Value

open Cert.ReferenceGateIdeal Cert.ReferenceGateIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S16512x2048 .f32) (a2 : FVec Ideal S16512x2048 .f32) (a3 : FVec Ideal S2048x1024 .f32) (a4 : FVec Ideal S1x128 .f32) :
    FVec Ideal S16512x2048 .f32 :=
  (shapeCast _ (addf (addf (mulf (mulf (mulf (shapeCast _ (Host.dotGeneral dot_S16512x1024_S2048x1024_S16512x2048_1_1_0_0_n_n none a0 a3) shapeCasts_S16512x2048_S16512x16x128) (mulf (shapeCast _ a2 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128))))))) (broadcastInDim S16512x16x128 ![0, 1, 2] bcast_S1x1x128_S16512x16x128_0_1_2 (broadcastInDim S1x1x128 ![2] bcast_S128_S1x1x128_2 (shapeCast _ a4 shapeCasts_S1x128_S128)))) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (mulf (shapeCast _ a1 shapeCasts_S16512x2048_S16512x16x128) (broadcastInDim S16512x16x128 ![0, 1] bcast_S16512x16_S16512x16x128_0_1 (Host.reduceAdd (Host.divf (mulf (shapeCast _ (Host.reduceAdd (mulf (shapeCast _ a1 shapeCasts_S16512x2048_S16512x16x128) (mulf (mulf (shapeCast _ (Host.dotGeneral dot_S16512x1024_S2048x1024_S16512x2048_1_1_0_0_n_n none a0 a3) shapeCasts_S16512x2048_S16512x16x128) (mulf (shapeCast _ a2 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128))))))) (broadcastInDim S16512x16x128 ![0, 1, 2] bcast_S1x1x128_S16512x16x128_0_1_2 (broadcastInDim S1x1x128 ![2] bcast_S128_S1x1x128_2 (shapeCast _ a4 shapeCasts_S1x128_S128))))) (constant S_ .f32 0x00000000#32) reducesTo_S16512x16x128_S16512x16_d2 h_S_) shapeCasts_S16512x16_S16512x16x1) (mulf (broadcastInDim S16512x16x1 ![] bcast_S_S16512x16x1 (constant S_ .f32 0xBF000000#32)) (Host.divf (Host.rsqrt (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))) (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x1 ![] bcast_S_S16512x16x1 (constant S_ .f32 0x43000000#32))) (constant S_ .f32 0x00000000#32) reducesTo_S16512x16x1_S16512x16_d2 h_S_)))) (mulf (broadcastInDim S16512x16x128 ![0, 1] bcast_S16512x16_S16512x16x128_0_1 (Host.reduceAdd (Host.divf (mulf (shapeCast _ (Host.reduceAdd (mulf (shapeCast _ a1 shapeCasts_S16512x2048_S16512x16x128) (mulf (mulf (shapeCast _ (Host.dotGeneral dot_S16512x1024_S2048x1024_S16512x2048_1_1_0_0_n_n none a0 a3) shapeCasts_S16512x2048_S16512x16x128) (mulf (shapeCast _ a2 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128))))))) (broadcastInDim S16512x16x128 ![0, 1, 2] bcast_S1x1x128_S16512x16x128_0_1_2 (broadcastInDim S1x1x128 ![2] bcast_S128_S1x1x128_2 (shapeCast _ a4 shapeCasts_S1x128_S128))))) (constant S_ .f32 0x00000000#32) reducesTo_S16512x16x128_S16512x16_d2 h_S_) shapeCasts_S16512x16_S16512x16x1) (mulf (broadcastInDim S16512x16x1 ![] bcast_S_S16512x16x1 (constant S_ .f32 0xBF000000#32)) (Host.divf (Host.rsqrt (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))) (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x1 ![] bcast_S_S16512x16x1 (constant S_ .f32 0x43000000#32))) (constant S_ .f32 0x00000000#32) reducesTo_S16512x16x1_S16512x16_d2 h_S_)) (shapeCast _ a1 shapeCasts_S16512x2048_S16512x16x128))) shapeCasts_S16512x16x128_S16512x2048)

/-- Result 1 of the reference. -/
abbrev REF1 (a0 : FVec Ideal S16512x1024 .f32) (a1 : FVec Ideal S16512x2048 .f32) (a2 : FVec Ideal S16512x2048 .f32) (a3 : FVec Ideal S2048x1024 .f32) (a4 : FVec Ideal S1x128 .f32) :
    FVec Ideal S16512x2048 .f32 :=
  shapeCast _ (addf (mulf (mulf (mulf (mulf (shapeCast _ a1 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a4 shapeCasts_S1x128_S128)))) (shapeCast _ (Host.dotGeneral dot_S16512x1024_S2048x1024_S16512x2048_1_1_0_0_n_n none a0 a3) shapeCasts_S16512x2048_S16512x16x128)) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128)))))) (mulf (mulf (shapeCast _ a2 shapeCasts_S16512x2048_S16512x16x128) (mulf (mulf (mulf (shapeCast _ a1 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a4 shapeCasts_S1x128_S128)))) (shapeCast _ (Host.dotGeneral dot_S16512x1024_S2048x1024_S16512x2048_1_1_0_0_n_n none a0 a3) shapeCasts_S16512x2048_S16512x16x128))) (mulf (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128))))) (subf (broadcastInDim S16512x16x128 ![] bcast_S_S16512x16x128 (constant S_ .f32 0x3F800000#32)) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128))))))))) shapeCasts_S16512x16x128_S16512x2048

/-- Result 2 of the reference. -/
abbrev REF2 (a0 : FVec Ideal S16512x1024 .f32) (a1 : FVec Ideal S16512x2048 .f32) (a2 : FVec Ideal S16512x2048 .f32) (a3 : FVec Ideal S2048x1024 .f32) (a4 : FVec Ideal S1x128 .f32) :
    FVec Ideal S1x128 .f32 :=
  broadcastInDim S1x128 ![1] bcast_S128_S1x128_1 (Host.reduceAdd (shapeCast _ (Host.reduceAdd (mulf (mulf (shapeCast _ a1 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a1 shapeCasts_S16512x2048_S16512x16x128) (shapeCast _ a1 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (mulf (shapeCast _ (Host.dotGeneral dot_S16512x1024_S2048x1024_S16512x2048_1_1_0_0_n_n none a0 a3) shapeCasts_S16512x2048_S16512x16x128) (mulf (shapeCast _ a2 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a2 shapeCasts_S16512x2048_S16512x16x128)))))))) (constant S_ .f32 0x00000000#32) reducesTo_S16512x16x128_S128_d0_1 h_S_) shapeCasts_S128_S1x1x128) (constant S_ .f32 0x00000000#32) reducesTo_S1x1x128_S128_d0_1 h_S_)

end Cert.ReferenceGateIdeal.Value

end
-- ==== Proof.GateValue.lean ====
module

public import proofs.«01_k».proof.Proof.Gen.KernelGateIdeal.Value
public import proofs.«01_k».proof.Proof.GateRef
public import Idealize.ShloMosaic.Lib.Pipeline.ValueKit
public import Idealize.ShloMosaic.Lib.Pointwise
public import Idealize.ShloMosaic.Lib.Claim

/-! The backward pass of the mixer's gated, normalised output, entry by entry: each head's three gradients as plain
expressions over its 128 entries, the kernel's sixteen tile stores and its accumulated row as those expressions over a
grid point's blocks, and the reference's results as the same expressions over the whole arrays. -/

@[expose] public section

set_option maxRecDepth 16384

noncomputable section

open Idealize.ShloMosaic Idealize.ShloMosaic.TcCoe Idealize.SL.Sem
open Idealize.ShloMosaic.Pipeline (Dat)
open scoped BigOperators

namespace Cert.KernelGateIdeal.Value

open Cert.KernelGateIdeal Cert.KernelGateIdeal.Gen
open Cert.ReferenceGateIdeal.Value (REF0 REF1 REF2)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![t.val, 0]
    ∧ win0_6.index t = ![t.val, 0]
    ∧ win0_7.index t = ![0, 0] :=
  (by decide +kernel : ∀ t : Fin grid0.N, _)

/-- The mean square of a head's 128 entries, with the small constant added. -/
def vr (x : Fin 128 → EReal) : EReal :=
  Ideal.div (∑ k, x k * x k) (Ideal.ofBits .f32 1124073472#32) + Ideal.ofBits .f32 897988541#32

/-- What the normalisation's own derivative contributes, before the factor `x`. -/
def hs (g z x w : Fin 128 → EReal) : EReal :=
  ∑ _e : Fin 1, Ideal.div ((∑ k, x k * (g k * (z k * Ideal.logistic (z k)) * w k)) *
    (Ideal.ofBits .f32 3204448256#32 * Ideal.div (Ideal.rsqrt (vr x)) (vr x))) (Ideal.ofBits .f32 1124073472#32)

/-- One head's entry of the gradient of the mixer's output. -/
def headDo (g z x w : Fin 128 → EReal) (l : Fin 128) : EReal :=
  g l * (z l * Ideal.logistic (z l)) * w l * Ideal.rsqrt (vr x) + x l * hs g z x w + hs g z x w * x l

/-- One head's entry of the gradient of the gate. -/
def headDz (g z x w : Fin 128 → EReal) (l : Fin 128) : EReal :=
  x l * Ideal.rsqrt (vr x) * w l * g l * Ideal.logistic (z l)
    + z l * (x l * Ideal.rsqrt (vr x) * w l * g l) * (Ideal.logistic (z l) * (1 - Ideal.logistic (z l)))

/-- One head's and one row's term of the gradient of the norm's weight. -/
def headDw (g z x : Fin 128 → EReal) (l : Fin 128) : EReal :=
  x l * Ideal.rsqrt (vr x) * (g l * (z l * Ideal.logistic (z l)))

/-- The product of row `a` of the cotangent's block with row `n` of the weight. -/
def bdog (p : S384x1024.Idx → EReal) (q : S2048x1024.Idx → EReal) (a : Fin 384) (n : Fin 2048) : EReal :=
  ∑ j : Fin 1024, p (ix2 a j) * q (ix2 n j)

/-- The two halves of the product at an entry. -/
theorem half_at (p : FVec Ideal S384x1024 .f32) (q : FVec Ideal S2048x1024 .bf16) (y : S384x2048.Idx) :
    View.canon (Val := Elt Ideal) (s := S384x2048) (e := .f32)
      [⟨Rect.unit ![0, 1024] ![384, 1024] inb_S384x2048_S384x1024_0_1024, k0_pay5 (F := Ideal) p
          (View.ld (Val := Elt Ideal) (S := S2048x1024) (e' := .bf16) q (Rect.unit ![1024, 0] ![1024, 1024] inb_S2048x1024_S1024x1024_1024_0))⟩,
       ⟨Rect.unit ![0, 0] ![384, 1024] inb_S384x2048_S384x1024_0_0, k0_pay4 (F := Ideal) p
          (View.ld (Val := Elt Ideal) (S := S2048x1024) (e' := .bf16) q (Rect.unit ![0, 0] ![1024, 1024] inb_S2048x1024_S1024x1024_0_0))⟩] y
    = bdog p q (y 0) (y 1) := by
  canon_tiles x h
  · rw [show y 0 = x 0 from Fin.ext h0, show y 1 = ⟨1024 + (x 1).val, by have h := (y 1).isLt; omega⟩ from Fin.ext h1]
    pointwise [k0_pay5, k0_pay2, bdog]
  · rw [show y 0 = x 0 from Fin.ext h0, show y 1 = ⟨(x 1).val, by have h := (y 1).isLt; omega⟩ from Fin.ext h1]
    pointwise [k0_pay4, k0_pay2, bdog]

set_option maxHeartbeats 1600000 in
/-- The two halves of the product, read back 128 columns at a time. -/
theorem dog_at (c : Dev nD) (t : Fin cfg0.N) (off : Nat) (hlt : off + 128 ≤ 2048) (inb) (i1 i2 i3 i4) :
    (View.whole cc0_scratch0).readCov (Val := Elt Ideal)
      [⟨Rect.unit ![0, 1024] ![384, 1024] i1, k0_pay5 (F := Ideal) (iblk m c 0 t)
          (View.ld (iblk m c 3 t) (Rect.unit ![1024, 0] ![1024, 1024] i2))⟩,
       ⟨Rect.unit ![0, 0] ![384, 1024] i3, k0_pay4 (F := Ideal) (iblk m c 0 t)
          (View.ld (iblk m c 3 t) (Rect.unit ![0, 0] ![1024, 1024] i4))⟩]
      (Rect.unit ![0, off] ![384, 128] inb).toLoadRect
    = fun j => bdog (iblk m c 0 t) (iblk m c 3 t) (⟨(j 0).val, (j 0).isLt⟩) ⟨off + (j 1).val, by have h : (j 1).val < 128 := (j 1).isLt; omega⟩ := by
  rw [View.readCov_eq_canon']
  funext j
  refine (half_at (iblk m c 0 t) (iblk m c 3 t) _).trans ?_
  have e0 : ((Rect.unit (s := S384x2048) ![0, off] ![384, 128] inb).idx j 0).val = (j 0).val := by
    show 0 + 1 * (j 0).val = _; omega
  have e1 : ((Rect.unit (s := S384x2048) ![0, off] ![384, 128] inb).idx j 1).val = off + (j 1).val := by
    show off + 1 * (j 1).val = _; omega
  exact congrArg₂ (bdog (iblk m c 0 t) (iblk m c 3 t)) (Fin.ext e0) (Fin.ext e1)

/-- The product of row `r` of the cotangent with row `n` of the weight. -/
def rdog (p : S16512x1024.Idx → EReal) (q : S2048x1024.Idx → EReal) (r : Fin 16512) (n : Fin 2048) : EReal :=
  ∑ j : Fin 1024, p (ix2 r j) * q (ix2 n j)

/-- Column `k` of the head that column `n` belongs to. -/
def hcol (n : Fin 2048) (k : Fin 128) : Fin 2048 := ⟨n.val / 128 * 128 + k.val, by have := k.isLt; have := n.isLt; omega⟩

/-- A column within its own head. -/
theorem hcol_self (n : Fin 2048) : hcol n ⟨n.val % 128, Nat.mod_lt _ (by decide)⟩ = n :=
  Fin.ext (show n.val / 128 * 128 + n.val % 128 = n.val by omega)

set_option maxHeartbeats 1600000 in
/-- The reference's first result at an entry. -/
theorem ref0_at (a0 : FVec Ideal S16512x1024 .f32) (a1 a2 : FVec Ideal S16512x2048 .f32) (a3 : FVec Ideal S2048x1024 .f32)
    (a4 : FVec Ideal S1x128 .f32) (r : Fin 16512) (n : Fin 2048) :
    REF0 a0 a1 a2 a3 a4 (ix2 r n) = headDo (fun k => rdog a0 a3 r (hcol n k)) (fun k => a2 (ix2 r (hcol n k)))
      (fun k => a1 (ix2 r (hcol n k))) (fun k => a4 (ix2 0 k)) ⟨n.val % 128, Nat.mod_lt _ (by decide)⟩ := by
  simp only [headDo, hcol_self]
  pointwise [hs, vr, rdog, Ideal.logistic, hcol]

set_option maxHeartbeats 1600000 in
/-- The reference's second result at an entry. -/
theorem ref1_at (a0 : FVec Ideal S16512x1024 .f32) (a1 a2 : FVec Ideal S16512x2048 .f32) (a3 : FVec Ideal S2048x1024 .f32)
    (a4 : FVec Ideal S1x128 .f32) (r : Fin 16512) (n : Fin 2048) :
    REF1 a0 a1 a2 a3 a4 (ix2 r n) = headDz (fun k => rdog a0 a3 r (hcol n k)) (fun k => a2 (ix2 r (hcol n k)))
      (fun k => a1 (ix2 r (hcol n k))) (fun k => a4 (ix2 0 k)) ⟨n.val % 128, Nat.mod_lt _ (by decide)⟩ := by
  simp only [headDz, hcol_self]
  pointwise [vr, rdog, Ideal.logistic, hcol]

/-- A sum over the first two of three axes, at an entry. -/
theorem lead_sum {n0 n1 n2 : Nat} (h : (⟨3, ![n0, n1, n2]⟩ : Shape).ReducesTo [0, 1] (⟨1, ![n2]⟩ : Shape))
    (v : (⟨3, ![n0, n1, n2]⟩ : Shape).Idx → EReal) (init : EReal) (l : Fin n2) :
    Ideal.hostReduceAdd h v init (ix1 l) = init + ∑ a : Fin n0, ∑ b : Fin n1, v (ix3 a b l) := by
  refine congrArg (init + ·) ?_
  refine (Finset.sum_filter_eq_sum_of_fiber _ (fun k : Fin n0 × Fin n1 => ix3 k.1 k.2 l)
    (fun _ _ e => Prod.ext (congrFun e 0) (congrFun e 1)) (fun i => ?_) v).trans (by simp only [Fintype.sum_prod_type])
  constructor
  · intro e
    refine ⟨(i 0, i 1), ?_⟩
    funext d
    apply Fin.ext
    match d with
    | ⟨0, _⟩ => rfl
    | ⟨1, _⟩ => rfl
    | ⟨2, _⟩ => exact (congrArg Fin.val (congrFun e 0)).symm
  · rintro ⟨k, rfl⟩
    funext d
    apply Fin.ext
    match d with
    | ⟨0, _⟩ => rfl

set_option maxHeartbeats 1600000 in
/-- The reference's third result at an entry. -/
theorem ref2_at (a0 : FVec Ideal S16512x1024 .f32) (a1 a2 : FVec Ideal S16512x2048 .f32) (a3 : FVec Ideal S2048x1024 .f32)
    (a4 : FVec Ideal S1x128 .f32) (o : Fin 1) (l : Fin 128) :
    REF2 a0 a1 a2 a3 a4 (ix2 o l) = ∑ r : Fin 16512, ∑ h : Fin 16,
      headDw (fun k => rdog a0 a3 r ⟨h.val * 128 + k.val, by have := k.isLt; have := h.isLt; omega⟩)
        (fun k => a2 (ix2 r ⟨h.val * 128 + k.val, by have := k.isLt; have := h.isLt; omega⟩))
        (fun k => a1 (ix2 r ⟨h.val * 128 + k.val, by have := k.isLt; have := h.isLt; omega⟩)) l := by
  pointwise [lead_sum, headDw, vr, rdog, Ideal.logistic]
  simp only [Fin.sum_univ_one]

/-- A row of a grid point's block in the whole array. -/
def row (t : Fin cfg0.N) (a : Fin 384) : Fin 16512 :=
  ⟨t.val * 384 + a.val, by have h : t.val < 43 := lt_of_lt_of_eq t.isLt N_0; have := a.isLt; omega⟩

theorem rd0 (c : Dev nD) (t : Fin cfg0.N) (a : Fin 384) (j : Fin 1024) :
    (iblk m c 0 t : Vec Ideal S384x1024 .f32) (ix2 a j) = m ((c : Thread nD τ).loc main_arg0) (ix2 (row t a) j) := by
  unfold row
  blk_point [iblk, V, idx_val t]

theorem rd1 (c : Dev nD) (t : Fin cfg0.N) (a : Fin 384) (j : Fin 2048) :
    (iblk m c 1 t : Vec Ideal S384x2048 .f32) (ix2 a j) = m ((c : Thread nD τ).loc main_arg1) (ix2 (row t a) j) := by
  unfold row
  blk_point [iblk, V, idx_val t]

theorem rd2 (c : Dev nD) (t : Fin cfg0.N) (a : Fin 384) (j : Fin 2048) :
    (iblk m c 2 t : Vec Ideal S384x2048 .f32) (ix2 a j) = m ((c : Thread nD τ).loc main_arg2) (ix2 (row t a) j) := by
  unfold row
  blk_point [iblk, V, idx_val t]

theorem rd3 (c : Dev nD) (t : Fin cfg0.N) (a : Fin 2048) (j : Fin 1024) :
    (iblk m c 3 t : Vec Ideal S2048x1024 .bf16) (ix2 a j) = m ((c : Thread nD τ).loc main_arg3) (ix2 a j) := by
  have e : ((cfg0.win 3).blk t).view.emb (ix2 a j) = ix2 a j := by blk_ext [idx_val t]
  blk_simp [iblk, idx_val t] at e ⊢
  rw [e]
  entry_read
  pointwise

theorem rd4 (c : Dev nD) (t : Fin cfg0.N) (a : Fin 1) (j : Fin 128) :
    (iblk m c 4 t : Vec Ideal S1x128 .f32) (ix2 a j) = m ((c : Thread nD τ).loc main_arg4) (ix2 a j) := by
  blk_point [iblk, V, idx_val t]

set_option maxHeartbeats 1600000 in
/-- One head's entry over a grid point's blocks is the reference's entry at its place in the array. -/
theorem headDo_ref (c : Dev nD) (t : Fin cfg0.N) (off : Nat) (hlt : off + 128 ≤ 2048) (hmod : off % 128 = 0)
    (y : S384x2048.Idx) (a : Fin 384) (l : Fin 128) (h0 : (y 0).val = a.val) (h1 : (y 1).val = off + l.val) :
    headDo (fun k => bdog (iblk m c 0 t) (iblk m c 3 t) a ⟨off + k.val, by have := k.isLt; omega⟩)
      (fun k => (iblk m c 2 t : Vec Ideal S384x2048 .f32) (ix2 a ⟨off + k.val, by have := k.isLt; omega⟩))
      (fun k => (iblk m c 1 t : Vec Ideal S384x2048 .f32) (ix2 a ⟨off + k.val, by have := k.isLt; omega⟩))
      (fun k => (iblk m c 4 t : Vec Ideal S1x128 .f32) (ix2 0 k)) l
      = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  have hl := l.isLt
  have e : ((cfg0.win 5).blk t).view.emb y = ix2 (row t a) ⟨off + l.val, by omega⟩ := by
    unfold row
    blk_ext [idx_val t]
  refine Eq.trans ?_ (congrArg (REF0 (m ((c : Thread nD τ).loc main_arg0)) (m ((c : Thread nD τ).loc main_arg1)) (m ((c : Thread nD τ).loc main_arg2)) (m ((c : Thread nD τ).loc main_arg3)) (m ((c : Thread nD τ).loc main_arg4))) e).symm
  refine Eq.trans ?_ (ref0_at _ _ _ _ _ _ _).symm
  have hc : ∀ k : Fin 128, hcol ⟨off + l.val, by omega⟩ k = ⟨off + k.val, by have := k.isLt; omega⟩ := fun k =>
    Fin.ext (show (off + l.val) / 128 * 128 + k.val = off + k.val by omega)
  have hm : (⟨(off + l.val) % 128, Nat.mod_lt _ (by decide)⟩ : Fin 128) = l := Fin.ext (show (off + l.val) % 128 = l.val by omega)
  simp only [hc, hm, bdog, rdog, rd0, rd1, rd2, rd3, rd4]

set_option maxHeartbeats 1600000 in
/-- One head's entry over a grid point's blocks is the reference's entry at its place in the array. -/
theorem headDz_ref (c : Dev nD) (t : Fin cfg0.N) (off : Nat) (hlt : off + 128 ≤ 2048) (hmod : off % 128 = 0)
    (y : S384x2048.Idx) (a : Fin 384) (l : Fin 128) (h0 : (y 0).val = a.val) (h1 : (y 1).val = off + l.val) :
    headDz (fun k => bdog (iblk m c 0 t) (iblk m c 3 t) a ⟨off + k.val, by have := k.isLt; omega⟩)
      (fun k => (iblk m c 2 t : Vec Ideal S384x2048 .f32) (ix2 a ⟨off + k.val, by have := k.isLt; omega⟩))
      (fun k => (iblk m c 1 t : Vec Ideal S384x2048 .f32) (ix2 a ⟨off + k.val, by have := k.isLt; omega⟩))
      (fun k => (iblk m c 4 t : Vec Ideal S1x128 .f32) (ix2 0 k)) l
      = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have hl := l.isLt
  have e : ((cfg0.win 6).blk t).view.emb y = ix2 (row t a) ⟨off + l.val, by omega⟩ := by
    unfold row
    blk_ext [idx_val t]
  refine Eq.trans ?_ (congrArg (REF1 (m ((c : Thread nD τ).loc main_arg0)) (m ((c : Thread nD τ).loc main_arg1)) (m ((c : Thread nD τ).loc main_arg2)) (m ((c : Thread nD τ).loc main_arg3)) (m ((c : Thread nD τ).loc main_arg4))) e).symm
  refine Eq.trans ?_ (ref1_at _ _ _ _ _ _ _).symm
  have hc : ∀ k : Fin 128, hcol ⟨off + l.val, by omega⟩ k = ⟨off + k.val, by have := k.isLt; omega⟩ := fun k =>
    Fin.ext (show (off + l.val) / 128 * 128 + k.val = off + k.val by omega)
  have hm : (⟨(off + l.val) % 128, Nat.mod_lt _ (by decide)⟩ : Fin 128) = l := Fin.ext (show (off + l.val) % 128 = l.val by omega)
  simp only [hc, hm, bdog, rdog, rd0, rd1, rd2, rd3, rd4]

set_option maxHeartbeats 3200000 in
/-- The block of window 5 at a grid point of case A. -/
theorem point_5_A (c : Dev nD) (t : Fin cfg0.N) (h0 : t.val % 43 = 0) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) (iblk m c 4 t)) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk
        t).view.emb y) := by
  frame_out
  simp (disch := decide) only [dog_at m c t]
  canon_tiles x h
  · refine Eq.trans ?_ (headDo_ref m c t 1920 (by decide) (by decide) y (x 0) (x 1) h0 h1)
    open_payloads
    pointwise [headDo, vr, hs]
  · refine Eq.trans ?_ (headDo_ref m c t 1792 (by decide) (by decide) y (x 0) (x 1) h0 h1)
    open_payloads
    pointwise [headDo, vr, hs]
  · refine Eq.trans ?_ (headDo_ref m c t 1664 (by decide) (by decide) y (x 0) (x 1) h0 h1)
    open_payloads
    pointwise [headDo, vr, hs]
  · refine Eq.trans ?_ (headDo_ref m c t 1536 (by decide) (by decide) y (x 0) (x 1) h0 h1)
    open_payloads
    pointwise [headDo, vr, hs]
  · refine Eq.trans ?_ (headDo_ref m c t 1408 (by decide) (by decide) y (x 0) (x 1) h0 h1)
    open_payloads
    pointwise [headDo, vr, hs]
  · refine Eq.trans ?_ (headDo_ref m c t 1280 (by decide) (by decide) y (x 0) (x 1) h0 h1)
    open_payloads
    pointwise [headDo, vr, hs]
  · refine Eq.trans ?_ (headDo_ref m c t 1152 (by decide) (by decide) y (x 0) (x 1) h0 h1)
    open_payloads
    pointwise [headDo, vr, hs]
  · refine Eq.trans ?_ (headDo_ref m c t 1024 (by decide) (by decide) y (x 0) (x 1) h0 h1)
    open_payloads
    pointwise [headDo, vr, hs]
  · refine Eq.trans ?_ (headDo_ref m c t 896 (by decide) (by decide) y (x 0) (x 1) h0 h1)
    open_payloads
    pointwise [headDo, vr, hs]
  · refine Eq.trans ?_ (headDo_ref m c t 768 (by decide) (by decide) y (x 0) (x 1) h0 h1)
    open_payloads
    pointwise [headDo, vr, hs]
  · refine Eq.trans ?_ (headDo_ref m c t 640 (by decide) (by decide) y (x 0) (x 1) h0 h1)
    open_payloads
    pointwise [headDo, vr, hs]
  · refine Eq.trans ?_ (headDo_ref m c t 512 (by decide) (by decide) y (x 0) (x 1) h0 h1)
    open_payloads
    pointwise [headDo, vr, hs]
  · refine Eq.trans ?_ (headDo_ref m c t 384 (by decide) (by decide) y (x 0) (x 1) h0 h1)
    open_payloads
    pointwise [headDo, vr, hs]
  · refine Eq.trans ?_ (headDo_ref m c t 256 (by decide) (by decide) y (x 0) (x 1) h0 h1)
    open_payloads
    pointwise [headDo, vr, hs]
  · refine Eq.trans ?_ (headDo_ref m c t 128 (by decide) (by decide) y (x 0) (x 1) h0 h1)
    open_payloads
    pointwise [headDo, vr, hs]
  · refine Eq.trans ?_ (headDo_ref m c t 0 (by decide) (by decide) y (x 0) (x 1) h0 (h1.trans (Nat.zero_add _).symm))
    open_payloads
    pointwise [headDo, vr, hs]

set_option maxHeartbeats 3200000 in
/-- The block of window 5 at a grid point of case B. -/
theorem point_5_B (c : Dev nD) (t : Fin cfg0.N) (h0 : ¬t.val % 43 = 0) (y) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.2) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk
        t).view.emb y) := by
  frame_out
  simp (disch := decide) only [dog_at m c t]
  canon_tiles x h
  · refine Eq.trans ?_ (headDo_ref m c t 1920 (by decide) (by decide) y (x 0) (x 1) h0 h1)
    open_payloads
    pointwise [headDo, vr, hs]
  · refine Eq.trans ?_ (headDo_ref m c t 1792 (by decide) (by decide) y (x 0) (x 1) h0 h1)
    open_payloads
    pointwise [headDo, vr, hs]
  · refine Eq.trans ?_ (headDo_ref m c t 1664 (by decide) (by decide) y (x 0) (x 1) h0 h1)
    open_payloads
    pointwise [headDo, vr, hs]
  · refine Eq.trans ?_ (headDo_ref m c t 1536 (by decide) (by decide) y (x 0) (x 1) h0 h1)
    open_payloads
    pointwise [headDo, vr, hs]
  · refine Eq.trans ?_ (headDo_ref m c t 1408 (by decide) (by decide) y (x 0) (x 1) h0 h1)
    open_payloads
    pointwise [headDo, vr, hs]
  · refine Eq.trans ?_ (headDo_ref m c t 1280 (by decide) (by decide) y (x 0) (x 1) h0 h1)
    open_payloads
    pointwise [headDo, vr, hs]
  · refine Eq.trans ?_ (headDo_ref m c t 1152 (by decide) (by decide) y (x 0) (x 1) h0 h1)
    open_payloads
    pointwise [headDo, vr, hs]
  · refine Eq.trans ?_ (headDo_ref m c t 1024 (by decide) (by decide) y (x 0) (x 1) h0 h1)
    open_payloads
    pointwise [headDo, vr, hs]
  · refine Eq.trans ?_ (headDo_ref m c t 896 (by decide) (by decide) y (x 0) (x 1) h0 h1)
    open_payloads
    pointwise [headDo, vr, hs]
  · refine Eq.trans ?_ (headDo_ref m c t 768 (by decide) (by decide) y (x 0) (x 1) h0 h1)
    open_payloads
    pointwise [headDo, vr, hs]
  · refine Eq.trans ?_ (headDo_ref m c t 640 (by decide) (by decide) y (x 0) (x 1) h0 h1)
    open_payloads
    pointwise [headDo, vr, hs]
  · refine Eq.trans ?_ (headDo_ref m c t 512 (by decide) (by decide) y (x 0) (x 1) h0 h1)
    open_payloads
    pointwise [headDo, vr, hs]
  · refine Eq.trans ?_ (headDo_ref m c t 384 (by decide) (by decide) y (x 0) (x 1) h0 h1)
    open_payloads
    pointwise [headDo, vr, hs]
  · refine Eq.trans ?_ (headDo_ref m c t 256 (by decide) (by decide) y (x 0) (x 1) h0 h1)
    open_payloads
    pointwise [headDo, vr, hs]
  · refine Eq.trans ?_ (headDo_ref m c t 128 (by decide) (by decide) y (x 0) (x 1) h0 h1)
    open_payloads
    pointwise [headDo, vr, hs]
  · refine Eq.trans ?_ (headDo_ref m c t 0 (by decide) (by decide) y (x 0) (x 1) h0 (h1.trans (Nat.zero_add _).symm))
    open_payloads
    pointwise [headDo, vr, hs]

/-- What window 5 holds after the last point is the result of the reference. -/
theorem final_5 (c : Dev nD) : (dats m 0 c).arrAt 5 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 43 = 0
  · rw [outsAt0_A m c t h]; dsimp only; exact point_5_A m c t h y
  · rw [outsAt0_B m c t h]; dsimp only; exact point_5_B m c t h y

set_option maxHeartbeats 3200000 in
/-- The block of window 6 at a grid point of case A. -/
theorem point_6_A (c : Dev nD) (t : Fin cfg0.N) (h0 : t.val % 43 = 0) (y) :
    (out0_A_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) (iblk m c 4 t)) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk
        t).view.emb y) := by
  frame_out
  simp (disch := decide) only [dog_at m c t]
  canon_tiles x h
  · refine Eq.trans ?_ (headDz_ref m c t 1920 (by decide) (by decide) y (x 0) (x 1) h0 h1)
    open_payloads
    pointwise [headDz, vr]
  · refine Eq.trans ?_ (headDz_ref m c t 1792 (by decide) (by decide) y (x 0) (x 1) h0 h1)
    open_payloads
    pointwise [headDz, vr]
  · refine Eq.trans ?_ (headDz_ref m c t 1664 (by decide) (by decide) y (x 0) (x 1) h0 h1)
    open_payloads
    pointwise [headDz, vr]
  · refine Eq.trans ?_ (headDz_ref m c t 1536 (by decide) (by decide) y (x 0) (x 1) h0 h1)
    open_payloads
    pointwise [headDz, vr]
  · refine Eq.trans ?_ (headDz_ref m c t 1408 (by decide) (by decide) y (x 0) (x 1) h0 h1)
    open_payloads
    pointwise [headDz, vr]
  · refine Eq.trans ?_ (headDz_ref m c t 1280 (by decide) (by decide) y (x 0) (x 1) h0 h1)
    open_payloads
    pointwise [headDz, vr]
  · refine Eq.trans ?_ (headDz_ref m c t 1152 (by decide) (by decide) y (x 0) (x 1) h0 h1)
    open_payloads
    pointwise [headDz, vr]
  · refine Eq.trans ?_ (headDz_ref m c t 1024 (by decide) (by decide) y (x 0) (x 1) h0 h1)
    open_payloads
    pointwise [headDz, vr]
  · refine Eq.trans ?_ (headDz_ref m c t 896 (by decide) (by decide) y (x 0) (x 1) h0 h1)
    open_payloads
    pointwise [headDz, vr]
  · refine Eq.trans ?_ (headDz_ref m c t 768 (by decide) (by decide) y (x 0) (x 1) h0 h1)
    open_payloads
    pointwise [headDz, vr]
  · refine Eq.trans ?_ (headDz_ref m c t 640 (by decide) (by decide) y (x 0) (x 1) h0 h1)
    open_payloads
    pointwise [headDz, vr]
  · refine Eq.trans ?_ (headDz_ref m c t 512 (by decide) (by decide) y (x 0) (x 1) h0 h1)
    open_payloads
    pointwise [headDz, vr]
  · refine Eq.trans ?_ (headDz_ref m c t 384 (by decide) (by decide) y (x 0) (x 1) h0 h1)
    open_payloads
    pointwise [headDz, vr]
  · refine Eq.trans ?_ (headDz_ref m c t 256 (by decide) (by decide) y (x 0) (x 1) h0 h1)
    open_payloads
    pointwise [headDz, vr]
  · refine Eq.trans ?_ (headDz_ref m c t 128 (by decide) (by decide) y (x 0) (x 1) h0 h1)
    open_payloads
    pointwise [headDz, vr]
  · refine Eq.trans ?_ (headDz_ref m c t 0 (by decide) (by decide) y (x 0) (x 1) h0 (h1.trans (Nat.zero_add _).symm))
    open_payloads
    pointwise [headDz, vr]

set_option maxHeartbeats 3200000 in
/-- The block of window 6 at a grid point of case B. -/
theorem point_6_B (c : Dev nD) (t : Fin cfg0.N) (h0 : ¬t.val % 43 = 0) (y) :
    (out0_B_6 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2.2) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk
        t).view.emb y) := by
  frame_out
  simp (disch := decide) only [dog_at m c t]
  canon_tiles x h
  · refine Eq.trans ?_ (headDz_ref m c t 1920 (by decide) (by decide) y (x 0) (x 1) h0 h1)
    open_payloads
    pointwise [headDz, vr]
  · refine Eq.trans ?_ (headDz_ref m c t 1792 (by decide) (by decide) y (x 0) (x 1) h0 h1)
    open_payloads
    pointwise [headDz, vr]
  · refine Eq.trans ?_ (headDz_ref m c t 1664 (by decide) (by decide) y (x 0) (x 1) h0 h1)
    open_payloads
    pointwise [headDz, vr]
  · refine Eq.trans ?_ (headDz_ref m c t 1536 (by decide) (by decide) y (x 0) (x 1) h0 h1)
    open_payloads
    pointwise [headDz, vr]
  · refine Eq.trans ?_ (headDz_ref m c t 1408 (by decide) (by decide) y (x 0) (x 1) h0 h1)
    open_payloads
    pointwise [headDz, vr]
  · refine Eq.trans ?_ (headDz_ref m c t 1280 (by decide) (by decide) y (x 0) (x 1) h0 h1)
    open_payloads
    pointwise [headDz, vr]
  · refine Eq.trans ?_ (headDz_ref m c t 1152 (by decide) (by decide) y (x 0) (x 1) h0 h1)
    open_payloads
    pointwise [headDz, vr]
  · refine Eq.trans ?_ (headDz_ref m c t 1024 (by decide) (by decide) y (x 0) (x 1) h0 h1)
    open_payloads
    pointwise [headDz, vr]
  · refine Eq.trans ?_ (headDz_ref m c t 896 (by decide) (by decide) y (x 0) (x 1) h0 h1)
    open_payloads
    pointwise [headDz, vr]
  · refine Eq.trans ?_ (headDz_ref m c t 768 (by decide) (by decide) y (x 0) (x 1) h0 h1)
    open_payloads
    pointwise [headDz, vr]
  · refine Eq.trans ?_ (headDz_ref m c t 640 (by decide) (by decide) y (x 0) (x 1) h0 h1)
    open_payloads
    pointwise [headDz, vr]
  · refine Eq.trans ?_ (headDz_ref m c t 512 (by decide) (by decide) y (x 0) (x 1) h0 h1)
    open_payloads
    pointwise [headDz, vr]
  · refine Eq.trans ?_ (headDz_ref m c t 384 (by decide) (by decide) y (x 0) (x 1) h0 h1)
    open_payloads
    pointwise [headDz, vr]
  · refine Eq.trans ?_ (headDz_ref m c t 256 (by decide) (by decide) y (x 0) (x 1) h0 h1)
    open_payloads
    pointwise [headDz, vr]
  · refine Eq.trans ?_ (headDz_ref m c t 128 (by decide) (by decide) y (x 0) (x 1) h0 h1)
    open_payloads
    pointwise [headDz, vr]
  · refine Eq.trans ?_ (headDz_ref m c t 0 (by decide) (by decide) y (x 0) (x 1) h0 (h1.trans (Nat.zero_add _).symm))
    open_payloads
    pointwise [headDz, vr]

/-- What window 6 holds after the last point is the result of the reference. -/
theorem final_6 (c : Dev nD) : (dats m 0 c).arrAt 6 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  by_cases h : t.val % 43 = 0
  · rw [outsAt0_A m c t h]; dsimp only; exact point_6_A m c t h y
  · rw [outsAt0_B m c t h]; dsimp only; exact point_6_B m c t h y

/-- One head's part of a grid point's term of the gradient of the norm's weight: the sum over the point's rows. -/
def hterm (p : S384x1024.Idx → EReal) (q : S2048x1024.Idx → EReal) (z x : S384x2048.Idx → EReal) (off : Nat)
    (ho : off + 128 ≤ 2048) (l : Fin 128) : EReal :=
  ∑ a : Fin 384, headDw (fun k => bdog p q a ⟨off + k.val, by have := k.isLt; omega⟩)
    (fun k => z (ix2 a ⟨off + k.val, by have := k.isLt; omega⟩)) (fun k => x (ix2 a ⟨off + k.val, by have := k.isLt; omega⟩)) l

/-- A grid point's term of the gradient of the norm's weight: the sum over the heads. -/
def wterm (c : Dev nD) (t : Fin cfg0.N) (l : Fin 128) : EReal :=
  ∑ h : Fin 16, hterm (iblk m c 0 t) (iblk m c 3 t) (iblk m c 2 t) (iblk m c 1 t) (h.val * 128)
    (by have := h.isLt; omega) l

/-- A sum of sixteen terms, added from the left. -/
theorem sum16 (f : Fin 16 → EReal) : ∑ h : Fin 16, f h = f 0 + f 1 + f 2 + f 3 + f 4 + f 5 + f 6 + f 7 + f 8 + f 9 + f 10
    + f 11 + f 12 + f 13 + f 14 + f 15 := by
  simp only [Fin.sum_univ_castSucc, Finset.univ_eq_empty, Finset.sum_empty, zero_add]
  rfl

/-- The heads' parts one after another. -/
theorem wterm_eq (c : Dev nD) (t : Fin cfg0.N) (l : Fin 128) : wterm m c t l =
    hterm (iblk m c 0 t) (iblk m c 3 t) (iblk m c 2 t) (iblk m c 1 t) 0 (by decide) l
    + hterm (iblk m c 0 t) (iblk m c 3 t) (iblk m c 2 t) (iblk m c 1 t) 128 (by decide) l
    + hterm (iblk m c 0 t) (iblk m c 3 t) (iblk m c 2 t) (iblk m c 1 t) 256 (by decide) l
    + hterm (iblk m c 0 t) (iblk m c 3 t) (iblk m c 2 t) (iblk m c 1 t) 384 (by decide) l
    + hterm (iblk m c 0 t) (iblk m c 3 t) (iblk m c 2 t) (iblk m c 1 t) 512 (by decide) l
    + hterm (iblk m c 0 t) (iblk m c 3 t) (iblk m c 2 t) (iblk m c 1 t) 640 (by decide) l
    + hterm (iblk m c 0 t) (iblk m c 3 t) (iblk m c 2 t) (iblk m c 1 t) 768 (by decide) l
    + hterm (iblk m c 0 t) (iblk m c 3 t) (iblk m c 2 t) (iblk m c 1 t) 896 (by decide) l
    + hterm (iblk m c 0 t) (iblk m c 3 t) (iblk m c 2 t) (iblk m c 1 t) 1024 (by decide) l
    + hterm (iblk m c 0 t) (iblk m c 3 t) (iblk m c 2 t) (iblk m c 1 t) 1152 (by decide) l
    + hterm (iblk m c 0 t) (iblk m c 3 t) (iblk m c 2 t) (iblk m c 1 t) 1280 (by decide) l
    + hterm (iblk m c 0 t) (iblk m c 3 t) (iblk m c 2 t) (iblk m c 1 t) 1408 (by decide) l
    + hterm (iblk m c 0 t) (iblk m c 3 t) (iblk m c 2 t) (iblk m c 1 t) 1536 (by decide) l
    + hterm (iblk m c 0 t) (iblk m c 3 t) (iblk m c 2 t) (iblk m c 1 t) 1664 (by decide) l
    + hterm (iblk m c 0 t) (iblk m c 3 t) (iblk m c 2 t) (iblk m c 1 t) 1792 (by decide) l
    + hterm (iblk m c 0 t) (iblk m c 3 t) (iblk m c 2 t) (iblk m c 1 t) 1920 (by decide) l := by
  unfold wterm
  rw [sum16]
  rfl

set_option maxHeartbeats 3200000 in
/-- The first point's store: its own term. -/
theorem after_A (c : Dev nD) (t : Fin cfg0.N) (h0 : t.val % 43 = 0) (j : S1x128.Idx) :
    (outsAt0 m c t.val t.isLt).2.2 j = 0 + wterm m c t (j 1) := by
  rw [show wterm m c t (j 1) = _ from wterm_eq m c t (j 1), outsAt0_A m c t h0]
  frame_out
  simp (disch := decide) only [dog_at m c t]
  simp only [← add_assoc]
  open_payloads
  pointwise [hterm, headDw, vr, bdog]

set_option maxHeartbeats 3200000 in
/-- A later point's store: its own term added to what the point before left. -/
theorem after_B (c : Dev nD) (t : Fin cfg0.N) (h0 : ¬t.val % 43 = 0) (j : S1x128.Idx) :
    (outsAt0 m c t.val t.isLt).2.2 j
      = (outsAt0 m c (t.val - 1) (Nat.lt_of_le_of_lt (Nat.sub_le _ _) t.isLt)).2.2 j + wterm m c t (j 1) := by
  rw [show wterm m c t (j 1) = _ from wterm_eq m c t (j 1), outsAt0_B m c t h0]
  frame_out
  simp (disch := decide) only [dog_at m c t]
  simp only [← add_assoc]
  open_payloads
  pointwise [hterm, headDw, vr, bdog]
  simp only [bdog, add_assoc]

/-- The last grid point. -/
def tlast : Fin cfg0.N := ⟨42, lt_of_lt_of_eq (by decide) N_0.symm⟩

set_option maxHeartbeats 1600000 in
/-- The points' terms add up to the reference's entry. -/
theorem total (c : Dev nD) (l : Fin 128) : (∑ s : Fin cfg0.N, wterm m c s l) = REF2 (m ((c : Thread nD τ).loc main_arg0)) (m ((c : Thread nD τ).loc main_arg1)) (m ((c : Thread nD τ).loc main_arg2)) (m ((c : Thread nD τ).loc main_arg3)) (m ((c : Thread nD τ).loc main_arg4)) (ix2 0 l) := by
  refine Eq.trans ?_ (ref2_at _ _ _ _ _ _ _).symm
  simp only [wterm, hterm]
  refine (Finset.sum_congr rfl fun s _ => Finset.sum_comm).trans ?_
  refine Fin.sum_mul_add_congr fun s a hl => Finset.sum_congr rfl fun h _ => ?_
  simp only [bdog, rdog, rd0, rd1, rd2, rd3]
  rfl

set_option maxHeartbeats 1600000 in
/-- What window 7 holds after the last point is the result of the reference. -/
theorem final_7 (c : Dev nD) : (dats m 0 c).arrAt 7 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 tlast (by decide +kernel) _ fun j => ?_
  blk_simp
  rw [after0_7, Pipeline.eq_sum_fin_of_reset_step_apply_last (fun n h => (outsAt0 m c n h).2.2) 43 (fun _ => 0)
    (fun t j => wterm m c t (j 1)) (fun t h j => after_A m c t h j) (fun t h j => after_B m c t h j)
    (le_of_eq N_0) tlast N_0.symm j, zero_add]
  refine (total m c (j 1)).trans (congrArg (REF2 _ _ _ _ _) ?_)
  rw [eq_ix2 j]
  exact congrArg₂ ix2 (Subsingleton.elim (α := Fin 1) _ _) rfl

end Cert.KernelGateIdeal.Value

end
-- ==== Proof.GateClaim.lean ====
module

public import proofs.«01_k».proof.Defs
public import proofs.«01_k».proof.Proof.Gen.KernelGate.Frame
public import proofs.«01_k».proof.Proof.GateValue
public import Idealize.ShloMosaic.Lib.Quiescent

/-! The claims about the backward pass of the second mixer's gated, normalised output. -/

@[expose] public section

set_option maxRecDepth 65536

noncomputable section

namespace Cert.Proof

open Idealize.ShloMosaic Idealize.SL.Sem

theorem quiescent_KernelGate : Cert.quiescent_KernelGate := fun m ρ _ => Cert.KernelGate.Gen.frame m ρ

theorem quiescent_KernelGateIdeal : Cert.quiescent_KernelGateIdeal := fun m ρ _ => Cert.KernelGateIdeal.Gen.frame m ρ

theorem quiescent_ReferenceGateIdeal : Cert.quiescent_ReferenceGateIdeal := fun m ρ _ =>
  (θ_run Cert.ReferenceGateIdeal.defs _ _).mono
    (fun r h => ⟨fun c => (h c).2.2.2, Idealize.ShloMosaic.sem_eq_zero_of_no_sems (by decide) r.2⟩)
    (Cert.ReferenceGateIdeal.Value.run (F := Ideal) m ρ)

theorem algebraic_Gate : Cert.algebraic_KernelGateIdeal_ReferenceGateIdeal := by
  intro m ρ m' ρ' _ hagree
  refine ⟨_, _, _, Cert.KernelGateIdeal.Value.run_blocks (F := Ideal) m ρ, ?_⟩
  refine (θ_run Cert.ReferenceGateIdeal.defs _ _).mono
    (fun _ h c => ⟨(h c).1.trans ?_, (h c).2.1.trans ?_, (h c).2.2.1.trans ?_, (h c).2.2.2⟩)
    (Cert.ReferenceGateIdeal.Value.run (F := Ideal) m' ρ')
  · obtain ⟨h0, h1, h2, h3, h4⟩ := hagree c
    change Cert.ReferenceGateIdeal.Value.REF0 (m' ((c.tc : Thread Cert.ReferenceGateIdeal.nD Cert.ReferenceGateIdeal.τ).loc Cert.ReferenceGateIdeal.main_arg0)) (m' ((c.tc : Thread Cert.ReferenceGateIdeal.nD Cert.ReferenceGateIdeal.τ).loc Cert.ReferenceGateIdeal.main_arg1)) (m' ((c.tc : Thread Cert.ReferenceGateIdeal.nD Cert.ReferenceGateIdeal.τ).loc Cert.ReferenceGateIdeal.main_arg2)) (m' ((c.tc : Thread Cert.ReferenceGateIdeal.nD Cert.ReferenceGateIdeal.τ).loc Cert.ReferenceGateIdeal.main_arg3)) (m' ((c.tc : Thread Cert.ReferenceGateIdeal.nD Cert.ReferenceGateIdeal.τ).loc Cert.ReferenceGateIdeal.main_arg4)) = _
    rw [h0, h1, h2, h3, h4]
    exact (Cert.KernelGateIdeal.Value.final_5 m c).symm
  · obtain ⟨h0, h1, h2, h3, h4⟩ := hagree c
    change Cert.ReferenceGateIdeal.Value.REF1 (m' ((c.tc : Thread Cert.ReferenceGateIdeal.nD Cert.ReferenceGateIdeal.τ).loc Cert.ReferenceGateIdeal.main_arg0)) (m' ((c.tc : Thread Cert.ReferenceGateIdeal.nD Cert.ReferenceGateIdeal.τ).loc Cert.ReferenceGateIdeal.main_arg1)) (m' ((c.tc : Thread Cert.ReferenceGateIdeal.nD Cert.ReferenceGateIdeal.τ).loc Cert.ReferenceGateIdeal.main_arg2)) (m' ((c.tc : Thread Cert.ReferenceGateIdeal.nD Cert.ReferenceGateIdeal.τ).loc Cert.ReferenceGateIdeal.main_arg3)) (m' ((c.tc : Thread Cert.ReferenceGateIdeal.nD Cert.ReferenceGateIdeal.τ).loc Cert.ReferenceGateIdeal.main_arg4)) = _
    rw [h0, h1, h2, h3, h4]
    exact (Cert.KernelGateIdeal.Value.final_6 m c).symm
  · obtain ⟨h0, h1, h2, h3, h4⟩ := hagree c
    change Cert.ReferenceGateIdeal.Value.REF2 (m' ((c.tc : Thread Cert.ReferenceGateIdeal.nD Cert.ReferenceGateIdeal.τ).loc Cert.ReferenceGateIdeal.main_arg0)) (m' ((c.tc : Thread Cert.ReferenceGateIdeal.nD Cert.ReferenceGateIdeal.τ).loc Cert.ReferenceGateIdeal.main_arg1)) (m' ((c.tc : Thread Cert.ReferenceGateIdeal.nD Cert.ReferenceGateIdeal.τ).loc Cert.ReferenceGateIdeal.main_arg2)) (m' ((c.tc : Thread Cert.ReferenceGateIdeal.nD Cert.ReferenceGateIdeal.τ).loc Cert.ReferenceGateIdeal.main_arg3)) (m' ((c.tc : Thread Cert.ReferenceGateIdeal.nD Cert.ReferenceGateIdeal.τ).loc Cert.ReferenceGateIdeal.main_arg4)) = _
    rw [h0, h1, h2, h3, h4]
    exact (Cert.KernelGateIdeal.Value.final_7 m c).symm

end Cert.Proof

end
-- ==== Proof.InRef.lean ====
module

public import proofs.«01_k».proof.Proof.Gen.ReferenceInIdeal.Run
public import Idealize.ShloMosaic.PureOps.Ideal

/-! The reference's results as functions of its arguments, over the extended reals. -/

@[expose] public section

set_option maxRecDepth 16384

noncomputable section

namespace Cert.ReferenceInIdeal.Value

open Cert.ReferenceInIdeal Cert.ReferenceInIdeal.Gen Idealize.ShloMosaic Idealize.ShloMosaic.TcCoe Idealize.SL.Sem Idealize.ShloMosaic.StableHlo

/-- Result 0 of the reference. -/
abbrev REF0 (a0 : FVec Ideal S16512x4096 .f32) (a1 : FVec Ideal S16512x2048 .f32) (a2 : FVec Ideal S16512x32 .f32) (a3 : FVec Ideal S16512x1024 .f32) (a4 : FVec Ideal S16512x1024 .f32) (a5 : FVec Ideal S1x1024 .f32) (a6 : FVec Ideal S1024x6176 .f32) :
    FVec Ideal S16512x1024 .f32 :=
  (select (cmpi .sge (iotaInDim S16512x1024 32 0) (broadcastInDim S16512x1024 ![] bcast_S_S16512x1024 (constantI S_ 32 112#32))) (addf a4 (addf (addf (mulf (mulf (Host.dotGeneral dot_S16512x6176_S1024x6176_S16512x1024_1_1_0_0_n_n none ((concatenate S16512x6176 1 [⟨S16512x4096, (a0 : FVec Ideal S16512x4096 .f32)⟩, ⟨S16512x2048, (a1 : FVec Ideal S16512x2048 .f32)⟩, ⟨S16512x32, (a2 : FVec Ideal S16512x32 .f32)⟩] concatenates_S16512x4096_S16512x2048_S16512x32_S16512x6176_d1 : FVec Ideal S16512x6176 .f32)) a6) (broadcastInDim S16512x1024 ![0, 1] bcast_S1x1024_S16512x1024_0_1 (broadcastInDim S1x1024 ![1] bcast_S1024_S1x1024_1 (shapeCast _ a5 shapeCasts_S1x1024_S1024)))) (broadcastInDim S16512x1024 ![0, 1] bcast_S16512x1_S16512x1024_0_1 (Host.rsqrt (addf (Host.divf (broadcastInDim S16512x1 ![0] bcast_S16512_S16512x1_0 (Host.reduceAdd (mulf a3 a3) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (mulf a3 (broadcastInDim S16512x1024 ![0] bcast_S16512_S16512x1024_0 (Host.reduceAdd (Host.divf (mulf (shapeCast _ (Host.reduceAdd (mulf a3 (mulf (Host.dotGeneral dot_S16512x6176_S1024x6176_S16512x1024_1_1_0_0_n_n none ((concatenate S16512x6176 1 [⟨S16512x4096, (a0 : FVec Ideal S16512x4096 .f32)⟩, ⟨S16512x2048, (a1 : FVec Ideal S16512x2048 .f32)⟩, ⟨S16512x32, (a2 : FVec Ideal S16512x32 .f32)⟩] concatenates_S16512x4096_S16512x2048_S16512x32_S16512x6176_d1 : FVec Ideal S16512x6176 .f32)) a6) (broadcastInDim S16512x1024 ![0, 1] bcast_S1x1024_S16512x1024_0_1 (broadcastInDim S1x1024 ![1] bcast_S1024_S1x1024_1 (shapeCast _ a5 shapeCasts_S1x1024_S1024))))) (constant S_ .f32 0x00000000#32) reducesTo_S16512x1024_S16512_d1 h_S_) shapeCasts_S16512_S16512x1) (mulf (broadcastInDim S16512x1 ![] bcast_S_S16512x1 (constant S_ .f32 0xBF000000#32)) (Host.divf (Host.rsqrt (addf (Host.divf (broadcastInDim S16512x1 ![0] bcast_S16512_S16512x1_0 (Host.reduceAdd (mulf a3 a3) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))) (addf (Host.divf (broadcastInDim S16512x1 ![0] bcast_S16512_S16512x1_0 (Host.reduceAdd (mulf a3 a3) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1 ![] bcast_S_S16512x1 (constant S_ .f32 0x44800000#32))) (constant S_ .f32 0x00000000#32) reducesTo_S16512x1_S16512_d1 h_S_)))) (mulf (broadcastInDim S16512x1024 ![0] bcast_S16512_S16512x1024_0 (Host.reduceAdd (Host.divf (mulf (shapeCast _ (Host.reduceAdd (mulf a3 (mulf (Host.dotGeneral dot_S16512x6176_S1024x6176_S16512x1024_1_1_0_0_n_n none ((concatenate S16512x6176 1 [⟨S16512x4096, (a0 : FVec Ideal S16512x4096 .f32)⟩, ⟨S16512x2048, (a1 : FVec Ideal S16512x2048 .f32)⟩, ⟨S16512x32, (a2 : FVec Ideal S16512x32 .f32)⟩] concatenates_S16512x4096_S16512x2048_S16512x32_S16512x6176_d1 : FVec Ideal S16512x6176 .f32)) a6) (broadcastInDim S16512x1024 ![0, 1] bcast_S1x1024_S16512x1024_0_1 (broadcastInDim S1x1024 ![1] bcast_S1024_S1x1024_1 (shapeCast _ a5 shapeCasts_S1x1024_S1024))))) (constant S_ .f32 0x00000000#32) reducesTo_S16512x1024_S16512_d1 h_S_) shapeCasts_S16512_S16512x1) (mulf (broadcastInDim S16512x1 ![] bcast_S_S16512x1 (constant S_ .f32 0xBF000000#32)) (Host.divf (Host.rsqrt (addf (Host.divf (broadcastInDim S16512x1 ![0] bcast_S16512_S16512x1_0 (Host.reduceAdd (mulf a3 a3) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))) (addf (Host.divf (broadcastInDim S16512x1 ![0] bcast_S16512_S16512x1_0 (Host.reduceAdd (mulf a3 a3) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1 ![] bcast_S_S16512x1 (constant S_ .f32 0x44800000#32))) (constant S_ .f32 0x00000000#32) reducesTo_S16512x1_S16512_d1 h_S_)) a3))) (broadcastInDim S16512x1024 ![] bcast_S_S16512x1024 (id (constant S_ .f32 0x00000000#32))))

/-- Result 1 of the reference. -/
abbrev REF1 (a0 : FVec Ideal S16512x4096 .f32) (a1 : FVec Ideal S16512x2048 .f32) (a2 : FVec Ideal S16512x32 .f32) (a3 : FVec Ideal S16512x1024 .f32) (a4 : FVec Ideal S16512x1024 .f32) (a5 : FVec Ideal S1x1024 .f32) (a6 : FVec Ideal S1024x6176 .f32) :
    FVec Ideal S1x1024 .f32 :=
  broadcastInDim S1x1024 ![1] bcast_S1024_S1x1024_1 (Host.reduceAdd (shapeCast _ (Host.reduceAdd (mulf (mulf a3 (broadcastInDim S16512x1024 ![0, 1] bcast_S16512x1_S16512x1024_0_1 (Host.rsqrt (addf (Host.divf (broadcastInDim S16512x1 ![0] bcast_S16512_S16512x1_0 (Host.reduceAdd (mulf a3 a3) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (Host.dotGeneral dot_S16512x6176_S1024x6176_S16512x1024_1_1_0_0_n_n none ((concatenate S16512x6176 1 [⟨S16512x4096, (a0 : FVec Ideal S16512x4096 .f32)⟩, ⟨S16512x2048, (a1 : FVec Ideal S16512x2048 .f32)⟩, ⟨S16512x32, (a2 : FVec Ideal S16512x32 .f32)⟩] concatenates_S16512x4096_S16512x2048_S16512x32_S16512x6176_d1 : FVec Ideal S16512x6176 .f32)) a6)) (constant S_ .f32 0x00000000#32) reducesTo_S16512x1024_S1024_d0 h_S_) shapeCasts_S1024_S1x1024) (constant S_ .f32 0x00000000#32) reducesTo_S1x1024_S1024_d0 h_S_)

end Cert.ReferenceInIdeal.Value

end
-- ==== Proof.InValue.lean ====
module

public import proofs.«01_k».proof.Proof.Gen.KernelInIdeal.Value
public import proofs.«01_k».proof.Proof.InRef
public import Idealize.ShloMosaic.Lib.Pipeline.ValueKit
public import Idealize.ShloMosaic.Lib.Pointwise
public import Idealize.ShloMosaic.Lib.Claim

/-! The backward pass of the input projections of the recurrent layer, entry by entry: the product with the three
cotangents, the derivative of the normalisation of a row and the gradient of its weight as plain expressions, the kernel's
stores as those expressions over a grid point's blocks, and the reference's results as the same expressions over the whole
arrays. The kernel multiplies by a mask where the reference selects. -/

@[expose] public section

set_option maxRecDepth 16384

noncomputable section

open Idealize.ShloMosaic Idealize.ShloMosaic.TcCoe Idealize.SL.Sem
open Idealize.ShloMosaic.Pipeline (Dat)
open scoped BigOperators

namespace Cert.KernelInIdeal.Value

open Cert.KernelInIdeal Cert.KernelInIdeal.Gen
open Cert.ReferenceInIdeal.Value (REF0 REF1)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![0, 0]
    ∧ win0_6.index t = ![0, 0]
    ∧ win0_7.index t = ![t.val, 0]
    ∧ win0_8.index t = ![0, 0] :=
  (by decide +kernel : ∀ t : Fin grid0.N, _)

/-- The mean square of a row's 1024 entries, with the small constant added. -/
def vr (x : Fin 1024 → EReal) : EReal :=
  Ideal.div (∑ k, x k * x k) (Ideal.ofBits .f32 0x44800000#32) + Ideal.ofBits .f32 0x358637BD#32

/-- What the normalisation's own derivative contributes, before the factor `x`. -/
def sx (d x w : Fin 1024 → EReal) : EReal :=
  ∑ _e : Fin 1, Ideal.div ((∑ k, x k * (d k * w k)) *
    (Ideal.ofBits .f32 0xBF000000#32 * Ideal.div (Ideal.rsqrt (vr x)) (vr x))) (Ideal.ofBits .f32 0x44800000#32)

/-- A row's entry of the gradient that comes through the normalisation. -/
def hrow (d x w : Fin 1024 → EReal) (l : Fin 1024) : EReal :=
  d l * w l * Ideal.rsqrt (vr x) + x l * sx d x w + sx d x w * x l

/-- A row's term of the gradient of the norm's weight. -/
def wrow (d x : Fin 1024 → EReal) (l : Fin 1024) : EReal :=
  x l * Ideal.rsqrt (vr x) * d l

/-- The product of row `a` of the three cotangents' blocks with row `n` of the weight. -/
def bdot (p : S384x4096.Idx → EReal) (p' : S384x2048.Idx → EReal) (p'' : S384x32.Idx → EReal)
    (q : S1024x6176.Idx → EReal) (a : Fin 384) (n : Fin 1024) : EReal :=
  (∑ j : Fin 4096, p (ix2 a j) * q (ix2 n ⟨j.val, by have := j.isLt; omega⟩))
    + (∑ j : Fin 2048, p' (ix2 a j) * q (ix2 n ⟨4096 + j.val, by have := j.isLt; omega⟩))
    + ∑ j : Fin 32, p'' (ix2 a j) * q (ix2 n ⟨6144 + j.val, by have := j.isLt; omega⟩)

/-- The product of row `r` of the three cotangents with row `n` of the weight. -/
def rdot (p : S16512x4096.Idx → EReal) (p' : S16512x2048.Idx → EReal) (p'' : S16512x32.Idx → EReal)
    (q : S1024x6176.Idx → EReal) (r : Fin 16512) (n : Fin 1024) : EReal :=
  (∑ j : Fin 4096, p (ix2 r j) * q (ix2 n ⟨j.val, by have := j.isLt; omega⟩))
    + (∑ j : Fin 2048, p' (ix2 r j) * q (ix2 n ⟨4096 + j.val, by have := j.isLt; omega⟩))
    + ∑ j : Fin 32, p'' (ix2 r j) * q (ix2 n ⟨6144 + j.val, by have := j.isLt; omega⟩)

/-- The product with the three cotangents next to one another is the sum of the three products. -/
theorem cat_sum (a0 : S16512x4096.Idx → EReal) (a1 : S16512x2048.Idx → EReal) (a2 : S16512x32.Idx → EReal)
    (r : Fin 16512) (q : Fin 6176 → EReal) :
    (∑ x : Fin 6176, (if h : x.val < 4096 then a0 (ix2 r ⟨x.val, h⟩)
      else if h' : x.val - 4096 < 2048 then a1 (ix2 r ⟨x.val - 4096, h'⟩)
      else a2 (ix2 r ⟨x.val - 4096 - 2048, by have := x.isLt; omega⟩)) * q x)
    = (∑ j : Fin 4096, a0 (ix2 r j) * q ⟨j.val, by have := j.isLt; omega⟩)
      + (∑ j : Fin 2048, a1 (ix2 r j) * q ⟨4096 + j.val, by have := j.isLt; omega⟩)
      + ∑ j : Fin 32, a2 (ix2 r j) * q ⟨6144 + j.val, by have := j.isLt; omega⟩ := by
  refine (Fin.sum_univ_add (a := 6144) (b := 32) _).trans (congrArg₂ (· + ·) ((Fin.sum_univ_add (a := 4096) (b := 2048) _).trans
    (congrArg₂ (· + ·) (Finset.sum_congr rfl fun j _ => ?_) (Finset.sum_congr rfl fun j _ => ?_))) (Finset.sum_congr rfl fun j _ => ?_))
  · refine congrArg₂ (· * ·) (dif_pos (show j.val < 4096 from j.isLt)) rfl
  · have hj := j.isLt
    refine congrArg₂ (· * ·) ((dif_neg (show ¬(4096 + j.val < 4096) by omega)).trans
      ((dif_pos (show 4096 + j.val - 4096 < 2048 by omega)).trans (congrArg (fun k => a1 (ix2 r k)) (Fin.ext ?_)))) rfl
    show 4096 + j.val - 4096 = j.val
    omega
  · have hj := j.isLt
    refine congrArg₂ (· * ·) ((dif_neg (show ¬(6144 + j.val < 4096) by omega)).trans
      ((dif_neg (show ¬(6144 + j.val - 4096 < 2048) by omega)).trans (congrArg (fun k => a2 (ix2 r k)) (Fin.ext ?_)))) rfl
    show 6144 + j.val - 4096 - 2048 = j.val
    omega

set_option maxHeartbeats 1600000 in
/-- The reference's second result at an entry. -/
theorem ref1_at (a0 : FVec Ideal S16512x4096 .f32) (a1 : FVec Ideal S16512x2048 .f32) (a2 : FVec Ideal S16512x32 .f32)
    (a3 a4 : FVec Ideal S16512x1024 .f32) (a5 : FVec Ideal S1x1024 .f32) (a6 : FVec Ideal S1024x6176 .f32)
    (o : Fin 1) (l : Fin 1024) :
    REF1 a0 a1 a2 a3 a4 a5 a6 (ix2 o l) = ∑ r : Fin 16512,
      wrow (fun k => rdot a0 a1 a2 a6 r k) (fun k => a3 (ix2 r k)) l := by
  pointwise [wrow, vr, rdot]
  simp only [Fin.sum_univ_one, cat_sum]

/-- The rows before the first token hold no gradient. -/
theorem keep_at (r : Fin 16512) (x : EReal) :
    Scalar.select (IntOp.cmpi .sge (BitVec.ofNat 32 r.val) 112#32) x 0 = if 112 ≤ r.val then x else 0 := by
  have hr := r.isLt
  simp (disch := omega) only [hlo_ix]

set_option maxHeartbeats 1600000 in
/-- The reference's first result at an entry. -/
theorem ref0_at (a0 : FVec Ideal S16512x4096 .f32) (a1 : FVec Ideal S16512x2048 .f32) (a2 : FVec Ideal S16512x32 .f32)
    (a3 a4 : FVec Ideal S16512x1024 .f32) (a5 : FVec Ideal S1x1024 .f32) (a6 : FVec Ideal S1024x6176 .f32)
    (r : Fin 16512) (n : Fin 1024) :
    REF0 a0 a1 a2 a3 a4 a5 a6 (ix2 r n) = if 112 ≤ r.val then a4 (ix2 r n) +
      hrow (fun k => rdot a0 a1 a2 a6 r k) (fun k => a3 (ix2 r k)) (fun k => a5 (ix2 0 k)) n else 0 := by
  refine Eq.trans ?_ (keep_at r _)
  pointwise [hrow, sx, vr, rdot]
  simp only [cat_sum]
  refine congrArg (Scalar.select _ _) ?_
  exact Ideal.ofBits_zero_f32

/-- A row of a grid point's block in the whole array. -/
def row (t : Fin cfg0.N) (a : Fin 384) : Fin 16512 :=
  ⟨t.val * 384 + a.val, by have h : t.val < 43 := lt_of_lt_of_eq t.isLt N_0; have := a.isLt; omega⟩

theorem rd0 (c : Dev nD) (t : Fin cfg0.N) (a : Fin 384) (j : Fin 4096) :
    (iblk m c 0 t : Vec Ideal S384x4096 .f32) (ix2 a j) = m ((c : Thread nD τ).loc main_arg0) (ix2 (row t a) j) := by
  unfold row
  blk_point [iblk, V, idx_val t]

theorem rd1 (c : Dev nD) (t : Fin cfg0.N) (a : Fin 384) (j : Fin 2048) :
    (iblk m c 1 t : Vec Ideal S384x2048 .f32) (ix2 a j) = m ((c : Thread nD τ).loc main_arg1) (ix2 (row t a) j) := by
  unfold row
  blk_point [iblk, V, idx_val t]

theorem rd2 (c : Dev nD) (t : Fin cfg0.N) (a : Fin 384) (j : Fin 32) :
    (iblk m c 2 t : Vec Ideal S384x32 .f32) (ix2 a j) = m ((c : Thread nD τ).loc main_arg2) (ix2 (row t a) j) := by
  unfold row
  blk_point [iblk, V, idx_val t]

theorem rd3 (c : Dev nD) (t : Fin cfg0.N) (a : Fin 384) (j : Fin 1024) :
    (iblk m c 3 t : Vec Ideal S384x1024 .f32) (ix2 a j) = m ((c : Thread nD τ).loc main_arg3) (ix2 (row t a) j) := by
  unfold row
  blk_point [iblk, V, idx_val t]

theorem rd4 (c : Dev nD) (t : Fin cfg0.N) (a : Fin 384) (j : Fin 1024) :
    (iblk m c 4 t : Vec Ideal S384x1024 .f32) (ix2 a j) = m ((c : Thread nD τ).loc main_arg4) (ix2 (row t a) j) := by
  unfold row
  blk_point [iblk, V, idx_val t]

theorem rd5 (c : Dev nD) (t : Fin cfg0.N) (a : Fin 1) (j : Fin 1024) :
    (iblk m c 5 t : Vec Ideal S1x1024 .f32) (ix2 a j) = m ((c : Thread nD τ).loc main_arg5) (ix2 a j) := by
  blk_point [iblk, V, idx_val t]

theorem rd6 (c : Dev nD) (t : Fin cfg0.N) (a : Fin 1024) (j : Fin 6176) :
    (iblk m c 6 t : Vec Ideal S1024x6176 .bf16) (ix2 a j) = m ((c : Thread nD τ).loc main_arg6) (ix2 a j) := by
  have e : ((cfg0.win 6).blk t).view.emb (ix2 a j) = ix2 a j := by blk_ext [idx_val t]
  blk_simp [iblk, idx_val t] at e ⊢
  rw [e]
  entry_read
  pointwise

/-- A grid point's product at a row. -/
theorem dot_at (c : Dev nD) (t : Fin cfg0.N) (a : Fin 384) (n : Fin 1024) :
    bdot (iblk m c 0 t) (iblk m c 1 t) (iblk m c 2 t) (iblk m c 6 t) a n
      = rdot (m ((c : Thread nD τ).loc main_arg0)) (m ((c : Thread nD τ).loc main_arg1)) (m ((c : Thread nD τ).loc main_arg2)) (m ((c : Thread nD τ).loc main_arg6)) (row t a) n := by
  simp only [bdot, rdot, rd0, rd1, rd2, rd6]

/-- A grid point's own coordinate. -/
theorem coord_val : ∀ t : Fin cfg0.N, (grid0.coords t 0).val = t.val :=
  (by decide +kernel : ∀ t : Fin grid0.N, _)

/-- The kernel's mask at a row: one from the first token on, zero before it. -/
theorem live_at (t : Fin cfg0.N) (a : Fin 384) :
    FloatOps.sitofp (F := Ideal) FTy.f32 (BitVec.setWidth 32 (IntOp.cmpi CmpIPredicate.sge
      (IntOp.addi (Scalar.muli (BitVec.ofNat 32 (grid0.coords t 0).val) 384#32) (BitVec.ofNat 32 a.val)) 112#32))
    = if 112 ≤ (row t a).val then (1 : EReal) else 0 := by
  have ht : t.val < 43 := lt_of_lt_of_eq t.isLt N_0
  have ha := a.isLt
  rw [coord_val]
  have e : IntOp.addi (Scalar.muli (BitVec.ofNat 32 t.val) 384#32) (BitVec.ofNat 32 a.val) = BitVec.ofNat 32 (row t a).val := by
    show BitVec.ofNat 32 t.val * BitVec.ofNat 32 384 + BitVec.ofNat 32 a.val = BitVec.ofNat 32 (t.val * 384 + a.val)
    rw [BitVec.ofNat_add, BitVec.ofNat_mul]
  have hr := (row t a).isLt
  rw [e]
  by_cases h : 112 ≤ (row t a).val
  · rw [if_pos h, (WordCmp.cmpi_sge_ofNat_eq_one_iff (by omega) (by omega)).mpr h]
    show (((BitVec.setWidth 32 1#1).toInt : ℝ) : EReal) = 1
    rw [show (BitVec.setWidth 32 1#1).toInt = 1 by decide]; norm_num
  · rw [if_neg h, (WordCmp.cmpi_sge_ofNat_eq_zero_iff (by omega) (by omega)).mpr h]
    show (((BitVec.setWidth 32 0#1).toInt : ℝ) : EReal) = 0
    rw [show (BitVec.setWidth 32 0#1).toInt = 0 by decide]; norm_num

/-- A row's entry over a grid point's blocks, before the mask. -/
def krow (p : S384x4096.Idx → EReal) (p' : S384x2048.Idx → EReal) (p'' : S384x32.Idx → EReal) (x h : S384x1024.Idx → EReal)
    (w : S1x1024.Idx → EReal) (q : S1024x6176.Idx → EReal) (a : Fin 384) (l : Fin 1024) : EReal :=
  h (ix2 a l) + hrow (fun k => bdot p p' p'' q a k) (fun k => x (ix2 a k)) (fun k => w (ix2 0 k)) l

/-- A product with the mask. -/
theorem mul_live (x : EReal) (p : Prop) [Decidable p] : x * (if p then (1 : EReal) else 0) = if p then x else 0 := by
  split <;> simp

set_option maxHeartbeats 1600000 in
/-- A row's entry over a grid point's blocks is the reference's entry at its place in the array. -/
theorem hrow_ref (c : Dev nD) (t : Fin cfg0.N) (y : S384x1024.Idx) (a : Fin 384) (l : Fin 1024)
    (h0 : (y 0).val = a.val) (h1 : (y 1).val = l.val) :
    krow (iblk m c 0 t) (iblk m c 1 t) (iblk m c 2 t) (iblk m c 3 t) (iblk m c 4 t) (iblk m c 5 t) (iblk m c 6 t) a l *
      FloatOps.sitofp (F := Ideal) FTy.f32 (BitVec.setWidth 32 (IntOp.cmpi CmpIPredicate.sge
        (IntOp.addi (Scalar.muli (BitVec.ofNat 32 (grid0.coords t 0).val) 384#32) (BitVec.ofNat 32 a.val)) 112#32))
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  have e : ((cfg0.win 7).blk t).view.emb y = ix2 (row t a) l := by
    unfold row
    blk_ext [idx_val t]
  refine Eq.trans ?_ (congrArg (REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) e).symm
  refine Eq.trans ?_ (ref0_at _ _ _ _ _ _ _ _ _).symm
  rw [live_at, mul_live]
  simp only [krow, dot_at, rd3, rd4, rd5]

set_option maxHeartbeats 1600000 in
/-- The block of window 7 at a grid point of case A. -/
theorem point_7_A (c : Dev nD) (t : Fin cfg0.N) (h0 : t.val % 43 = 0) (y) :
    (out0_A_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) ((hcond0_0
      t).mpr h0) (iblk m c 0 t) (iblk m c 1 t) (iblk m c 2 t) (iblk m c 3 t) (iblk m c 4 t) (iblk m c 5 t) (iblk m c 6
      t)) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  frame_out
  refine Eq.trans ?_ (hrow_ref m c t y (y 0) (y 1) rfl rfl)
  open_payloads
  pointwise [krow, hrow, sx, vr, bdot]

set_option maxHeartbeats 1600000 in
/-- The block of window 7 at a grid point of case B. -/
theorem point_7_B (c : Dev nD) (t : Fin cfg0.N) (h0 : ¬t.val % 43 = 0) (y) :
    (out0_B_7 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (fun h => h0
      ((hcond0_0 t).mp h)) (iblk m c 0 t) (iblk m c 1 t) (iblk m c 2 t) (iblk m c 3 t) (iblk m c 4 t) (iblk m c 5 t)
      (iblk m c 6 t) (outsAt0 m c (t.val - 1) (Nat.lt_of_le_of_lt (Nat.sub_le _ _) t.isLt)).2) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  frame_out
  refine Eq.trans ?_ (hrow_ref m c t y (y 0) (y 1) rfl rfl)
  open_payloads
  pointwise [krow, hrow, sx, vr, bdot]

/-- What window 7 holds after the last point is the result of the reference. -/
theorem final_7 (c : Dev nD) : (dats m 0 c).arrAt 7 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp; rw [after0_7]
  by_cases h : t.val % 43 = 0
  · rw [outsAt0_A m c t h]; dsimp only; exact point_7_A m c t h y
  · rw [outsAt0_B m c t h]; dsimp only; exact point_7_B m c t h y

/-- A grid point's term of the gradient of the norm's weight: the sum over the point's rows. -/
def wterm (c : Dev nD) (t : Fin cfg0.N) (l : Fin 1024) : EReal :=
  ∑ a : Fin 384, wrow (fun k => bdot (iblk m c 0 t) (iblk m c 1 t) (iblk m c 2 t) (iblk m c 6 t) a k)
    (fun k => (iblk m c 3 t : Vec Ideal S384x1024 .f32) (ix2 a k)) l

set_option maxHeartbeats 1600000 in
/-- The first point's store: its own term. -/
theorem after_A (c : Dev nD) (t : Fin cfg0.N) (h0 : t.val % 43 = 0) (j : S1x1024.Idx) :
    (outsAt0 m c t.val t.isLt).2 j = 0 + wterm m c t (j 1) := by
  rw [outsAt0_A m c t h0]
  frame_out
  open_payloads
  pointwise [wterm, wrow, vr, bdot]

set_option maxHeartbeats 1600000 in
/-- A later point's store: its own term added to what the point before left. -/
theorem after_B (c : Dev nD) (t : Fin cfg0.N) (h0 : ¬t.val % 43 = 0) (j : S1x1024.Idx) :
    (outsAt0 m c t.val t.isLt).2 j
      = (outsAt0 m c (t.val - 1) (Nat.lt_of_le_of_lt (Nat.sub_le _ _) t.isLt)).2 j + wterm m c t (j 1) := by
  rw [outsAt0_B m c t h0]
  frame_out
  open_payloads
  pointwise [wterm, wrow, vr, bdot]

/-- The last grid point. -/
def tlast : Fin cfg0.N := ⟨42, lt_of_lt_of_eq (by decide) N_0.symm⟩

set_option maxHeartbeats 1600000 in
/-- The points' terms add up to the reference's entry. -/
theorem total (c : Dev nD) (l : Fin 1024) : (∑ s : Fin cfg0.N, wterm m c s l) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 0 l) := by
  refine Eq.trans ?_ (ref1_at _ _ _ _ _ _ _ _ _).symm
  simp only [wterm]
  refine Fin.sum_mul_add_congr fun s a hl => ?_
  simp only [dot_at, rd3]
  rfl

set_option maxHeartbeats 1600000 in
/-- What window 8 holds after the last point is the result of the reference. -/
theorem final_8 (c : Dev nD) : (dats m 0 c).arrAt 8 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 8 tlast (by decide +kernel) _ fun j => ?_
  blk_simp
  rw [after0_8, Pipeline.eq_sum_fin_of_reset_step_apply_last (fun n h => (outsAt0 m c n h).2) 43 (fun _ => 0)
    (fun t j => wterm m c t (j 1)) (fun t h j => after_A m c t h j) (fun t h j => after_B m c t h j)
    (le_of_eq N_0) tlast N_0.symm j, zero_add]
  refine (total m c (j 1)).trans (congrArg (REF1 _ _ _ _ _ _ _) ?_)
  rw [eq_ix2 j]
  exact congrArg₂ ix2 (Subsingleton.elim (α := Fin 1) _ _) rfl

end Cert.KernelInIdeal.Value

end
-- ==== Proof.InClaim.lean ====
module

public import proofs.«01_k».proof.Defs
public import proofs.«01_k».proof.Proof.Gen.KernelIn.Frame
public import proofs.«01_k».proof.Proof.InValue
public import Idealize.ShloMosaic.Lib.Quiescent

/-! The claims about the backward pass of the second layer's input projections and norm. -/

@[expose] public section

set_option maxRecDepth 65536

noncomputable section

namespace Cert.Proof

open Idealize.ShloMosaic Idealize.SL.Sem

theorem quiescent_KernelIn : Cert.quiescent_KernelIn := fun m ρ _ => Cert.KernelIn.Gen.frame m ρ

theorem quiescent_KernelInIdeal : Cert.quiescent_KernelInIdeal := fun m ρ _ => Cert.KernelInIdeal.Gen.frame m ρ

theorem quiescent_ReferenceInIdeal : Cert.quiescent_ReferenceInIdeal := fun m ρ _ =>
  (θ_run Cert.ReferenceInIdeal.defs _ _).mono
    (fun r h => ⟨fun c => (h c).2.2, Idealize.ShloMosaic.sem_eq_zero_of_no_sems (by decide) r.2⟩)
    (Cert.ReferenceInIdeal.Value.run (F := Ideal) m ρ)

theorem algebraic_In : Cert.algebraic_KernelInIdeal_ReferenceInIdeal := by
  intro m ρ m' ρ' _ hagree
  refine ⟨_, _, Cert.KernelInIdeal.Value.run_blocks (F := Ideal) m ρ, ?_⟩
  refine (θ_run Cert.ReferenceInIdeal.defs _ _).mono
    (fun _ h c => ⟨(h c).1.trans ?_, (h c).2.1.trans ?_, (h c).2.2⟩)
    (Cert.ReferenceInIdeal.Value.run (F := Ideal) m' ρ')
  · obtain ⟨h0, h1, h2, h3, h4, h5, h6⟩ := hagree c
    change Cert.ReferenceInIdeal.Value.REF0 (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg4)) (m' ((c.tc : Thread Cert.ReferenceInIdeal.nD Cert.ReferenceInIdeal.τ).loc Cert.ReferenceInIdeal.main_arg5)) (m' ((c.tc : Thread Cert.ReferenceInIdeal.nD Cert.ReferenceInIdeal.τ).loc Cert.ReferenceInIdeal.main_arg6)) = _
    rw [h0, h1, h2, h3, h4, h5, h6]
    exact (Cert.KernelInIdeal.Value.final_7 m c).symm
  · obtain ⟨h0, h1, h2, h3, h4, h5, h6⟩ := hagree c
    change Cert.ReferenceInIdeal.Value.REF1 (m' ((c.tc : Thread Cert.ReferenceInIdeal.nD Cert.ReferenceInIdeal.τ).loc Cert.ReferenceInIdeal.main_arg0)) (m' ((c.tc : Thread Cert.ReferenceInIdeal.nD Cert.ReferenceInIdeal.τ).loc Cert.ReferenceInIdeal.main_arg1)) (m' ((c.tc : Thread Cert.ReferenceInIdeal.nD Cert.ReferenceInIdeal.τ).loc Cert.ReferenceInIdeal.main_arg2)) (m' ((c.tc : Thread Cert.ReferenceInIdeal.nD Cert.ReferenceInIdeal.τ).loc Cert.ReferenceInIdeal.main_arg3)) (m' ((c.tc : Thread Cert.ReferenceInIdeal.nD Cert.ReferenceInIdeal.τ).loc Cert.ReferenceInIdeal.main_arg4)) (m' ((c.tc : Thread Cert.ReferenceInIdeal.nD Cert.ReferenceInIdeal.τ).loc Cert.ReferenceInIdeal.main_arg5)) (m' ((c.tc : Thread Cert.ReferenceInIdeal.nD Cert.ReferenceInIdeal.τ).loc Cert.ReferenceInIdeal.main_arg6)) = _
    rw [h0, h1, h2, h3, h4, h5, h6]
    exact (Cert.KernelInIdeal.Value.final_8 m c).symm

end Cert.Proof

end
-- ==== Proof.OutRef.lean ====
module

public import proofs.«01_k».proof.Proof.Gen.ReferenceOutIdeal.Run
public import Idealize.ShloMosaic.PureOps.Ideal

/-! The reference's results as functions of its arguments, over the extended reals. -/

@[expose] public section

set_option maxRecDepth 16384

noncomputable section

namespace Cert.ReferenceOutIdeal.Value

open Cert.ReferenceOutIdeal Cert.ReferenceOutIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S16512x1024 .f32) (a2 : FVec Ideal S16512x1024 .f32) (a3 : FVec Ideal S1024x1024 .f32) :
    FVec Ideal S16512x1024 .f32 :=
  mulf (Host.dotGeneral dot_S16512x1024_S1024x1024_S16512x1024_1_1_0_0_n_n none a0 a3) (mulf a2 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a2)))))

/-- Result 1 of the reference. -/
abbrev REF1 (a0 : FVec Ideal S16512x1024 .f32) (a1 : FVec Ideal S16512x1024 .f32) (a2 : FVec Ideal S16512x1024 .f32) (a3 : FVec Ideal S1024x1024 .f32) :
    FVec Ideal S16512x1024 .f32 :=
  addf (mulf (mulf a1 (Host.dotGeneral dot_S16512x1024_S1024x1024_S16512x1024_1_1_0_0_n_n none a0 a3)) (Host.divf (broadcastInDim S16512x1024 ![] bcast_S_S16512x1024 (constant S_ .f32 0x3F800000#32)) (addf (broadcastInDim S16512x1024 ![] bcast_S_S16512x1024 (constant S_ .f32 0x3F800000#32)) (Host.exp (Host.negf a2))))) (mulf (mulf a2 (mulf a1 (Host.dotGeneral dot_S16512x1024_S1024x1024_S16512x1024_1_1_0_0_n_n none a0 a3))) (mulf (Host.divf (broadcastInDim S16512x1024 ![] bcast_S_S16512x1024 (constant S_ .f32 0x3F800000#32)) (addf (broadcastInDim S16512x1024 ![] bcast_S_S16512x1024 (constant S_ .f32 0x3F800000#32)) (Host.exp (Host.negf a2)))) (subf (broadcastInDim S16512x1024 ![] bcast_S_S16512x1024 (constant S_ .f32 0x3F800000#32)) (Host.divf (broadcastInDim S16512x1024 ![] bcast_S_S16512x1024 (constant S_ .f32 0x3F800000#32)) (addf (broadcastInDim S16512x1024 ![] bcast_S_S16512x1024 (constant S_ .f32 0x3F800000#32)) (Host.exp (Host.negf a2)))))))

/-- Result 2 of the reference. -/
abbrev REF2 (a0 : FVec Ideal S16512x1024 .f32) (a1 : FVec Ideal S16512x1024 .f32) (a2 : FVec Ideal S16512x1024 .f32) (a3 : FVec Ideal S1024x1024 .f32) :
    FVec Ideal S1024x1024 .f32 :=
  transpose S1024x1024 [1, 0] (Host.dotGeneral dot_S16512x1024_S16512x1024_S1024x1024_0_0_1_1_n_n none a0 (mulf a1 (mulf a2 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a2))))))) transposes_S1024x1024_S1024x1024_1_0

end Cert.ReferenceOutIdeal.Value

end
-- ==== Proof.OutValue.lean ====
module

public import proofs.«01_k».proof.Proof.Gen.KernelOutIdeal.Value
public import proofs.«01_k».proof.Proof.OutRef
public import Idealize.ShloMosaic.Lib.Pipeline.ValueKit
public import Idealize.ShloMosaic.Lib.Pointwise
public import Idealize.ShloMosaic.Lib.Claim

/-! What the gradient of the attention output projection leaves in its three result arrays. -/

@[expose] public section

set_option maxRecDepth 16384

noncomputable section

open Idealize.ShloMosaic Idealize.ShloMosaic.TcCoe Idealize.SL.Sem
open Idealize.ShloMosaic.Pipeline (Dat)
open scoped BigOperators

namespace Cert.KernelOutIdeal.Value

open Cert.KernelOutIdeal Cert.KernelOutIdeal.Gen
open Cert.ReferenceOutIdeal.Value (REF0 REF1 REF2)

variable (m : (ℓ : Loc nD τ sig) → Buf (Elt Ideal) ℓ)

/-- The block each window reads or writes at a grid point. -/
theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0] :=
  (by decide +kernel : ∀ t : Fin grid0.N, _)

/-- The gradient of the branch, whole. -/
theorem final_4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]
  by_cases h : t.val % 43 = 0
  · rw [outsAt0_A m c t h]; dsimp only; frame_out
    pointwise [k0_pay2, k0_pay3, k0_pay4, k0_pay5, REF0]
    simp only [Ideal.logistic]
    blk_point [iblk, V, idx_val t]
  · rw [outsAt0_B m c t h]; dsimp only; frame_out
    pointwise [k0_pay2, k0_pay3, k0_pay4, k0_pay5, REF0]
    simp only [Ideal.logistic]
    blk_point [iblk, V, idx_val t]

/-- The gradient of the gate, whole. -/
theorem final_5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]
  by_cases h : t.val % 43 = 0
  · rw [outsAt0_A m c t h]; dsimp only; frame_out
    pointwise [k0_pay2, k0_pay3, k0_pay6, REF1]
    simp only [Ideal.logistic]
    blk_point [iblk, V, idx_val t]
  · rw [outsAt0_B m c t h]; dsimp only; frame_out
    pointwise [k0_pay2, k0_pay3, k0_pay6, REF1]
    simp only [Ideal.logistic]
    blk_point [iblk, V, idx_val t]

/-- The zero fill. -/
theorem zero_6 (j : S1024x1024.Idx) : k0_pay1 (F := Ideal) j = 0 := by
  pointwise! [k0_pay1]

/-- A grid point adds its own product to what the buffer held. -/
theorem step_6 (v3 : Vec Ideal S384x1024 .f32) (v8 : Vec Ideal S384x1024 .f32) (v9 : Vec Ideal S384x1024 .f32) (v24 : Vec Ideal S1024x1024 .f32) (j : S1024x1024.Idx) :
    k0_pay7 v3 v8 v9 v24 j = v24 j + k0_pay7 v3 v8 v9 (fun _ => 0) j := by
  pointwise [k0_pay7]

/-- The gradient of the weight: the grid points' products summed are the whole product. -/
theorem final_6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, Pipeline.eq_sum_fin_of_reset_step_apply_of_flush (fun n h => (outsAt0 m c n h).2.2) 43 (fun _ => 0) _
    (fun t h j => by rw [outsAt0_A m c t h]; frame_out; rw [step_6, zero_6])
    (fun t h j => by rw [outsAt0_B m c t h]; frame_out; rw [step_6])
    t ((flush0_6 t).mp hf) _, zero_add]
  pointwise [k0_pay7, k0_pay3, k0_pay4, REF2]
  simp only [Ideal.logistic]
  refine Fin.sum_mul_add_congr fun s k hl => ?_
  blk_point [iblk, V, idx_val t, idx_val ⟨_, Pipeline.run_point_lt_of_flush t ((flush0_6 t).mp hf) s⟩]

end Cert.KernelOutIdeal.Value

end
-- ==== Proof.OutClaim.lean ====
module

public import proofs.«01_k».proof.Defs
public import proofs.«01_k».proof.Proof.Gen.KernelOut.Frame
public import proofs.«01_k».proof.Proof.OutValue
public import Idealize.ShloMosaic.Lib.Quiescent

/-! The claims about the gradient of the attention output projection. -/

@[expose] public section

set_option maxRecDepth 65536

noncomputable section

namespace Cert.Proof

open Idealize.ShloMosaic Idealize.SL.Sem

theorem quiescent_KernelOut : Cert.quiescent_KernelOut := fun m ρ _ => Cert.KernelOut.Gen.frame m ρ

theorem quiescent_KernelOutIdeal : Cert.quiescent_KernelOutIdeal := fun m ρ _ => Cert.KernelOutIdeal.Gen.frame m ρ

theorem quiescent_ReferenceOutIdeal : Cert.quiescent_ReferenceOutIdeal := fun m ρ _ =>
  (θ_run Cert.ReferenceOutIdeal.defs _ _).mono
    (fun r h => ⟨fun c => (h c).2.2.2, Idealize.ShloMosaic.sem_eq_zero_of_no_sems (by decide) r.2⟩)
    (Cert.ReferenceOutIdeal.Value.run (F := Ideal) m ρ)

theorem algebraic_Out : Cert.algebraic_KernelOutIdeal_ReferenceOutIdeal := by
  intro m ρ m' ρ' _ hagree
  refine ⟨_, _, _, Cert.KernelOutIdeal.Value.run_blocks (F := Ideal) m ρ, ?_⟩
  refine (θ_run Cert.ReferenceOutIdeal.defs _ _).mono
    (fun _ h c => ⟨(h c).1.trans ?_, (h c).2.1.trans ?_, (h c).2.2.1.trans ?_, (h c).2.2.2⟩)
    (Cert.ReferenceOutIdeal.Value.run (F := Ideal) m' ρ')
  · obtain ⟨h0, h1, h2, h3⟩ := hagree c
    change Cert.ReferenceOutIdeal.Value.REF0 (m' ((c.tc : Thread Cert.ReferenceOutIdeal.nD Cert.ReferenceOutIdeal.τ).loc Cert.ReferenceOutIdeal.main_arg0)) (m' ((c.tc : Thread Cert.ReferenceOutIdeal.nD Cert.ReferenceOutIdeal.τ).loc Cert.ReferenceOutIdeal.main_arg1)) (m' ((c.tc : Thread Cert.ReferenceOutIdeal.nD Cert.ReferenceOutIdeal.τ).loc Cert.ReferenceOutIdeal.main_arg2)) (m' ((c.tc : Thread Cert.ReferenceOutIdeal.nD Cert.ReferenceOutIdeal.τ).loc Cert.ReferenceOutIdeal.main_arg3)) = _
    rw [h0, h1, h2, h3]
    exact (Cert.KernelOutIdeal.Value.final_4 m c).symm
  · obtain ⟨h0, h1, h2, h3⟩ := hagree c
    change Cert.ReferenceOutIdeal.Value.REF1 (m' ((c.tc : Thread Cert.ReferenceOutIdeal.nD Cert.ReferenceOutIdeal.τ).loc Cert.ReferenceOutIdeal.main_arg0)) (m' ((c.tc : Thread Cert.ReferenceOutIdeal.nD Cert.ReferenceOutIdeal.τ).loc Cert.ReferenceOutIdeal.main_arg1)) (m' ((c.tc : Thread Cert.ReferenceOutIdeal.nD Cert.ReferenceOutIdeal.τ).loc Cert.ReferenceOutIdeal.main_arg2)) (m' ((c.tc : Thread Cert.ReferenceOutIdeal.nD Cert.ReferenceOutIdeal.τ).loc Cert.ReferenceOutIdeal.main_arg3)) = _
    rw [h0, h1, h2, h3]
    exact (Cert.KernelOutIdeal.Value.final_5 m c).symm
  · obtain ⟨h0, h1, h2, h3⟩ := hagree c
    change Cert.ReferenceOutIdeal.Value.REF2 (m' ((c.tc : Thread Cert.ReferenceOutIdeal.nD Cert.ReferenceOutIdeal.τ).loc Cert.ReferenceOutIdeal.main_arg0)) (m' ((c.tc : Thread Cert.ReferenceOutIdeal.nD Cert.ReferenceOutIdeal.τ).loc Cert.ReferenceOutIdeal.main_arg1)) (m' ((c.tc : Thread Cert.ReferenceOutIdeal.nD Cert.ReferenceOutIdeal.τ).loc Cert.ReferenceOutIdeal.main_arg2)) (m' ((c.tc : Thread Cert.ReferenceOutIdeal.nD Cert.ReferenceOutIdeal.τ).loc Cert.ReferenceOutIdeal.main_arg3)) = _
    rw [h0, h1, h2, h3]
    exact (Cert.KernelOutIdeal.Value.final_6 m c).symm

end Cert.Proof

end
-- ==== Proof.WQkvRef.lean ====
module

public import proofs.«01_k».proof.Proof.Gen.ReferenceWQkvIdeal.Run
public import Idealize.ShloMosaic.PureOps.Ideal

/-! The reference's results as functions of its arguments, over the extended reals. -/

@[expose] public section

set_option maxRecDepth 16384

noncomputable section

namespace Cert.ReferenceWQkvIdeal.Value

open Cert.ReferenceWQkvIdeal Cert.ReferenceWQkvIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S1x1024 .f32) (a2 : FVec Ideal S1024x4096 .f32) (a3 : FVec Ideal S16512x4096 .f32) :
    FVec Ideal S1024x4096 .f32 :=
  transpose S1024x4096 [1, 0] (Host.dotGeneral dot_S16512x4096_S16512x1024_S4096x1024_0_0_1_1_n_n none a3 (mulf (mulf a0 (broadcastInDim S16512x1024 ![0, 1] bcast_S16512x1_S16512x1024_0_1 (Host.rsqrt (addf (Host.divf (broadcastInDim S16512x1 ![0] bcast_S16512_S16512x1_0 (Host.reduceAdd (mulf a0 a0) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a1 shapeCasts_S1x1024_S1024))))) transposes_S4096x1024_S1024x4096_1_0

end Cert.ReferenceWQkvIdeal.Value

end
-- ==== Proof.WQkvValue.lean ====
module

public import proofs.«01_k».proof.Proof.Gen.KernelWQkvIdeal.Value
public import proofs.«01_k».proof.Proof.WQkvRef
public import Idealize.ShloMosaic.Lib.Pipeline.ValueKit
public import Idealize.ShloMosaic.Lib.Pointwise
public import Idealize.ShloMosaic.Lib.Claim

/-! The weight gradient of the q, k and v columns of the recurrent layer's input projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWQkvIdeal.Value

open Cert.KernelWQkvIdeal Cert.KernelWQkvIdeal.Gen
open Cert.ReferenceWQkvIdeal.Value (REF0)

variable (m : (ℓ : Loc nD τ sig) → Buf (Elt Ideal) ℓ)

/-- Every window's block index at a grid point. -/
theorem idx_val : ∀ t : Fin cfg0.N, win0_0.index t = ![t.val % 6, 0]
    ∧ win0_1.index t = ![t.val % 6, t.val / 6]
    ∧ win0_2.index t = ![0, t.val / 6] :=
  (by decide +kernel : ∀ t : Fin grid0.N, _)

/-- The reset stores zeros. -/
theorem hzero (j : S1024x1024.Idx) : k0_pay1 (F := Ideal) j = 0 := by
  pointwise! [k0_pay1]

/-- The accumulating store adds its part to what the buffer held. -/
theorem hpay (v3 : Vec Ideal S1024x1024 .f32) (v5 : Vec Ideal S2752x1024 .bf16) (v7 : Vec Ideal S2752x1024 .f32) (j : S1024x1024.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2, Pipeline.eq_sum_fin_of_reset_step_apply_of_flush (fun n h => (outsAt0 m c n h)) 6 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF0]
  refine Fin.sum_mul_add_congr fun s k hl => ?_
  have ix := idx_val ⟨_, Pipeline.run_point_lt_of_flush t ((flush0_2 t).mp hf) s⟩
  rw [mul_comm]
  refine congrArg₂ (· * ·) ?_ ?_
  · blk_point [iblk, V, idx_val t, ix]
  · have e : (win0_0.blk ⟨_, Pipeline.run_point_lt_of_flush t ((flush0_2 t).mp hf) s⟩).view.emb (ix2 k (y 0))
        = ix2 ⟨s.val * 2752 + k.val, hl⟩ (((cfg0.win 2).blk t).view.emb y 0) := by blk_ext [idx_val t, ix]
    blk_simp [iblk, idx_val t, ix] at e ⊢
    rw [e]
    entry_read
    pointwise

end Cert.KernelWQkvIdeal.Value

end
-- ==== Proof.WQkvClaim.lean ====
module

public import proofs.«01_k».proof.Defs
public import proofs.«01_k».proof.Proof.Gen.KernelWQkv.Frame
public import proofs.«01_k».proof.Proof.WQkvValue
public import Idealize.ShloMosaic.Lib.Quiescent

/-! The claims about the weight gradient of the second layer's q, k and v. -/

@[expose] public section

set_option maxRecDepth 65536

noncomputable section

namespace Cert.Proof

open Idealize.ShloMosaic Idealize.SL.Sem

theorem quiescent_KernelWQkv : Cert.quiescent_KernelWQkv := fun m ρ _ => Cert.KernelWQkv.Gen.frame m ρ

theorem quiescent_KernelWQkvIdeal : Cert.quiescent_KernelWQkvIdeal := fun m ρ _ => Cert.KernelWQkvIdeal.Gen.frame m ρ

theorem quiescent_ReferenceWQkvIdeal : Cert.quiescent_ReferenceWQkvIdeal := fun m ρ _ =>
  (θ_run Cert.ReferenceWQkvIdeal.defs _ _).mono
    (fun r h => ⟨fun c => (h c).2, Idealize.ShloMosaic.sem_eq_zero_of_no_sems (by decide) r.2⟩)
    (Cert.ReferenceWQkvIdeal.Value.run (F := Ideal) m ρ)

theorem algebraic_WQkv : Cert.algebraic_KernelWQkvIdeal_ReferenceWQkvIdeal := by
  intro m ρ m' ρ' _ hagree
  refine ⟨_, Cert.KernelWQkvIdeal.Value.run_blocks (F := Ideal) m ρ, ?_⟩
  refine (θ_run Cert.ReferenceWQkvIdeal.defs _ _).mono
    (fun _ h c => ⟨(h c).1.trans ?_, (h c).2⟩)
    (Cert.ReferenceWQkvIdeal.Value.run (F := Ideal) m' ρ')
  · obtain ⟨h0, h1, h2, h3⟩ := hagree c
    change Cert.ReferenceWQkvIdeal.Value.REF0 (m' ((c.tc : Thread Cert.ReferenceWQkvIdeal.nD Cert.ReferenceWQkvIdeal.τ).loc Cert.ReferenceWQkvIdeal.main_arg0)) (m' ((c.tc : Thread Cert.ReferenceWQkvIdeal.nD Cert.ReferenceWQkvIdeal.τ).loc Cert.ReferenceWQkvIdeal.main_arg1)) (m' ((c.tc : Thread Cert.ReferenceWQkvIdeal.nD Cert.ReferenceWQkvIdeal.τ).loc Cert.ReferenceWQkvIdeal.main_arg2)) (m' ((c.tc : Thread Cert.ReferenceWQkvIdeal.nD Cert.ReferenceWQkvIdeal.τ).loc Cert.ReferenceWQkvIdeal.main_arg3)) = _
    rw [h0, h1, h2, h3]
    exact (Cert.KernelWQkvIdeal.Value.final_2 m c).symm

end Cert.Proof

end
-- ==== Proof.WZRef.lean ====
module

public import proofs.«01_k».proof.Proof.Gen.ReferenceWZIdeal.Run
public import Idealize.ShloMosaic.PureOps.Ideal

/-! The reference's results as functions of its arguments, over the extended reals. -/

@[expose] public section

set_option maxRecDepth 16384

noncomputable section

namespace Cert.ReferenceWZIdeal.Value

open Cert.ReferenceWZIdeal Cert.ReferenceWZIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S1x1024 .f32) (a2 : FVec Ideal S1024x2048 .f32) (a3 : FVec Ideal S16512x2048 .f32) :
    FVec Ideal S1024x2048 .f32 :=
  transpose S1024x2048 [1, 0] (Host.dotGeneral dot_S16512x2048_S16512x1024_S2048x1024_0_0_1_1_n_n none a3 (mulf (mulf a0 (broadcastInDim S16512x1024 ![0, 1] bcast_S16512x1_S16512x1024_0_1 (Host.rsqrt (addf (Host.divf (broadcastInDim S16512x1 ![0] bcast_S16512_S16512x1_0 (Host.reduceAdd (mulf a0 a0) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a1 shapeCasts_S1x1024_S1024))))) transposes_S2048x1024_S1024x2048_1_0

end Cert.ReferenceWZIdeal.Value

end
-- ==== Proof.WZValue.lean ====
module

public import proofs.«01_k».proof.Proof.Gen.KernelWZIdeal.Value
public import proofs.«01_k».proof.Proof.WZRef
public import Idealize.ShloMosaic.Lib.Pipeline.ValueKit
public import Idealize.ShloMosaic.Lib.Pointwise
public import Idealize.ShloMosaic.Lib.Claim

/-! The weight gradient of the z columns of the recurrent layer's input projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWZIdeal.Value

open Cert.KernelWZIdeal Cert.KernelWZIdeal.Gen
open Cert.ReferenceWZIdeal.Value (REF0)

variable (m : (ℓ : Loc nD τ sig) → Buf (Elt Ideal) ℓ)

/-- Every window's block index at a grid point. -/
theorem idx_val : ∀ t : Fin cfg0.N, win0_0.index t = ![t.val % 6, 0]
    ∧ win0_1.index t = ![t.val % 6, t.val / 6]
    ∧ win0_2.index t = ![0, t.val / 6] :=
  (by decide +kernel : ∀ t : Fin grid0.N, _)

/-- The reset stores zeros. -/
theorem hzero (j : S1024x1024.Idx) : k0_pay1 (F := Ideal) j = 0 := by
  pointwise! [k0_pay1]

/-- The accumulating store adds its part to what the buffer held. -/
theorem hpay (v3 : Vec Ideal S1024x1024 .f32) (v5 : Vec Ideal S2752x1024 .bf16) (v7 : Vec Ideal S2752x1024 .f32) (j : S1024x1024.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 2 _ (by decide +kernel) fun t hf y => ?_
  blk_simp
  rw [after0_2, Pipeline.eq_sum_fin_of_reset_step_apply_of_flush (fun n h => (outsAt0 m c n h)) 6 (fun _ => 0) _
    (fun t h j => by rw [outsAt0_A m c t h]; frame_out; rw [hpay, hzero])
    (fun t h j => by rw [outsAt0_B m c t h]; frame_out; rw [hpay])
    t ((flush0_2 t).mp hf) _, zero_add]
  pointwise [k0_pay2, REF0]
  refine Fin.sum_mul_add_congr fun s k hl => ?_
  have ix := idx_val ⟨_, Pipeline.run_point_lt_of_flush t ((flush0_2 t).mp hf) s⟩
  rw [mul_comm]
  refine congrArg₂ (· * ·) ?_ ?_
  · blk_point [iblk, V, idx_val t, ix]
  · have e : (win0_0.blk ⟨_, Pipeline.run_point_lt_of_flush t ((flush0_2 t).mp hf) s⟩).view.emb (ix2 k (y 0))
        = ix2 ⟨s.val * 2752 + k.val, hl⟩ (((cfg0.win 2).blk t).view.emb y 0) := by blk_ext [idx_val t, ix]
    blk_simp [iblk, idx_val t, ix] at e ⊢
    rw [e]
    entry_read
    pointwise

end Cert.KernelWZIdeal.Value

end
-- ==== Proof.WZClaim.lean ====
module

public import proofs.«01_k».proof.Defs
public import proofs.«01_k».proof.Proof.Gen.KernelWZ.Frame
public import proofs.«01_k».proof.Proof.WZValue
public import Idealize.ShloMosaic.Lib.Quiescent

/-! The claims about the weight gradient of the second layer's z. -/

@[expose] public section

set_option maxRecDepth 65536

noncomputable section

namespace Cert.Proof

open Idealize.ShloMosaic Idealize.SL.Sem

theorem quiescent_KernelWZ : Cert.quiescent_KernelWZ := fun m ρ _ => Cert.KernelWZ.Gen.frame m ρ

theorem quiescent_KernelWZIdeal : Cert.quiescent_KernelWZIdeal := fun m ρ _ => Cert.KernelWZIdeal.Gen.frame m ρ

theorem quiescent_ReferenceWZIdeal : Cert.quiescent_ReferenceWZIdeal := fun m ρ _ =>
  (θ_run Cert.ReferenceWZIdeal.defs _ _).mono
    (fun r h => ⟨fun c => (h c).2, Idealize.ShloMosaic.sem_eq_zero_of_no_sems (by decide) r.2⟩)
    (Cert.ReferenceWZIdeal.Value.run (F := Ideal) m ρ)

theorem algebraic_WZ : Cert.algebraic_KernelWZIdeal_ReferenceWZIdeal := by
  intro m ρ m' ρ' _ hagree
  refine ⟨_, Cert.KernelWZIdeal.Value.run_blocks (F := Ideal) m ρ, ?_⟩
  refine (θ_run Cert.ReferenceWZIdeal.defs _ _).mono
    (fun _ h c => ⟨(h c).1.trans ?_, (h c).2⟩)
    (Cert.ReferenceWZIdeal.Value.run (F := Ideal) m' ρ')
  · obtain ⟨h0, h1, h2, h3⟩ := hagree c
    change Cert.ReferenceWZIdeal.Value.REF0 (m' ((c.tc : Thread Cert.ReferenceWZIdeal.nD Cert.ReferenceWZIdeal.τ).loc Cert.ReferenceWZIdeal.main_arg0)) (m' ((c.tc : Thread Cert.ReferenceWZIdeal.nD Cert.ReferenceWZIdeal.τ).loc Cert.ReferenceWZIdeal.main_arg1)) (m' ((c.tc : Thread Cert.ReferenceWZIdeal.nD Cert.ReferenceWZIdeal.τ).loc Cert.ReferenceWZIdeal.main_arg2)) (m' ((c.tc : Thread Cert.ReferenceWZIdeal.nD Cert.ReferenceWZIdeal.τ).loc Cert.ReferenceWZIdeal.main_arg3)) = _
    rw [h0, h1, h2, h3]
    exact (Cert.KernelWZIdeal.Value.final_2 m c).symm

end Cert.Proof

end
-- ==== Proof.WBaRef.lean ====
module

public import proofs.«01_k».proof.Proof.Gen.ReferenceWBaIdeal.Run
public import Idealize.ShloMosaic.PureOps.Ideal

/-! The reference's results as functions of its arguments, over the extended reals. -/

@[expose] public section

set_option maxRecDepth 16384

noncomputable section

namespace Cert.ReferenceWBaIdeal.Value

open Cert.ReferenceWBaIdeal Cert.ReferenceWBaIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S1x1024 .f32) (a2 : FVec Ideal S1024x32 .f32) (a3 : FVec Ideal S16512x32 .f32) :
    FVec Ideal S1024x32 .f32 :=
  transpose S1024x32 [1, 0] (Host.dotGeneral dot_S16512x32_S16512x1024_S32x1024_0_0_1_1_n_n none a3 (mulf (mulf a0 (broadcastInDim S16512x1024 ![0, 1] bcast_S16512x1_S16512x1024_0_1 (Host.rsqrt (addf (Host.divf (broadcastInDim S16512x1 ![0] bcast_S16512_S16512x1_0 (Host.reduceAdd (mulf a0 a0) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a1 shapeCasts_S1x1024_S1024))))) transposes_S32x1024_S1024x32_1_0

end Cert.ReferenceWBaIdeal.Value

end
-- ==== Proof.WBaValue.lean ====
module

public import proofs.«01_k».proof.Proof.Gen.KernelWBaIdeal.Value
public import proofs.«01_k».proof.Proof.WBaRef
public import Idealize.ShloMosaic.Lib.Pipeline.ValueKit
public import Idealize.ShloMosaic.Lib.Pointwise
public import Idealize.ShloMosaic.Lib.Claim

/-! The weight gradient of the b and a columns of the recurrent layer's input projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWBaIdeal.Value

open Cert.KernelWBaIdeal Cert.KernelWBaIdeal.Gen
open Cert.ReferenceWBaIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The reset stores zeros. -/
theorem hzero (j : S1024x32.Idx) : k0_pay1 (F := Ideal) j = 0 := by
  pointwise! [k0_pay1]

/-- The accumulating store adds its part to what the buffer held. -/
theorem hpay (v3 : Vec Ideal S1024x32 .f32) (v5 : Vec Ideal S2752x1024 .bf16) (v7 : Vec Ideal S2752x32 .f32) (j : S1024x32.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_after_last 2 t0_5 (by decide +kernel) _ fun j => ?_
  blk_simp
  rw [after0_2, Pipeline.eq_sum_fin_of_reset_step_apply_last (fun n h => (outsAt0 m c n h)) 6 (fun _ => 0) _
    (fun t h j => by rw [outsAt0_A m c t h]; frame_out; rw [hpay, hzero])
    (fun t h j => by rw [outsAt0_B m c t h]; frame_out; rw [hpay])
    (le_of_eq N_0) t0_5 rfl j, zero_add]
  pointwise [k0_pay2, REF0]
  refine Fin.sum_mul_add_congr fun s k hl => ?_
  rw [mul_comm]
  refine congrArg₂ (· * ·) ?_ ?_
  · blk_point [iblk, V, idx_val s]
  · have e : (win0_0.blk s).view.emb (ix2 k (j 0)) = ix2 ⟨s.val * 2752 + k.val, hl⟩ (j 0) := by blk_ext [idx_val s]
    blk_simp [iblk, idx_val s]
    entry_read
    pointwise
    rw [e]
    rfl

end Cert.KernelWBaIdeal.Value

end
-- ==== Proof.WBaClaim.lean ====
module

public import proofs.«01_k».proof.Defs
public import proofs.«01_k».proof.Proof.Gen.KernelWBa.Frame
public import proofs.«01_k».proof.Proof.WBaValue
public import Idealize.ShloMosaic.Lib.Quiescent

/-! The claims about the weight gradient of the second layer's b and a. -/

@[expose] public section

set_option maxRecDepth 65536

noncomputable section

namespace Cert.Proof

open Idealize.ShloMosaic Idealize.SL.Sem

theorem quiescent_KernelWBa : Cert.quiescent_KernelWBa := fun m ρ _ => Cert.KernelWBa.Gen.frame m ρ

theorem quiescent_KernelWBaIdeal : Cert.quiescent_KernelWBaIdeal := fun m ρ _ => Cert.KernelWBaIdeal.Gen.frame m ρ

theorem quiescent_ReferenceWBaIdeal : Cert.quiescent_ReferenceWBaIdeal := fun m ρ _ =>
  (θ_run Cert.ReferenceWBaIdeal.defs _ _).mono
    (fun r h => ⟨fun c => (h c).2, Idealize.ShloMosaic.sem_eq_zero_of_no_sems (by decide) r.2⟩)
    (Cert.ReferenceWBaIdeal.Value.run (F := Ideal) m ρ)

theorem algebraic_WBa : Cert.algebraic_KernelWBaIdeal_ReferenceWBaIdeal := by
  intro m ρ m' ρ' _ hagree
  refine ⟨_, Cert.KernelWBaIdeal.Value.run_blocks (F := Ideal) m ρ, ?_⟩
  refine (θ_run Cert.ReferenceWBaIdeal.defs _ _).mono
    (fun _ h c => ⟨(h c).1.trans ?_, (h c).2⟩)
    (Cert.ReferenceWBaIdeal.Value.run (F := Ideal) m' ρ')
  · obtain ⟨h0, h1, h2, h3⟩ := hagree c
    change Cert.ReferenceWBaIdeal.Value.REF0 (m' ((c.tc : Thread Cert.ReferenceWBaIdeal.nD Cert.ReferenceWBaIdeal.τ).loc Cert.ReferenceWBaIdeal.main_arg0)) (m' ((c.tc : Thread Cert.ReferenceWBaIdeal.nD Cert.ReferenceWBaIdeal.τ).loc Cert.ReferenceWBaIdeal.main_arg1)) (m' ((c.tc : Thread Cert.ReferenceWBaIdeal.nD Cert.ReferenceWBaIdeal.τ).loc Cert.ReferenceWBaIdeal.main_arg2)) (m' ((c.tc : Thread Cert.ReferenceWBaIdeal.nD Cert.ReferenceWBaIdeal.τ).loc Cert.ReferenceWBaIdeal.main_arg3)) = _
    rw [h0, h1, h2, h3]
    exact (Cert.KernelWBaIdeal.Value.final_2 m c).symm

end Cert.Proof

end
-- ==== Proof.WOutRef.lean ====
module

public import proofs.«01_k».proof.Proof.Gen.ReferenceWOutIdeal.Run
public import Idealize.ShloMosaic.PureOps.Ideal

/-! The reference's results as functions of its arguments, over the extended reals. -/

@[expose] public section

set_option maxRecDepth 16384

noncomputable section

namespace Cert.ReferenceWOutIdeal.Value

open Cert.ReferenceWOutIdeal Cert.ReferenceWOutIdeal.Gen Idealize.ShloMosaic Idealize.ShloMosaic.TcCoe Idealize.SL.Sem Idealize.ShloMosaic.StableHlo

/-- Result 0 of the reference. -/
abbrev REF0 (a0 : FVec Ideal S16512x2048 .f32) (a1 : FVec Ideal S16512x2048 .f32) (a2 : FVec Ideal S1x128 .f32) (a3 : FVec Ideal S2048x1024 .f32) (a4 : FVec Ideal S16512x1024 .f32) :
    FVec Ideal S2048x1024 .f32 :=
  transpose S2048x1024 [1, 0] (Host.dotGeneral dot_S16512x1024_S16512x2048_S1024x2048_0_0_1_1_n_n none a4 (shapeCast _ (mulf (mulf (mulf (shapeCast _ a0 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a0 shapeCasts_S16512x2048_S16512x16x128) (shapeCast _ a0 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a2 shapeCasts_S1x128_S128)))) (mulf (shapeCast _ a1 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a1 shapeCasts_S16512x2048_S16512x16x128))))))) shapeCasts_S16512x16x128_S16512x2048)) transposes_S1024x2048_S2048x1024_1_0

end Cert.ReferenceWOutIdeal.Value

end
-- ==== Proof.WOutValue.lean ====
module

public import proofs.«01_k».proof.Proof.Gen.KernelWOutIdeal.Value
public import proofs.«01_k».proof.Proof.WOutRef
public import Idealize.ShloMosaic.Lib.Pipeline.ValueKit
public import Idealize.ShloMosaic.Lib.Pointwise
public import Idealize.ShloMosaic.Lib.Claim

/-! The weight gradient of the recurrent layer's output projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWOutIdeal.Value

open Cert.KernelWOutIdeal Cert.KernelWOutIdeal.Gen
open Cert.ReferenceWOutIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The reset stores zeros. -/
theorem hzero (j : S2048x1024.Idx) : k0_pay1 (F := Ideal) j = 0 := by
  pointwise! [k0_pay1]

/-- The accumulating store adds its part to what the buffer held. -/
theorem hpay (v3 : Vec Ideal S2048x1024 .f32) (v5 : Vec Ideal S1376x2048 .bf16) (v7 : Vec Ideal S1376x1024 .f32) (j : S2048x1024.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 2 t0_11 (by decide +kernel) _ fun j => ?_
  blk_simp
  rw [after0_2, Pipeline.eq_sum_fin_of_reset_step_apply_last (fun n h => (outsAt0 m c n h)) 12 (fun _ => 0) _
    (fun t h j => by rw [outsAt0_A m c t h]; frame_out; rw [hpay, hzero])
    (fun t h j => by rw [outsAt0_B m c t h]; frame_out; rw [hpay])
    (le_of_eq N_0) t0_11 rfl j, zero_add]
  pointwise [k0_pay2, REF0]
  refine Fin.sum_mul_add_congr fun s k hl => ?_
  rw [mul_comm]
  refine congrArg₂ (· * ·) ?_ ?_
  · blk_point [iblk, V, idx_val s]
  · have e : (win0_0.blk s).view.emb (ix2 k (j 0)) = ix2 ⟨s.val * 1376 + k.val, hl⟩ (j 0) := by blk_ext [idx_val s]
    blk_simp [iblk, idx_val s]
    rw [e]
    entry_read
    pointwise
    have q : ∀ h, (⟨(j 0).val / 128 * 128 + (j 0).val % 128, h⟩ : Fin 2048) = j 0 :=
      fun h => Fin.ext (Nat.div_add_mod' _ _)
    simp only [q]

end Cert.KernelWOutIdeal.Value

end
-- ==== Proof.WOutClaim.lean ====
module

public import proofs.«01_k».proof.Defs
public import proofs.«01_k».proof.Proof.Gen.KernelWOut.Frame
public import proofs.«01_k».proof.Proof.WOutValue
public import Idealize.ShloMosaic.Lib.Quiescent

/-! The claims about the weight gradient of the second layer's output projection. -/

@[expose] public section

set_option maxRecDepth 65536

noncomputable section

namespace Cert.Proof

open Idealize.ShloMosaic Idealize.SL.Sem

theorem quiescent_KernelWOut : Cert.quiescent_KernelWOut := fun m ρ _ => Cert.KernelWOut.Gen.frame m ρ

theorem quiescent_KernelWOutIdeal : Cert.quiescent_KernelWOutIdeal := fun m ρ _ => Cert.KernelWOutIdeal.Gen.frame m ρ

theorem quiescent_ReferenceWOutIdeal : Cert.quiescent_ReferenceWOutIdeal := fun m ρ _ =>
  (θ_run Cert.ReferenceWOutIdeal.defs _ _).mono
    (fun r h => ⟨fun c => (h c).2, Idealize.ShloMosaic.sem_eq_zero_of_no_sems (by decide) r.2⟩)
    (Cert.ReferenceWOutIdeal.Value.run (F := Ideal) m ρ)

theorem algebraic_WOut : Cert.algebraic_KernelWOutIdeal_ReferenceWOutIdeal := by
  intro m ρ m' ρ' _ hagree
  refine ⟨_, Cert.KernelWOutIdeal.Value.run_blocks (F := Ideal) m ρ, ?_⟩
  refine (θ_run Cert.ReferenceWOutIdeal.defs _ _).mono
    (fun _ h c => ⟨(h c).1.trans ?_, (h c).2⟩)
    (Cert.ReferenceWOutIdeal.Value.run (F := Ideal) m' ρ')
  · obtain ⟨h0, h1, h2, h3, h4⟩ := hagree c
    change Cert.ReferenceWOutIdeal.Value.REF0 (m' ((c.tc : Thread Cert.ReferenceWOutIdeal.nD Cert.ReferenceWOutIdeal.τ).loc Cert.ReferenceWOutIdeal.main_arg0)) (m' ((c.tc : Thread Cert.ReferenceWOutIdeal.nD Cert.ReferenceWOutIdeal.τ).loc Cert.ReferenceWOutIdeal.main_arg1)) (m' ((c.tc : Thread Cert.ReferenceWOutIdeal.nD Cert.ReferenceWOutIdeal.τ).loc Cert.ReferenceWOutIdeal.main_arg2)) (m' ((c.tc : Thread Cert.ReferenceWOutIdeal.nD Cert.ReferenceWOutIdeal.τ).loc Cert.ReferenceWOutIdeal.main_arg3)) (m' ((c.tc : Thread Cert.ReferenceWOutIdeal.nD Cert.ReferenceWOutIdeal.τ).loc Cert.ReferenceWOutIdeal.main_arg4)) = _
    rw [h0, h1, h2, h3, h4]
    exact (Cert.KernelWOutIdeal.Value.final_2 m c).symm

end Cert.Proof

end
-- ==== Proof.WQRef.lean ====
module

public import proofs.«01_k».proof.Proof.Gen.ReferenceWQIdeal.Run
public import Idealize.ShloMosaic.PureOps.Ideal

/-! The reference's results as functions of its arguments, over the extended reals. -/

@[expose] public section

set_option maxRecDepth 16384

noncomputable section

namespace Cert.ReferenceWQIdeal.Value

open Cert.ReferenceWQIdeal Cert.ReferenceWQIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S1x1024 .f32) (a2 : FVec Ideal S1024x1024 .f32) (a3 : FVec Ideal S16512x1024 .f32) :
    FVec Ideal S1024x1024 .f32 :=
  transpose S1024x1024 [1, 0] (Host.dotGeneral dot_S16512x1024_S16512x1024_S1024x1024_0_0_1_1_n_n none a3 (mulf (mulf a0 (broadcastInDim S16512x1024 ![0, 1] bcast_S16512x1_S16512x1024_0_1 (Host.rsqrt (addf (Host.divf (broadcastInDim S16512x1 ![0] bcast_S16512_S16512x1_0 (Host.reduceAdd (mulf a0 a0) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a1 shapeCasts_S1x1024_S1024))))) transposes_S1024x1024_S1024x1024_1_0

end Cert.ReferenceWQIdeal.Value

end
-- ==== Proof.WQValue.lean ====
module

public import proofs.«01_k».proof.Proof.Gen.KernelWQIdeal.Value
public import proofs.«01_k».proof.Proof.WQRef
public import Idealize.ShloMosaic.Lib.Pipeline.ValueKit
public import Idealize.ShloMosaic.Lib.Pointwise
public import Idealize.ShloMosaic.Lib.Claim

/-! The weight gradient of the q columns of the attention layer's input projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWQIdeal.Value

open Cert.KernelWQIdeal Cert.KernelWQIdeal.Gen
open Cert.ReferenceWQIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The reset stores zeros. -/
theorem hzero (j : S1024x1024.Idx) : k0_pay1 (F := Ideal) j = 0 := by
  pointwise! [k0_pay1]

/-- The accumulating store adds its part to what the buffer held. -/
theorem hpay (v3 : Vec Ideal S1024x1024 .f32) (v5 : Vec Ideal S2752x1024 .bf16) (v7 : Vec Ideal S2752x1024 .f32) (j : S1024x1024.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_after_last 2 t0_5 (by decide +kernel) _ fun j => ?_
  blk_simp
  rw [after0_2, Pipeline.eq_sum_fin_of_reset_step_apply_last (fun n h => (outsAt0 m c n h)) 6 (fun _ => 0) _
    (fun t h j => by rw [outsAt0_A m c t h]; frame_out; rw [hpay, hzero])
    (fun t h j => by rw [outsAt0_B m c t h]; frame_out; rw [hpay])
    (le_of_eq N_0) t0_5 rfl j, zero_add]
  pointwise [k0_pay2, REF0]
  refine Fin.sum_mul_add_congr fun s k hl => ?_
  rw [mul_comm]
  refine congrArg₂ (· * ·) ?_ ?_
  · blk_point [iblk, V, idx_val s]
  · have e : (win0_0.blk s).view.emb (ix2 k (j 0)) = ix2 ⟨s.val * 2752 + k.val, hl⟩ (j 0) := by blk_ext [idx_val s]
    blk_simp [iblk, idx_val s]
    entry_read
    pointwise
    rw [e]
    rfl

end Cert.KernelWQIdeal.Value

end
-- ==== Proof.WQClaim.lean ====
module

public import proofs.«01_k».proof.Defs
public import proofs.«01_k».proof.Proof.Gen.KernelWQ.Frame
public import proofs.«01_k».proof.Proof.WQValue
public import Idealize.ShloMosaic.Lib.Quiescent

/-! The claims about the weight gradient of the first layer's q. -/

@[expose] public section

set_option maxRecDepth 65536

noncomputable section

namespace Cert.Proof

open Idealize.ShloMosaic Idealize.SL.Sem

theorem quiescent_KernelWQ : Cert.quiescent_KernelWQ := fun m ρ _ => Cert.KernelWQ.Gen.frame m ρ

theorem quiescent_KernelWQIdeal : Cert.quiescent_KernelWQIdeal := fun m ρ _ => Cert.KernelWQIdeal.Gen.frame m ρ

theorem quiescent_ReferenceWQIdeal : Cert.quiescent_ReferenceWQIdeal := fun m ρ _ =>
  (θ_run Cert.ReferenceWQIdeal.defs _ _).mono
    (fun r h => ⟨fun c => (h c).2, Idealize.ShloMosaic.sem_eq_zero_of_no_sems (by decide) r.2⟩)
    (Cert.ReferenceWQIdeal.Value.run (F := Ideal) m ρ)

theorem algebraic_WQ : Cert.algebraic_KernelWQIdeal_ReferenceWQIdeal := by
  intro m ρ m' ρ' _ hagree
  refine ⟨_, Cert.KernelWQIdeal.Value.run_blocks (F := Ideal) m ρ, ?_⟩
  refine (θ_run Cert.ReferenceWQIdeal.defs _ _).mono
    (fun _ h c => ⟨(h c).1.trans ?_, (h c).2⟩)
    (Cert.ReferenceWQIdeal.Value.run (F := Ideal) m' ρ')
  · obtain ⟨h0, h1, h2, h3⟩ := hagree c
    change Cert.ReferenceWQIdeal.Value.REF0 (m' ((c.tc : Thread Cert.ReferenceWQIdeal.nD Cert.ReferenceWQIdeal.τ).loc Cert.ReferenceWQIdeal.main_arg0)) (m' ((c.tc : Thread Cert.ReferenceWQIdeal.nD Cert.ReferenceWQIdeal.τ).loc Cert.ReferenceWQIdeal.main_arg1)) (m' ((c.tc : Thread Cert.ReferenceWQIdeal.nD Cert.ReferenceWQIdeal.τ).loc Cert.ReferenceWQIdeal.main_arg2)) (m' ((c.tc : Thread Cert.ReferenceWQIdeal.nD Cert.ReferenceWQIdeal.τ).loc Cert.ReferenceWQIdeal.main_arg3)) = _
    rw [h0, h1, h2, h3]
    exact (Cert.KernelWQIdeal.Value.final_2 m c).symm

end Cert.Proof

end
-- ==== Proof.WKvRef.lean ====
module

public import proofs.«01_k».proof.Proof.Gen.ReferenceWKvIdeal.Run
public import Idealize.ShloMosaic.PureOps.Ideal

/-! The reference's results as functions of its arguments, over the extended reals. -/

@[expose] public section

set_option maxRecDepth 16384

noncomputable section

namespace Cert.ReferenceWKvIdeal.Value

open Cert.ReferenceWKvIdeal Cert.ReferenceWKvIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S1x1024 .f32) (a2 : FVec Ideal S1024x256 .f32) (a3 : FVec Ideal S16512x256 .f32) :
    FVec Ideal S1024x256 .f32 :=
  transpose S1024x256 [1, 0] (Host.dotGeneral dot_S16512x256_S16512x1024_S256x1024_0_0_1_1_n_n none a3 (mulf (mulf a0 (broadcastInDim S16512x1024 ![0, 1] bcast_S16512x1_S16512x1024_0_1 (Host.rsqrt (addf (Host.divf (broadcastInDim S16512x1 ![0] bcast_S16512_S16512x1_0 (Host.reduceAdd (mulf a0 a0) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a1 shapeCasts_S1x1024_S1024))))) transposes_S256x1024_S1024x256_1_0

end Cert.ReferenceWKvIdeal.Value

end
-- ==== Proof.WKvValue.lean ====
module

public import proofs.«01_k».proof.Proof.Gen.KernelWKvIdeal.Value
public import proofs.«01_k».proof.Proof.WKvRef
public import Idealize.ShloMosaic.Lib.Pipeline.ValueKit
public import Idealize.ShloMosaic.Lib.Pointwise
public import Idealize.ShloMosaic.Lib.Claim

/-! The weight gradient of the k and v columns of the attention layer's input projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWKvIdeal.Value

open Cert.KernelWKvIdeal Cert.KernelWKvIdeal.Gen
open Cert.ReferenceWKvIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The reset stores zeros. -/
theorem hzero (j : S1024x256.Idx) : k0_pay1 (F := Ideal) j = 0 := by
  pointwise! [k0_pay1]

/-- The accumulating store adds its part to what the buffer held. -/
theorem hpay (v3 : Vec Ideal S1024x256 .f32) (v5 : Vec Ideal S2752x1024 .bf16) (v7 : Vec Ideal S2752x256 .f32) (j : S1024x256.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_after_last 2 t0_5 (by decide +kernel) _ fun j => ?_
  blk_simp
  rw [after0_2, Pipeline.eq_sum_fin_of_reset_step_apply_last (fun n h => (outsAt0 m c n h)) 6 (fun _ => 0) _
    (fun t h j => by rw [outsAt0_A m c t h]; frame_out; rw [hpay, hzero])
    (fun t h j => by rw [outsAt0_B m c t h]; frame_out; rw [hpay])
    (le_of_eq N_0) t0_5 rfl j, zero_add]
  pointwise [k0_pay2, REF0]
  refine Fin.sum_mul_add_congr fun s k hl => ?_
  rw [mul_comm]
  refine congrArg₂ (· * ·) ?_ ?_
  · blk_point [iblk, V, idx_val s]
  · have e : (win0_0.blk s).view.emb (ix2 k (j 0)) = ix2 ⟨s.val * 2752 + k.val, hl⟩ (j 0) := by blk_ext [idx_val s]
    blk_simp [iblk, idx_val s]
    entry_read
    pointwise
    rw [e]
    rfl

end Cert.KernelWKvIdeal.Value

end
-- ==== Proof.WKvClaim.lean ====
module

public import proofs.«01_k».proof.Defs
public import proofs.«01_k».proof.Proof.Gen.KernelWKv.Frame
public import proofs.«01_k».proof.Proof.WKvValue
public import Idealize.ShloMosaic.Lib.Quiescent

/-! The claims about the weight gradient of the first layer's k and v. -/

@[expose] public section

set_option maxRecDepth 65536

noncomputable section

namespace Cert.Proof

open Idealize.ShloMosaic Idealize.SL.Sem

theorem quiescent_KernelWKv : Cert.quiescent_KernelWKv := fun m ρ _ => Cert.KernelWKv.Gen.frame m ρ

theorem quiescent_KernelWKvIdeal : Cert.quiescent_KernelWKvIdeal := fun m ρ _ => Cert.KernelWKvIdeal.Gen.frame m ρ

theorem quiescent_ReferenceWKvIdeal : Cert.quiescent_ReferenceWKvIdeal := fun m ρ _ =>
  (θ_run Cert.ReferenceWKvIdeal.defs _ _).mono
    (fun r h => ⟨fun c => (h c).2, Idealize.ShloMosaic.sem_eq_zero_of_no_sems (by decide) r.2⟩)
    (Cert.ReferenceWKvIdeal.Value.run (F := Ideal) m ρ)

theorem algebraic_WKv : Cert.algebraic_KernelWKvIdeal_ReferenceWKvIdeal := by
  intro m ρ m' ρ' _ hagree
  refine ⟨_, Cert.KernelWKvIdeal.Value.run_blocks (F := Ideal) m ρ, ?_⟩
  refine (θ_run Cert.ReferenceWKvIdeal.defs _ _).mono
    (fun _ h c => ⟨(h c).1.trans ?_, (h c).2⟩)
    (Cert.ReferenceWKvIdeal.Value.run (F := Ideal) m' ρ')
  · obtain ⟨h0, h1, h2, h3⟩ := hagree c
    change Cert.ReferenceWKvIdeal.Value.REF0 (m' ((c.tc : Thread Cert.ReferenceWKvIdeal.nD Cert.ReferenceWKvIdeal.τ).loc Cert.ReferenceWKvIdeal.main_arg0)) (m' ((c.tc : Thread Cert.ReferenceWKvIdeal.nD Cert.ReferenceWKvIdeal.τ).loc Cert.ReferenceWKvIdeal.main_arg1)) (m' ((c.tc : Thread Cert.ReferenceWKvIdeal.nD Cert.ReferenceWKvIdeal.τ).loc Cert.ReferenceWKvIdeal.main_arg2)) (m' ((c.tc : Thread Cert.ReferenceWKvIdeal.nD Cert.ReferenceWKvIdeal.τ).loc Cert.ReferenceWKvIdeal.main_arg3)) = _
    rw [h0, h1, h2, h3]
    exact (Cert.KernelWKvIdeal.Value.final_2 m c).symm

end Cert.Proof

end
-- ==== Proof.WGateRef.lean ====
module

public import proofs.«01_k».proof.Proof.Gen.ReferenceWGateIdeal.Run
public import Idealize.ShloMosaic.PureOps.Ideal

/-! The reference's results as functions of its arguments, over the extended reals. -/

@[expose] public section

set_option maxRecDepth 16384

noncomputable section

namespace Cert.ReferenceWGateIdeal.Value

open Cert.ReferenceWGateIdeal Cert.ReferenceWGateIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S1x1024 .f32) (a2 : FVec Ideal S1024x1024 .f32) (a3 : FVec Ideal S16512x1024 .f32) :
    FVec Ideal S1024x1024 .f32 :=
  transpose S1024x1024 [1, 0] (Host.dotGeneral dot_S16512x1024_S16512x1024_S1024x1024_0_0_1_1_n_n none a3 (mulf (mulf a0 (broadcastInDim S16512x1024 ![0, 1] bcast_S16512x1_S16512x1024_0_1 (Host.rsqrt (addf (Host.divf (broadcastInDim S16512x1 ![0] bcast_S16512_S16512x1_0 (Host.reduceAdd (mulf a0 a0) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a1 shapeCasts_S1x1024_S1024))))) transposes_S1024x1024_S1024x1024_1_0

end Cert.ReferenceWGateIdeal.Value

end
-- ==== Proof.WGateValue.lean ====
module

public import proofs.«01_k».proof.Proof.Gen.KernelWGateIdeal.Value
public import proofs.«01_k».proof.Proof.WGateRef
public import Idealize.ShloMosaic.Lib.Pipeline.ValueKit
public import Idealize.ShloMosaic.Lib.Pointwise
public import Idealize.ShloMosaic.Lib.Claim

/-! The weight gradient of the gate columns of the attention layer's input projection, block of rows by block of rows: the blocks' partial products
add up to the product over all rows. -/

@[expose] public section

set_option maxRecDepth 16384

noncomputable section

open Idealize.ShloMosaic Idealize.ShloMosaic.TcCoe Idealize.SL.Sem
open Idealize.ShloMosaic.Pipeline (Dat)
open scoped BigOperators

namespace Cert.KernelWGateIdeal.Value

open Cert.KernelWGateIdeal Cert.KernelWGateIdeal.Gen
open Cert.ReferenceWGateIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![0, 0] :=
  (by decide +kernel : ∀ t : Fin grid0.N, _)

/-- The reset stores zeros. -/
theorem hzero (j : S1024x1024.Idx) : k0_pay1 (F := Ideal) j = 0 := by
  pointwise! [k0_pay1]

/-- The accumulating store adds its part to what the buffer held. -/
theorem hpay (v3 : Vec Ideal S1024x1024 .f32) (v5 : Vec Ideal S2752x1024 .bf16) (v7 : Vec Ideal S2752x1024 .f32) (j : S1024x1024.Idx) :
    k0_pay2 v3 v5 v7 j = v3 j + k0_pay2 (fun _ => 0) v5 v7 j := by
  pointwise [k0_pay2]

/-- What the window holds after the last point is the result of the reference. -/
theorem final_2 (c : Dev nD) : (dats m 0 c).arrAt 2 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_after_last 2 t0_5 (by decide +kernel) _ fun j => ?_
  blk_simp
  rw [after0_2, Pipeline.eq_sum_fin_of_reset_step_apply_last (fun n h => (outsAt0 m c n h)) 6 (fun _ => 0) _
    (fun t h j => by rw [outsAt0_A m c t h]; frame_out; rw [hpay, hzero])
    (fun t h j => by rw [outsAt0_B m c t h]; frame_out; rw [hpay])
    (le_of_eq N_0) t0_5 rfl j, zero_add]
  pointwise [k0_pay2, REF0]
  refine Fin.sum_mul_add_congr fun s k hl => ?_
  rw [mul_comm]
  refine congrArg₂ (· * ·) ?_ ?_
  · blk_point [iblk, V, idx_val s]
  · have e : (win0_0.blk s).view.emb (ix2 k (j 0)) = ix2 ⟨s.val * 2752 + k.val, hl⟩ (j 0) := by blk_ext [idx_val s]
    blk_simp [iblk, idx_val s]
    entry_read
    pointwise
    rw [e]
    rfl

end Cert.KernelWGateIdeal.Value

end
-- ==== Proof.WGateClaim.lean ====
module

public import proofs.«01_k».proof.Defs
public import proofs.«01_k».proof.Proof.Gen.KernelWGate.Frame
public import proofs.«01_k».proof.Proof.WGateValue
public import Idealize.ShloMosaic.Lib.Quiescent

/-! The claims about the weight gradient of the first layer's gate. -/

@[expose] public section

set_option maxRecDepth 65536

noncomputable section

namespace Cert.Proof

open Idealize.ShloMosaic Idealize.SL.Sem

theorem quiescent_KernelWGate : Cert.quiescent_KernelWGate := fun m ρ _ => Cert.KernelWGate.Gen.frame m ρ

theorem quiescent_KernelWGateIdeal : Cert.quiescent_KernelWGateIdeal := fun m ρ _ => Cert.KernelWGateIdeal.Gen.frame m ρ

theorem quiescent_ReferenceWGateIdeal : Cert.quiescent_ReferenceWGateIdeal := fun m ρ _ =>
  (θ_run Cert.ReferenceWGateIdeal.defs _ _).mono
    (fun r h => ⟨fun c => (h c).2, Idealize.ShloMosaic.sem_eq_zero_of_no_sems (by decide) r.2⟩)
    (Cert.ReferenceWGateIdeal.Value.run (F := Ideal) m ρ)

theorem algebraic_WGate : Cert.algebraic_KernelWGateIdeal_ReferenceWGateIdeal := by
  intro m ρ m' ρ' _ hagree
  refine ⟨_, Cert.KernelWGateIdeal.Value.run_blocks (F := Ideal) m ρ, ?_⟩
  refine (θ_run Cert.ReferenceWGateIdeal.defs _ _).mono
    (fun _ h c => ⟨(h c).1.trans ?_, (h c).2⟩)
    (Cert.ReferenceWGateIdeal.Value.run (F := Ideal) m' ρ')
  · obtain ⟨h0, h1, h2, h3⟩ := hagree c
    change Cert.ReferenceWGateIdeal.Value.REF0 (m' ((c.tc : Thread Cert.ReferenceWGateIdeal.nD Cert.ReferenceWGateIdeal.τ).loc Cert.ReferenceWGateIdeal.main_arg0)) (m' ((c.tc : Thread Cert.ReferenceWGateIdeal.nD Cert.ReferenceWGateIdeal.τ).loc Cert.ReferenceWGateIdeal.main_arg1)) (m' ((c.tc : Thread Cert.ReferenceWGateIdeal.nD Cert.ReferenceWGateIdeal.τ).loc Cert.ReferenceWGateIdeal.main_arg2)) (m' ((c.tc : Thread Cert.ReferenceWGateIdeal.nD Cert.ReferenceWGateIdeal.τ).loc Cert.ReferenceWGateIdeal.main_arg3)) = _
    rw [h0, h1, h2, h3]
    exact (Cert.KernelWGateIdeal.Value.final_2 m c).symm

end Cert.Proof

end
-- ==== Proof.AInRef.lean ====
module

public import proofs.«01_k».proof.Proof.Gen.ReferenceAInIdeal.Run
public import Idealize.ShloMosaic.PureOps.Ideal

/-! The reference's results as functions of its arguments, over the extended reals. -/

@[expose] public section

set_option maxRecDepth 16384

noncomputable section

namespace Cert.ReferenceAInIdeal.Value

open Cert.ReferenceAInIdeal Cert.ReferenceAInIdeal.Gen Idealize.ShloMosaic Idealize.ShloMosaic.TcCoe Idealize.SL.Sem Idealize.ShloMosaic.StableHlo

/-- Result 0 of the reference. -/
abbrev REF0 (a0 : FVec Ideal S16384x1024 .f32) (a1 : FVec Ideal S16x1024 .f32) (a2 : FVec Ideal S1x1024 .f32) (a3 : FVec Ideal S1024x2304 .f32) :
    FVec Ideal S16512x1024 .bf16 :=
  truncf .bf16 (mulf (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) (broadcastInDim S16512x1024 ![0, 1] bcast_S16512x1_S16512x1024_0_1 (Host.rsqrt (addf (Host.divf (broadcastInDim S16512x1 ![0] bcast_S16512_S16512x1_0 (Host.reduceAdd (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a2 shapeCasts_S1x1024_S1024)))) bitsLt_bf16_f32

/-- Result 1 of the reference. -/
abbrev REF1 (a0 : FVec Ideal S16384x1024 .f32) (a1 : FVec Ideal S16x1024 .f32) (a2 : FVec Ideal S1x1024 .f32) (a3 : FVec Ideal S1024x2304 .f32) :
    FVec Ideal S16512x1024 .f32 :=
  extractStridedSlice S16512x1024 ![0, 0] (Host.dotGeneral dot_S16512x1024_S1024x2304_S16512x2304_1_0_0_1_n_n none (mulf (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) (broadcastInDim S16512x1024 ![0, 1] bcast_S16512x1_S16512x1024_0_1 (Host.rsqrt (addf (Host.divf (broadcastInDim S16512x1 ![0] bcast_S16512_S16512x1_0 (Host.reduceAdd (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a2 shapeCasts_S1x1024_S1024)))) a3) slices_S16512x2304_S16512x1024_0_0

/-- Result 2 of the reference. -/
abbrev REF2 (a0 : FVec Ideal S16384x1024 .f32) (a1 : FVec Ideal S16x1024 .f32) (a2 : FVec Ideal S1x1024 .f32) (a3 : FVec Ideal S1024x2304 .f32) :
    FVec Ideal S16512x256 .f32 :=
  extractStridedSlice S16512x256 ![0, 1024] (Host.dotGeneral dot_S16512x1024_S1024x2304_S16512x2304_1_0_0_1_n_n none (mulf (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) (broadcastInDim S16512x1024 ![0, 1] bcast_S16512x1_S16512x1024_0_1 (Host.rsqrt (addf (Host.divf (broadcastInDim S16512x1 ![0] bcast_S16512_S16512x1_0 (Host.reduceAdd (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a2 shapeCasts_S1x1024_S1024)))) a3) slices_S16512x2304_S16512x256_0_1024

/-- Result 3 of the reference. -/
abbrev REF3 (a0 : FVec Ideal S16384x1024 .f32) (a1 : FVec Ideal S16x1024 .f32) (a2 : FVec Ideal S1x1024 .f32) (a3 : FVec Ideal S1024x2304 .f32) :
    FVec Ideal S16512x1024 .f32 :=
  extractStridedSlice S16512x1024 ![0, 1280] (Host.dotGeneral dot_S16512x1024_S1024x2304_S16512x2304_1_0_0_1_n_n none (mulf (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) (broadcastInDim S16512x1024 ![0, 1] bcast_S16512x1_S16512x1024_0_1 (Host.rsqrt (addf (Host.divf (broadcastInDim S16512x1 ![0] bcast_S16512_S16512x1_0 (Host.reduceAdd (mulf ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32)) ((concatenate S16512x1024 0 [⟨S112x1024, ((broadcastInDim S112x1024 ![] bcast_S_S112x1024 (constant S_ .f32 0x00000000#32)) : FVec Ideal S112x1024 .f32)⟩, ⟨S16x1024, (a1 : FVec Ideal S16x1024 .f32)⟩, ⟨S16384x1024, (a0 : FVec Ideal S16384x1024 .f32)⟩] concatenates_S112x1024_S16x1024_S16384x1024_S16512x1024_d0 : FVec Ideal S16512x1024 .f32))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a2 shapeCasts_S1x1024_S1024)))) a3) slices_S16512x2304_S16512x1024_0_1280

end Cert.ReferenceAInIdeal.Value

end
-- ==== Proof.AInValue.lean ====
module

public import proofs.«01_k».proof.Proof.Gen.KernelAInIdeal.Value
public import proofs.«01_k».proof.Proof.AInRef
public import Idealize.ShloMosaic.Lib.Pipeline.ValueKit
public import Idealize.ShloMosaic.Lib.Pointwise
public import Idealize.ShloMosaic.Lib.Claim

/-! The forward call of the attention layer's input projections: the token rows and the row of meta tokens are read as one
padded sequence, normed row by row, and multiplied by the columns of the weight. -/

@[expose] public section

set_option maxRecDepth 16384

noncomputable section

open Idealize.ShloMosaic Idealize.ShloMosaic.TcCoe Idealize.SL.Sem
open Idealize.ShloMosaic.Pipeline (Dat)
open scoped BigOperators

namespace Cert.KernelAInIdeal.Value

open Cert.KernelAInIdeal Cert.KernelAInIdeal.Gen
open Cert.ReferenceAInIdeal.Value (REF0 REF1 REF2 REF3)

variable (m : (ℓ : Loc nD τ sig) → Buf (Elt Ideal) ℓ)

/-- Every window's block index at a grid point. -/
theorem idx_val : ∀ t : Fin cfg0.N, win0_0.index t = ![3 * t.val - 1, 0]
    ∧ win0_1.index t = ![3 * t.val, 0]
    ∧ win0_2.index t = ![3 * t.val + 1, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- Whether a grid point is the first one, as the body's comparison gives it. -/
theorem first_val : ∀ t : Fin cfg0.N, Scalar.cmpi .eq (BitVec.ofNat 32 ((grid0.coords t) 0).val) 0#32
    = if t.val = 0 then 1#1 else 0#1 :=
  (by decide +kernel : ∀ t : Fin grid0.N, _)

/-- The padded sequence: zero rows, the meta tokens, the tokens. -/
def padded (x : FVec Ideal S16384x1024 .f32) (w : FVec Ideal S16x1024 .f32) (r : Fin 16512) (k : Fin 1024) : EReal :=
  if h : r.val < 112 then 0
  else if h' : r.val - 112 < 16 then w (ix2 ⟨r.val - 112, h'⟩ k)
  else x (ix2 ⟨r.val - 112 - 16, by omega⟩ k)

/-- The rows of one grid point as the body joins them: three blocks of 128 rows, the first one replaced at the first point. -/
def tile (i : grid0.Coords) (v0 v3 v5 v6 : FVec Ideal S128x1024 .f32) (r : Fin 384) (k : Fin 1024) : EReal :=
  if h : r.val < 128 then
    Scalar.select (Scalar.cmpi .eq (BitVec.ofNat 32 (i 0).val) 0#32) (v0 (ix2 ⟨r.val, h⟩ k)) (v3 (ix2 ⟨r.val, h⟩ k))
  else if h' : r.val - 128 < 128 then v5 (ix2 ⟨r.val - 128, h'⟩ k)
  else v6 (ix2 ⟨r.val - 128 - 128, by omega⟩ k)

/-- The normed row, times the norm's weight. -/
def normed (H : Fin 1024 → EReal) (w : FVec Ideal S1x1024 .f32) (k : Fin 1024) : EReal :=
  H k * Ideal.rsqrt (Ideal.div (∑ x, H x * H x) (Ideal.ofBits .f32 0x44800000#32) + Ideal.ofBits .f32 0x358637BD#32)
    * w (ix2 0 k)

theorem pay2_at (i : grid0.Coords) (v0 v3 v5 v6 : FVec Ideal S128x1024 .f32) (v8 : FVec Ideal S1x1024 .f32)
    (r : Fin 384) (k : Fin 1024) :
    k0_pay2 (F := Ideal) i v0 v3 v5 v6 v8 (ix2 r k) = normed (tile i v0 v3 v5 v6 r) v8 k := by
  pointwise [k0_pay2]
  rfl

theorem ref0_at (a0 : FVec Ideal S16384x1024 .f32) (a1 : FVec Ideal S16x1024 .f32) (a2 : FVec Ideal S1x1024 .f32)
    (a3 : FVec Ideal S1024x2304 .f32) (r : Fin 16512) (k : Fin 1024) :
    REF0 a0 a1 a2 a3 (ix2 r k) = normed (padded a0 a1 r) a2 k := by
  pointwise [REF0]
  rfl

theorem ref1_at (a0 : FVec Ideal S16384x1024 .f32) (a1 : FVec Ideal S16x1024 .f32) (a2 : FVec Ideal S1x1024 .f32)
    (a3 : FVec Ideal S1024x2304 .f32) (r : Fin 16512) (j : Fin 1024) :
    REF1 a0 a1 a2 a3 (ix2 r j) = ∑ k, normed (padded a0 a1 r) a2 k * a3 (ix2 k ⟨j.val, by omega⟩) := by
  pointwise [REF1]
  rfl

theorem ref2_at (a0 : FVec Ideal S16384x1024 .f32) (a1 : FVec Ideal S16x1024 .f32) (a2 : FVec Ideal S1x1024 .f32)
    (a3 : FVec Ideal S1024x2304 .f32) (r : Fin 16512) (j : Fin 256) :
    REF2 a0 a1 a2 a3 (ix2 r j) = ∑ k, normed (padded a0 a1 r) a2 k * a3 (ix2 k ⟨1024 + j.val, by omega⟩) := by
  pointwise [REF2]
  rfl

theorem ref3_at (a0 : FVec Ideal S16384x1024 .f32) (a1 : FVec Ideal S16x1024 .f32) (a2 : FVec Ideal S1x1024 .f32)
    (a3 : FVec Ideal S1024x2304 .f32) (r : Fin 16512) (j : Fin 1024) :
    REF3 a0 a1 a2 a3 (ix2 r j) = ∑ k, normed (padded a0 a1 r) a2 k * a3 (ix2 k ⟨1280 + j.val, by omega⟩) := by
  pointwise [REF3]
  rfl

theorem pay3_at (i : grid0.Coords) (v0 v3 v5 v6 : FVec Ideal S128x1024 .f32) (v8 : FVec Ideal S1x1024 .f32)
    (w : FVec Ideal S1024x1024 .bf16) (r : Fin 384) (j : Fin 1024) :
    k0_pay3 (F := Ideal) i v0 v3 v5 v6 v8 w (ix2 r j) = ∑ k, normed (tile i v0 v3 v5 v6 r) v8 k * w (ix2 k j) := by
  pointwise [k0_pay3, pay2_at]

theorem pay4_at (i : grid0.Coords) (v0 v3 v5 v6 : FVec Ideal S128x1024 .f32) (v8 : FVec Ideal S1x1024 .f32)
    (w : FVec Ideal S1024x256 .bf16) (r : Fin 384) (j : Fin 256) :
    k0_pay4 (F := Ideal) i v0 v3 v5 v6 v8 w (ix2 r j) = ∑ k, normed (tile i v0 v3 v5 v6 r) v8 k * w (ix2 k j) := by
  pointwise [k0_pay4, pay2_at]

theorem pay1_at (i : grid0.Coords) (v0 v3 v5 v6 : FVec Ideal S128x1024 .f32) (v8 : FVec Ideal S1x1024 .f32)
    (w : FVec Ideal S1024x1024 .bf16) (r : Fin 384) (j : Fin 1024) :
    k0_pay1 (F := Ideal) (k0_pay2 (F := Ideal) i v0 v3 v5 v6 v8) w (ix2 r j)
      = ∑ k, normed (tile i v0 v3 v5 v6 r) v8 k * w (ix2 k j) := by
  pointwise [k0_pay1, pay2_at]

/-- The rows a grid point joins are rows of the padded sequence. -/
theorem tile_eq (c : Dev nD) (t : Fin cfg0.N) (r : Fin 384) (R : Fin 16512) (hR : R.val = t.val * 384 + r.val) :
    tile (grid0.coords t) (iblk m c 3 t) (iblk m c 0 t) (iblk m c 1 t) (iblk m c 2 t) r
      = padded (m ((c : Thread nD τ).loc main_arg0)) (m ((c : Thread nD τ).loc main_arg1)) R := by
  funext k
  unfold tile padded
  rw [first_val t]
  have hr := r.isLt
  by_cases h1 : r.val < 128
  · rw [dif_pos h1]
    by_cases h0 : t.val = 0
    · rw [if_pos h0]
      have hR' : R.val = r.val := by omega
      have e : (win0_3.blk t).view.emb (ix2 ⟨r.val, h1⟩ k) = ix2 ⟨r.val, h1⟩ k := by blk_ext [idx_val t]
      obtain ⟨Rv, hRv⟩ := R
      replace hR' : Rv = r.val := hR'
      subst hR'
      refine (if_pos rfl).trans ?_
      blk_simp [iblk, idx_val t] at e ⊢
      rw [e]
      entry_read
      pointwise
      by_cases h3 : r.val < 112
      · rw [dif_pos h3, dif_pos h3]
      · rw [dif_neg h3, dif_neg h3, dif_pos (by omega)]
    · rw [if_neg h0, dif_neg (by omega), dif_neg (by omega)]
      refine (if_neg (by decide)).trans ?_
      blk_point [iblk, V, idx_val t]
  · rw [dif_neg h1]
    by_cases h2 : r.val - 128 < 128
    · rw [dif_pos h2, dif_neg (by omega), dif_neg (by omega)]
      blk_point [iblk, V, idx_val t]
    · rw [dif_neg h2, dif_neg (by omega), dif_neg (by omega)]
      blk_point [iblk, V, idx_val t]

/-- The norm's weight is read whole at every grid point. -/
theorem weight_eq (c : Dev nD) (t : Fin cfg0.N) :
    (iblk m c 4 t : FVec Ideal S1x1024 .f32) = m ((c : Thread nD τ).loc main_arg2) := by
  funext y
  blk_point [iblk, V, idx_val t]

/-- The block of rows of window 6 at a grid point. -/
theorem point_6 (c : Dev nD) (t : Fin cfg0.N) (y) :
    k0_pay2 (grid0.coords t) (iblk m c 3 t) (iblk m c 0 t) (iblk m c 1 t) (iblk m c 2 t) (iblk m c 4 t) y
      = REF0 (m ((c : Thread nD τ).loc main_arg0)) (m ((c : Thread nD τ).loc main_arg1)) (m ((c : Thread nD τ).loc main_arg2)) (m ((c : Thread nD τ).loc main_arg3)) (((cfg0.win 6).blk t).view.emb y) := by
  have hb : t.val * 384 + (y 0).val < 16512 := by
    have h0 : (y 0).val < 384 := (y 0).isLt
    have h1 : t.val < 43 := lt_of_lt_of_eq t.isLt (by decide)
    omega
  have e : ((cfg0.win 6).blk t).view.emb y = ix2 ⟨t.val * 384 + (y 0).val, hb⟩ (y 1) := by blk_ext [idx_val t]
  rw [e]
  refine (congrArg _ (eq_ix2 y)).trans ((pay2_at _ _ _ _ _ _ (y 0) (y 1)).trans ?_)
  rw [tile_eq m c t (y 0) ⟨t.val * 384 + (y 0).val, hb⟩ rfl, weight_eq]
  exact (ref0_at _ _ _ _ _ _).symm

/-- The block of rows of window 7 at a grid point. -/
theorem point_7 (c : Dev nD) (t : Fin cfg0.N) (y) :
    k0_pay3 (grid0.coords t) (iblk m c 3 t) (iblk m c 0 t) (iblk m c 1 t) (iblk m c 2 t) (iblk m c 4 t) (View.ld (iblk m c 5 t) r0_3) y
      = REF1 (m ((c : Thread nD τ).loc main_arg0)) (m ((c : Thread nD τ).loc main_arg1)) (m ((c : Thread nD τ).loc main_arg2)) (m ((c : Thread nD τ).loc main_arg3)) (((cfg0.win 7).blk t).view.emb y) := by
  have hc : (y 1).val < 1024 := (y 1).isLt
  have hb : t.val * 384 + (y 0).val < 16512 := by
    have h0 : (y 0).val < 384 := (y 0).isLt
    have h1 : t.val < 43 := lt_of_lt_of_eq t.isLt (by decide)
    omega
  have e : ((cfg0.win 7).blk t).view.emb y = ix2 ⟨t.val * 384 + (y 0).val, hb⟩ (y 1) := by blk_ext [idx_val t]
  rw [e]
  refine (congrArg _ (eq_ix2 y)).trans ((pay3_at _ _ _ _ _ _ _ (y 0) (y 1)).trans ?_)
  rw [tile_eq m c t (y 0) ⟨t.val * 384 + (y 0).val, hb⟩ rfl, weight_eq]
  refine Eq.trans ?_ (ref1_at _ _ _ _ _ _).symm
  refine Finset.sum_congr rfl fun k _ => Ideal.mul_congr rfl ?_
  have e5 : (win0_5.blk t).view.emb (ix2 k ⟨(y 1).val, by omega⟩) = ix2 k ⟨(y 1).val, by omega⟩ := by
    blk_ext [idx_val t]
  pointwise
  blk_simp [iblk, idx_val t] at e5 ⊢
  rw [e5]
  entry_read
  pointwise

/-- The block of rows of window 8 at a grid point. -/
theorem point_8 (c : Dev nD) (t : Fin cfg0.N) (y) :
    k0_pay4 (grid0.coords t) (iblk m c 3 t) (iblk m c 0 t) (iblk m c 1 t) (iblk m c 2 t) (iblk m c 4 t) (View.ld (iblk m c 5 t) r0_4) y
      = REF2 (m ((c : Thread nD τ).loc main_arg0)) (m ((c : Thread nD τ).loc main_arg1)) (m ((c : Thread nD τ).loc main_arg2)) (m ((c : Thread nD τ).loc main_arg3)) (((cfg0.win 8).blk t).view.emb y) := by
  have hc : (y 1).val < 256 := (y 1).isLt
  have hb : t.val * 384 + (y 0).val < 16512 := by
    have h0 : (y 0).val < 384 := (y 0).isLt
    have h1 : t.val < 43 := lt_of_lt_of_eq t.isLt (by decide)
    omega
  have e : ((cfg0.win 8).blk t).view.emb y = ix2 ⟨t.val * 384 + (y 0).val, hb⟩ (y 1) := by blk_ext [idx_val t]
  rw [e]
  refine (congrArg _ (eq_ix2 y)).trans ((pay4_at _ _ _ _ _ _ _ (y 0) (y 1)).trans ?_)
  rw [tile_eq m c t (y 0) ⟨t.val * 384 + (y 0).val, hb⟩ rfl, weight_eq]
  refine Eq.trans ?_ (ref2_at _ _ _ _ _ _).symm
  refine Finset.sum_congr rfl fun k _ => Ideal.mul_congr rfl ?_
  have e5 : (win0_5.blk t).view.emb (ix2 k ⟨1024 + (y 1).val, by omega⟩) = ix2 k ⟨1024 + (y 1).val, by omega⟩ := by
    blk_ext [idx_val t]
  pointwise
  blk_simp [iblk, idx_val t] at e5 ⊢
  rw [e5]
  entry_read
  pointwise

/-- The block of rows of window 9 at a grid point. -/
theorem point_9 (c : Dev nD) (t : Fin cfg0.N) (y) :
    k0_pay1 (k0_pay2 (grid0.coords t) (iblk m c 3 t) (iblk m c 0 t) (iblk m c 1 t) (iblk m c 2 t) (iblk m c 4 t)) (View.ld (iblk m c 5 t) r0_6) y
      = REF3 (m ((c : Thread nD τ).loc main_arg0)) (m ((c : Thread nD τ).loc main_arg1)) (m ((c : Thread nD τ).loc main_arg2)) (m ((c : Thread nD τ).loc main_arg3)) (((cfg0.win 9).blk t).view.emb y) := by
  have hc : (y 1).val < 1024 := (y 1).isLt
  have hb : t.val * 384 + (y 0).val < 16512 := by
    have h0 : (y 0).val < 384 := (y 0).isLt
    have h1 : t.val < 43 := lt_of_lt_of_eq t.isLt (by decide)
    omega
  have e : ((cfg0.win 9).blk t).view.emb y = ix2 ⟨t.val * 384 + (y 0).val, hb⟩ (y 1) := by blk_ext [idx_val t]
  rw [e]
  refine (congrArg _ (eq_ix2 y)).trans ((pay1_at _ _ _ _ _ _ _ (y 0) (y 1)).trans ?_)
  rw [tile_eq m c t (y 0) ⟨t.val * 384 + (y 0).val, hb⟩ rfl, weight_eq]
  refine Eq.trans ?_ (ref3_at _ _ _ _ _ _).symm
  refine Finset.sum_congr rfl fun k _ => Ideal.mul_congr rfl ?_
  have e5 : (win0_5.blk t).view.emb (ix2 k ⟨1280 + (y 1).val, by omega⟩) = ix2 k ⟨1280 + (y 1).val, by omega⟩ := by
    blk_ext [idx_val t]
  pointwise
  blk_simp [iblk, idx_val t] at e5 ⊢
  rw [e5]
  entry_read
  pointwise

/-- What window 6 holds after the last point is the result of the reference. -/
theorem final_6 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point_6 m c t y

/-- What window 7 holds after the last point is the result of the reference. -/
theorem final_7 (c : Dev nD) : (dats m 0 c).arrAt 7 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point_7 m c t y

/-- What window 8 holds after the last point is the result of the reference. -/
theorem final_8 (c : Dev nD) : (dats m 0 c).arrAt 8 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp; rw [after0_8]; frame_out
  exact point_8 m c t y

/-- What window 9 holds after the last point is the result of the reference. -/
theorem final_9 (c : Dev nD) : (dats m 0 c).arrAt 9 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp; rw [after0_9]; frame_out
  exact point_9 m c t y

end Cert.KernelAInIdeal.Value

end
-- ==== Proof.AInClaim.lean ====
module

public import proofs.«01_k».proof.Defs
public import proofs.«01_k».proof.Proof.Gen.KernelAIn.Frame
public import proofs.«01_k».proof.Proof.AInValue
public import Idealize.ShloMosaic.Lib.Quiescent

/-! The claims about the first layer's input norm and projections. -/

@[expose] public section

set_option maxRecDepth 65536

noncomputable section

namespace Cert.Proof

open Idealize.ShloMosaic Idealize.SL.Sem

theorem quiescent_KernelAIn : Cert.quiescent_KernelAIn := fun m ρ _ => Cert.KernelAIn.Gen.frame m ρ

theorem quiescent_KernelAInIdeal : Cert.quiescent_KernelAInIdeal := fun m ρ _ => Cert.KernelAInIdeal.Gen.frame m ρ

theorem quiescent_ReferenceAInIdeal : Cert.quiescent_ReferenceAInIdeal := fun m ρ _ =>
  (θ_run Cert.ReferenceAInIdeal.defs _ _).mono
    (fun r h => ⟨fun c => (h c).2.2.2.2, Idealize.ShloMosaic.sem_eq_zero_of_no_sems (by decide) r.2⟩)
    (Cert.ReferenceAInIdeal.Value.run (F := Ideal) m ρ)

theorem algebraic_AIn : Cert.algebraic_KernelAInIdeal_ReferenceAInIdeal := by
  intro m ρ m' ρ' _ hagree
  refine ⟨_, _, _, _, Cert.KernelAInIdeal.Value.run_blocks (F := Ideal) m ρ, ?_⟩
  refine (θ_run Cert.ReferenceAInIdeal.defs _ _).mono
    (fun _ h c => ⟨(h c).1.trans ?_, (h c).2.1.trans ?_, (h c).2.2.1.trans ?_, (h c).2.2.2.1.trans ?_, (h c).2.2.2.2⟩)
    (Cert.ReferenceAInIdeal.Value.run (F := Ideal) m' ρ')
  · obtain ⟨h0, h1, h2, h3⟩ := hagree c
    change Cert.ReferenceAInIdeal.Value.REF0 (m' ((c.tc : Thread Cert.ReferenceAInIdeal.nD Cert.ReferenceAInIdeal.τ).loc Cert.ReferenceAInIdeal.main_arg0)) (m' ((c.tc : Thread Cert.ReferenceAInIdeal.nD Cert.ReferenceAInIdeal.τ).loc Cert.ReferenceAInIdeal.main_arg1)) (m' ((c.tc : Thread Cert.ReferenceAInIdeal.nD Cert.ReferenceAInIdeal.τ).loc Cert.ReferenceAInIdeal.main_arg2)) (m' ((c.tc : Thread Cert.ReferenceAInIdeal.nD Cert.ReferenceAInIdeal.τ).loc Cert.ReferenceAInIdeal.main_arg3)) = _
    rw [h0, h1, h2, h3]
    exact (Cert.KernelAInIdeal.Value.final_6 m c).symm
  · obtain ⟨h0, h1, h2, h3⟩ := hagree c
    change Cert.ReferenceAInIdeal.Value.REF1 (m' ((c.tc : Thread Cert.ReferenceAInIdeal.nD Cert.ReferenceAInIdeal.τ).loc Cert.ReferenceAInIdeal.main_arg0)) (m' ((c.tc : Thread Cert.ReferenceAInIdeal.nD Cert.ReferenceAInIdeal.τ).loc Cert.ReferenceAInIdeal.main_arg1)) (m' ((c.tc : Thread Cert.ReferenceAInIdeal.nD Cert.ReferenceAInIdeal.τ).loc Cert.ReferenceAInIdeal.main_arg2)) (m' ((c.tc : Thread Cert.ReferenceAInIdeal.nD Cert.ReferenceAInIdeal.τ).loc Cert.ReferenceAInIdeal.main_arg3)) = _
    rw [h0, h1, h2, h3]
    exact (Cert.KernelAInIdeal.Value.final_7 m c).symm
  · obtain ⟨h0, h1, h2, h3⟩ := hagree c
    change Cert.ReferenceAInIdeal.Value.REF2 (m' ((c.tc : Thread Cert.ReferenceAInIdeal.nD Cert.ReferenceAInIdeal.τ).loc Cert.ReferenceAInIdeal.main_arg0)) (m' ((c.tc : Thread Cert.ReferenceAInIdeal.nD Cert.ReferenceAInIdeal.τ).loc Cert.ReferenceAInIdeal.main_arg1)) (m' ((c.tc : Thread Cert.ReferenceAInIdeal.nD Cert.ReferenceAInIdeal.τ).loc Cert.ReferenceAInIdeal.main_arg2)) (m' ((c.tc : Thread Cert.ReferenceAInIdeal.nD Cert.ReferenceAInIdeal.τ).loc Cert.ReferenceAInIdeal.main_arg3)) = _
    rw [h0, h1, h2, h3]
    exact (Cert.KernelAInIdeal.Value.final_8 m c).symm
  · obtain ⟨h0, h1, h2, h3⟩ := hagree c
    change Cert.ReferenceAInIdeal.Value.REF3 (m' ((c.tc : Thread Cert.ReferenceAInIdeal.nD Cert.ReferenceAInIdeal.τ).loc Cert.ReferenceAInIdeal.main_arg0)) (m' ((c.tc : Thread Cert.ReferenceAInIdeal.nD Cert.ReferenceAInIdeal.τ).loc Cert.ReferenceAInIdeal.main_arg1)) (m' ((c.tc : Thread Cert.ReferenceAInIdeal.nD Cert.ReferenceAInIdeal.τ).loc Cert.ReferenceAInIdeal.main_arg2)) (m' ((c.tc : Thread Cert.ReferenceAInIdeal.nD Cert.ReferenceAInIdeal.τ).loc Cert.ReferenceAInIdeal.main_arg3)) = _
    rw [h0, h1, h2, h3]
    exact (Cert.KernelAInIdeal.Value.final_9 m c).symm

end Cert.Proof

end
-- ==== Proof.MidRef.lean ====
module

public import proofs.«01_k».proof.Proof.Gen.ReferenceMidIdeal.Run
public import Idealize.ShloMosaic.PureOps.Ideal

/-! The reference's results as functions of its arguments, over the extended reals. -/

@[expose] public section

set_option maxRecDepth 16384

noncomputable section

namespace Cert.ReferenceMidIdeal.Value

open Cert.ReferenceMidIdeal Cert.ReferenceMidIdeal.Gen Idealize.ShloMosaic Idealize.ShloMosaic.TcCoe Idealize.SL.Sem Idealize.ShloMosaic.StableHlo

/-- Result 0 of the reference. -/
abbrev REF0 (a0 : FVec Ideal S16512x1024 .f32) (a1 : FVec Ideal S16512x1024 .f32) (a2 : FVec Ideal S16384x1024 .f32) (a3 : FVec Ideal S16x1024 .f32) (a4 : FVec Ideal S1024x1024 .f32) (a5 : FVec Ideal S1x1024 .f32) (a6 : FVec Ideal S1024x6176 .f32) :
    FVec Ideal S16512x1024 .f32 :=
  addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)

/-- Result 1 of the reference. -/
abbrev REF1 (a0 : FVec Ideal S16512x1024 .f32) (a1 : FVec Ideal S16512x1024 .f32) (a2 : FVec Ideal S16384x1024 .f32) (a3 : FVec Ideal S16x1024 .f32) (a4 : FVec Ideal S1024x1024 .f32) (a5 : FVec Ideal S1x1024 .f32) (a6 : FVec Ideal S1024x6176 .f32) :
    FVec Ideal S16512x1024 .bf16 :=
  truncf .bf16 (mulf (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (broadcastInDim S16512x1024 ![0, 1] bcast_S16512x1_S16512x1024_0_1 (Host.rsqrt (addf (Host.divf (broadcastInDim S16512x1 ![0] bcast_S16512_S16512x1_0 (Host.reduceAdd (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a5 shapeCasts_S1x1024_S1024)))) bitsLt_bf16_f32

/-- Result 2 of the reference. -/
abbrev REF2 (a0 : FVec Ideal S16512x1024 .f32) (a1 : FVec Ideal S16512x1024 .f32) (a2 : FVec Ideal S16384x1024 .f32) (a3 : FVec Ideal S16x1024 .f32) (a4 : FVec Ideal S1024x1024 .f32) (a5 : FVec Ideal S1x1024 .f32) (a6 : FVec Ideal S1024x6176 .f32) :
    FVec Ideal S16512x4096 .f32 :=
  extractStridedSlice S16512x4096 ![0, 0] (Host.dotGeneral dot_S16512x1024_S1024x6176_S16512x6176_1_0_0_1_n_n none (mulf (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (broadcastInDim S16512x1024 ![0, 1] bcast_S16512x1_S16512x1024_0_1 (Host.rsqrt (addf (Host.divf (broadcastInDim S16512x1 ![0] bcast_S16512_S16512x1_0 (Host.reduceAdd (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a5 shapeCasts_S1x1024_S1024)))) a6) slices_S16512x6176_S16512x4096_0_0

/-- Result 3 of the reference. -/
abbrev REF3 (a0 : FVec Ideal S16512x1024 .f32) (a1 : FVec Ideal S16512x1024 .f32) (a2 : FVec Ideal S16384x1024 .f32) (a3 : FVec Ideal S16x1024 .f32) (a4 : FVec Ideal S1024x1024 .f32) (a5 : FVec Ideal S1x1024 .f32) (a6 : FVec Ideal S1024x6176 .f32) :
    FVec Ideal S16512x2048 .f32 :=
  extractStridedSlice S16512x2048 ![0, 4096] (Host.dotGeneral dot_S16512x1024_S1024x6176_S16512x6176_1_0_0_1_n_n none (mulf (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (broadcastInDim S16512x1024 ![0, 1] bcast_S16512x1_S16512x1024_0_1 (Host.rsqrt (addf (Host.divf (broadcastInDim S16512x1 ![0] bcast_S16512_S16512x1_0 (Host.reduceAdd (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a5 shapeCasts_S1x1024_S1024)))) a6) slices_S16512x6176_S16512x2048_0_4096

/-- Result 4 of the reference. -/
abbrev REF4 (a0 : FVec Ideal S16512x1024 .f32) (a1 : FVec Ideal S16512x1024 .f32) (a2 : FVec Ideal S16384x1024 .f32) (a3 : FVec Ideal S16x1024 .f32) (a4 : FVec Ideal S1024x1024 .f32) (a5 : FVec Ideal S1x1024 .f32) (a6 : FVec Ideal S1024x6176 .f32) :
    FVec Ideal S16512x32 .f32 :=
  extractStridedSlice S16512x32 ![0, 6144] (Host.dotGeneral dot_S16512x1024_S1024x6176_S16512x6176_1_0_0_1_n_n none (mulf (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (broadcastInDim S16512x1024 ![0, 1] bcast_S16512x1_S16512x1024_0_1 (Host.rsqrt (addf (Host.divf (broadcastInDim S16512x1 ![0] bcast_S16512_S16512x1_0 (Host.reduceAdd (mulf (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4)) (addf ((concatenate S16512x1024 0 [⟨S112x1024, ((broadcastInDim S112x1024 ![] bcast_S_S112x1024 (constant S_ .f32 0x00000000#32)) : FVec Ideal S112x1024 .f32)⟩, ⟨S16x1024, (a3 : FVec Ideal S16x1024 .f32)⟩, ⟨S16384x1024, (a2 : FVec Ideal S16384x1024 .f32)⟩] concatenates_S112x1024_S16x1024_S16384x1024_S16512x1024_d0 : FVec Ideal S16512x1024 .f32)) (Host.dotGeneral dot_S16512x1024_S1024x1024_S16512x1024_1_0_0_1_n_n none (mulf a0 (mulf a1 (Host.divf (broadcastInDim S16512x1024 ![] bcast_S_S16512x1024 (constant S_ .f32 0x3F800000#32)) (addf (broadcastInDim S16512x1024 ![] bcast_S_S16512x1024 (constant S_ .f32 0x3F800000#32)) (Host.exp (Host.negf a1)))))) a4))) (constant S_ .f32 0x00000000#32) reducesTo_S16512x1024_S16512_d1 h_S_)) (broadcastInDim S16512x1 ![] bcast_S_S16512x1 (constant S_ .f32 0x44800000#32))) (broadcastInDim S16512x1 ![] bcast_S_S16512x1 (constant S_ .f32 0x358637BD#32)))))) (broadcastInDim S16512x1024 ![0, 1] bcast_S1x1024_S16512x1024_0_1 (broadcastInDim S1x1024 ![1] bcast_S1024_S1x1024_1 (shapeCast _ a5 shapeCasts_S1x1024_S1024)))) a6) slices_S16512x6176_S16512x32_0_6144

end Cert.ReferenceMidIdeal.Value

end
-- ==== Proof.MidValue.lean ====
module

public import proofs.«01_k».proof.Proof.Gen.KernelMidIdeal.Value
public import proofs.«01_k».proof.Proof.MidRef
public import Idealize.ShloMosaic.Lib.Pipeline.ValueKit
public import Idealize.ShloMosaic.Lib.Pointwise
public import Idealize.ShloMosaic.Lib.Claim

/-! The forward pass between the two mixers, entry by entry: the first layer's output added to the padded sequence, the
normed rows and their three products as plain expressions, the kernel's stores as those expressions over a grid point's
blocks, and the reference's results as the same expressions over the whole arrays. -/

@[expose] public section

set_option maxRecDepth 16384

noncomputable section

open Idealize.ShloMosaic Idealize.ShloMosaic.TcCoe Idealize.SL.Sem
open Idealize.ShloMosaic.Pipeline (Dat)
open scoped BigOperators

namespace Cert.KernelMidIdeal.Value

open Cert.KernelMidIdeal Cert.KernelMidIdeal.Gen
open Cert.ReferenceMidIdeal.Value (REF0 REF1 REF2 REF3 REF4)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![3 * t.val - 1, 0]
    ∧ win0_3.index t = ![3 * t.val, 0]
    ∧ win0_4.index t = ![3 * t.val + 1, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0] :=
  (by decide +kernel : ∀ t : Fin grid0.N, _)

/-- Whether a grid point is the first one, as the body's comparison gives it. -/
theorem first_val : ∀ t : Fin cfg0.N, Scalar.cmpi .eq (BitVec.ofNat 32 ((grid0.coords t) 0).val) 0#32
    = if t.val = 0 then 1#1 else 0#1 :=
  (by decide +kernel : ∀ t : Fin grid0.N, _)

/-- The padded sequence: zero rows, the meta tokens, the tokens. -/
def padded (x : FVec Ideal S16384x1024 .f32) (w : FVec Ideal S16x1024 .f32) (r : Fin 16512) (k : Fin 1024) : EReal :=
  if h : r.val < 112 then 0
  else if h' : r.val - 112 < 16 then w (ix2 ⟨r.val - 112, h'⟩ k)
  else x (ix2 ⟨r.val - 112 - 16, by omega⟩ k)

/-- The rows of one grid point as the body joins them: three blocks of 128 rows, the first one replaced at the first point. -/
def tile (i : grid0.Coords) (v0 v3 v5 v6 : FVec Ideal S128x1024 .f32) (r : Fin 384) (k : Fin 1024) : EReal :=
  if h : r.val < 128 then
    Scalar.select (Scalar.cmpi .eq (BitVec.ofNat 32 (i 0).val) 0#32) (v0 (ix2 ⟨r.val, h⟩ k)) (v3 (ix2 ⟨r.val, h⟩ k))
  else if h' : r.val - 128 < 128 then v5 (ix2 ⟨r.val - 128, h'⟩ k)
  else v6 (ix2 ⟨r.val - 128 - 128, by omega⟩ k)

/-- The normed row, times the norm's weight. -/
def normed (H : Fin 1024 → EReal) (w : FVec Ideal S1x1024 .f32) (k : Fin 1024) : EReal :=
  H k * Ideal.rsqrt (Ideal.div (∑ x, H x * H x) (Ideal.ofBits .f32 0x44800000#32) + Ideal.ofBits .f32 0x358637BD#32)
    * w (ix2 0 k)

/-- A row of the first layer's output: the mixer's gated output times the weight, added to the row it started from. -/
def layer (H : Fin 1024 → EReal) (o z : Fin 1024 → EReal) (w : S1024x1024.Idx → EReal) (n : Fin 1024) : EReal :=
  H n + ∑ k : Fin 1024, o k * (z k * Ideal.logistic (z k)) * w (ix2 k n)

theorem ref0_at (a0 a1 : FVec Ideal S16512x1024 .f32) (a2 : FVec Ideal S16384x1024 .f32)
    (a3 : FVec Ideal S16x1024 .f32) (a4 : FVec Ideal S1024x1024 .f32) (a5 : FVec Ideal S1x1024 .f32) (a6 : FVec Ideal S1024x6176 .f32)
    (r : Fin 16512) (n : Fin 1024) : REF0 a0 a1 a2 a3 a4 a5 a6 (ix2 r n) = layer (padded a2 a3 r) (fun k => a0 (ix2 r k)) (fun k => a1 (ix2 r k)) a4 n := by
  pointwise [REF0, layer, Ideal.logistic]
  rfl

theorem ref1_at (a0 a1 : FVec Ideal S16512x1024 .f32) (a2 : FVec Ideal S16384x1024 .f32)
    (a3 : FVec Ideal S16x1024 .f32) (a4 : FVec Ideal S1024x1024 .f32) (a5 : FVec Ideal S1x1024 .f32) (a6 : FVec Ideal S1024x6176 .f32)
    (r : Fin 16512) (n : Fin 1024) : REF1 a0 a1 a2 a3 a4 a5 a6 (ix2 r n)
      = normed (layer (padded a2 a3 r) (fun k => a0 (ix2 r k)) (fun k => a1 (ix2 r k)) a4) a5 n := by
  pointwise [REF1, normed, layer, Ideal.logistic]
  rfl

theorem ref2_at (a0 a1 : FVec Ideal S16512x1024 .f32) (a2 : FVec Ideal S16384x1024 .f32)
    (a3 : FVec Ideal S16x1024 .f32) (a4 : FVec Ideal S1024x1024 .f32) (a5 : FVec Ideal S1x1024 .f32) (a6 : FVec Ideal S1024x6176 .f32)
    (r : Fin 16512) (j : Fin 4096) : REF2 a0 a1 a2 a3 a4 a5 a6 (ix2 r j)
      = ∑ k, normed (layer (padded a2 a3 r) (fun k => a0 (ix2 r k)) (fun k => a1 (ix2 r k)) a4) a5 k * a6 (ix2 k ⟨j.val, by omega⟩) := by
  pointwise [REF2, normed, layer, Ideal.logistic]
  rfl

theorem ref3_at (a0 a1 : FVec Ideal S16512x1024 .f32) (a2 : FVec Ideal S16384x1024 .f32)
    (a3 : FVec Ideal S16x1024 .f32) (a4 : FVec Ideal S1024x1024 .f32) (a5 : FVec Ideal S1x1024 .f32) (a6 : FVec Ideal S1024x6176 .f32)
    (r : Fin 16512) (j : Fin 2048) : REF3 a0 a1 a2 a3 a4 a5 a6 (ix2 r j)
      = ∑ k, normed (layer (padded a2 a3 r) (fun k => a0 (ix2 r k)) (fun k => a1 (ix2 r k)) a4) a5 k * a6 (ix2 k ⟨4096 + j.val, by omega⟩) := by
  pointwise [REF3, normed, layer, Ideal.logistic]
  rfl

theorem ref4_at (a0 a1 : FVec Ideal S16512x1024 .f32) (a2 : FVec Ideal S16384x1024 .f32)
    (a3 : FVec Ideal S16x1024 .f32) (a4 : FVec Ideal S1024x1024 .f32) (a5 : FVec Ideal S1x1024 .f32) (a6 : FVec Ideal S1024x6176 .f32)
    (r : Fin 16512) (j : Fin 32) : REF4 a0 a1 a2 a3 a4 a5 a6 (ix2 r j)
      = ∑ k, normed (layer (padded a2 a3 r) (fun k => a0 (ix2 r k)) (fun k => a1 (ix2 r k)) a4) a5 k * a6 (ix2 k ⟨6144 + j.val, by omega⟩) := by
  pointwise [REF4, normed, layer, Ideal.logistic]
  rfl

theorem pay4_at (i : grid0.Coords) (v0 v3 v5 v6 : FVec Ideal S128x1024 .f32) (v8 v9 : FVec Ideal S384x1024 .f32)
    (v13 : FVec Ideal S1024x1024 .bf16) (r : Fin 384) (n : Fin 1024) :
    k0_pay4 (F := Ideal) i v0 v3 v5 v6 v8 v9 v13 (ix2 r n)
      = layer (tile i v0 v3 v5 v6 r) (fun k => v8 (ix2 r k)) (fun k => v9 (ix2 r k)) v13 n := by
  pointwise [k0_pay4, layer]
  rfl

theorem pay6_at (i : grid0.Coords) (x0 x1 : FVec Ideal S384x1024 .f32) (x2 x3 x4 x5 : FVec Ideal S128x1024 .f32)
    (x6 : FVec Ideal S1024x1024 .bf16) (x7 : FVec Ideal S1x1024 .f32) (x8 : FVec Ideal S1024x6176 .bf16)
    (r : Fin 384) (n : Fin 1024) :
    k0_pay6 (F := Ideal) i x0 x1 x2 x3 x4 x5 x6 x7 x8 (ix2 r n)
      = normed (layer (tile i x5 x2 x3 x4 r) (fun k => x0 (ix2 r k)) (fun k => x1 (ix2 r k)) x6) x7 n := by
  pointwise [k0_pay6, k0_pay5, pay4_at, normed]
  have e0 : ∀ x : Vec Ideal S128x1024 .f32, (View.ld (Val := Elt Ideal) (e' := .f32) x r0_0 : Vec Ideal S128x1024 .f32) = x :=
    fun x => View.ld_unit_lit inb_S128x1024_S128x1024_0_0 x (by decide)
  have e2 : ∀ x : Vec Ideal S1024x1024 .bf16, (View.ld (Val := Elt Ideal) (e' := .bf16) x r0_2 : Vec Ideal S1024x1024 .bf16) = x :=
    fun x => View.ld_unit_lit inb_S1024x1024_S1024x1024_0_0 x (by decide)
  rw [e0 x5, e0 x2, e0 x3, e0 x4, e2 x6]

theorem pay1_at (v : FVec Ideal S384x1024 .bf16) (w : FVec Ideal S1024x4096 .bf16) (r : Fin 384) (j : Fin 4096) :
    k0_pay1 (F := Ideal) v w (ix2 r j) = ∑ k, v (ix2 r k) * w (ix2 k j) := by
  pointwise [k0_pay1]

theorem pay2_at (v : FVec Ideal S384x1024 .bf16) (w : FVec Ideal S1024x2048 .bf16) (r : Fin 384) (j : Fin 2048) :
    k0_pay2 (F := Ideal) v w (ix2 r j) = ∑ k, v (ix2 r k) * w (ix2 k j) := by
  pointwise [k0_pay2]

theorem pay3_at (v : FVec Ideal S384x1024 .bf16) (w : FVec Ideal S1024x32 .bf16) (r : Fin 384) (j : Fin 32) :
    k0_pay3 (F := Ideal) v w (ix2 r j) = ∑ k, v (ix2 r k) * w (ix2 k j) := by
  pointwise [k0_pay3]

/-- The rows a grid point joins are rows of the padded sequence. -/
theorem tile_eq (c : Dev nD) (t : Fin cfg0.N) (r : Fin 384) (R : Fin 16512) (hR : R.val = t.val * 384 + r.val) :
    tile (grid0.coords t) (iblk m c 5 t) (iblk m c 2 t) (iblk m c 3 t) (iblk m c 4 t) r
      = padded (m ((c : Thread nD τ).loc main_arg2)) (m ((c : Thread nD τ).loc main_arg3)) R := by
  funext k
  unfold tile padded
  rw [first_val t]
  have hr := r.isLt
  by_cases h1 : r.val < 128
  · rw [dif_pos h1]
    by_cases h0 : t.val = 0
    · rw [if_pos h0]
      have hR' : R.val = r.val := by omega
      have e : (win0_5.blk t).view.emb (ix2 ⟨r.val, h1⟩ k) = ix2 ⟨r.val, h1⟩ k := by blk_ext [idx_val t]
      obtain ⟨Rv, hRv⟩ := R
      replace hR' : Rv = r.val := hR'
      subst hR'
      refine (if_pos rfl).trans ?_
      blk_simp [iblk, idx_val t] at e ⊢
      rw [e]
      entry_read
      pointwise
      by_cases h3 : r.val < 112
      · rw [dif_pos h3, dif_pos h3]
      · rw [dif_neg h3, dif_neg h3, dif_pos (by omega)]
    · rw [if_neg h0, dif_neg (by omega), dif_neg (by omega)]
      refine (if_neg (by decide)).trans ?_
      blk_point [iblk, V, idx_val t]
  · rw [dif_neg h1]
    by_cases h2 : r.val - 128 < 128
    · rw [dif_pos h2, dif_neg (by omega), dif_neg (by omega)]
      blk_point [iblk, V, idx_val t]
    · rw [dif_neg h2, dif_neg (by omega), dif_neg (by omega)]
      blk_point [iblk, V, idx_val t]

/-- The norm's weight is read whole at every grid point. -/
theorem weight_eq (c : Dev nD) (t : Fin cfg0.N) :
    (iblk m c 7 t : FVec Ideal S1x1024 .f32) = m ((c : Thread nD τ).loc main_arg5) := by
  funext y
  blk_point [iblk, V, idx_val t]

/-- The output weight is read whole at every grid point. -/
theorem out_eq (c : Dev nD) (t : Fin cfg0.N) :
    (iblk m c 6 t : FVec Ideal S1024x1024 .bf16) = fun y => m ((c : Thread nD τ).loc main_arg4) y := by
  funext y
  rw [eq_ix2 y]
  have e : (win0_6.blk t).view.emb (ix2 (y 0) (y 1)) = ix2 (y 0) (y 1) := by blk_ext [idx_val t]
  blk_simp [iblk, idx_val t] at e ⊢
  rw [e]
  entry_read
  pointwise

/-- A row of a grid point's block in the whole array. -/
def row (t : Fin cfg0.N) (a : Fin 384) : Fin 16512 :=
  ⟨t.val * 384 + a.val, by have h : t.val < 43 := lt_of_lt_of_eq t.isLt (by decide); have := a.isLt; omega⟩

theorem rd0 (c : Dev nD) (t : Fin cfg0.N) (a : Fin 384) (j : Fin 1024) :
    (iblk m c 0 t : Vec Ideal S384x1024 .f32) (ix2 a j) = m ((c : Thread nD τ).loc main_arg0) (ix2 (row t a) j) := by
  unfold row
  blk_point [iblk, V, idx_val t]

theorem rd1 (c : Dev nD) (t : Fin cfg0.N) (a : Fin 384) (j : Fin 1024) :
    (iblk m c 1 t : Vec Ideal S384x1024 .f32) (ix2 a j) = m ((c : Thread nD τ).loc main_arg1) (ix2 (row t a) j) := by
  unfold row
  blk_point [iblk, V, idx_val t]

theorem rd8 (c : Dev nD) (t : Fin cfg0.N) (a : Fin 1024) (j : Fin 6176) :
    (iblk m c 8 t : Vec Ideal S1024x6176 .bf16) (ix2 a j) = m ((c : Thread nD τ).loc main_arg6) (ix2 a j) := by
  have e : ((cfg0.win 8).blk t).view.emb (ix2 a j) = ix2 a j := by blk_ext [idx_val t]
  blk_simp [iblk, idx_val t] at e ⊢
  rw [e]
  entry_read
  pointwise

/-- A grid point's row of the first layer's output is a row of the whole array's. -/
theorem layer_eq (c : Dev nD) (t : Fin cfg0.N) (r : Fin 384) :
    layer (tile (grid0.coords t) (iblk m c 5 t) (iblk m c 2 t) (iblk m c 3 t) (iblk m c 4 t) r)
      (fun k => (iblk m c 0 t : Vec Ideal S384x1024 .f32) (ix2 r k)) (fun k => (iblk m c 1 t : Vec Ideal S384x1024 .f32) (ix2 r k))
      (iblk m c 6 t)
      = layer (padded (m ((c : Thread nD τ).loc main_arg2)) (m ((c : Thread nD τ).loc main_arg3)) (row t r))
        (fun k => m ((c : Thread nD τ).loc main_arg0) (ix2 (row t r) k)) (fun k => m ((c : Thread nD τ).loc main_arg1) (ix2 (row t r) k))
        (m ((c : Thread nD τ).loc main_arg4)) := by
  rw [tile_eq m c t r (row t r) rfl, out_eq]
  simp only [rd0, rd1]

/-- The block of rows of window 9 at a grid point. -/
theorem point_9 (c : Dev nD) (t : Fin cfg0.N) (y) :
    k0_pay4 (grid0.coords t) (iblk m c 5 t) (iblk m c 2 t) (iblk m c 3 t) (iblk m c 4 t) (iblk m c 0 t) (iblk m c 1 t) (iblk m c 6 t) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 9).blk t).view.emb y) := by
  have e : ((cfg0.win 9).blk t).view.emb y = ix2 (row t (y 0)) (y 1) := by
    unfold row
    blk_ext [idx_val t]
  rw [e]
  refine (congrArg _ (eq_ix2 y)).trans ((pay4_at _ _ _ _ _ _ _ _ (y 0) (y 1)).trans ?_)
  refine (congrFun (layer_eq m c t (y 0)) (y 1)).trans ?_
  exact (ref0_at _ _ _ _ _ _ _ _ _).symm

/-- What window 9 holds after the last point is the result of the reference. -/
theorem final_9 (c : Dev nD) : (dats m 0 c).arrAt 9 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp; rw [after0_9]; frame_out
  exact point_9 m c t y

/-- The block of rows of window 10 at a grid point. -/
theorem point_10 (c : Dev nD) (t : Fin cfg0.N) (y) :
    k0_pay6 (grid0.coords t) (iblk m c 0 t) (iblk m c 1 t) (iblk m c 2 t) (iblk m c 3 t) (iblk m c 4 t) (iblk m c 5 t) (iblk m c 6 t) (iblk m c 7 t) (iblk m c 8 t) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 10).blk t).view.emb y) := by
  have e : ((cfg0.win 10).blk t).view.emb y = ix2 (row t (y 0)) (y 1) := by
    unfold row
    blk_ext [idx_val t]
  rw [e]
  refine (congrArg _ (eq_ix2 y)).trans ((pay6_at _ _ _ _ _ _ _ _ _ _ (y 0) (y 1)).trans ?_)
  refine (congrArg₂ (fun h w => normed h w (y 1)) (layer_eq m c t (y 0)) (weight_eq m c t)).trans ?_
  exact (ref1_at _ _ _ _ _ _ _ _ _).symm

/-- What window 10 holds after the last point is the result of the reference. -/
theorem final_10 (c : Dev nD) : (dats m 0 c).arrAt 10 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 10 _ (by decide +kernel) fun t hf y => ?_
  blk_simp; rw [after0_10]; frame_out
  exact point_10 m c t y

/-- The block of rows of window 11 at a grid point. -/
theorem point_11 (c : Dev nD) (t : Fin cfg0.N) (y) :
    k0_pay1 (k0_pay6 (grid0.coords t) (iblk m c 0 t) (iblk m c 1 t) (iblk m c 2 t) (iblk m c 3 t) (iblk m c 4 t) (iblk m c 5 t) (iblk m c 6 t) (iblk m c 7 t) (iblk m c 8 t)) (View.ld (iblk m c 8 t) r0_4) y
      = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 11).blk t).view.emb y) := by
  have e : ((cfg0.win 11).blk t).view.emb y = ix2 (row t (y 0)) (y 1) := by
    unfold row
    blk_ext [idx_val t]
  rw [e]
  refine (congrArg _ (eq_ix2 y)).trans ((pay1_at _ _ (y 0) (y 1)).trans ?_)
  refine Eq.trans ?_ (ref2_at _ _ _ _ _ _ _ _ _).symm
  refine Finset.sum_congr rfl fun k _ => Ideal.mul_congr ?_ ?_
  · refine (pay6_at _ _ _ _ _ _ _ _ _ _ (y 0) k).trans ?_
    exact congrArg₂ (fun h w => normed h w k) (layer_eq m c t (y 0)) (weight_eq m c t)
  · have hc : (y 1).val < 4096 := (y 1).isLt
    pointwise
    exact rd8 m c t k _

/-- What window 11 holds after the last point is the result of the reference. -/
theorem final_11 (c : Dev nD) : (dats m 0 c).arrAt 11 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 11 _ (by decide +kernel) fun t hf y => ?_
  blk_simp; rw [after0_11]; frame_out
  exact point_11 m c t y

/-- The block of rows of window 12 at a grid point. -/
theorem point_12 (c : Dev nD) (t : Fin cfg0.N) (y) :
    k0_pay2 (k0_pay6 (grid0.coords t) (iblk m c 0 t) (iblk m c 1 t) (iblk m c 2 t) (iblk m c 3 t) (iblk m c 4 t) (iblk m c 5 t) (iblk m c 6 t) (iblk m c 7 t) (iblk m c 8 t)) (View.ld (iblk m c 8 t) r0_6) y
      = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 12).blk t).view.emb y) := by
  have e : ((cfg0.win 12).blk t).view.emb y = ix2 (row t (y 0)) (y 1) := by
    unfold row
    blk_ext [idx_val t]
  rw [e]
  refine (congrArg _ (eq_ix2 y)).trans ((pay2_at _ _ (y 0) (y 1)).trans ?_)
  refine Eq.trans ?_ (ref3_at _ _ _ _ _ _ _ _ _).symm
  refine Finset.sum_congr rfl fun k _ => Ideal.mul_congr ?_ ?_
  · refine (pay6_at _ _ _ _ _ _ _ _ _ _ (y 0) k).trans ?_
    exact congrArg₂ (fun h w => normed h w k) (layer_eq m c t (y 0)) (weight_eq m c t)
  · have hc : (y 1).val < 2048 := (y 1).isLt
    pointwise
    exact rd8 m c t k _

/-- What window 12 holds after the last point is the result of the reference. -/
theorem final_12 (c : Dev nD) : (dats m 0 c).arrAt 12 (cfgs 0).N = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp; rw [after0_12]; frame_out
  exact point_12 m c t y

/-- The block of rows of window 13 at a grid point. -/
theorem point_13 (c : Dev nD) (t : Fin cfg0.N) (y) :
    k0_pay3 (k0_pay6 (grid0.coords t) (iblk m c 0 t) (iblk m c 1 t) (iblk m c 2 t) (iblk m c 3 t) (iblk m c 4 t) (iblk m c 5 t) (iblk m c 6 t) (iblk m c 7 t) (iblk m c 8 t)) (View.ld (iblk m c 8 t) r0_8) y
      = REF4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 13).blk t).view.emb y) := by
  have e : ((cfg0.win 13).blk t).view.emb y = ix2 (row t (y 0)) (y 1) := by
    unfold row
    blk_ext [idx_val t]
  rw [e]
  refine (congrArg _ (eq_ix2 y)).trans ((pay3_at _ _ (y 0) (y 1)).trans ?_)
  refine Eq.trans ?_ (ref4_at _ _ _ _ _ _ _ _ _).symm
  refine Finset.sum_congr rfl fun k _ => Ideal.mul_congr ?_ ?_
  · refine (pay6_at _ _ _ _ _ _ _ _ _ _ (y 0) k).trans ?_
    exact congrArg₂ (fun h w => normed h w k) (layer_eq m c t (y 0)) (weight_eq m c t)
  · have hc : (y 1).val < 32 := (y 1).isLt
    pointwise
    exact rd8 m c t k _

/-- What window 13 holds after the last point is the result of the reference. -/
theorem final_13 (c : Dev nD) : (dats m 0 c).arrAt 13 (cfgs 0).N = REF4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp; rw [after0_13]; frame_out
  exact point_13 m c t y

end Cert.KernelMidIdeal.Value

end
-- ==== Proof.MidClaim.lean ====
module

public import proofs.«01_k».proof.Defs
public import proofs.«01_k».proof.Proof.Gen.KernelMid.Frame
public import proofs.«01_k».proof.Proof.MidValue
public import Idealize.ShloMosaic.Lib.Quiescent

/-! The claims about the first layer's output projection with the second layer's input norm and projections. -/

@[expose] public section

set_option maxRecDepth 65536

noncomputable section

namespace Cert.Proof

open Idealize.ShloMosaic Idealize.SL.Sem

theorem quiescent_KernelMid : Cert.quiescent_KernelMid := fun m ρ _ => Cert.KernelMid.Gen.frame m ρ

theorem quiescent_KernelMidIdeal : Cert.quiescent_KernelMidIdeal := fun m ρ _ => Cert.KernelMidIdeal.Gen.frame m ρ

theorem quiescent_ReferenceMidIdeal : Cert.quiescent_ReferenceMidIdeal := fun m ρ _ =>
  (θ_run Cert.ReferenceMidIdeal.defs _ _).mono
    (fun r h => ⟨fun c => (h c).2.2.2.2.2, Idealize.ShloMosaic.sem_eq_zero_of_no_sems (by decide) r.2⟩)
    (Cert.ReferenceMidIdeal.Value.run (F := Ideal) m ρ)

theorem algebraic_Mid : Cert.algebraic_KernelMidIdeal_ReferenceMidIdeal := by
  intro m ρ m' ρ' _ hagree
  refine ⟨_, _, _, _, _, Cert.KernelMidIdeal.Value.run_blocks (F := Ideal) m ρ, ?_⟩
  refine (θ_run Cert.ReferenceMidIdeal.defs _ _).mono
    (fun _ h c => ⟨(h c).1.trans ?_, (h c).2.1.trans ?_, (h c).2.2.1.trans ?_, (h c).2.2.2.1.trans ?_, (h c).2.2.2.2.1.trans ?_, (h c).2.2.2.2.2⟩)
    (Cert.ReferenceMidIdeal.Value.run (F := Ideal) m' ρ')
  · obtain ⟨h0, h1, h2, h3, h4, h5, h6⟩ := hagree c
    change Cert.ReferenceMidIdeal.Value.REF0 (m' ((c.tc : Thread Cert.ReferenceMidIdeal.nD Cert.ReferenceMidIdeal.τ).loc Cert.ReferenceMidIdeal.main_arg0)) (m' ((c.tc : Thread Cert.ReferenceMidIdeal.nD Cert.ReferenceMidIdeal.τ).loc Cert.ReferenceMidIdeal.main_arg1)) (m' ((c.tc : Thread Cert.ReferenceMidIdeal.nD Cert.ReferenceMidIdeal.τ).loc Cert.ReferenceMidIdeal.main_arg2)) (m' ((c.tc : Thread Cert.ReferenceMidIdeal.nD Cert.ReferenceMidIdeal.τ).loc Cert.ReferenceMidIdeal.main_arg3)) (m' ((c.tc : Thread Cert.ReferenceMidIdeal.nD Cert.ReferenceMidIdeal.τ).loc Cert.ReferenceMidIdeal.main_arg4)) (m' ((c.tc : Thread Cert.ReferenceMidIdeal.nD Cert.ReferenceMidIdeal.τ).loc Cert.ReferenceMidIdeal.main_arg5)) (m' ((c.tc : Thread Cert.ReferenceMidIdeal.nD Cert.ReferenceMidIdeal.τ).loc Cert.ReferenceMidIdeal.main_arg6)) = _
    rw [h0, h1, h2, h3, h4, h5, h6]
    exact (Cert.KernelMidIdeal.Value.final_9 m c).symm
  · obtain ⟨h0, h1, h2, h3, h4, h5, h6⟩ := hagree c
    change Cert.ReferenceMidIdeal.Value.REF1 (m' ((c.tc : Thread Cert.ReferenceMidIdeal.nD Cert.ReferenceMidIdeal.τ).loc Cert.ReferenceMidIdeal.main_arg0)) (m' ((c.tc : Thread Cert.ReferenceMidIdeal.nD Cert.ReferenceMidIdeal.τ).loc Cert.ReferenceMidIdeal.main_arg1)) (m' ((c.tc : Thread Cert.ReferenceMidIdeal.nD Cert.ReferenceMidIdeal.τ).loc Cert.ReferenceMidIdeal.main_arg2)) (m' ((c.tc : Thread Cert.ReferenceMidIdeal.nD Cert.ReferenceMidIdeal.τ).loc Cert.ReferenceMidIdeal.main_arg3)) (m' ((c.tc : Thread Cert.ReferenceMidIdeal.nD Cert.ReferenceMidIdeal.τ).loc Cert.ReferenceMidIdeal.main_arg4)) (m' ((c.tc : Thread Cert.ReferenceMidIdeal.nD Cert.ReferenceMidIdeal.τ).loc Cert.ReferenceMidIdeal.main_arg5)) (m' ((c.tc : Thread Cert.ReferenceMidIdeal.nD Cert.ReferenceMidIdeal.τ).loc Cert.ReferenceMidIdeal.main_arg6)) = _
    rw [h0, h1, h2, h3, h4, h5, h6]
    exact (Cert.KernelMidIdeal.Value.final_10 m c).symm
  · obtain ⟨h0, h1, h2, h3, h4, h5, h6⟩ := hagree c
    change Cert.ReferenceMidIdeal.Value.REF2 (m' ((c.tc : Thread Cert.ReferenceMidIdeal.nD Cert.ReferenceMidIdeal.τ).loc Cert.ReferenceMidIdeal.main_arg0)) (m' ((c.tc : Thread Cert.ReferenceMidIdeal.nD Cert.ReferenceMidIdeal.τ).loc Cert.ReferenceMidIdeal.main_arg1)) (m' ((c.tc : Thread Cert.ReferenceMidIdeal.nD Cert.ReferenceMidIdeal.τ).loc Cert.ReferenceMidIdeal.main_arg2)) (m' ((c.tc : Thread Cert.ReferenceMidIdeal.nD Cert.ReferenceMidIdeal.τ).loc Cert.ReferenceMidIdeal.main_arg3)) (m' ((c.tc : Thread Cert.ReferenceMidIdeal.nD Cert.ReferenceMidIdeal.τ).loc Cert.ReferenceMidIdeal.main_arg4)) (m' ((c.tc : Thread Cert.ReferenceMidIdeal.nD Cert.ReferenceMidIdeal.τ).loc Cert.ReferenceMidIdeal.main_arg5)) (m' ((c.tc : Thread Cert.ReferenceMidIdeal.nD Cert.ReferenceMidIdeal.τ).loc Cert.ReferenceMidIdeal.main_arg6)) = _
    rw [h0, h1, h2, h3, h4, h5, h6]
    exact (Cert.KernelMidIdeal.Value.final_11 m c).symm
  · obtain ⟨h0, h1, h2, h3, h4, h5, h6⟩ := hagree c
    change Cert.ReferenceMidIdeal.Value.REF3 (m' ((c.tc : Thread Cert.ReferenceMidIdeal.nD Cert.ReferenceMidIdeal.τ).loc Cert.ReferenceMidIdeal.main_arg0)) (m' ((c.tc : Thread Cert.ReferenceMidIdeal.nD Cert.ReferenceMidIdeal.τ).loc Cert.ReferenceMidIdeal.main_arg1)) (m' ((c.tc : Thread Cert.ReferenceMidIdeal.nD Cert.ReferenceMidIdeal.τ).loc Cert.ReferenceMidIdeal.main_arg2)) (m' ((c.tc : Thread Cert.ReferenceMidIdeal.nD Cert.ReferenceMidIdeal.τ).loc Cert.ReferenceMidIdeal.main_arg3)) (m' ((c.tc : Thread Cert.ReferenceMidIdeal.nD Cert.ReferenceMidIdeal.τ).loc Cert.ReferenceMidIdeal.main_arg4)) (m' ((c.tc : Thread Cert.ReferenceMidIdeal.nD Cert.ReferenceMidIdeal.τ).loc Cert.ReferenceMidIdeal.main_arg5)) (m' ((c.tc : Thread Cert.ReferenceMidIdeal.nD Cert.ReferenceMidIdeal.τ).loc Cert.ReferenceMidIdeal.main_arg6)) = _
    rw [h0, h1, h2, h3, h4, h5, h6]
    exact (Cert.KernelMidIdeal.Value.final_12 m c).symm
  · obtain ⟨h0, h1, h2, h3, h4, h5, h6⟩ := hagree c
    change Cert.ReferenceMidIdeal.Value.REF4 (m' ((c.tc : Thread Cert.ReferenceMidIdeal.nD Cert.ReferenceMidIdeal.τ).loc Cert.ReferenceMidIdeal.main_arg0)) (m' ((c.tc : Thread Cert.ReferenceMidIdeal.nD Cert.ReferenceMidIdeal.τ).loc Cert.ReferenceMidIdeal.main_arg1)) (m' ((c.tc : Thread Cert.ReferenceMidIdeal.nD Cert.ReferenceMidIdeal.τ).loc Cert.ReferenceMidIdeal.main_arg2)) (m' ((c.tc : Thread Cert.ReferenceMidIdeal.nD Cert.ReferenceMidIdeal.τ).loc Cert.ReferenceMidIdeal.main_arg3)) (m' ((c.tc : Thread Cert.ReferenceMidIdeal.nD Cert.ReferenceMidIdeal.τ).loc Cert.ReferenceMidIdeal.main_arg4)) (m' ((c.tc : Thread Cert.ReferenceMidIdeal.nD Cert.ReferenceMidIdeal.τ).loc Cert.ReferenceMidIdeal.main_arg5)) (m' ((c.tc : Thread Cert.ReferenceMidIdeal.nD Cert.ReferenceMidIdeal.τ).loc Cert.ReferenceMidIdeal.main_arg6)) = _
    rw [h0, h1, h2, h3, h4, h5, h6]
    exact (Cert.KernelMidIdeal.Value.final_13 m c).symm

end Cert.Proof

end
-- ==== Proof.LossRef.lean ====
module

public import proofs.«01_k».proof.Proof.Gen.ReferenceLossIdeal.Run
public import Idealize.ShloMosaic.PureOps.Ideal

/-! The reference's results as functions of its arguments, over the extended reals. -/

@[expose] public section

set_option maxRecDepth 16384

noncomputable section

namespace Cert.ReferenceLossIdeal.Value

open Cert.ReferenceLossIdeal Cert.ReferenceLossIdeal.Gen Idealize.ShloMosaic Idealize.ShloMosaic.TcCoe Idealize.SL.Sem Idealize.ShloMosaic.StableHlo

/-- Result 0 of the reference. -/
abbrev REF0 (a0 : FVec Ideal S16512x2048 .f32) (a1 : FVec Ideal S16512x2048 .f32) (a2 : FVec Ideal S16512x1024 .f32) (a3 : FVec Ideal S16384x1024 .f32) (a4 : FVec Ideal S2048x1024 .f32) (a5 : FVec Ideal S1x128 .f32) :
    FVec Ideal S16512x1024 .f32 :=
  pad S16512x1024 ![128, 0] ![0, 0] ![0, 0] (mulf (broadcastInDim S16384x1024 ![0] bcast_S16384_S16384x1024_0 (Host.divf (broadcastInDim S16384 ![] bcast_S_S16384 (mulf (constant S_ .f32 0x3F000000#32) (constant S_ .f32 0x3F800000#32))) (broadcastInDim S16384 ![] bcast_S_S16384 (constant S_ .f32 0x44800000#32)))) (mulf (broadcastInDim S16384x1024 ![] bcast_S_S16384x1024 (constant S_ .f32 0x40000000#32)) (subf (extractStridedSlice S16384x1024 ![128, 0] (addf a2 (Host.dotGeneral dot_S16512x2048_S2048x1024_S16512x1024_1_0_0_1_n_n none (shapeCast _ (mulf (mulf (mulf (shapeCast _ a0 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a0 shapeCasts_S16512x2048_S16512x16x128) (shapeCast _ a0 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a5 shapeCasts_S1x128_S128)))) (mulf (shapeCast _ a1 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a1 shapeCasts_S16512x2048_S16512x16x128))))))) shapeCasts_S16512x16x128_S16512x2048) a4)) slices_S16512x1024_S16384x1024_128_0) a3))) (constant S_ .f32 0x00000000#32) pads_S16384x1024_S16512x1024_12800_000 h_S_

/-- Result 1 of the reference. -/
abbrev REF1 (a0 : FVec Ideal S16512x2048 .f32) (a1 : FVec Ideal S16512x2048 .f32) (a2 : FVec Ideal S16512x1024 .f32) (a3 : FVec Ideal S16384x1024 .f32) (a4 : FVec Ideal S2048x1024 .f32) (a5 : FVec Ideal S1x128 .f32) :
    FVec Ideal S16512x2048 .bf16 :=
  truncf .bf16 (shapeCast _ (mulf (mulf (mulf (shapeCast _ a0 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a0 shapeCasts_S16512x2048_S16512x16x128) (shapeCast _ a0 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a5 shapeCasts_S1x128_S128)))) (mulf (shapeCast _ a1 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a1 shapeCasts_S16512x2048_S16512x16x128))))))) shapeCasts_S16512x16x128_S16512x2048) bitsLt_bf16_f32

/-- Result 2 of the reference. -/
abbrev REF2 (a0 : FVec Ideal S16512x2048 .f32) (a1 : FVec Ideal S16512x2048 .f32) (a2 : FVec Ideal S16512x1024 .f32) (a3 : FVec Ideal S16384x1024 .f32) (a4 : FVec Ideal S2048x1024 .f32) (a5 : FVec Ideal S1x128 .f32) :
    FVec Ideal S1x128 .f32 :=
  broadcastInDim S1x128 ![] bcast_S_S1x128 (mulf (constant S_ .f32 0x3F000000#32) (Host.reduceAdd (Host.divf (Host.reduceAdd (mulf (subf (extractStridedSlice S16384x1024 ![128, 0] (addf a2 (Host.dotGeneral dot_S16512x2048_S2048x1024_S16512x1024_1_0_0_1_n_n none (shapeCast _ (mulf (mulf (mulf (shapeCast _ a0 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a0 shapeCasts_S16512x2048_S16512x16x128) (shapeCast _ a0 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a5 shapeCasts_S1x128_S128)))) (mulf (shapeCast _ a1 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a1 shapeCasts_S16512x2048_S16512x16x128))))))) shapeCasts_S16512x16x128_S16512x2048) a4)) slices_S16512x1024_S16384x1024_128_0) a3) (subf (extractStridedSlice S16384x1024 ![128, 0] (addf a2 (Host.dotGeneral dot_S16512x2048_S2048x1024_S16512x1024_1_0_0_1_n_n none (shapeCast _ (mulf (mulf (mulf (shapeCast _ a0 shapeCasts_S16512x2048_S16512x16x128) (broadcastInDim S16512x16x128 ![0, 1, 2] bcast_S16512x16x1_S16512x16x128_0_1_2 (Host.rsqrt (addf (Host.divf (broadcastInDim S16512x16x1 ![0, 1] bcast_S16512x16_S16512x16x1_0_1 (Host.reduceAdd (mulf (shapeCast _ a0 shapeCasts_S16512x2048_S16512x16x128) (shapeCast _ a0 shapeCasts_S16512x2048_S16512x16x128)) (constant S_ .f32 0x00000000#32) reducesTo_S16512x16x128_S16512x16_d2 h_S_)) (broadcastInDim S16512x16x1 ![] bcast_S_S16512x16x1 (constant S_ .f32 0x43000000#32))) (broadcastInDim S16512x16x1 ![] bcast_S_S16512x16x1 (constant S_ .f32 0x358637BD#32)))))) (broadcastInDim S16512x16x128 ![0, 1, 2] bcast_S1x1x128_S16512x16x128_0_1_2 (broadcastInDim S1x1x128 ![2] bcast_S128_S1x1x128_2 (shapeCast _ a5 shapeCasts_S1x128_S128)))) (mulf (shapeCast _ a1 shapeCasts_S16512x2048_S16512x16x128) (Host.divf (broadcastInDim S16512x16x128 ![] bcast_S_S16512x16x128 (constant S_ .f32 0x3F800000#32)) (addf (broadcastInDim S16512x16x128 ![] bcast_S_S16512x16x128 (constant S_ .f32 0x3F800000#32)) (Host.exp (Host.negf (shapeCast _ a1 shapeCasts_S16512x2048_S16512x16x128))))))) shapeCasts_S16512x16x128_S16512x2048) a4)) slices_S16512x1024_S16384x1024_128_0) a3)) (constant S_ .f32 0x00000000#32) reducesTo_S16384x1024_S16384_d1 h_S_) (broadcastInDim S16384 ![] bcast_S_S16384 (constant S_ .f32 0x44800000#32))) (constant S_ .f32 0x00000000#32) reducesTo_S16384_S_d0 h_S_))

end Cert.ReferenceLossIdeal.Value

end
-- ==== Proof.LossTiles.lean ====
module

public import proofs.«01_k».proof.Proof.Gen.KernelLossIdeal.Value
public import proofs.«01_k».proof.Proof.LossRef
public import Idealize.ShloMosaic.Lib.Pipeline.ValueKit
public import Idealize.ShloMosaic.Lib.Pointwise
public import Idealize.ShloMosaic.Lib.Claim

/-! The gated norm of the mixer's output, entry by entry, and the sixteen tiles of 128 columns the kernel stores it in:
each tile at an entry is the gated norm of that row of the blocks, and so is the block read back whole. -/

@[expose] public section

set_option maxRecDepth 16384

noncomputable section

open Idealize.ShloMosaic Idealize.ShloMosaic.TcCoe Idealize.SL.Sem
open Idealize.ShloMosaic.Pipeline (Dat)
open scoped BigOperators

namespace Cert.KernelLossIdeal.Value

open Cert.KernelLossIdeal Cert.KernelLossIdeal.Gen
open Cert.ReferenceLossIdeal.Value (REF0 REF1 REF2)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0]
    ∧ win0_3.index t = ![3 * t.val - 1, 0]
    ∧ win0_4.index t = ![3 * t.val, 0]
    ∧ win0_5.index t = ![3 * t.val + 1, 0]
    ∧ win0_6.index t = ![0, 0]
    ∧ win0_7.index t = ![0, 0]
    ∧ win0_8.index t = ![t.val, 0]
    ∧ win0_9.index t = ![t.val, 0]
    ∧ win0_10.index t = ![0, 0] :=
  (by decide +kernel : ∀ t : Fin grid0.N, _)

/-- The column at offset `k` of the head of column `n`. -/
def hcol (n : Fin 2048) (k : Fin 128) : Fin 2048 := ⟨n.val / 128 * 128 + k.val, by omega⟩

/-- The gated norm at a column, from a row of the mixer's output and a row of the gate. -/
def og (o z : Fin 2048 → EReal) (w : Fin 128 → EReal) (n : Fin 2048) : EReal :=
  o n * Ideal.rsqrt (Ideal.div (∑ k, o (hcol n k) * o (hcol n k)) (Ideal.ofBits .f32 1124073472#32)
    + Ideal.ofBits .f32 897988541#32) * w ⟨n.val % 128, Nat.mod_lt _ (by decide)⟩ * (z n * Ideal.logistic (z n))

/-- The same over the rows of a grid point's blocks. -/
def bog (p0 p1 : S384x2048.Idx → EReal) (p7 : S1x128.Idx → EReal) (a : Fin 384) (n : Fin 2048) : EReal :=
  og (fun k => p0 (ix2 a k)) (fun k => p1 (ix2 a k)) (fun k => p7 (ix2 0 k)) n

/-- The gated norm at a column of the head from column `off` on. -/
theorem bog_col (p0 p1 : S384x2048.Idx → EReal) (p7 : S1x128.Idx → EReal) (a : Fin 384) (off : Nat) (l : Fin 128)
    (hlt : off + 128 ≤ 2048) (hm : off % 128 = 0) :
    bog p0 p1 p7 a ⟨off + l.val, by omega⟩ =
      p0 (ix2 a ⟨off + l.val, by omega⟩)
      * Ideal.rsqrt (Ideal.div (∑ k : Fin 128, p0 (ix2 a ⟨off + k.val, by omega⟩) * p0 (ix2 a ⟨off + k.val, by omega⟩))
        (Ideal.ofBits .f32 1124073472#32) + Ideal.ofBits .f32 897988541#32)
      * p7 (ix2 0 l) * (p1 (ix2 a ⟨off + l.val, by omega⟩) * Ideal.logistic (p1 (ix2 a ⟨off + l.val, by omega⟩))) := by
  have hx : l.val < 128 := l.isLt
  have e : ∀ k : Fin 128, hcol ⟨off + l.val, by omega⟩ k = ⟨off + k.val, by omega⟩ := fun k =>
    Fin.ext (show (off + l.val) / 128 * 128 + k.val = off + k.val by omega)
  have e' : (⟨(off + l.val) % 128, Nat.mod_lt _ (by decide)⟩ : Fin 128) = l :=
    Fin.ext (show (off + l.val) % 128 = l.val by omega)
  unfold bog og
  simp only [e, e']

/-- The gated norm at a column of the tile from column `off` on. -/
theorem bog_tile (p0 p1 : S384x2048.Idx → EReal) (p7 : S1x128.Idx → EReal) (y : S384x2048.Idx) (x : S384x128.Idx) (off : Nat)
    (h0 : (y 0).val = (x 0).val) (h1 : (y 1).val = off + (x 1).val) (hlt : off + 128 ≤ 2048) (hm : off % 128 = 0) :
    bog p0 p1 p7 (y 0) (y 1) =
      p0 (ix2 (x 0) ⟨off + (x 1).val, by have h : (x 1).val < 128 := (x 1).isLt; omega⟩)
      * Ideal.rsqrt (Ideal.div (∑ k : Fin 128, p0 (ix2 (x 0) ⟨off + k.val, by omega⟩) * p0 (ix2 (x 0) ⟨off + k.val, by omega⟩))
        (Ideal.ofBits .f32 1124073472#32) + Ideal.ofBits .f32 897988541#32)
      * p7 (ix2 0 (x 1)) * (p1 (ix2 (x 0) ⟨off + (x 1).val, by have h : (x 1).val < 128 := (x 1).isLt; omega⟩)
        * Ideal.logistic (p1 (ix2 (x 0) ⟨off + (x 1).val, by have h : (x 1).val < 128 := (x 1).isLt; omega⟩))) := by
  have hx : (x 1).val < 128 := (x 1).isLt
  exact (congrArg₂ (bog p0 p1 p7) (Fin.ext h0 : (y 0 : Fin 384) = x 0)
    (Fin.ext h1 : (y 1 : Fin 2048) = ⟨off + (x 1).val, by omega⟩)).trans (bog_col p0 p1 p7 (x 0) off (x 1) hlt hm)

/-- The sixteen tiles the kernel stores, the last one first. -/
def ogTiles (p0 p1 : FVec Ideal S384x2048 .f32) (p7 : FVec Ideal S1x128 .f32) : List (View.Piece (Elt Ideal) S384x2048 .bf16) :=
  [
    ⟨Rect.unit ![0, 1920] ![384, 128] inb_S384x2048_S384x128_0_1920, k0_pay25 (F := Ideal) (View.ld (Val := Elt Ideal) (S := S384x2048) (e' := .f32) p0 (Rect.unit ![0, 1920] ![384, 128] inb_S384x2048_S384x128_0_1920)) (View.ld (Val := Elt Ideal) (S := S384x2048) (e' := .f32) p1 (Rect.unit ![0, 1920] ![384, 128] inb_S384x2048_S384x128_0_1920)) p7⟩,
    ⟨Rect.unit ![0, 1792] ![384, 128] inb_S384x2048_S384x128_0_1792, k0_pay24 (F := Ideal) (View.ld (Val := Elt Ideal) (S := S384x2048) (e' := .f32) p1 (Rect.unit ![0, 1792] ![384, 128] inb_S384x2048_S384x128_0_1792)) (k0_pay22 (View.ld (Val := Elt Ideal) (S := S384x2048) (e' := .f32) p0 (Rect.unit ![0, 1792] ![384, 128] inb_S384x2048_S384x128_0_1792)) p7) (k0_pay23 (View.ld (Val := Elt Ideal) (S := S384x2048) (e' := .f32) p1 (Rect.unit ![0, 1792] ![384, 128] inb_S384x2048_S384x128_0_1792)))⟩,
    ⟨Rect.unit ![0, 1664] ![384, 128] inb_S384x2048_S384x128_0_1664, k0_pay21 (F := Ideal) (View.ld (Val := Elt Ideal) (S := S384x2048) (e' := .f32) p0 (Rect.unit ![0, 1664] ![384, 128] inb_S384x2048_S384x128_0_1664)) (View.ld (Val := Elt Ideal) (S := S384x2048) (e' := .f32) p1 (Rect.unit ![0, 1664] ![384, 128] inb_S384x2048_S384x128_0_1664)) p7⟩,
    ⟨Rect.unit ![0, 1536] ![384, 128] inb_S384x2048_S384x128_0_1536, k0_pay20 (F := Ideal) (View.ld (Val := Elt Ideal) (S := S384x2048) (e' := .f32) p0 (Rect.unit ![0, 1536] ![384, 128] inb_S384x2048_S384x128_0_1536)) (View.ld (Val := Elt Ideal) (S := S384x2048) (e' := .f32) p1 (Rect.unit ![0, 1536] ![384, 128] inb_S384x2048_S384x128_0_1536)) p7⟩,
    ⟨Rect.unit ![0, 1408] ![384, 128] inb_S384x2048_S384x128_0_1408, k0_pay19 (F := Ideal) (View.ld (Val := Elt Ideal) (S := S384x2048) (e' := .f32) p0 (Rect.unit ![0, 1408] ![384, 128] inb_S384x2048_S384x128_0_1408)) (View.ld (Val := Elt Ideal) (S := S384x2048) (e' := .f32) p1 (Rect.unit ![0, 1408] ![384, 128] inb_S384x2048_S384x128_0_1408)) p7⟩,
    ⟨Rect.unit ![0, 1280] ![384, 128] inb_S384x2048_S384x128_0_1280, k0_pay18 (F := Ideal) (View.ld (Val := Elt Ideal) (S := S384x2048) (e' := .f32) p0 (Rect.unit ![0, 1280] ![384, 128] inb_S384x2048_S384x128_0_1280)) (View.ld (Val := Elt Ideal) (S := S384x2048) (e' := .f32) p1 (Rect.unit ![0, 1280] ![384, 128] inb_S384x2048_S384x128_0_1280)) p7⟩,
    ⟨Rect.unit ![0, 1152] ![384, 128] inb_S384x2048_S384x128_0_1152, k0_pay17 (F := Ideal) (View.ld (Val := Elt Ideal) (S := S384x2048) (e' := .f32) p0 (Rect.unit ![0, 1152] ![384, 128] inb_S384x2048_S384x128_0_1152)) (View.ld (Val := Elt Ideal) (S := S384x2048) (e' := .f32) p1 (Rect.unit ![0, 1152] ![384, 128] inb_S384x2048_S384x128_0_1152)) p7⟩,
    ⟨Rect.unit ![0, 1024] ![384, 128] inb_S384x2048_S384x128_0_1024, k0_pay16 (F := Ideal) (View.ld (Val := Elt Ideal) (S := S384x2048) (e' := .f32) p0 (Rect.unit ![0, 1024] ![384, 128] inb_S384x2048_S384x128_0_1024)) (View.ld (Val := Elt Ideal) (S := S384x2048) (e' := .f32) p1 (Rect.unit ![0, 1024] ![384, 128] inb_S384x2048_S384x128_0_1024)) p7⟩,
    ⟨Rect.unit ![0, 896] ![384, 128] inb_S384x2048_S384x128_0_896, k0_pay15 (F := Ideal) (View.ld (Val := Elt Ideal) (S := S384x2048) (e' := .f32) p0 (Rect.unit ![0, 896] ![384, 128] inb_S384x2048_S384x128_0_896)) (View.ld (Val := Elt Ideal) (S := S384x2048) (e' := .f32) p1 (Rect.unit ![0, 896] ![384, 128] inb_S384x2048_S384x128_0_896)) p7⟩,
    ⟨Rect.unit ![0, 768] ![384, 128] inb_S384x2048_S384x128_0_768, k0_pay14 (F := Ideal) (View.ld (Val := Elt Ideal) (S := S384x2048) (e' := .f32) p0 (Rect.unit ![0, 768] ![384, 128] inb_S384x2048_S384x128_0_768)) (View.ld (Val := Elt Ideal) (S := S384x2048) (e' := .f32) p1 (Rect.unit ![0, 768] ![384, 128] inb_S384x2048_S384x128_0_768)) p7⟩,
    ⟨Rect.unit ![0, 640] ![384, 128] inb_S384x2048_S384x128_0_640, k0_pay13 (F := Ideal) (View.ld (Val := Elt Ideal) (S := S384x2048) (e' := .f32) p0 (Rect.unit ![0, 640] ![384, 128] inb_S384x2048_S384x128_0_640)) (View.ld (Val := Elt Ideal) (S := S384x2048) (e' := .f32) p1 (Rect.unit ![0, 640] ![384, 128] inb_S384x2048_S384x128_0_640)) p7 (k0_pay12 (View.ld (Val := Elt Ideal) (S := S384x2048) (e' := .f32) p0 (Rect.unit ![0, 640] ![384, 128] inb_S384x2048_S384x128_0_640)))⟩,
    ⟨Rect.unit ![0, 512] ![384, 128] inb_S384x2048_S384x128_0_512, k0_pay11 (F := Ideal) (View.ld (Val := Elt Ideal) (S := S384x2048) (e' := .f32) p0 (Rect.unit ![0, 512] ![384, 128] inb_S384x2048_S384x128_0_512)) (View.ld (Val := Elt Ideal) (S := S384x2048) (e' := .f32) p1 (Rect.unit ![0, 512] ![384, 128] inb_S384x2048_S384x128_0_512)) p7⟩,
    ⟨Rect.unit ![0, 384] ![384, 128] inb_S384x2048_S384x128_0_384, k0_pay10 (F := Ideal) (View.ld (Val := Elt Ideal) (S := S384x2048) (e' := .f32) p0 (Rect.unit ![0, 384] ![384, 128] inb_S384x2048_S384x128_0_384)) (View.ld (Val := Elt Ideal) (S := S384x2048) (e' := .f32) p1 (Rect.unit ![0, 384] ![384, 128] inb_S384x2048_S384x128_0_384)) p7 (k0_pay9 (View.ld (Val := Elt Ideal) (S := S384x2048) (e' := .f32) p0 (Rect.unit ![0, 384] ![384, 128] inb_S384x2048_S384x128_0_384))) (FloatOps.ofBits FTy.f32 897988541#32)⟩,
    ⟨Rect.unit ![0, 256] ![384, 128] inb_S384x2048_S384x128_0_256, k0_pay8 (F := Ideal) (View.ld (Val := Elt Ideal) (S := S384x2048) (e' := .f32) p0 (Rect.unit ![0, 256] ![384, 128] inb_S384x2048_S384x128_0_256)) (View.ld (Val := Elt Ideal) (S := S384x2048) (e' := .f32) p1 (Rect.unit ![0, 256] ![384, 128] inb_S384x2048_S384x128_0_256)) p7⟩,
    ⟨Rect.unit ![0, 128] ![384, 128] inb_S384x2048_S384x128_0_128, k0_pay7 (F := Ideal) (View.ld (Val := Elt Ideal) (S := S384x2048) (e' := .f32) p0 (Rect.unit ![0, 128] ![384, 128] inb_S384x2048_S384x128_0_128)) (View.ld (Val := Elt Ideal) (S := S384x2048) (e' := .f32) p1 (Rect.unit ![0, 128] ![384, 128] inb_S384x2048_S384x128_0_128)) p7 (k0_pay6 (View.ld (Val := Elt Ideal) (S := S384x2048) (e' := .f32) p0 (Rect.unit ![0, 128] ![384, 128] inb_S384x2048_S384x128_0_128)))⟩,
    ⟨Rect.unit ![0, 0] ![384, 128] inb_S384x2048_S384x128_0_0, k0_pay5 (F := Ideal) (View.ld (Val := Elt Ideal) (S := S384x2048) (e' := .f32) p0 (Rect.unit ![0, 0] ![384, 128] inb_S384x2048_S384x128_0_0)) (View.ld (Val := Elt Ideal) (S := S384x2048) (e' := .f32) p1 (Rect.unit ![0, 0] ![384, 128] inb_S384x2048_S384x128_0_0)) p7⟩]

set_option maxHeartbeats 3200000 in
/-- The tiles at an entry. -/
theorem tiles_at (p0 p1 : FVec Ideal S384x2048 .f32) (p7 : FVec Ideal S1x128 .f32) (y : S384x2048.Idx) :
    View.canon (Val := Elt Ideal) (s := S384x2048) (e := .bf16) (ogTiles p0 p1 p7) y = bog p0 p1 p7 (y 0) (y 1) := by
  unfold ogTiles
  canon_tiles x h
  all_goals first
    | refine Eq.trans ?_ (bog_tile p0 p1 p7 y x _ h0 h1 (by decide) (by decide)).symm
    | refine Eq.trans ?_ (bog_tile p0 p1 p7 y x 0 h0 (h1.trans (Nat.zero_add _).symm) (by decide) (by decide)).symm
  all_goals rw [eq_ix2 x]
  all_goals (open_payloads; pointwise [])

/-- The gated norm read back whole. -/
theorem og_read (t : Fin cfg0.N) (p0 p1 : FVec Ideal S384x2048 .f32) (p7 : FVec Ideal S1x128 .f32) (inb) :
    (ms0_9 t).view.readCov (Val := Elt Ideal) (ogTiles p0 p1 p7) (Rect.unit (s := S384x2048) (![0, 0] : Fin 2 → Nat) ![384, 2048] inb).toLoadRect
      = fun j => bog p0 p1 p7 ⟨(j 0).val, (j 0).isLt⟩ ⟨(j 1).val, (j 1).isLt⟩ := by
  rw [View.readCov_eq_canon']
  funext j
  refine (tiles_at p0 p1 p7 _).trans ?_
  have e0 : ((Rect.unit (s := S384x2048) ![0, 0] ![384, 2048] inb).idx j 0).val = (j 0).val := by
    show 0 + 1 * (j 0).val = _; omega
  have e1 : ((Rect.unit (s := S384x2048) ![0, 0] ![384, 2048] inb).idx j 1).val = (j 1).val := by
    show 0 + 1 * (j 1).val = _; omega
  exact congrArg₂ (bog p0 p1 p7) (Fin.ext e0) (Fin.ext e1)

end Cert.KernelLossIdeal.Value

end
-- ==== Proof.LossValue.lean ====
module

public import proofs.«01_k».proof.Proof.LossTiles
public import proofs.«01_k».proof.Proof.LossRef
public import Idealize.ShloMosaic.Lib.Pipeline.ValueKit
public import Idealize.ShloMosaic.Lib.Pointwise
public import Idealize.ShloMosaic.Lib.Claim

/-! The mixer's output with the loss head, entry by entry: a head's gated norm, the row of errors against the target, and
the loss. The kernel stores the gated norm in sixteen tiles, reads it back for the product with the output weight, masks
the rows before the first token, and adds its squared errors, already scaled, to one row of sums; the reference scales
once at the end. Scaling by a finite positive constant distributes over the sum, at the infinities too. -/

@[expose] public section

set_option maxRecDepth 16384

noncomputable section

open Idealize.ShloMosaic Idealize.ShloMosaic.TcCoe Idealize.SL.Sem
open Idealize.ShloMosaic.Pipeline (Dat)
open scoped BigOperators

namespace Cert.KernelLossIdeal.Value

open Cert.KernelLossIdeal Cert.KernelLossIdeal.Gen
open Cert.ReferenceLossIdeal.Value (REF0 REF1 REF2)

variable (m : (ℓ : Loc nD τ sig) → Buf (Elt Ideal) ℓ)

/-- The error against the target at a token and a column. -/
def rowErr (a0 a1 : S16512x2048.Idx → EReal) (a2 : S16512x1024.Idx → EReal) (a3 : S16384x1024.Idx → EReal)
    (a4 : S2048x1024.Idx → EReal) (a5 : S1x128.Idx → EReal) (s : Fin 16384) (n : Fin 1024) : EReal :=
  a2 (ix2 ⟨128 + s.val, by omega⟩ n)
    + (∑ x, og (fun k => a0 (ix2 ⟨128 + s.val, by omega⟩ k)) (fun k => a1 (ix2 ⟨128 + s.val, by omega⟩ k)) (fun k => a5 (ix2 0 k)) x
      * a4 (ix2 x n)) - a3 (ix2 s n)

set_option maxHeartbeats 1600000 in
/-- The reference's loss gradient at an entry: the error, scaled, from the first token on. -/
theorem ref0_at (a0 a1 : FVec Ideal S16512x2048 .f32) (a2 : FVec Ideal S16512x1024 .f32) (a3 : FVec Ideal S16384x1024 .f32)
    (a4 : FVec Ideal S2048x1024 .f32) (a5 : FVec Ideal S1x128 .f32) (r : Fin 16512) (n : Fin 1024) :
    REF0 a0 a1 a2 a3 a4 a5 (ix2 r n) = if h : 128 ≤ r.val then
        Ideal.div (Ideal.ofBits .f32 1056964608#32) (Ideal.ofBits .f32 1149239296#32)
          * (Ideal.ofBits .f32 1073741824#32 * rowErr a0 a1 a2 a3 a4 a5 ⟨r.val - 128, by omega⟩ n)
      else 0 := by
  have hr := r.isLt
  refine Eq.trans (b := if h : 128 ≤ r.val ∧ r.val - 128 < 16384 then
        Ideal.div (Ideal.ofBits .f32 1056964608#32) (Ideal.ofBits .f32 1149239296#32)
          * (Ideal.ofBits .f32 1073741824#32 * rowErr a0 a1 a2 a3 a4 a5 ⟨r.val - 128, h.2⟩ n)
      else 0) ?_ ?_
  · pointwise [REF0, rowErr, og, hcol, Ideal.logistic]
  · by_cases h : 128 ≤ r.val
    · rw [dif_pos ⟨h, by omega⟩, dif_pos h]
    · rw [dif_neg (fun h' => h h'.1), dif_neg h]

set_option maxHeartbeats 1600000 in
/-- The reference's gated norm at an entry. -/
theorem ref1_at (a0 a1 : FVec Ideal S16512x2048 .f32) (a2 : FVec Ideal S16512x1024 .f32) (a3 : FVec Ideal S16384x1024 .f32)
    (a4 : FVec Ideal S2048x1024 .f32) (a5 : FVec Ideal S1x128 .f32) (r : Fin 16512) (n : Fin 2048) :
    REF1 a0 a1 a2 a3 a4 a5 (ix2 r n) = og (fun k => a0 (ix2 r k)) (fun k => a1 (ix2 r k)) (fun k => a5 (ix2 0 k)) n := by
  pointwise [REF1, og, hcol, Ideal.logistic]

set_option maxHeartbeats 1600000 in
/-- The reference's loss at every entry of its row. -/
theorem ref2_at (a0 a1 : FVec Ideal S16512x2048 .f32) (a2 : FVec Ideal S16512x1024 .f32) (a3 : FVec Ideal S16384x1024 .f32)
    (a4 : FVec Ideal S2048x1024 .f32) (a5 : FVec Ideal S1x128 .f32) (l : Fin 128) :
    REF2 a0 a1 a2 a3 a4 a5 (ix2 0 l) = Ideal.ofBits .f32 1056964608#32 * ∑ s : Fin 16384,
      Ideal.div (∑ n : Fin 1024, rowErr a0 a1 a2 a3 a4 a5 s n * rowErr a0 a1 a2 a3 a4 a5 s n) (Ideal.ofBits .f32 1149239296#32) := by
  pointwise [REF2, rowErr, og, hcol, Ideal.logistic]

/-- The row of the whole arrays at a grid point's row. -/
def row (t : Fin cfg0.N) (a : Fin 384) : Fin 16512 :=
  ⟨t.val * 384 + a.val, by have h : t.val < 43 := lt_of_lt_of_eq t.isLt N_0; have := a.isLt; omega⟩

theorem rd0 (c : Dev nD) (t : Fin cfg0.N) (a : Fin 384) (j : Fin 2048) :
    (iblk m c 0 t : Vec Ideal S384x2048 .f32) (ix2 a j) = m ((c : Thread nD τ).loc main_arg0) (ix2 (row t a) j) := by
  unfold row
  blk_point [iblk, V, idx_val t]

theorem rd1 (c : Dev nD) (t : Fin cfg0.N) (a : Fin 384) (j : Fin 2048) :
    (iblk m c 1 t : Vec Ideal S384x2048 .f32) (ix2 a j) = m ((c : Thread nD τ).loc main_arg1) (ix2 (row t a) j) := by
  unfold row
  blk_point [iblk, V, idx_val t]

theorem rd2 (c : Dev nD) (t : Fin cfg0.N) (a : Fin 384) (j : Fin 1024) :
    (iblk m c 2 t : Vec Ideal S384x1024 .f32) (ix2 a j) = m ((c : Thread nD τ).loc main_arg2) (ix2 (row t a) j) := by
  unfold row
  blk_point [iblk, V, idx_val t]

theorem rd6 (c : Dev nD) (t : Fin cfg0.N) (k : Fin 2048) (n : Fin 1024) :
    (iblk m c 6 t : Vec Ideal S2048x1024 .bf16) (ix2 k n) = m ((c : Thread nD τ).loc main_arg4) (ix2 k n) := by
  blk_point [iblk, V, idx_val t]

theorem rd7 (c : Dev nD) (t : Fin cfg0.N) (k : Fin 128) :
    (iblk m c 7 t : Vec Ideal S1x128 .f32) (ix2 0 k) = m ((c : Thread nD τ).loc main_arg5) (ix2 0 k) := by
  blk_point [iblk, V, idx_val t]

/-- The three blocks of target rows a grid point joins, at a row. -/
def tgt (p3 p4 p5 : S128x1024.Idx → EReal) (r : Fin 384) (n : Fin 1024) : EReal :=
  if h : r.val < 128 then p3 (ix2 ⟨r.val, h⟩ n)
  else if h' : r.val - 128 < 128 then p4 (ix2 ⟨r.val - 128, h'⟩ n)
  else p5 (ix2 ⟨r.val - 128 - 128, by omega⟩ n)

/-- From the first token on the joined rows are the target's. -/
theorem tgt_eq (c : Dev nD) (t : Fin cfg0.N) (r : Fin 384) (n : Fin 1024) (h : 128 ≤ (row t r).val) :
    tgt (iblk m c 3 t) (iblk m c 4 t) (iblk m c 5 t) r n
      = m ((c : Thread nD τ).loc main_arg3) (ix2 ⟨(row t r).val - 128, by have := (row t r).isLt; omega⟩ n) := by
  have ht : t.val < 43 := lt_of_lt_of_eq t.isLt N_0
  have hr := r.isLt
  replace h : 128 ≤ t.val * 384 + r.val := h
  unfold tgt row
  by_cases h1 : r.val < 128
  · rw [dif_pos h1]
    blk_point [iblk, V, idx_val t]
  · rw [dif_neg h1]
    by_cases h2 : r.val - 128 < 128
    · rw [dif_pos h2]
      blk_point [iblk, V, idx_val t]
    · rw [dif_neg h2]
      blk_point [iblk, V, idx_val t]

theorem coord_val : ∀ t : Fin cfg0.N, (grid0.coords t 0).val = t.val :=
  (by decide +kernel : ∀ t : Fin grid0.N, _)

/-- The kernel's mask at a row: it chooses the error from the first token on. -/
theorem live_at (t : Fin cfg0.N) (a : Fin 384) (u v : EReal) :
    Scalar.select (IntOp.cmpi CmpIPredicate.sge
      (IntOp.addi (Scalar.muli (BitVec.ofNat 32 (grid0.coords t 0).val) 384#32) (BitVec.ofNat 32 a.val)) 128#32) u v
    = if 128 ≤ (row t a).val then u else v := by
  have ht : t.val < 43 := lt_of_lt_of_eq t.isLt N_0
  have ha := a.isLt
  rw [coord_val]
  have e : IntOp.addi (Scalar.muli (BitVec.ofNat 32 t.val) 384#32) (BitVec.ofNat 32 a.val) = BitVec.ofNat 32 (row t a).val := by
    show BitVec.ofNat 32 t.val * BitVec.ofNat 32 384 + BitVec.ofNat 32 a.val = BitVec.ofNat 32 (t.val * 384 + a.val)
    rw [BitVec.ofNat_add, BitVec.ofNat_mul]
  have hr := (row t a).isLt
  rw [e]
  by_cases h : 128 ≤ (row t a).val
  · rw [if_pos h, (WordCmp.cmpi_sge_ofNat_eq_one_iff (by omega) (by omega)).mpr h]
    rfl
  · rw [if_neg h, (WordCmp.cmpi_sge_ofNat_eq_zero_iff (by omega) (by omega)).mpr h]
    rfl

/-- The gated norm's block as the kernel reads it back. -/
def gblk (c : Dev nD) (t : Fin cfg0.N) : FVec Ideal S384x2048 .bf16 :=
  (ms0_9 t).view.readCov (Val := Elt Ideal) (ogTiles (iblk m c 0 t) (iblk m c 1 t) (iblk m c 7 t))
    (Rect.unit (s := S384x2048) (![0, 0] : Fin 2 → Nat) ![384, 2048] inb_S384x2048_S384x2048_0_0).toLoadRect

/-- The gated norm's block is the gated norm of the whole arrays' rows. -/
theorem bog_at (c : Dev nD) (t : Fin cfg0.N) (a : Fin 384) (n : Fin 2048) :
    bog (iblk m c 0 t) (iblk m c 1 t) (iblk m c 7 t) a n
      = og (fun k => m ((c : Thread nD τ).loc main_arg0) (ix2 (row t a) k)) (fun k => m ((c : Thread nD τ).loc main_arg1) (ix2 (row t a) k))
        (fun k => m ((c : Thread nD τ).loc main_arg5) (ix2 0 k)) n := by
  unfold bog
  simp only [rd0, rd1, rd7]

theorem gblk_at (c : Dev nD) (t : Fin cfg0.N) (a : Fin 384) (n : Fin 2048) :
    gblk m c t (ix2 a n)
      = og (fun k => m ((c : Thread nD τ).loc main_arg0) (ix2 (row t a) k)) (fun k => m ((c : Thread nD τ).loc main_arg1) (ix2 (row t a) k))
        (fun k => m ((c : Thread nD τ).loc main_arg5) (ix2 0 k)) n :=
  (congrFun (og_read t (iblk m c 0 t) (iblk m c 1 t) (iblk m c 7 t) _) (ix2 a n)).trans (bog_at m c t a n)

/-- What the kernel calls the error at a row and a column of a grid point. -/
def berr (c : Dev nD) (t : Fin cfg0.N) : FVec Ideal S384x1024 .f32 :=
  k0_pay1 (F := Ideal) (k0_pay26 (iblk m c 2 t) (gblk m c t) (iblk m c 6 t))
    (k0_pay27 (BitVec.ofNat 32 (grid0.coords t 0).val)) k0_pay28 (iblk m c 3 t) (iblk m c 4 t) (iblk m c 5 t)

/-- The scaled error that is stored. -/
theorem pay2_at (v329 : FVec Ideal S384x1024 .f32) (v333 v334 : IVec S384x1 32) (v336 v337 v338 : FVec Ideal S128x1024 .f32)
    (y : S384x1024.Idx) : k0_pay2 (F := Ideal) v329 v333 v334 v336 v337 v338 y
      = k0_pay1 (F := Ideal) v329 v333 v334 v336 v337 v338 y * Ideal.ofBits .f32 981467136#32 := rfl

/-- The error over generic blocks. -/
theorem pay1_at (p2 : FVec Ideal S384x1024 .f32) (G : FVec Ideal S384x2048 .bf16) (p6 : FVec Ideal S2048x1024 .bf16)
    (w : BitVec 32) (p3 p4 p5 : FVec Ideal S128x1024 .f32) (a : Fin 384) (n : Fin 1024) :
    k0_pay1 (F := Ideal) (k0_pay26 p2 G p6) (k0_pay27 w) k0_pay28 p3 p4 p5 (ix2 a n)
      = Scalar.select (IntOp.cmpi CmpIPredicate.sge (IntOp.addi (Scalar.muli w 384#32) (BitVec.ofNat 32 a.val)) 128#32)
        (p2 (ix2 a n) + (∑ x, G (ix2 a x) * p6 (ix2 x n)) - tgt p3 p4 p5 a n) (0 : EReal) := by
  pointwise [k0_pay1, k0_pay26, k0_pay27, k0_pay28, tgt]

/-- The kernel's error is the error from the first token on, and zero before it. -/
theorem berr_at (c : Dev nD) (t : Fin cfg0.N) (a : Fin 384) (n : Fin 1024) :
    berr m c t (ix2 a n) = if h : 128 ≤ (row t a).val then
      rowErr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨(row t a).val - 128, by have := (row t a).isLt; omega⟩ n else 0 := by
  unfold berr
  refine (pay1_at _ _ _ _ _ _ _ a n).trans ?_
  rw [live_at]
  by_cases h : 128 ≤ (row t a).val
  · rw [if_pos h, dif_pos h, tgt_eq m c t a n h]
    have e : (⟨128 + ((row t a).val - 128), by have := (row t a).isLt; omega⟩ : Fin 16512) = row t a :=
      Fin.ext (show 128 + ((row t a).val - 128) = (row t a).val by omega)
    unfold rowErr
    simp only [e]
    refine congrArg₂ (· - ·) (congrArg₂ (· + ·) (rd2 m c t a n) (Finset.sum_congr rfl fun x _ => congrArg₂ (· * ·) (gblk_at m c t a x) (rd6 m c t x n))) rfl
  · rw [if_neg h, dif_neg h]

/-- One half over 1024, doubled, is the kernel's constant. -/
theorem scale_dy : Ideal.div (Ideal.ofBits .f32 1056964608#32) (Ideal.ofBits .f32 1149239296#32) * Ideal.ofBits .f32 1073741824#32
    = Ideal.ofBits .f32 981467136#32 := by
  have e1 : Ideal.ofBits .f32 1056964608#32 = ((1 / 2 : ℝ) : EReal) := by
    simp [Ideal.ofBits, Ideal.ieee, -EReal.coe_mul]; norm_num
  have e2 : Ideal.ofBits .f32 1149239296#32 = ((1024 : ℝ) : EReal) := by
    simp [Ideal.ofBits, Ideal.ieee, -EReal.coe_mul]; norm_num
  have e3 : Ideal.ofBits .f32 1073741824#32 = ((2 : ℝ) : EReal) := by
    simp [Ideal.ofBits, Ideal.ieee, -EReal.coe_mul]; norm_num
  have e4 : Ideal.ofBits .f32 981467136#32 = ((1 / 1024 : ℝ) : EReal) := by
    simp [Ideal.ofBits, Ideal.ieee, -EReal.coe_mul]; norm_num
  rw [e1, e2, e3, e4, Ideal.div_coe (by norm_num), ← EReal.coe_mul, ← EReal.coe_mul]
  norm_num

/-- The kernel's scaling of an error is the reference's. -/
theorem scale_if (p : Prop) [Decidable p] (f : p → EReal) :
    (if h : p then f h else 0) * Ideal.ofBits .f32 981467136#32
      = if h : p then Ideal.div (Ideal.ofBits .f32 1056964608#32) (Ideal.ofBits .f32 1149239296#32)
          * (Ideal.ofBits .f32 1073741824#32 * f h) else 0 := by
  by_cases h : p
  · rw [dif_pos h, dif_pos h, ← mul_assoc, scale_dy, mul_comm]
  · rw [dif_neg h, dif_neg h, zero_mul]

/-- A finite constant that isn't negative distributes over a sum. -/
theorem scale_sum {ι : Type} (S : Finset ι) (x : ℝ) (hx : 0 ≤ x) (f : ι → EReal) :
    ((x : ℝ) : EReal) * ∑ i ∈ S, f i = ∑ i ∈ S, (x : EReal) * f i := by
  classical
  induction S using Finset.induction_on with
  | empty => simp
  | insert a S ha ih =>
    rw [Finset.sum_insert ha, Finset.sum_insert ha,
      EReal.left_distrib_of_nonneg_of_ne_top (EReal.coe_nonneg.mpr hx) (EReal.coe_ne_top x), ih]

/-- The reference's scaling of the loss: one half of the sum of the means. -/
theorem scale_loss (f : Fin 16384 → EReal) :
    Ideal.ofBits .f32 1056964608#32 * ∑ s, Ideal.div (f s) (Ideal.ofBits .f32 1149239296#32)
      = ∑ s, f s * Ideal.ofBits .f32 973078528#32 := by
  have e1 : Ideal.ofBits .f32 1056964608#32 = ((1 / 2 : ℝ) : EReal) := by
    simp [Ideal.ofBits, Ideal.ieee, -EReal.coe_mul]; norm_num
  have e2 : Ideal.ofBits .f32 1149239296#32 = ((1024 : ℝ) : EReal) := by
    simp [Ideal.ofBits, Ideal.ieee, -EReal.coe_mul]; norm_num
  have e4 : Ideal.ofBits .f32 973078528#32 = ((1 / 2048 : ℝ) : EReal) := by
    simp [Ideal.ofBits, Ideal.ieee, -EReal.coe_mul]; norm_num
  rw [e1, e2, e4, scale_sum _ _ (by norm_num)]
  refine Finset.sum_congr rfl fun s _ => ?_
  rw [Ideal.div_coe (by norm_num), mul_comm, mul_assoc, ← EReal.coe_mul]
  norm_num

/-- The kernel's own scaling, row by row. -/
theorem scale_rows {n : Nat} (f : Fin n → EReal) :
    (∑ s, f s) * Ideal.ofBits .f32 973078528#32 = ∑ s, f s * Ideal.ofBits .f32 973078528#32 := by
  have e4 : Ideal.ofBits .f32 973078528#32 = ((1 / 2048 : ℝ) : EReal) := by
    simp [Ideal.ofBits, Ideal.ieee, -EReal.coe_mul]; norm_num
  rw [e4, mul_comm, scale_sum _ _ (by norm_num)]
  exact Finset.sum_congr rfl fun s _ => mul_comm _ _

set_option maxHeartbeats 1600000 in
/-- The loss gradient's block at a grid point of case A. -/
theorem point_8_A (c : Dev nD) (t : Fin cfg0.N) (h0 : t.val % 43 = 0) (y) :
    (out0_A_8 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3 t)
      (iblk m c 4 t) (iblk m c 5 t) (iblk m c 6 t) (iblk m c 7 t)) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  have hk : berr m c t y * Ideal.ofBits .f32 981467136#32 = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
    have e : ((cfg0.win 8).blk t).view.emb y = ix2 (row t (y 0)) (y 1) := by
      unfold row
      blk_ext [idx_val t]
    refine ((congrArg (· * _) ((congrArg _ (eq_ix2 y)).trans (berr_at m c t (y 0) (y 1)))).trans ?_).trans
      ((congrArg (REF0 _ _ _ _ _ _) e).trans (ref0_at _ _ _ _ _ _ (row t (y 0)) (y 1))).symm
    exact scale_if _ _
  refine Eq.trans ?_ hk
  unfold berr gblk ogTiles
  frame_out
  exact pay2_at _ _ _ _ _ _ y

set_option maxHeartbeats 1600000 in
/-- The loss gradient's block at a grid point of case B. -/
theorem point_8_B (c : Dev nD) (t : Fin cfg0.N) (h0 : ¬t.val % 43 = 0) (y) :
    (out0_B_8 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) (iblk m c 6 t) (iblk m c 7 t) (outsAt0 m c (t.val - 1)
      (Nat.lt_of_le_of_lt (Nat.sub_le _ _) t.isLt)).2.2) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
  have hk : berr m c t y * Ideal.ofBits .f32 981467136#32 = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 8).blk t).view.emb y) := by
    have e : ((cfg0.win 8).blk t).view.emb y = ix2 (row t (y 0)) (y 1) := by
      unfold row
      blk_ext [idx_val t]
    refine ((congrArg (· * _) ((congrArg _ (eq_ix2 y)).trans (berr_at m c t (y 0) (y 1)))).trans ?_).trans
      ((congrArg (REF0 _ _ _ _ _ _) e).trans (ref0_at _ _ _ _ _ _ (row t (y 0)) (y 1))).symm
    exact scale_if _ _
  refine Eq.trans ?_ hk
  unfold berr gblk ogTiles
  frame_out
  exact pay2_at _ _ _ _ _ _ y

theorem final_8 (c : Dev nD) : (dats m 0 c).arrAt 8 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf y => ?_
  blk_simp; rw [after0_8]
  by_cases h : t.val % 43 = 0
  · rw [outsAt0_A m c t h]; dsimp only; exact point_8_A m c t h y
  · rw [outsAt0_B m c t h]; dsimp only; exact point_8_B m c t h y

set_option maxHeartbeats 1600000 in
/-- The gated norm's block at a grid point of case A. -/
theorem point_9_A (c : Dev nD) (t : Fin cfg0.N) (h0 : t.val % 43 = 0) (y) :
    (out0_A_9 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) ((hcond0_0 t).mpr h0) (iblk m c 0 t) (iblk m c 1 t) (iblk m c 2 t) (iblk m c 3 t)
      (iblk m c 4 t) (iblk m c 5 t) (iblk m c 6 t) (iblk m c 7 t)) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  frame_out
  have e : ((cfg0.win 9).blk t).view.emb y = ix2 (row t (y 0)) (y 1) := by
    unfold row
    blk_ext [idx_val t]
  refine Eq.trans ?_ ((congrArg (REF1 _ _ _ _ _ _) e).trans (ref1_at _ _ _ _ _ _ (row t (y 0)) (y 1))).symm
  exact (tiles_at (iblk m c 0 t) (iblk m c 1 t) (iblk m c 7 t) y).trans (bog_at m c t (y 0) (y 1))

set_option maxHeartbeats 1600000 in
/-- The gated norm's block at a grid point of case B. -/
theorem point_9_B (c : Dev nD) (t : Fin cfg0.N) (h0 : ¬t.val % 43 = 0) (y) :
    (out0_B_9 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (ms0_8 t) (hs0_8 t) (ms0_9 t)
      (hs0_9 t) (ms0_10 t) (hs0_10 t) (fun h => h0 ((hcond0_0 t).mp h)) (iblk m c 0 t) (iblk m c 1 t) (iblk m c 2 t)
      (iblk m c 3 t) (iblk m c 4 t) (iblk m c 5 t) (iblk m c 6 t) (iblk m c 7 t) (outsAt0 m c (t.val - 1)
      (Nat.lt_of_le_of_lt (Nat.sub_le _ _) t.isLt)).2.2) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 9).blk t).view.emb y) := by
  frame_out
  have e : ((cfg0.win 9).blk t).view.emb y = ix2 (row t (y 0)) (y 1) := by
    unfold row
    blk_ext [idx_val t]
  refine Eq.trans ?_ ((congrArg (REF1 _ _ _ _ _ _) e).trans (ref1_at _ _ _ _ _ _ (row t (y 0)) (y 1))).symm
  exact (tiles_at (iblk m c 0 t) (iblk m c 1 t) (iblk m c 7 t) y).trans (bog_at m c t (y 0) (y 1))

theorem final_9 (c : Dev nD) : (dats m 0 c).arrAt 9 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf y => ?_
  blk_simp; rw [after0_9]
  by_cases h : t.val % 43 = 0
  · rw [outsAt0_A m c t h]; dsimp only; exact point_9_A m c t h y
  · rw [outsAt0_B m c t h]; dsimp only; exact point_9_B m c t h y

/-- A grid point's part of the loss: its squared errors, scaled. -/
def wterm (c : Dev nD) (t : Fin cfg0.N) : EReal :=
  (∑ a : Fin 384, ∑ n : Fin 1024, berr m c t (ix2 a n) * berr m c t (ix2 a n)) * Ideal.ofBits .f32 973078528#32

/-- The reset stores zeros. -/
theorem pay4_at (j : S1x128.Idx) : k0_pay4 (F := Ideal) j = 0 := by
  pointwise! [k0_pay4]

/-- The accumulating store: the squared errors, scaled, added to what the row held. -/
theorem pay3_at (v329 : FVec Ideal S384x1024 .f32) (v333 v334 : IVec S384x1 32) (v336 v337 v338 : FVec Ideal S128x1024 .f32)
    (v348 : FVec Ideal S1x128 .f32) (j : S1x128.Idx) :
    k0_pay3 (F := Ideal) v329 v333 v334 v336 v337 v338 v348 j = v348 j
      + (∑ a : Fin 384, ∑ n : Fin 1024, k0_pay1 (F := Ideal) v329 v333 v334 v336 v337 v338 (ix2 a n)
        * k0_pay1 (F := Ideal) v329 v333 v334 v336 v337 v338 (ix2 a n)) * Ideal.ofBits .f32 973078528#32 := by
  pointwise [k0_pay3]

set_option maxHeartbeats 1600000 in
/-- The first point's store: its own part. -/
theorem after_A (c : Dev nD) (t : Fin cfg0.N) (h0 : t.val % 43 = 0) (j : S1x128.Idx) :
    (outsAt0 m c t.val t.isLt).2.2 j = 0 + wterm m c t := by
  unfold wterm berr gblk ogTiles
  rw [outsAt0_A m c t h0]
  frame_out
  refine (pay3_at _ _ _ _ _ _ _ j).trans (congrArg₂ (· + ·) (pay4_at j) rfl)

set_option maxHeartbeats 1600000 in
/-- A later point's store: its own part added to what the point before left. -/
theorem after_B (c : Dev nD) (t : Fin cfg0.N) (h0 : ¬t.val % 43 = 0) (j : S1x128.Idx) :
    (outsAt0 m c t.val t.isLt).2.2 j
      = (outsAt0 m c (t.val - 1) (Nat.lt_of_le_of_lt (Nat.sub_le _ _) t.isLt)).2.2 j + wterm m c t := by
  unfold wterm berr gblk ogTiles
  rw [outsAt0_B m c t h0]
  frame_out
  exact pay3_at _ _ _ _ _ _ _ j

/-- The last grid point. -/
def tlast : Fin cfg0.N := ⟨42, lt_of_lt_of_eq (by decide) N_0.symm⟩

/-- A row's squared error, scaled; zero before the first token. -/
def rowTerm (a0 a1 : S16512x2048.Idx → EReal) (a2 : S16512x1024.Idx → EReal) (a3 : S16384x1024.Idx → EReal)
    (a4 : S2048x1024.Idx → EReal) (a5 : S1x128.Idx → EReal) (r : Fin 16512) : EReal :=
  if h : 128 ≤ r.val then (∑ n, rowErr a0 a1 a2 a3 a4 a5 ⟨r.val - 128, by omega⟩ n * rowErr a0 a1 a2 a3 a4 a5 ⟨r.val - 128, by omega⟩ n)
    * Ideal.ofBits .f32 973078528#32 else 0

/-- A row's squared errors over a grid point's block. -/
theorem row_at (c : Dev nD) (s : Fin cfg0.N) (a : Fin 384) :
    (∑ n : Fin 1024, berr m c s (ix2 a n) * berr m c s (ix2 a n)) * Ideal.ofBits .f32 973078528#32
      = rowTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row s a) := by
  simp only [berr_at]
  unfold rowTerm
  by_cases h : 128 ≤ (row s a).val
  · simp only [dif_pos h]
  · simp only [dif_neg h, mul_zero, Finset.sum_const_zero, zero_mul]

/-- A sum over all rows whose first 128 terms are zero. -/
theorem sum_front (f : Fin 16512 → EReal) (h : ∀ r : Fin 16512, r.val < 128 → f r = 0) :
    ∑ r, f r = ∑ s : Fin 16384, f ⟨128 + s.val, by omega⟩ := by
  refine (Fin.sum_univ_add (a := 128) (b := 16384) f).trans ?_
  rw [Finset.sum_eq_zero (fun i _ => h _ i.isLt), zero_add]
  rfl

set_option maxHeartbeats 1600000 in
/-- The points' parts add up to the reference's loss. -/
theorem total (c : Dev nD) (l : Fin 128) : (∑ s : Fin cfg0.N, wterm m c s) = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 0 l) := by
  refine Eq.trans ?_ (ref2_at _ _ _ _ _ _ _).symm
  rw [scale_loss]
  refine Eq.trans (b := ∑ r : Fin 16512, rowTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r) ?_ ?_
  · refine (Finset.sum_congr rfl fun s _ => scale_rows (n := 384) _).trans ?_
    refine Fin.sum_mul_add_congr fun s a hl => ?_
    exact row_at m c s a
  · rw [sum_front _ (fun r h => dif_neg (by omega))]
    refine Finset.sum_congr rfl fun s _ => ?_
    unfold rowTerm
    rw [dif_pos (show 128 ≤ 128 + s.val by omega)]
    have e : (⟨128 + s.val - 128, by omega⟩ : Fin 16384) = s := Fin.ext (show 128 + s.val - 128 = s.val by omega)
    simp only [e]

set_option maxHeartbeats 1600000 in
/-- What window 10 holds after the last point is the reference's loss. -/
theorem final_10 (c : Dev nD) : (dats m 0 c).arrAt 10 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 10 tlast (by decide +kernel) _ fun j => ?_
  blk_simp
  rw [after0_10, Pipeline.eq_sum_fin_of_reset_step_apply_last (fun n h => (outsAt0 m c n h).2.2) 43 (fun _ => 0)
    (fun t _ => wterm m c t) (fun t h j => after_A m c t h j) (fun t h j => after_B m c t h j)
    (le_of_eq N_0) tlast N_0.symm j, zero_add]
  refine (total m c (j 1)).trans (congrArg (REF2 _ _ _ _ _ _) ?_)
  rw [eq_ix2 j]
  exact congrArg₂ ix2 (Subsingleton.elim (α := Fin 1) _ _) rfl

end Cert.KernelLossIdeal.Value

end
-- ==== Proof.LossClaim.lean ====
module

public import proofs.«01_k».proof.Defs
public import proofs.«01_k».proof.Proof.Gen.KernelLoss.Frame
public import proofs.«01_k».proof.Proof.LossValue
public import Idealize.ShloMosaic.Lib.Quiescent

/-! The claims about the second layer's gated norm and output projection with the loss head. -/

@[expose] public section

set_option maxRecDepth 65536

noncomputable section

namespace Cert.Proof

open Idealize.ShloMosaic Idealize.SL.Sem

theorem quiescent_KernelLoss : Cert.quiescent_KernelLoss := fun m ρ _ => Cert.KernelLoss.Gen.frame m ρ

theorem quiescent_KernelLossIdeal : Cert.quiescent_KernelLossIdeal := fun m ρ _ => Cert.KernelLossIdeal.Gen.frame m ρ

theorem quiescent_ReferenceLossIdeal : Cert.quiescent_ReferenceLossIdeal := fun m ρ _ =>
  (θ_run Cert.ReferenceLossIdeal.defs _ _).mono
    (fun r h => ⟨fun c => (h c).2.2.2, Idealize.ShloMosaic.sem_eq_zero_of_no_sems (by decide) r.2⟩)
    (Cert.ReferenceLossIdeal.Value.run (F := Ideal) m ρ)

theorem algebraic_Loss : Cert.algebraic_KernelLossIdeal_ReferenceLossIdeal := by
  intro m ρ m' ρ' _ hagree
  refine ⟨_, _, _, Cert.KernelLossIdeal.Value.run_blocks (F := Ideal) m ρ, ?_⟩
  refine (θ_run Cert.ReferenceLossIdeal.defs _ _).mono
    (fun _ h c => ⟨(h c).1.trans ?_, (h c).2.1.trans ?_, (h c).2.2.1.trans ?_, (h c).2.2.2⟩)
    (Cert.ReferenceLossIdeal.Value.run (F := Ideal) m' ρ')
  · obtain ⟨h0, h1, h2, h3, h4, h5⟩ := hagree c
    change Cert.ReferenceLossIdeal.Value.REF0 (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2)) (m' ((c.tc : Thread Cert.ReferenceLossIdeal.nD Cert.ReferenceLossIdeal.τ).loc Cert.ReferenceLossIdeal.main_arg3)) (m' ((c.tc : Thread Cert.ReferenceLossIdeal.nD Cert.ReferenceLossIdeal.τ).loc Cert.ReferenceLossIdeal.main_arg4)) (m' ((c.tc : Thread Cert.ReferenceLossIdeal.nD Cert.ReferenceLossIdeal.τ).loc Cert.ReferenceLossIdeal.main_arg5)) = _
    rw [h0, h1, h2, h3, h4, h5]
    exact (Cert.KernelLossIdeal.Value.final_8 m c).symm
  · obtain ⟨h0, h1, h2, h3, h4, h5⟩ := hagree c
    change Cert.ReferenceLossIdeal.Value.REF1 (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2)) (m' ((c.tc : Thread Cert.ReferenceLossIdeal.nD Cert.ReferenceLossIdeal.τ).loc Cert.ReferenceLossIdeal.main_arg3)) (m' ((c.tc : Thread Cert.ReferenceLossIdeal.nD Cert.ReferenceLossIdeal.τ).loc Cert.ReferenceLossIdeal.main_arg4)) (m' ((c.tc : Thread Cert.ReferenceLossIdeal.nD Cert.ReferenceLossIdeal.τ).loc Cert.ReferenceLossIdeal.main_arg5)) = _
    rw [h0, h1, h2, h3, h4, h5]
    exact (Cert.KernelLossIdeal.Value.final_9 m c).symm
  · obtain ⟨h0, h1, h2, h3, h4, h5⟩ := hagree c
    change Cert.ReferenceLossIdeal.Value.REF2 (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2)) (m' ((c.tc : Thread Cert.ReferenceLossIdeal.nD Cert.ReferenceLossIdeal.τ).loc Cert.ReferenceLossIdeal.main_arg3)) (m' ((c.tc : Thread Cert.ReferenceLossIdeal.nD Cert.ReferenceLossIdeal.τ).loc Cert.ReferenceLossIdeal.main_arg4)) (m' ((c.tc : Thread Cert.ReferenceLossIdeal.nD Cert.ReferenceLossIdeal.τ).loc Cert.ReferenceLossIdeal.main_arg5)) = _
    rw [h0, h1, h2, h3, h4, h5]
    exact (Cert.KernelLossIdeal.Value.final_10 m c).symm

end Cert.Proof

end
-- ==== Proof.ConvRef.lean ====
module

public import proofs.«01_k».proof.Proof.Gen.ReferenceConvIdeal.Run
public import Idealize.ShloMosaic.PureOps.Ideal

/-! The reference's results as functions of its arguments, over the extended reals. -/

@[expose] public section

set_option maxRecDepth 16384

noncomputable section

namespace Cert.ReferenceConvIdeal.Value

open Cert.ReferenceConvIdeal Cert.ReferenceConvIdeal.Gen Idealize.ShloMosaic Idealize.ShloMosaic.TcCoe Idealize.SL.Sem Idealize.ShloMosaic.StableHlo

/-- The convolution, before its activation. -/
def CONV (a0 : FVec Ideal S16512x4096 .f32) (a2 : FVec Ideal S4x4096 .f32) : FVec Ideal S16512x4096 .f32 :=
  addf (addf (addf (addf (broadcastInDim S16512x4096 ![] bcast_S_S16512x4096 (constant S_ .f32 0x00000000#32)) (mulf (broadcastInDim S16512x4096 ![0, 1] bcast_S1x4096_S16512x4096_0_1 (broadcastInDim S1x4096 ![1] bcast_S4096_S1x4096_1 (shapeCast _ (extractStridedSlice S1x4096 ![3, 0] a2 slices_S4x4096_S1x4096_3_0) shapeCasts_S1x4096_S4096))) (extractStridedSlice S16512x4096 ![3, 0] (pad S16515x4096 ![3, 0] ![0, 0] ![0, 0] a0 (sitofp .f32 (constantI S_ 32 0#32)) pads_S16512x4096_S16515x4096_300_000 h_S_) slices_S16515x4096_S16512x4096_3_0))) (mulf (broadcastInDim S16512x4096 ![0, 1] bcast_S1x4096_S16512x4096_0_1 (broadcastInDim S1x4096 ![1] bcast_S4096_S1x4096_1 (shapeCast _ (extractStridedSlice S1x4096 ![2, 0] a2 slices_S4x4096_S1x4096_2_0) shapeCasts_S1x4096_S4096))) (extractStridedSlice S16512x4096 ![2, 0] (pad S16515x4096 ![3, 0] ![0, 0] ![0, 0] a0 (sitofp .f32 (constantI S_ 32 0#32)) pads_S16512x4096_S16515x4096_300_000 h_S_) slices_S16515x4096_S16512x4096_2_0))) (mulf (broadcastInDim S16512x4096 ![0, 1] bcast_S1x4096_S16512x4096_0_1 (broadcastInDim S1x4096 ![1] bcast_S4096_S1x4096_1 (shapeCast _ (extractStridedSlice S1x4096 ![1, 0] a2 slices_S4x4096_S1x4096_1_0) shapeCasts_S1x4096_S4096))) (extractStridedSlice S16512x4096 ![1, 0] (pad S16515x4096 ![3, 0] ![0, 0] ![0, 0] a0 (sitofp .f32 (constantI S_ 32 0#32)) pads_S16512x4096_S16515x4096_300_000 h_S_) slices_S16515x4096_S16512x4096_1_0))) (mulf (broadcastInDim S16512x4096 ![0, 1] bcast_S1x4096_S16512x4096_0_1 (broadcastInDim S1x4096 ![1] bcast_S4096_S1x4096_1 (shapeCast _ (extractStridedSlice S1x4096 ![0, 0] a2 slices_S4x4096_S1x4096_0_0) shapeCasts_S1x4096_S4096))) (extractStridedSlice S16512x4096 ![0, 0] (pad S16515x4096 ![3, 0] ![0, 0] ![0, 0] a0 (sitofp .f32 (constantI S_ 32 0#32)) pads_S16512x4096_S16515x4096_300_000 h_S_) slices_S16515x4096_S16512x4096_0_0))

/-- Result 0 of the reference. -/
abbrev REF0 (a0 : FVec Ideal S16512x4096 .f32) (a1 : FVec Ideal S16512x32 .f32) (a2 : FVec Ideal S4x4096 .f32) (a3 : FVec Ideal S1x16 .f32) (a4 : FVec Ideal S1x16 .f32) :
    FVec Ideal S16512x1024 .f32 :=
  (shapeCast _ (mulf (mulf (shapeCast _ (extractStridedSlice S16512x1024 ![0, 0] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x1024_0_0) shapeCasts_S16512x1024_S16512x8x128) (broadcastInDim S16512x8x128 ![0, 1, 2] bcast_S16512x8x1_S16512x8x128_0_1_2 (Host.rsqrt (addf (broadcastInDim S16512x8x1 ![0, 1] bcast_S16512x8_S16512x8x1_0_1 (Host.reduceAdd (mulf (shapeCast _ (extractStridedSlice S16512x1024 ![0, 0] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x1024_0_0) shapeCasts_S16512x1024_S16512x8x128) (shapeCast _ (extractStridedSlice S16512x1024 ![0, 0] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x1024_0_0) shapeCasts_S16512x1024_S16512x8x128)) (constant S_ .f32 0x00000000#32) reducesTo_S16512x8x128_S16512x8_d2 h_S_)) (broadcastInDim S16512x8x1 ![] bcast_S_S16512x8x1 (constant S_ .f32 0x358637BD#32)))))) (broadcastInDim S16512x8x128 ![] bcast_S_S16512x8x128 (constant S_ .f32 0x3DB504F3#32))) shapeCasts_S16512x8x128_S16512x1024)

/-- Result 1 of the reference. -/
abbrev REF1 (a0 : FVec Ideal S16512x4096 .f32) (a1 : FVec Ideal S16512x32 .f32) (a2 : FVec Ideal S4x4096 .f32) (a3 : FVec Ideal S1x16 .f32) (a4 : FVec Ideal S1x16 .f32) :
    FVec Ideal S16512x1024 .f32 :=
  (shapeCast _ (mulf (shapeCast _ (extractStridedSlice S16512x1024 ![0, 1024] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x1024_0_1024) shapeCasts_S16512x1024_S16512x8x128) (broadcastInDim S16512x8x128 ![0, 1, 2] bcast_S16512x8x1_S16512x8x128_0_1_2 (Host.rsqrt (addf (broadcastInDim S16512x8x1 ![0, 1] bcast_S16512x8_S16512x8x1_0_1 (Host.reduceAdd (mulf (shapeCast _ (extractStridedSlice S16512x1024 ![0, 1024] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x1024_0_1024) shapeCasts_S16512x1024_S16512x8x128) (shapeCast _ (extractStridedSlice S16512x1024 ![0, 1024] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x1024_0_1024) shapeCasts_S16512x1024_S16512x8x128)) (constant S_ .f32 0x00000000#32) reducesTo_S16512x8x128_S16512x8_d2 h_S_)) (broadcastInDim S16512x8x1 ![] bcast_S_S16512x8x1 (constant S_ .f32 0x358637BD#32)))))) shapeCasts_S16512x8x128_S16512x1024)

/-- Result 2 of the reference. -/
abbrev REF2 (a0 : FVec Ideal S16512x4096 .f32) (a1 : FVec Ideal S16512x32 .f32) (a2 : FVec Ideal S4x4096 .f32) (a3 : FVec Ideal S1x16 .f32) (a4 : FVec Ideal S1x16 .f32) :
    FVec Ideal S16512x2048 .f32 :=
  (extractStridedSlice S16512x2048 ![0, 2048] (mulf (CONV a0 a2) (Host.divf (broadcastInDim S16512x4096 ![] bcast_S_S16512x4096 (constant S_ .f32 0x3F800000#32)) (addf (broadcastInDim S16512x4096 ![] bcast_S_S16512x4096 (constant S_ .f32 0x3F800000#32)) (Host.exp (Host.negf (CONV a0 a2)))))) slices_S16512x4096_S16512x2048_0_2048)

/-- Result 3 of the reference. -/
abbrev REF3 (a0 : FVec Ideal S16512x4096 .f32) (a1 : FVec Ideal S16512x32 .f32) (a2 : FVec Ideal S4x4096 .f32) (a3 : FVec Ideal S1x16 .f32) (a4 : FVec Ideal S1x16 .f32) :
    FVec Ideal S16512x32 .f32 :=
  pad S16512x32 ![112, 0] ![0, 0] ![0, 0] (concatenate S16400x32 1 [⟨S16400x16, (Host.divf (broadcastInDim S16400x16 ![] bcast_S_S16400x16 (constant S_ .f32 0x3F800000#32)) (addf (broadcastInDim S16400x16 ![] bcast_S_S16400x16 (constant S_ .f32 0x3F800000#32)) (Host.exp (Host.negf (extractStridedSlice S16400x16 ![0, 0] (extractStridedSlice S16400x32 ![112, 0] a1 slices_S16512x32_S16400x32_112_0) slices_S16400x32_S16400x16_0_0)))))⟩, ⟨S16400x16, (mulf (broadcastInDim S16400x16 ![0, 1] bcast_S1x16_S16400x16_0_1 (broadcastInDim S1x16 ![1] bcast_S16_S1x16_1 (Host.negf (Host.exp (shapeCast _ a3 shapeCasts_S1x16_S16))))) (select (cmpf .une (subf (addf (extractStridedSlice S16400x16 ![0, 16] (extractStridedSlice S16400x32 ![112, 0] a1 slices_S16512x32_S16400x32_112_0) slices_S16400x32_S16400x16_0_16) (broadcastInDim S16400x16 ![0, 1] bcast_S1x16_S16400x16_0_1 (broadcastInDim S1x16 ![1] bcast_S16_S1x16_1 (shapeCast _ a4 shapeCasts_S1x16_S16)))) (broadcastInDim S16400x16 ![] bcast_S_S16400x16 (constant S_ .f32 0x00000000#32))) (subf (addf (extractStridedSlice S16400x16 ![0, 16] (extractStridedSlice S16400x32 ![112, 0] a1 slices_S16512x32_S16400x32_112_0) slices_S16400x32_S16400x16_0_16) (broadcastInDim S16400x16 ![0, 1] bcast_S1x16_S16400x16_0_1 (broadcastInDim S1x16 ![1] bcast_S16_S1x16_1 (shapeCast _ a4 shapeCasts_S1x16_S16)))) (broadcastInDim S16400x16 ![] bcast_S_S16400x16 (constant S_ .f32 0x00000000#32)))) (addf (addf (extractStridedSlice S16400x16 ![0, 16] (extractStridedSlice S16400x32 ![112, 0] a1 slices_S16512x32_S16400x32_112_0) slices_S16400x32_S16400x16_0_16) (broadcastInDim S16400x16 ![0, 1] bcast_S1x16_S16400x16_0_1 (broadcastInDim S1x16 ![1] bcast_S16_S1x16_1 (shapeCast _ a4 shapeCasts_S1x16_S16)))) (broadcastInDim S16400x16 ![] bcast_S_S16400x16 (constant S_ .f32 0x00000000#32))) (addf (maximumf (addf (extractStridedSlice S16400x16 ![0, 16] (extractStridedSlice S16400x32 ![112, 0] a1 slices_S16512x32_S16400x32_112_0) slices_S16400x32_S16400x16_0_16) (broadcastInDim S16400x16 ![0, 1] bcast_S1x16_S16400x16_0_1 (broadcastInDim S1x16 ![1] bcast_S16_S1x16_1 (shapeCast _ a4 shapeCasts_S1x16_S16)))) (broadcastInDim S16400x16 ![] bcast_S_S16400x16 (constant S_ .f32 0x00000000#32))) (Host.log1p (Host.exp (Host.negf (Host.absf (subf (addf (extractStridedSlice S16400x16 ![0, 16] (extractStridedSlice S16400x32 ![112, 0] a1 slices_S16512x32_S16400x32_112_0) slices_S16400x32_S16400x16_0_16) (broadcastInDim S16400x16 ![0, 1] bcast_S1x16_S16400x16_0_1 (broadcastInDim S1x16 ![1] bcast_S16_S1x16_1 (shapeCast _ a4 shapeCasts_S1x16_S16)))) (broadcastInDim S16400x16 ![] bcast_S_S16400x16 (constant S_ .f32 0x00000000#32))))))))))⟩] concatenates_S16400x16_S16400x16_S16400x32_d1) (sitofp .f32 (constantI S_ 32 0#32)) pads_S16400x32_S16512x32_11200_000 h_S_

/-- Result 4 of the reference. -/
abbrev REF4 (a0 : FVec Ideal S16512x4096 .f32) (a1 : FVec Ideal S16512x32 .f32) (a2 : FVec Ideal S4x4096 .f32) (a3 : FVec Ideal S1x16 .f32) (a4 : FVec Ideal S1x16 .f32) :
    FVec Ideal S16512x4096 .bf16 :=
  truncf .bf16 (CONV a0 a2) bitsLt_bf16_f32

end Cert.ReferenceConvIdeal.Value

end
-- ==== Proof.ConvTiles.lean ====
module

public import proofs.«01_k».proof.Proof.Gen.KernelConvIdeal.Value
public import proofs.«01_k».proof.Proof.ConvRef
public import Idealize.ShloMosaic.Lib.Pipeline.ValueKit
public import Idealize.ShloMosaic.Lib.Pointwise
public import Idealize.ShloMosaic.Lib.Claim

/-! The convolution over a grid point's blocks. What the kernel computes for a tile of 128 columns is read entry by entry
once, for any tile; the tiles it stores are then that reading at their columns: the convolution itself, its activation,
and the activation normed by head. The learning rates and decays come after. -/

@[expose] public section

set_option maxRecDepth 16384

noncomputable section

open Idealize.ShloMosaic Idealize.ShloMosaic.TcCoe Idealize.SL.Sem
open Idealize.ShloMosaic.Pipeline (Dat)
open scoped BigOperators

namespace Cert.KernelConvIdeal.Value

open Cert.KernelConvIdeal Cert.KernelConvIdeal.Gen

/-- Zero at the first grid point and one at the others, as the kernel makes it. -/
def first (i : Nat) : Ideal .f32 :=
  Scalar.sitofp (F := Ideal) FTy.f32 (Scalar.extui (Scalar.cmpi CmpIPredicate.sgt (BitVec.ofNat 32 i) 0#32) : BitVec 32)

/-- The rows `s` before in one column: rotated, with the first ones from the eight rows before. -/
def tap (s : Nat) (w : EReal) (p : Fin 384 → EReal) (q : Fin 8 → EReal) (a : Fin 384) : EReal :=
  if h : a.val < 8 then
    Scalar.select (IntOp.cmpi CmpIPredicate.slt (BitVec.ofNat 32 a.val) (BitVec.ofNat 32 s))
      (q ⟨(a.val + 8 - s) % 8, Nat.mod_lt _ (by decide)⟩ * w) (p ⟨(a.val + 384 - s) % 384, Nat.mod_lt _ (by decide)⟩)
  else p ⟨(8 + (a.val - 8) + 384 - s) % 384, Nat.mod_lt _ (by decide)⟩

/-- The convolution of one column. -/
def colconv (w : EReal) (p : Fin 384 → EReal) (q : Fin 8 → EReal) (k : Fin 4 → EReal) (a : Fin 384) : EReal :=
  k 3 * p a + k 2 * tap 1 w p q a + k 1 * tap 2 w p q a + k 0 * tap 3 w p q a

/-- The convolution over a grid point's blocks. -/
def bconv (i : Nat) (p0 : S384x4096.Idx → EReal) (p2 : S8x4096.Idx → EReal) (p3 : S4x4096.Idx → EReal) (a : Fin 384)
    (n : Fin 4096) : EReal :=
  colconv (first i) (fun r => p0 (ix2 r n)) (fun r => p2 (ix2 r n)) (fun r => p3 (ix2 r n)) a

/-- The column at offset `k` of the head of column `n`. -/
def hcol (n : Fin 4096) (k : Fin 128) : Fin 4096 := ⟨n.val / 128 * 128 + k.val, by omega⟩

/-- The activation. -/
def silu (x : EReal) : EReal := x * Ideal.logistic x

/-- The activation of a row. -/
def act (f : Fin 4096 → EReal) (n : Fin 4096) : EReal := silu (f n)

/-- The activation, normed by head and scaled. -/
def nrm (sc : EReal) (f : Fin 4096 → EReal) (n : Fin 4096) : EReal :=
  act f n * (Ideal.rsqrt ((∑ k, act f (hcol n k) * act f (hcol n k)) + Ideal.ofBits .f32 897988541#32) * sc)

/-- The rows one before, of a tile of 128 columns. -/
abbrev tapV1 (w : Ideal .f32) (A : FVec Ideal S384x128 .f32) (B : FVec Ideal S8x128 .f32) : FVec Ideal S384x128 .f32 :=
  concatenate S384x128 0
    [⟨S8x128, select (cmpi .slt (iota .tc S8x128 32 [0] iota_S8x128_d0_w32) (broadcast S8x128 1#32))
      (dynamicRotate 0 (1#32) none (mulf B (broadcast S8x128 w)) rotates_S8x128_d0)
      (extractStridedSlice S8x128 ![0, 0] (dynamicRotate 0 (1#32) none A rotates_S384x128_d0) slices_S384x128_o0_0_S8x128)⟩,
     ⟨S376x128, extractStridedSlice S376x128 ![8, 0] (dynamicRotate 0 (1#32) none A rotates_S384x128_d0) slices_S384x128_o8_0_S376x128⟩]
    concatenates_S8x128_S376x128_S384x128_d0

/-- The rows two before, of a tile of 128 columns. -/
abbrev tapV2 (w : Ideal .f32) (A : FVec Ideal S384x128 .f32) (B : FVec Ideal S8x128 .f32) : FVec Ideal S384x128 .f32 :=
  concatenate S384x128 0
    [⟨S8x128, select (cmpi .slt (iota .tc S8x128 32 [0] iota_S8x128_d0_w32) (broadcast S8x128 2#32))
      (dynamicRotate 0 (2#32) none (mulf B (broadcast S8x128 w)) rotates_S8x128_d0)
      (extractStridedSlice S8x128 ![0, 0] (dynamicRotate 0 (2#32) none A rotates_S384x128_d0) slices_S384x128_o0_0_S8x128)⟩,
     ⟨S376x128, extractStridedSlice S376x128 ![8, 0] (dynamicRotate 0 (2#32) none A rotates_S384x128_d0) slices_S384x128_o8_0_S376x128⟩]
    concatenates_S8x128_S376x128_S384x128_d0

/-- The rows three before, of a tile of 128 columns. -/
abbrev tapV3 (w : Ideal .f32) (A : FVec Ideal S384x128 .f32) (B : FVec Ideal S8x128 .f32) : FVec Ideal S384x128 .f32 :=
  concatenate S384x128 0
    [⟨S8x128, select (cmpi .slt (iota .tc S8x128 32 [0] iota_S8x128_d0_w32) (broadcast S8x128 3#32))
      (dynamicRotate 0 (3#32) none (mulf B (broadcast S8x128 w)) rotates_S8x128_d0)
      (extractStridedSlice S8x128 ![0, 0] (dynamicRotate 0 (3#32) none A rotates_S384x128_d0) slices_S384x128_o0_0_S8x128)⟩,
     ⟨S376x128, extractStridedSlice S376x128 ![8, 0] (dynamicRotate 0 (3#32) none A rotates_S384x128_d0) slices_S384x128_o8_0_S376x128⟩]
    concatenates_S8x128_S376x128_S384x128_d0

/-- The convolution of a tile of 128 columns. -/
abbrev convV (w : Ideal .f32) (A : FVec Ideal S384x128 .f32) (B : FVec Ideal S8x128 .f32) (W : FVec Ideal S4x128 .f32) : FVec Ideal S384x128 .f32 :=
  addf (addf (addf (mulf (broadcastTo S384x128 (extractStridedSlice S1x128 ![3, 0] W slices_S4x128_o3_0_S1x128) broadcasts_S1x128_S384x128) A)
    (mulf (broadcastTo S384x128 (extractStridedSlice S1x128 ![2, 0] W slices_S4x128_o2_0_S1x128) broadcasts_S1x128_S384x128) (tapV1 w A B)))
    (mulf (broadcastTo S384x128 (extractStridedSlice S1x128 ![1, 0] W slices_S4x128_o1_0_S1x128) broadcasts_S1x128_S384x128) (tapV2 w A B)))
    (mulf (broadcastTo S384x128 (extractStridedSlice S1x128 ![0, 0] W slices_S4x128_o0_0_S1x128) broadcasts_S1x128_S384x128) (tapV3 w A B))

/-- The activation of a tile. -/
abbrev siluV (X : FVec Ideal S384x128 .f32) : FVec Ideal S384x128 .f32 := mulf X (logistic X)

/-- The activation of a tile, normed by rows and scaled. -/
abbrev nrmV (sc : BitVec 32) (X : FVec Ideal S384x128 .f32) : FVec Ideal S384x128 .f32 :=
  mulf (siluV X) (broadcastTo S384x128 (mulf (rsqrt (addf (shapeCast S384x1
    (multiReduction .add [1] S384 (mulf (siluV X) (siluV X)) 0x00000000#32 reduces_S384x128_S384 (.inl rfl) rfl) shapeCasts_S384_S384x1)
    (broadcast S384x1 (FloatOps.ofBits FTy.f32 897988541#32)))) (broadcast S384x1 (FloatOps.ofBits FTy.f32 sc))) broadcasts_S384x1_S384x128)

/-- The normed activation of a tile at an entry. -/
theorem nrmV_at (sc : BitVec 32) (X : FVec Ideal S384x128 .f32) (a : Fin 384) (j : Fin 128) : nrmV sc X (ix2 a j)
    = silu (X (ix2 a j)) * (Ideal.rsqrt ((∑ k : Fin 128, silu (X (ix2 a k)) * silu (X (ix2 a k))) + Ideal.ofBits .f32 897988541#32)
      * Ideal.ofBits .f32 sc) := by
  pointwise [silu]

set_option maxHeartbeats 1600000 in
/-- The convolution of a tile at an entry. -/
theorem convV_at (w : Ideal .f32) (A : FVec Ideal S384x128 .f32) (B : FVec Ideal S8x128 .f32) (W : FVec Ideal S4x128 .f32) (a : Fin 384)
    (j : Fin 128) : convV w A B W (ix2 a j)
      = colconv w (fun r => A (ix2 r j)) (fun r => B (ix2 r j)) (fun r => W (ix2 r j)) a := by
  unfold colconv tap
  pointwise []

/-- A tile's convolution is the blocks' at the tile's columns. -/
theorem convV_eq (i : Nat) (p0 : S384x4096.Idx → EReal) (p2 : S8x4096.Idx → EReal) (p3 : S4x4096.Idx → EReal)
    (A : FVec Ideal S384x128 .f32) (B : FVec Ideal S8x128 .f32) (W : FVec Ideal S4x128 .f32) (a : Fin 384) (j : Fin 128) (n : Fin 4096)
    (hA : ∀ r : Fin 384, A (ix2 r j) = p0 (ix2 r n)) (hB : ∀ r : Fin 8, B (ix2 r j) = p2 (ix2 r n))
    (hW : ∀ r : Fin 4, W (ix2 r j) = p3 (ix2 r n)) : convV (first i) A B W (ix2 a j) = bconv i p0 p2 p3 a n := by
  rw [convV_at, funext hA, funext hB, funext hW]
  rfl

/-- A tile of the convolution. -/
theorem conv_tile (i : Nat) (p0 : S384x4096.Idx → EReal) (p2 : S8x4096.Idx → EReal) (p3 : S4x4096.Idx → EReal)
    (A : FVec Ideal S384x128 .f32) (B : FVec Ideal S8x128 .f32) (W : FVec Ideal S4x128 .f32) (a : Fin 384) (n : Fin 4096) (x : S384x128.Idx) (off : Nat)
    (hlt : off + 128 ≤ 4096) (h0 : a.val = (x 0).val) (h1 : n.val = off + (x 1).val)
    (hA : ∀ (r : Fin 384) (j : Fin 128), A (ix2 r j) = p0 (ix2 r ⟨off + j.val, by omega⟩))
    (hB : ∀ (r : Fin 8) (j : Fin 128), B (ix2 r j) = p2 (ix2 r ⟨off + j.val, by omega⟩))
    (hW : ∀ (r : Fin 4) (j : Fin 128), W (ix2 r j) = p3 (ix2 r ⟨off + j.val, by omega⟩)) :
    truncf FTy.bf16 (convV (first i) A B W) bitsLt_bf16_f32 x = bconv i p0 p2 p3 a n := by
  have hx : (x 1).val < 128 := (x 1).isLt
  have e : (⟨off + (x 1).val, by omega⟩ : Fin 4096) = n := Fin.ext h1.symm
  have ea : (x 0 : Fin 384) = a := Fin.ext h0.symm
  have e2 : (convV (first i) A B W) x = convV (first i) A B W (ix2 (x 0) (x 1)) := congrArg _ (eq_ix2 x)
  refine (show _ = convV (first i) A B W x from rfl).trans (e2.trans ?_)
  rw [← e, ← ea]
  exact convV_eq i p0 p2 p3 A B W (x 0) (x 1) _ (fun r => hA r (x 1)) (fun r => hB r (x 1)) (fun r => hW r (x 1))

/-- A tile of the activation. -/
theorem act_tile (i : Nat) (p0 : S384x4096.Idx → EReal) (p2 : S8x4096.Idx → EReal) (p3 : S4x4096.Idx → EReal)
    (A : FVec Ideal S384x128 .f32) (B : FVec Ideal S8x128 .f32) (W : FVec Ideal S4x128 .f32) (a : Fin 384) (n : Fin 4096) (x : S384x128.Idx) (off : Nat)
    (hlt : off + 128 ≤ 4096) (h0 : a.val = (x 0).val) (h1 : n.val = off + (x 1).val)
    (hA : ∀ (r : Fin 384) (j : Fin 128), A (ix2 r j) = p0 (ix2 r ⟨off + j.val, by omega⟩))
    (hB : ∀ (r : Fin 8) (j : Fin 128), B (ix2 r j) = p2 (ix2 r ⟨off + j.val, by omega⟩))
    (hW : ∀ (r : Fin 4) (j : Fin 128), W (ix2 r j) = p3 (ix2 r ⟨off + j.val, by omega⟩)) :
    siluV (convV (first i) A B W) x = act (bconv i p0 p2 p3 a) n := by
  exact congrArg silu (conv_tile i p0 p2 p3 A B W a n x off hlt h0 h1 hA hB hW)

/-- A tile of the normed activation: a tile is one head. -/
theorem nrm_tile (sc : BitVec 32) (i : Nat) (p0 : S384x4096.Idx → EReal) (p2 : S8x4096.Idx → EReal) (p3 : S4x4096.Idx → EReal)
    (A : FVec Ideal S384x128 .f32) (B : FVec Ideal S8x128 .f32) (W : FVec Ideal S4x128 .f32) (a : Fin 384) (n : Fin 4096) (x : S384x128.Idx) (off : Nat)
    (hlt : off + 128 ≤ 4096) (hm : off % 128 = 0) (h0 : a.val = (x 0).val) (h1 : n.val = off + (x 1).val)
    (hA : ∀ (r : Fin 384) (j : Fin 128), A (ix2 r j) = p0 (ix2 r ⟨off + j.val, by omega⟩))
    (hB : ∀ (r : Fin 8) (j : Fin 128), B (ix2 r j) = p2 (ix2 r ⟨off + j.val, by omega⟩))
    (hW : ∀ (r : Fin 4) (j : Fin 128), W (ix2 r j) = p3 (ix2 r ⟨off + j.val, by omega⟩)) :
    nrmV sc (convV (first i) A B W) x = nrm (Ideal.ofBits .f32 sc) (bconv i p0 p2 p3 a) n := by
  have hx : (x 1).val < 128 := (x 1).isLt
  have ea : (x 0 : Fin 384) = a := Fin.ext h0.symm
  have e : ∀ k : Fin 128, (⟨off + k.val, by omega⟩ : Fin 4096) = hcol n k := fun k =>
    Fin.ext (show off + k.val = n.val / 128 * 128 + k.val by omega)
  have en : (⟨off + (x 1).val, by omega⟩ : Fin 4096) = n := Fin.ext h1.symm
  have hX : ∀ k : Fin 128, convV (first i) A B W (ix2 (x 0 : Fin 384) k) = bconv i p0 p2 p3 a ⟨off + k.val, by omega⟩ := fun k => by
    rw [← ea]
    exact convV_eq i p0 p2 p3 A B W (x 0) k _ (fun r => hA r k) (fun r => hB r k) (fun r => hW r k)
  generalize convV (first i) A B W = X at hX ⊢
  refine (congrArg (nrmV sc X) (eq_ix2 x)).trans ((nrmV_at sc X (x 0) (x 1)).trans ?_)
  have hl : X (ix2 (x 0 : Fin 384) (x 1 : Fin 128)) = bconv i p0 p2 p3 a n := (hX (x 1)).trans (congrArg _ en)
  rw [hl]
  simp only [hX, e]
  rfl

/-- One from the first meta token on, and zero before it, as the kernel makes it. -/
def live (i : Nat) (a : Fin 384) : EReal :=
  FloatOps.sitofp (F := Ideal) FTy.f32 (BitVec.setWidth 32 (IntOp.cmpi CmpIPredicate.sge
    (IntOp.addi (Scalar.muli (BitVec.ofNat 32 i) 384#32) (BitVec.ofNat 32 a.val)) 112#32))

/-- The logarithm of the decay, from its raw value, its bias and its rate. -/
def decay (r b l : EReal) : EReal :=
  (0 - Ideal.exp l) * (max (r + b) 0 + Ideal.log (1 + Ideal.exp (0 - FloatOps.absf (F := Ideal) (φ := .f32) (r + b))))

/-- The learning rate in the first sixteen columns, the logarithm of the decay in the others. -/
def bgv (i : Nat) (p1 : S384x32.Idx → EReal) (p4 p5 : S1x16.Idx → EReal) (a : Fin 384) (n : Fin 32) : EReal :=
  if h : n.val < 16 then Ideal.logistic (p1 (ix2 a n)) * live i a
  else decay (p1 (ix2 a n)) (p5 (ix2 0 ⟨n.val - 16, by omega⟩)) (p4 (ix2 0 ⟨n.val - 16, by omega⟩)) * live i a

theorem beta_tile (i : Nat) (p1 : S384x32.Idx → EReal) (p4 p5 : S1x16.Idx → EReal) (a : Fin 384) (n : Fin 32)
    (x : S384x16.Idx) (h0 : a.val = (x 0).val) (h1 : n.val = (x 1).val) :
    bgv i p1 p4 p5 a n = Ideal.logistic (p1 (ix2 (x 0 : Fin 384) ⟨(x 1).val, Nat.lt_trans (x 1).isLt (by decide : 16 < 32)⟩)) * live i (x 0) := by
  have hx : (x 1).val < 16 := (x 1).isLt
  obtain rfl : a = x 0 := Fin.ext h0
  clear h0
  have e : n = ⟨(x 1).val, Nat.lt_trans (x 1).isLt (by decide : 16 < 32)⟩ := Fin.ext h1
  subst e
  exact dif_pos hx

theorem decay_lt (x : S384x16.Idx) : 16 + (x 1).val < 32 := by
  have hx : (x 1).val < 16 := (x 1).isLt
  omega

theorem decay_tile (i : Nat) (p1 : S384x32.Idx → EReal) (p4 p5 : S1x16.Idx → EReal) (a : Fin 384) (n : Fin 32)
    (x : S384x16.Idx) (h0 : a.val = (x 0).val) (h1 : n.val = 16 + (x 1).val) :
    bgv i p1 p4 p5 a n = decay (p1 (ix2 (x 0 : Fin 384) ⟨16 + (x 1).val, decay_lt x⟩)) (p5 (ix2 0 (x 1 : Fin 16))) (p4 (ix2 0 (x 1 : Fin 16))) * live i (x 0) := by
  have hx : (x 1).val < 16 := (x 1).isLt
  obtain rfl : a = x 0 := Fin.ext h0
  clear h0
  have e : n = ⟨16 + (x 1).val, decay_lt x⟩ := Fin.ext h1
  subst e
  have e : (⟨16 + (x 1).val - 16, by omega⟩ : Fin 16) = x 1 := Fin.ext (show 16 + (x 1).val - 16 = (x 1).val by omega)
  refine (dif_neg (show ¬ 16 + (x 1).val < 16 by omega)).trans ?_
  exact congrArg (fun k : Fin 16 => decay _ (p5 (ix2 0 k)) (p4 (ix2 0 k)) * live i (x 0)) e

variable (i : grid0.Coords) (x0 : Vec Ideal S384x4096 .f32) (x1 : Vec Ideal S384x32 .f32) (x2 : Vec Ideal S8x4096 .f32)
  (x3 : Vec Ideal S4x4096 .f32) (x4 : Vec Ideal S1x16 .f32) (x5 : Vec Ideal S1x16 .f32)

set_option maxHeartbeats 6400000 in
/-- The convolution's tiles at an entry. -/
theorem tiles_10 (y : S384x4096.Idx) : out0_10 i x0 x1 x2 x3 x4 x5 y
    = bconv (i 0).val x0 x2 x3 (y 0) (y 1) := by
  canon_tiles x h
  all_goals open_payloads
  all_goals first
    | refine conv_tile (i 0).val x0 x2 x3 _ _ _ (y 0) _ x (_) (by decide) h0 h1 (fun r j => ?_) (fun r j => ?_) (fun r j => ?_)
    | refine conv_tile (i 0).val x0 x2 x3 _ _ _ (y 0) _ x (0) (by decide) h0 (h1.trans (Nat.zero_add _).symm) (fun r j => ?_) (fun r j => ?_) (fun r j => ?_)
  all_goals pointwise []

set_option maxHeartbeats 6400000 in
/-- The values' tiles at an entry. -/
theorem tiles_8 (y : S384x2048.Idx) : out0_8 i x0 x1 x2 x3 x4 x5 y
    = act (bconv (i 0).val x0 x2 x3 (y 0)) ⟨2048 + (y 1).val, (by have h : (y 1).val < 2048 := (y 1).isLt; omega)⟩ := by
  canon_tiles x h
  all_goals open_payloads
  all_goals first
    | refine act_tile (i 0).val x0 x2 x3 _ _ _ (y 0) _ x (2048 + _) (by decide) h0 ((congrArg (2048 + ·) h1).trans (Nat.add_assoc _ _ _).symm) (fun r j => ?_) (fun r j => ?_) (fun r j => ?_)
    | refine act_tile (i 0).val x0 x2 x3 _ _ _ (y 0) _ x (2048) (by decide) h0 (congrArg (2048 + ·) h1) (fun r j => ?_) (fun r j => ?_) (fun r j => ?_)
  all_goals pointwise []

set_option maxHeartbeats 6400000 in
/-- The keys' tiles at an entry. -/
theorem tiles_7 (y : S384x1024.Idx) : out0_7 i x0 x1 x2 x3 x4 x5 y
    = nrm (Ideal.ofBits .f32 1065353216#32) (bconv (i 0).val x0 x2 x3 (y 0)) ⟨1024 + (y 1).val, (by have h : (y 1).val < 1024 := (y 1).isLt; omega)⟩ := by
  canon_tiles x h
  all_goals open_payloads
  all_goals first
    | refine nrm_tile _ (i 0).val x0 x2 x3 _ _ _ (y 0) _ x (1024 + _) (by decide) (by decide) h0 ((congrArg (1024 + ·) h1).trans (Nat.add_assoc _ _ _).symm) (fun r j => ?_) (fun r j => ?_) (fun r j => ?_)
    | refine nrm_tile _ (i 0).val x0 x2 x3 _ _ _ (y 0) _ x (1024) (by decide) (by decide) h0 (congrArg (1024 + ·) h1) (fun r j => ?_) (fun r j => ?_) (fun r j => ?_)
  all_goals pointwise []

set_option maxHeartbeats 6400000 in
/-- The queries' tiles at an entry. -/
theorem tiles_6 (y : S384x1024.Idx) : out0_6 i x0 x1 x2 x3 x4 x5 y
    = nrm (Ideal.ofBits .f32 1035273459#32) (bconv (i 0).val x0 x2 x3 (y 0)) ⟨(y 1).val, (by have h : (y 1).val < 1024 := (y 1).isLt; omega)⟩ := by
  canon_tiles x h
  all_goals open_payloads
  all_goals first
    | refine nrm_tile _ (i 0).val x0 x2 x3 _ _ _ (y 0) _ x (_) (by decide) (by decide) h0 h1 (fun r j => ?_) (fun r j => ?_) (fun r j => ?_)
    | refine nrm_tile _ (i 0).val x0 x2 x3 _ _ _ (y 0) _ x (0) (by decide) (by decide) h0 (h1.trans (Nat.zero_add _).symm) (fun r j => ?_) (fun r j => ?_) (fun r j => ?_)
  all_goals pointwise []

set_option maxHeartbeats 6400000 in
/-- The tiles of learning rates and decays at an entry. -/
theorem tiles_9 (y : S384x32.Idx) : out0_9 i x0 x1 x2 x3 x4 x5 y = bgv (i 0).val x1 x4 x5 (y 0) (y 1) := by
  canon_tiles x h
  all_goals first
    | refine Eq.trans ?_ (decay_tile (i 0).val x1 x4 x5 (y 0) (y 1) x h0 h1).symm
    | refine Eq.trans ?_ (beta_tile (i 0).val x1 x4 x5 (y 0) (y 1) x h0 h1).symm
  all_goals rw [eq_ix2 x]
  all_goals (open_payloads; pointwise []; rfl)

end Cert.KernelConvIdeal.Value

end
-- ==== Proof.ConvValue.lean ====
module

public import proofs.«01_k».proof.Proof.ConvTiles
public import proofs.«01_k».proof.Proof.ConvRef
public import Idealize.ShloMosaic.Lib.Pipeline.ValueKit
public import Idealize.ShloMosaic.Lib.Pointwise
public import Idealize.ShloMosaic.Lib.Claim

/-! The convolution over the padded sequence, entry by entry: its activation, normed by head in the query and key
columns, and the learning rates and decays. The kernel takes the three rows before a grid point's block from a block of
eight rows of its own, which it multiplies by zero at the first grid point; the reference pads three zero rows in front. -/

@[expose] public section

set_option maxRecDepth 16384

noncomputable section

open Idealize.ShloMosaic Idealize.ShloMosaic.TcCoe Idealize.SL.Sem
open Idealize.ShloMosaic.Pipeline (Dat)
open scoped BigOperators

namespace Cert.KernelConvIdeal.Value

open Cert.KernelConvIdeal Cert.KernelConvIdeal.Gen
open Cert.ReferenceConvIdeal.Value (REF0 REF1 REF2 REF3 REF4 CONV)

/-- The entry `s` rows before, zero before the first row. -/
def lag (a0 : S16512x4096.Idx → EReal) (s : Nat) (a : Fin 16512) (n : Fin 4096) : EReal :=
  if h : s ≤ a.val then a0 (ix2 ⟨a.val - s, by omega⟩ n) else 0

/-- The convolution at an entry. -/
def cv (a0 : S16512x4096.Idx → EReal) (a2 : S4x4096.Idx → EReal) (a : Fin 16512) (n : Fin 4096) : EReal :=
  a2 (ix2 3 n) * a0 (ix2 a n) + a2 (ix2 2 n) * lag a0 1 a n + a2 (ix2 1 n) * lag a0 2 a n + a2 (ix2 0 n) * lag a0 3 a n

/-- The padding value. -/
theorem pad_zero : (FloatOps.sitofp (F := Ideal) FTy.f32 0#32 : EReal) = 0 := by
  show ((((0#32 : BitVec 32).toInt : ℤ) : ℝ) : EReal) = 0
  simp

/-- The reference's padded rows, shifted. -/
theorem lag_at (a0 : S16512x4096.Idx → EReal) (s u : Nat) (hu : u + s = 3) (a : Fin 16512) (n : Fin 4096) :
    (if h : 3 ≤ u + a.val ∧ u + a.val - 3 < 16512 then a0 (ix2 ⟨u + a.val - 3, h.2⟩ n) else FloatOps.sitofp (F := Ideal) FTy.f32 0#32)
      = lag a0 s a n := by
  have ha := a.isLt
  unfold lag
  by_cases h : s ≤ a.val
  · rw [dif_pos h, dif_pos ⟨by omega, by omega⟩]
    exact congrArg a0 (congrArg (ix2 · n) (Fin.ext (show u + a.val - 3 = a.val - s by omega)))
  · rw [dif_neg h, dif_neg (fun h' => h (by omega)), pad_zero]

theorem lag_at0 (a0 : S16512x4096.Idx → EReal) (a : Fin 16512) (n : Fin 4096) :
    (if h : 3 ≤ a.val ∧ a.val - 3 < 16512 then a0 (ix2 ⟨a.val - 3, h.2⟩ n) else FloatOps.sitofp (F := Ideal) FTy.f32 0#32)
      = lag a0 3 a n := by
  have ha := a.isLt
  unfold lag
  by_cases h : 3 ≤ a.val
  · rw [dif_pos h, dif_pos ⟨h, by omega⟩]
  · rw [dif_neg h, dif_neg (fun h' => h h'.1), pad_zero]

/-- The reference's convolution at an entry. -/
theorem conv_at (a0 : FVec Ideal S16512x4096 .f32) (a2 : FVec Ideal S4x4096 .f32) (a : Fin 16512) (n : Fin 4096) :
    CONV a0 a2 (ix2 a n) = cv a0 a2 a n := by
  unfold cv
  rw [← lag_at a0 1 2 rfl a n, ← lag_at a0 2 1 rfl a n, ← lag_at0 a0 a n]
  pointwise [CONV]

/-- The reference's queries at an entry. -/
theorem ref0_at (a0 : FVec Ideal S16512x4096 .f32) (a1 : FVec Ideal S16512x32 .f32) (a2 : FVec Ideal S4x4096 .f32) (a3 a4 : FVec Ideal S1x16 .f32) (a : Fin 16512) (n : Fin 1024) : REF0 a0 a1 a2 a3 a4 (ix2 a n)
    = nrm (Ideal.ofBits .f32 1035273459#32) (cv a0 a2 a) ⟨n.val, Nat.lt_trans n.isLt (by decide)⟩ := by
  have hn := n.isLt
  refine Eq.trans (b := act (fun k => CONV a0 a2 (ix2 a k)) ⟨n.val, by omega⟩ * Ideal.rsqrt ((∑ k : Fin 128,
    act (fun k => CONV a0 a2 (ix2 a k)) ⟨n.val / 128 * 128 + k.val, by omega⟩
      * act (fun k => CONV a0 a2 (ix2 a k)) ⟨n.val / 128 * 128 + k.val, by omega⟩) + Ideal.ofBits .f32 897988541#32)
    * Ideal.ofBits .f32 1035273459#32) (by pointwise [REF0]; rfl) ?_
  rw [mul_assoc]
  simp only [conv_at]
  rfl

/-- The kernel's scale of the keys is one. -/
theorem one_bits : Ideal.ofBits .f32 1065353216#32 = 1 := by
  have e : Ideal.ofBits .f32 1065353216#32 = ((1 : ℝ) : EReal) := by
    simp [Ideal.ofBits, Ideal.ieee, -EReal.coe_mul]; norm_num
  rw [e]
  rfl

/-- The reference's keys at an entry. -/
theorem ref1_at (a0 : FVec Ideal S16512x4096 .f32) (a1 : FVec Ideal S16512x32 .f32) (a2 : FVec Ideal S4x4096 .f32) (a3 a4 : FVec Ideal S1x16 .f32) (a : Fin 16512) (n : Fin 1024) : REF1 a0 a1 a2 a3 a4 (ix2 a n)
    = nrm (Ideal.ofBits .f32 1065353216#32) (cv a0 a2 a) ⟨1024 + n.val, by omega⟩ := by
  have hn := n.isLt
  refine Eq.trans (b := act (fun k => CONV a0 a2 (ix2 a k)) ⟨1024 + n.val, by omega⟩ * Ideal.rsqrt ((∑ k : Fin 128,
    act (fun k => CONV a0 a2 (ix2 a k)) ⟨1024 + (n.val / 128 * 128 + k.val), by omega⟩
      * act (fun k => CONV a0 a2 (ix2 a k)) ⟨1024 + (n.val / 128 * 128 + k.val), by omega⟩) + Ideal.ofBits .f32 897988541#32))
    (by pointwise [REF1]; rfl) ?_
  have e : ∀ k : Fin 128, (⟨1024 + (n.val / 128 * 128 + k.val), by omega⟩ : Fin 4096) = hcol ⟨1024 + n.val, by omega⟩ k := fun k =>
    Fin.ext (show 1024 + (n.val / 128 * 128 + k.val) = (1024 + n.val) / 128 * 128 + k.val by omega)
  unfold nrm
  simp only [conv_at, e, one_bits, mul_one]

/-- The reference's values at an entry. -/
theorem ref2_at (a0 : FVec Ideal S16512x4096 .f32) (a1 : FVec Ideal S16512x32 .f32) (a2 : FVec Ideal S4x4096 .f32) (a3 a4 : FVec Ideal S1x16 .f32) (a : Fin 16512) (n : Fin 2048) : REF2 a0 a1 a2 a3 a4 (ix2 a n)
    = act (cv a0 a2 a) ⟨2048 + n.val, by omega⟩ := by
  refine Eq.trans (b := act (fun k => CONV a0 a2 (ix2 a k)) ⟨2048 + n.val, by omega⟩) (by pointwise [REF2]; rfl) ?_
  simp only [conv_at]

/-- The reference's convolution at an entry. -/
theorem ref4_at (a0 : FVec Ideal S16512x4096 .f32) (a1 : FVec Ideal S16512x32 .f32) (a2 : FVec Ideal S4x4096 .f32) (a3 a4 : FVec Ideal S1x16 .f32) (a : Fin 16512) (n : Fin 4096) : REF4 a0 a1 a2 a3 a4 (ix2 a n) = cv a0 a2 a n := by
  refine Eq.trans ?_ (conv_at a0 a2 a n)
  pointwise [REF4]

/-- The logarithm of the decay as the reference writes it. -/
def hdecay (r b l : EReal) : EReal :=
  -Ideal.exp l * (if r + b ≠ r + b then r + b else max (r + b) 0 + Ideal.log1p (Ideal.exp (-FloatOps.absf (F := Ideal) (φ := .f32) (r + b))))

theorem hdecay_eq (r b l : EReal) : hdecay r b l = decay r b l := by
  unfold hdecay decay
  rw [if_neg (fun h => h rfl), zero_sub, zero_sub]
  rfl

/-- The reference's learning rates and decays at an entry. -/
theorem ref3_at (a0 : FVec Ideal S16512x4096 .f32) (a1 : FVec Ideal S16512x32 .f32) (a2 : FVec Ideal S4x4096 .f32) (a3 a4 : FVec Ideal S1x16 .f32) (a : Fin 16512) (n : Fin 32) : REF3 a0 a1 a2 a3 a4 (ix2 a n)
    = if 112 ≤ a.val then (if h : n.val < 16 then Ideal.logistic (a1 (ix2 a n))
        else decay (a1 (ix2 a n)) (a4 (ix2 0 ⟨n.val - 16, by omega⟩)) (a3 (ix2 0 ⟨n.val - 16, by omega⟩))) else 0 := by
  have ha := a.isLt
  have hn := n.isLt
  refine Eq.trans (b := if h : 112 ≤ a.val ∧ a.val - 112 < 16400 then
      (if h' : n.val < 16 then Ideal.logistic (a1 (ix2 ⟨112 + (a.val - 112), by omega⟩ ⟨n.val, by omega⟩))
        else hdecay (a1 (ix2 ⟨112 + (a.val - 112), by omega⟩ ⟨16 + (n.val - 16), by omega⟩)) (a4 (ix2 0 ⟨n.val - 16, by omega⟩)) (a3 (ix2 0 ⟨n.val - 16, by omega⟩)))
      else FloatOps.sitofp (F := Ideal) FTy.f32 0#32) (by pointwise [REF3]; rfl) ?_
  by_cases h : 112 ≤ a.val
  · rw [dif_pos ⟨h, by omega⟩, if_pos h]
    have e : (⟨112 + (a.val - 112), by omega⟩ : Fin 16512) = a := Fin.ext (show 112 + (a.val - 112) = a.val by omega)
    by_cases h' : n.val < 16
    · rw [dif_pos h', dif_pos h', e]
    · have e' : (⟨16 + (n.val - 16), by omega⟩ : Fin 32) = n := Fin.ext (show 16 + (n.val - 16) = n.val by omega)
      rw [dif_neg h', dif_neg h', hdecay_eq, e, e']
  · rw [dif_neg (fun h' => h h'.1), if_neg h, pad_zero]

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![48 * t.val - 1, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![t.val, 0] :=
  (by decide +kernel : ∀ t : Fin grid0.N, _)

/-- The row of the whole arrays at a grid point's row. -/
def row (t : Fin cfg0.N) (a : Fin 384) : Fin 16512 :=
  ⟨t.val * 384 + a.val, by have h : t.val < 43 := lt_of_lt_of_eq t.isLt N_0; have := a.isLt; omega⟩

theorem rd0 (c : Dev nD) (t : Fin cfg0.N) (a : Fin 384) (j : Fin 4096) :
    (iblk m c 0 t : Vec Ideal S384x4096 .f32) (ix2 a j) = m ((c : Thread nD τ).loc main_arg0) (ix2 (row t a) j) := by
  unfold row
  blk_point [iblk, V, idx_val t]

theorem rd1 (c : Dev nD) (t : Fin cfg0.N) (a : Fin 384) (j : Fin 32) :
    (iblk m c 1 t : Vec Ideal S384x32 .f32) (ix2 a j) = m ((c : Thread nD τ).loc main_arg1) (ix2 (row t a) j) := by
  unfold row
  blk_point [iblk, V, idx_val t]

/-- The eight rows before a grid point's block. -/
theorem rd2 (c : Dev nD) (t : Fin cfg0.N) (b : Fin 8) (j : Fin 4096) :
    (iblk m c 2 t : Vec Ideal S8x4096 .f32) (ix2 b j) = m ((c : Thread nD τ).loc main_arg0)
      (ix2 ⟨(48 * t.val - 1) * 8 + b.val, by have h : t.val < 43 := lt_of_lt_of_eq t.isLt N_0; have := b.isLt; omega⟩ j) := by
  blk_point [iblk, V, idx_val t]

theorem rd3 (c : Dev nD) (t : Fin cfg0.N) (k : Fin 4) (j : Fin 4096) :
    (iblk m c 3 t : Vec Ideal S4x4096 .f32) (ix2 k j) = m ((c : Thread nD τ).loc main_arg2) (ix2 k j) := by
  blk_point [iblk, V, idx_val t]

theorem rd4 (c : Dev nD) (t : Fin cfg0.N) (j : Fin 16) :
    (iblk m c 4 t : Vec Ideal S1x16 .f32) (ix2 0 j) = m ((c : Thread nD τ).loc main_arg3) (ix2 0 j) := by
  blk_point [iblk, V, idx_val t]

theorem rd5 (c : Dev nD) (t : Fin cfg0.N) (j : Fin 16) :
    (iblk m c 5 t : Vec Ideal S1x16 .f32) (ix2 0 j) = m ((c : Thread nD τ).loc main_arg4) (ix2 0 j) := by
  blk_point [iblk, V, idx_val t]

theorem coord_val : ∀ t : Fin cfg0.N, (grid0.coords t 0).val = t.val :=
  (by decide +kernel : ∀ t : Fin grid0.N, _)

theorem first_zero : first 0 = 0 := by
  have e : (Scalar.extui (Scalar.cmpi CmpIPredicate.sgt (BitVec.ofNat 32 0) 0#32) : BitVec 32) = 0#32 := by decide
  show ((((Scalar.extui (Scalar.cmpi CmpIPredicate.sgt (BitVec.ofNat 32 0) 0#32) : BitVec 32).toInt : ℤ) : ℝ) : EReal) = 0
  rw [e]
  simp

theorem first_pos (i : Nat) (h : 0 < i) (h' : i < 43) : first i = 1 := by
  have e : ∀ k : Fin 43, 0 < k.val → (Scalar.extui (Scalar.cmpi CmpIPredicate.sgt (BitVec.ofNat 32 k.val) 0#32) : BitVec 32) = 1#32 := by
    decide +kernel
  show ((((Scalar.extui (Scalar.cmpi CmpIPredicate.sgt (BitVec.ofNat 32 i) 0#32) : BitVec 32).toInt : ℤ) : ℝ) : EReal) = 1
  rw [e ⟨i, h'⟩ h]
  simp

/-- A grid point's rows `s` before are the whole array's. -/
theorem tap_eq (c : Dev nD) (t : Fin cfg0.N) (s : Nat) (h1 : 1 ≤ s) (h3 : s ≤ 3) (a : Fin 384) (n : Fin 4096) :
    tap s (first (grid0.coords t 0).val) (fun r => (iblk m c 0 t : Vec Ideal S384x4096 .f32) (ix2 r n))
        (fun r => (iblk m c 2 t : Vec Ideal S8x4096 .f32) (ix2 r n)) a = lag (m ((c : Thread nD τ).loc main_arg0)) s (row t a) n := by
  have ht : t.val < 43 := lt_of_lt_of_eq t.isLt N_0
  have ha := a.isLt
  rw [coord_val]
  have near : ∀ (k : Nat) (hk : k < 384), s ≤ a.val → k = a.val - s →
      (iblk m c 0 t : Vec Ideal S384x4096 .f32) (ix2 ⟨k, hk⟩ n) = lag (m ((c : Thread nD τ).loc main_arg0)) s (row t a) n := by
    intro k hk hs e
    have hr : s ≤ (row t a).val := show s ≤ t.val * 384 + a.val by omega
    rw [rd0]
    unfold lag
    rw [dif_pos hr]
    exact congrArg _ (congrArg (ix2 · n) (Fin.ext (show t.val * 384 + k = t.val * 384 + a.val - s by omega)))
  unfold tap
  by_cases h8 : a.val < 8
  · rw [dif_pos h8]
    by_cases hs : a.val < s
    · rw [(WordCmp.cmpi_slt_ofNat_eq_one_iff (by omega) (by omega)).mpr hs]
      refine (congrArg (fun q : EReal => q * (show EReal from first t.val)) (rd2 m c t ⟨(a.val + 8 - s) % 8, Nat.mod_lt _ (by decide)⟩ n)).trans ?_
      unfold lag
      by_cases h0 : t.val = 0
      · rw [show first t.val = 0 by rw [h0]; exact first_zero]
        refine (mul_zero _).trans ?_
        have hr : ¬ s ≤ (row t a).val := fun h => by
          replace h : s ≤ t.val * 384 + a.val := h
          omega
        rw [dif_neg hr]
      · have hr : s ≤ (row t a).val := show s ≤ t.val * 384 + a.val by omega
        rw [first_pos t.val (by omega) ht]
        refine (mul_one _).trans ?_
        rw [dif_pos hr]
        exact congrArg _ (congrArg (ix2 · n) (Fin.ext
          (show (48 * t.val - 1) * 8 + (a.val + 8 - s) % 8 = t.val * 384 + a.val - s by omega)))
    · rw [(WordCmp.cmpi_slt_ofNat_eq_zero_iff (by omega) (by omega)).mpr hs]
      exact near _ _ (by omega) (by omega)
  · rw [dif_neg h8]
    exact near _ _ (by omega) (by omega)

/-- A grid point's convolution is the whole array's. -/
theorem bconv_eq (c : Dev nD) (t : Fin cfg0.N) (a : Fin 384) :
    bconv (grid0.coords t 0).val (iblk m c 0 t) (iblk m c 2 t) (iblk m c 3 t) a
      = cv (m ((c : Thread nD τ).loc main_arg0)) (m ((c : Thread nD τ).loc main_arg2)) (row t a) := by
  funext n
  unfold bconv cv colconv
  rw [tap_eq m c t 1 (by decide) (by decide), tap_eq m c t 2 (by decide) (by decide), tap_eq m c t 3 (by decide) (by decide)]
  simp only [rd0, rd3]

/-- The kernel's mask at a row. -/
theorem live_at (t : Fin cfg0.N) (a : Fin 384) : live (grid0.coords t 0).val a = if 112 ≤ (row t a).val then 1 else 0 := by
  have ht : t.val < 43 := lt_of_lt_of_eq t.isLt N_0
  have ha := a.isLt
  rw [coord_val]
  have e : IntOp.addi (Scalar.muli (BitVec.ofNat 32 t.val) 384#32) (BitVec.ofNat 32 a.val) = BitVec.ofNat 32 (row t a).val := by
    show BitVec.ofNat 32 t.val * BitVec.ofNat 32 384 + BitVec.ofNat 32 a.val = BitVec.ofNat 32 (t.val * 384 + a.val)
    rw [BitVec.ofNat_add, BitVec.ofNat_mul]
  have hr := (row t a).isLt
  unfold live
  rw [e]
  by_cases h : 112 ≤ (row t a).val
  · rw [if_pos h, (WordCmp.cmpi_sge_ofNat_eq_one_iff (by omega) (by omega)).mpr h]
    show ((((BitVec.setWidth 32 1#1).toInt : ℤ) : ℝ) : EReal) = 1
    have e1 : (BitVec.setWidth 32 1#1).toInt = 1 := by decide
    rw [e1]
    simp
  · rw [if_neg h, (WordCmp.cmpi_sge_ofNat_eq_zero_iff (by omega) (by omega)).mpr h]
    show ((((BitVec.setWidth 32 0#1).toInt : ℤ) : ℝ) : EReal) = 0
    have e1 : (BitVec.setWidth 32 0#1).toInt = 0 := by decide
    rw [e1]
    simp

/-- A grid point's learning rates and decays are the whole array's. -/
theorem bgv_eq (c : Dev nD) (t : Fin cfg0.N) (a : Fin 384) (n : Fin 32) :
    bgv (grid0.coords t 0).val (iblk m c 1 t) (iblk m c 4 t) (iblk m c 5 t) a n
      = if 112 ≤ (row t a).val then (if h : n.val < 16 then Ideal.logistic ((m ((c : Thread nD τ).loc main_arg1)) (ix2 (row t a) n))
        else decay ((m ((c : Thread nD τ).loc main_arg1)) (ix2 (row t a) n)) ((m ((c : Thread nD τ).loc main_arg4)) (ix2 0 ⟨n.val - 16, by omega⟩)) ((m ((c : Thread nD τ).loc main_arg3)) (ix2 0 ⟨n.val - 16, by omega⟩))) else 0 := by
  unfold bgv
  rw [live_at]
  simp only [rd1, rd4, rd5]
  by_cases h : 112 ≤ (row t a).val
  · simp only [if_pos h, mul_one]
  · simp only [if_neg h, mul_zero]
    split <;> rfl

set_option maxHeartbeats 1600000 in
/-- The queries' block at a grid point. -/
theorem point_6 (c : Dev nD) (t : Fin cfg0.N) (y : S384x1024.Idx) :
    out0_6 (grid0.coords t) (iblk m c 0 t) (iblk m c 1 t) (iblk m c 2 t) (iblk m c 3 t) (iblk m c 4 t) (iblk m c 5 t) y
      = REF0 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  have e : ((cfg0.win 6).blk t).view.emb y = ix2 (row t (y 0)) (y 1) := by
    unfold row
    blk_ext [idx_val t]
  refine Eq.trans ?_ ((congrArg (REF0 _ _ _ _ _) e).trans (ref0_at _ _ _ _ _ (row t (y 0)) (y 1))).symm
  refine (tiles_6 (grid0.coords t) (iblk m c 0 t) (iblk m c 1 t) (iblk m c 2 t) (iblk m c 3 t) (iblk m c 4 t) (iblk m c 5 t) y).trans ?_
  exact congrArg (fun f => nrm _ f _) (bconv_eq m c t (y 0))

theorem final_6 (c : Dev nD) : (dats m 0 c).arrAt 6 (cfgs 0).N = REF0 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp; rw [after0_6]
  exact point_6 m c t y

set_option maxHeartbeats 1600000 in
/-- The keys' block at a grid point. -/
theorem point_7 (c : Dev nD) (t : Fin cfg0.N) (y : S384x1024.Idx) :
    out0_7 (grid0.coords t) (iblk m c 0 t) (iblk m c 1 t) (iblk m c 2 t) (iblk m c 3 t) (iblk m c 4 t) (iblk m c 5 t) y
      = REF1 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  have e : ((cfg0.win 7).blk t).view.emb y = ix2 (row t (y 0)) (y 1) := by
    unfold row
    blk_ext [idx_val t]
  refine Eq.trans ?_ ((congrArg (REF1 _ _ _ _ _) e).trans (ref1_at _ _ _ _ _ (row t (y 0)) (y 1))).symm
  refine (tiles_7 (grid0.coords t) (iblk m c 0 t) (iblk m c 1 t) (iblk m c 2 t) (iblk m c 3 t) (iblk m c 4 t) (iblk m c 5 t) y).trans ?_
  exact congrArg (fun f => nrm _ f _) (bconv_eq m c t (y 0))

theorem final_7 (c : Dev nD) : (dats m 0 c).arrAt 7 (cfgs 0).N = REF1 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp; rw [after0_7]
  exact point_7 m c t y

set_option maxHeartbeats 1600000 in
/-- The values' block at a grid point. -/
theorem point_8 (c : Dev nD) (t : Fin cfg0.N) (y : S384x2048.Idx) :
    out0_8 (grid0.coords t) (iblk m c 0 t) (iblk m c 1 t) (iblk m c 2 t) (iblk m c 3 t) (iblk m c 4 t) (iblk m c 5 t) y
      = REF2 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  have e : ((cfg0.win 8).blk t).view.emb y = ix2 (row t (y 0)) (y 1) := by
    unfold row
    blk_ext [idx_val t]
  refine Eq.trans ?_ ((congrArg (REF2 _ _ _ _ _) e).trans (ref2_at _ _ _ _ _ (row t (y 0)) (y 1))).symm
  refine (tiles_8 (grid0.coords t) (iblk m c 0 t) (iblk m c 1 t) (iblk m c 2 t) (iblk m c 3 t) (iblk m c 4 t) (iblk m c 5 t) y).trans ?_
  exact congrArg (fun f => act f _) (bconv_eq m c t (y 0))

theorem final_8 (c : Dev nD) : (dats m 0 c).arrAt 8 (cfgs 0).N = REF2 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp; rw [after0_8]
  exact point_8 m c t y

set_option maxHeartbeats 1600000 in
/-- The learning rates and decays at a grid point. -/
theorem point_9 (c : Dev nD) (t : Fin cfg0.N) (y : S384x32.Idx) :
    out0_9 (grid0.coords t) (iblk m c 0 t) (iblk m c 1 t) (iblk m c 2 t) (iblk m c 3 t) (iblk m c 4 t) (iblk m c 5 t) y
      = REF3 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 9).blk t).view.emb y) := by
  have e : ((cfg0.win 9).blk t).view.emb y = ix2 (row t (y 0)) (y 1) := by
    unfold row
    blk_ext [idx_val t]
  refine Eq.trans ?_ ((congrArg (REF3 _ _ _ _ _) e).trans (ref3_at _ _ _ _ _ (row t (y 0)) (y 1))).symm
  refine (tiles_9 (grid0.coords t) (iblk m c 0 t) (iblk m c 1 t) (iblk m c 2 t) (iblk m c 3 t) (iblk m c 4 t) (iblk m c 5 t) y).trans ?_
  exact bgv_eq m c t (y 0) (y 1)

theorem final_9 (c : Dev nD) : (dats m 0 c).arrAt 9 (cfgs 0).N = REF3 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp; rw [after0_9]
  exact point_9 m c t y

set_option maxHeartbeats 1600000 in
/-- The convolution's block at a grid point. -/
theorem point_10 (c : Dev nD) (t : Fin cfg0.N) (y : S384x4096.Idx) :
    out0_10 (grid0.coords t) (iblk m c 0 t) (iblk m c 1 t) (iblk m c 2 t) (iblk m c 3 t) (iblk m c 4 t) (iblk m c 5 t) y
      = REF4 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 10).blk t).view.emb y) := by
  have e : ((cfg0.win 10).blk t).view.emb y = ix2 (row t (y 0)) (y 1) := by
    unfold row
    blk_ext [idx_val t]
  refine Eq.trans ?_ ((congrArg (REF4 _ _ _ _ _) e).trans (ref4_at _ _ _ _ _ (row t (y 0)) (y 1))).symm
  refine (tiles_10 (grid0.coords t) (iblk m c 0 t) (iblk m c 1 t) (iblk m c 2 t) (iblk m c 3 t) (iblk m c 4 t) (iblk m c 5 t) y).trans ?_
  exact congrFun (bconv_eq m c t (y 0)) (y 1)

theorem final_10 (c : Dev nD) : (dats m 0 c).arrAt 10 (cfgs 0).N = REF4 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp; rw [after0_10]
  exact point_10 m c t y

end Cert.KernelConvIdeal.Value

end
-- ==== Proof.ConvClaim.lean ====
module

public import proofs.«01_k».proof.Defs
public import proofs.«01_k».proof.Proof.Gen.KernelConv.Frame
public import proofs.«01_k».proof.Proof.ConvValue
public import Idealize.ShloMosaic.Lib.Quiescent

/-! The claims about the short convolution between the second layer's projection and its recurrence. -/

@[expose] public section

set_option maxRecDepth 65536

noncomputable section

namespace Cert.Proof

open Idealize.ShloMosaic Idealize.SL.Sem

theorem quiescent_KernelConv : Cert.quiescent_KernelConv := fun m ρ _ => Cert.KernelConv.Gen.frame m ρ

theorem quiescent_KernelConvIdeal : Cert.quiescent_KernelConvIdeal := fun m ρ _ => Cert.KernelConvIdeal.Gen.frame m ρ

theorem quiescent_ReferenceConvIdeal : Cert.quiescent_ReferenceConvIdeal := fun m ρ _ =>
  (θ_run Cert.ReferenceConvIdeal.defs _ _).mono
    (fun r h => ⟨fun c => (h c).2.2.2.2.2, Idealize.ShloMosaic.sem_eq_zero_of_no_sems (by decide) r.2⟩)
    (Cert.ReferenceConvIdeal.Value.run (F := Ideal) m ρ)

theorem algebraic_Conv : Cert.algebraic_KernelConvIdeal_ReferenceConvIdeal := by
  intro m ρ m' ρ' _ hagree
  refine ⟨_, _, _, _, _, Cert.KernelConvIdeal.Value.run_blocks (F := Ideal) m ρ, ?_⟩
  refine (θ_run Cert.ReferenceConvIdeal.defs _ _).mono
    (fun _ h c => ⟨(h c).1.trans ?_, (h c).2.1.trans ?_, (h c).2.2.1.trans ?_, (h c).2.2.2.1.trans ?_, (h c).2.2.2.2.1.trans ?_, (h c).2.2.2.2.2⟩)
    (Cert.ReferenceConvIdeal.Value.run (F := Ideal) m' ρ')
  · obtain ⟨h0, h1, h2, h3, h4⟩ := hagree c
    change Cert.ReferenceConvIdeal.Value.REF0 (m' ((c.tc : Thread Cert.ReferenceConvIdeal.nD Cert.ReferenceConvIdeal.τ).loc Cert.ReferenceConvIdeal.main_arg0)) (m' ((c.tc : Thread Cert.ReferenceConvIdeal.nD Cert.ReferenceConvIdeal.τ).loc Cert.ReferenceConvIdeal.main_arg1)) (m' ((c.tc : Thread Cert.ReferenceConvIdeal.nD Cert.ReferenceConvIdeal.τ).loc Cert.ReferenceConvIdeal.main_arg2)) (m' ((c.tc : Thread Cert.ReferenceConvIdeal.nD Cert.ReferenceConvIdeal.τ).loc Cert.ReferenceConvIdeal.main_arg3)) (m' ((c.tc : Thread Cert.ReferenceConvIdeal.nD Cert.ReferenceConvIdeal.τ).loc Cert.ReferenceConvIdeal.main_arg4)) = _
    rw [h0, h1, h2, h3, h4]
    exact (Cert.KernelConvIdeal.Value.final_6 m c).symm
  · obtain ⟨h0, h1, h2, h3, h4⟩ := hagree c
    change Cert.ReferenceConvIdeal.Value.REF1 (m' ((c.tc : Thread Cert.ReferenceConvIdeal.nD Cert.ReferenceConvIdeal.τ).loc Cert.ReferenceConvIdeal.main_arg0)) (m' ((c.tc : Thread Cert.ReferenceConvIdeal.nD Cert.ReferenceConvIdeal.τ).loc Cert.ReferenceConvIdeal.main_arg1)) (m' ((c.tc : Thread Cert.ReferenceConvIdeal.nD Cert.ReferenceConvIdeal.τ).loc Cert.ReferenceConvIdeal.main_arg2)) (m' ((c.tc : Thread Cert.ReferenceConvIdeal.nD Cert.ReferenceConvIdeal.τ).loc Cert.ReferenceConvIdeal.main_arg3)) (m' ((c.tc : Thread Cert.ReferenceConvIdeal.nD Cert.ReferenceConvIdeal.τ).loc Cert.ReferenceConvIdeal.main_arg4)) = _
    rw [h0, h1, h2, h3, h4]
    exact (Cert.KernelConvIdeal.Value.final_7 m c).symm
  · obtain ⟨h0, h1, h2, h3, h4⟩ := hagree c
    change Cert.ReferenceConvIdeal.Value.REF2 (m' ((c.tc : Thread Cert.ReferenceConvIdeal.nD Cert.ReferenceConvIdeal.τ).loc Cert.ReferenceConvIdeal.main_arg0)) (m' ((c.tc : Thread Cert.ReferenceConvIdeal.nD Cert.ReferenceConvIdeal.τ).loc Cert.ReferenceConvIdeal.main_arg1)) (m' ((c.tc : Thread Cert.ReferenceConvIdeal.nD Cert.ReferenceConvIdeal.τ).loc Cert.ReferenceConvIdeal.main_arg2)) (m' ((c.tc : Thread Cert.ReferenceConvIdeal.nD Cert.ReferenceConvIdeal.τ).loc Cert.ReferenceConvIdeal.main_arg3)) (m' ((c.tc : Thread Cert.ReferenceConvIdeal.nD Cert.ReferenceConvIdeal.τ).loc Cert.ReferenceConvIdeal.main_arg4)) = _
    rw [h0, h1, h2, h3, h4]
    exact (Cert.KernelConvIdeal.Value.final_8 m c).symm
  · obtain ⟨h0, h1, h2, h3, h4⟩ := hagree c
    change Cert.ReferenceConvIdeal.Value.REF3 (m' ((c.tc : Thread Cert.ReferenceConvIdeal.nD Cert.ReferenceConvIdeal.τ).loc Cert.ReferenceConvIdeal.main_arg0)) (m' ((c.tc : Thread Cert.ReferenceConvIdeal.nD Cert.ReferenceConvIdeal.τ).loc Cert.ReferenceConvIdeal.main_arg1)) (m' ((c.tc : Thread Cert.ReferenceConvIdeal.nD Cert.ReferenceConvIdeal.τ).loc Cert.ReferenceConvIdeal.main_arg2)) (m' ((c.tc : Thread Cert.ReferenceConvIdeal.nD Cert.ReferenceConvIdeal.τ).loc Cert.ReferenceConvIdeal.main_arg3)) (m' ((c.tc : Thread Cert.ReferenceConvIdeal.nD Cert.ReferenceConvIdeal.τ).loc Cert.ReferenceConvIdeal.main_arg4)) = _
    rw [h0, h1, h2, h3, h4]
    exact (Cert.KernelConvIdeal.Value.final_9 m c).symm
  · obtain ⟨h0, h1, h2, h3, h4⟩ := hagree c
    change Cert.ReferenceConvIdeal.Value.REF4 (m' ((c.tc : Thread Cert.ReferenceConvIdeal.nD Cert.ReferenceConvIdeal.τ).loc Cert.ReferenceConvIdeal.main_arg0)) (m' ((c.tc : Thread Cert.ReferenceConvIdeal.nD Cert.ReferenceConvIdeal.τ).loc Cert.ReferenceConvIdeal.main_arg1)) (m' ((c.tc : Thread Cert.ReferenceConvIdeal.nD Cert.ReferenceConvIdeal.τ).loc Cert.ReferenceConvIdeal.main_arg2)) (m' ((c.tc : Thread Cert.ReferenceConvIdeal.nD Cert.ReferenceConvIdeal.τ).loc Cert.ReferenceConvIdeal.main_arg3)) (m' ((c.tc : Thread Cert.ReferenceConvIdeal.nD Cert.ReferenceConvIdeal.τ).loc Cert.ReferenceConvIdeal.main_arg4)) = _
    rw [h0, h1, h2, h3, h4]
    exact (Cert.KernelConvIdeal.Value.final_10 m c).symm

end Cert.Proof

end
-- ==== Proof.PairARef.lean ====
module

public import proofs.«01_k».proof.Proof.Gen.ReferencePairAIdeal.Run
public import Idealize.ShloMosaic.PureOps.Ideal

/-! The reference's results as functions of its arguments, over the extended reals. -/

@[expose] public section

set_option maxRecDepth 16384

noncomputable section

namespace Cert.ReferencePairAIdeal.Value

open Cert.ReferencePairAIdeal Cert.ReferencePairAIdeal.Gen Idealize.ShloMosaic Idealize.ShloMosaic.TcCoe Idealize.SL.Sem Idealize.ShloMosaic.StableHlo

/-- Result 0 of the reference. -/
abbrev REF0 (a0 : FVec Ideal S4096x1060 .bf16) (a1 : FVec Ideal S4096x1060 .bf16) :
    FVec Ideal S4096x1060 .bf16 :=
  truncf .bf16 (Host.reduceAdd (extf .f32 (concatenate S2x4096x1060 0 [⟨S1x4096x1060, (broadcastInDim S1x4096x1060 ![1, 2] bcast_S4096x1060_S1x4096x1060_1_2 a0)⟩, ⟨S1x4096x1060, (broadcastInDim S1x4096x1060 ![1, 2] bcast_S4096x1060_S1x4096x1060_1_2 a1)⟩] concatenates_S1x4096x1060_S1x4096x1060_S2x4096x1060_d0) bitsLt_bf16_f32) (constant S_ .f32 0x00000000#32) reducesTo_S2x4096x1060_S4096x1060_d0 h_S_) bitsLt_bf16_f32

end Cert.ReferencePairAIdeal.Value

end
-- ==== Proof.PairAValue.lean ====
module

public import proofs.«01_k».proof.Proof.Gen.KernelPairAIdeal.Value
public import proofs.«01_k».proof.Proof.PairARef
public import Idealize.ShloMosaic.Lib.Pipeline.ValueKit
public import Idealize.ShloMosaic.Lib.Pointwise
public import Idealize.ShloMosaic.Lib.Claim

/-! The sum over a pair of devices of their parts of the input projections' gradients, entry by entry: what the body stores over a
grid point's block, and the reference's sum of the stacked parts as the same expression. -/

@[expose] public section

set_option maxRecDepth 16384

noncomputable section

open Idealize.ShloMosaic Idealize.ShloMosaic.TcCoe Idealize.SL.Sem
open Idealize.ShloMosaic.Pipeline (Dat)
open scoped BigOperators

namespace Cert.KernelPairAIdeal.Value

open Cert.KernelPairAIdeal Cert.KernelPairAIdeal.Gen
open Cert.ReferencePairAIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0] :=
  (by decide +kernel : ∀ t : Fin grid0.N, _)

/-- What the body stores at an index of the block is the reference there. -/
theorem point (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb
        y) := by
  pointwise [k0_pay1, REF0]
  simp only [Finset.sum_const, Finset.card_univ, Fintype.card_fin, one_smul]
  blk_point [iblk, V, idx_val t]

/-- What the window holds after the last point is the result of the reference. -/
theorem final_2 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.KernelPairAIdeal.Value

end
-- ==== Proof.PairAClaim.lean ====
module

public import proofs.«01_k».proof.Defs
public import proofs.«01_k».proof.Proof.Gen.KernelPairA.Frame
public import proofs.«01_k».proof.Proof.PairAValue
public import Idealize.ShloMosaic.Lib.Quiescent

/-! The claims about the sum of a pair of devices' parts of the input projections' gradients. -/

@[expose] public section

set_option maxRecDepth 65536

noncomputable section

namespace Cert.Proof

open Idealize.ShloMosaic Idealize.SL.Sem

theorem quiescent_KernelPairA : Cert.quiescent_KernelPairA := fun m ρ _ => Cert.KernelPairA.Gen.frame m ρ

theorem quiescent_KernelPairAIdeal : Cert.quiescent_KernelPairAIdeal := fun m ρ _ => Cert.KernelPairAIdeal.Gen.frame m ρ

theorem quiescent_ReferencePairAIdeal : Cert.quiescent_ReferencePairAIdeal := fun m ρ _ =>
  (θ_run Cert.ReferencePairAIdeal.defs _ _).mono
    (fun r h => ⟨fun c => (h c).2, Idealize.ShloMosaic.sem_eq_zero_of_no_sems (by decide) r.2⟩)
    (Cert.ReferencePairAIdeal.Value.run (F := Ideal) m ρ)

theorem algebraic_PairA : Cert.algebraic_KernelPairAIdeal_ReferencePairAIdeal := by
  intro m ρ m' ρ' _ hagree
  refine ⟨_, Cert.KernelPairAIdeal.Value.run_blocks (F := Ideal) m ρ, ?_⟩
  refine (θ_run Cert.ReferencePairAIdeal.defs _ _).mono
    (fun _ h c => ⟨(h c).1.trans ?_, (h c).2⟩)
    (Cert.ReferencePairAIdeal.Value.run (F := Ideal) m' ρ')
  · obtain ⟨h0, h1⟩ := hagree c
    change Cert.ReferencePairAIdeal.Value.REF0 (m' ((c.tc : Thread Cert.ReferencePairAIdeal.nD Cert.ReferencePairAIdeal.τ).loc Cert.ReferencePairAIdeal.main_arg0)) (m' ((c.tc : Thread Cert.ReferencePairAIdeal.nD Cert.ReferencePairAIdeal.τ).loc Cert.ReferencePairAIdeal.main_arg1)) = _
    rw [h0, h1]
    exact (Cert.KernelPairAIdeal.Value.final_2 m c).symm

end Cert.Proof

end
-- ==== Proof.PairBRef.lean ====
module

public import proofs.«01_k».proof.Proof.Gen.ReferencePairBIdeal.Run
public import Idealize.ShloMosaic.PureOps.Ideal

/-! The reference's results as functions of its arguments, over the extended reals. -/

@[expose] public section

set_option maxRecDepth 16384

noncomputable section

namespace Cert.ReferencePairBIdeal.Value

open Cert.ReferencePairBIdeal Cert.ReferencePairBIdeal.Gen Idealize.ShloMosaic Idealize.ShloMosaic.TcCoe Idealize.SL.Sem Idealize.ShloMosaic.StableHlo

/-- Result 0 of the reference. -/
abbrev REF0 (a0 : FVec Ideal S1536x1024 .bf16) (a1 : FVec Ideal S1536x1024 .bf16) :
    FVec Ideal S1536x1024 .bf16 :=
  truncf .bf16 (Host.reduceAdd (extf .f32 (concatenate S2x1536x1024 0 [⟨S1x1536x1024, (broadcastInDim S1x1536x1024 ![1, 2] bcast_S1536x1024_S1x1536x1024_1_2 a0)⟩, ⟨S1x1536x1024, (broadcastInDim S1x1536x1024 ![1, 2] bcast_S1536x1024_S1x1536x1024_1_2 a1)⟩] concatenates_S1x1536x1024_S1x1536x1024_S2x1536x1024_d0) bitsLt_bf16_f32) (constant S_ .f32 0x00000000#32) reducesTo_S2x1536x1024_S1536x1024_d0 h_S_) bitsLt_bf16_f32

end Cert.ReferencePairBIdeal.Value

end
-- ==== Proof.PairBValue.lean ====
module

public import proofs.«01_k».proof.Proof.Gen.KernelPairBIdeal.Value
public import proofs.«01_k».proof.Proof.PairBRef
public import Idealize.ShloMosaic.Lib.Pipeline.ValueKit
public import Idealize.ShloMosaic.Lib.Pointwise
public import Idealize.ShloMosaic.Lib.Claim

/-! The sum over a pair of devices of their parts of the output projections' gradients, entry by entry: what the body stores over a
grid point's block, and the reference's sum of the stacked parts as the same expression. -/

@[expose] public section

set_option maxRecDepth 16384

noncomputable section

open Idealize.ShloMosaic Idealize.ShloMosaic.TcCoe Idealize.SL.Sem
open Idealize.ShloMosaic.Pipeline (Dat)
open scoped BigOperators

namespace Cert.KernelPairBIdeal.Value

open Cert.KernelPairBIdeal Cert.KernelPairBIdeal.Gen
open Cert.ReferencePairBIdeal.Value (REF0)

variable (m : (ℓ : Loc nD τ sig) → Buf (Elt Ideal) ℓ)

/-- Every window's block index at a grid point. -/
theorem idx_val : ∀ t : Fin cfg0.N, win0_0.index t = ![t.val, 0]
    ∧ win0_1.index t = ![t.val, 0]
    ∧ win0_2.index t = ![t.val, 0] :=
  (by decide +kernel : ∀ t : Fin grid0.N, _)

/-- What the body stores at an index of the block is the reference there. -/
theorem point (c : Dev nD) (t : Fin cfg0.N) (y) :
    k0_pay1 (iblk m c 0 t) (iblk m c 1 t) y
      = REF0 (m ((c : Thread nD τ).loc main_arg0)) (m ((c : Thread nD τ).loc main_arg1)) (((cfg0.win 2).blk t).view.emb
        y) := by
  pointwise [k0_pay1, REF0]
  simp only [Finset.sum_const, Finset.card_univ, Fintype.card_fin, one_smul]
  blk_point [iblk, V, idx_val t]

/-- What the window holds after the last point is the result of the reference. -/
theorem final_2 (c : Dev nD) : (dats m 0 c).arrAt 2 (cfgs 0).N = REF0 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.KernelPairBIdeal.Value

end
-- ==== Proof.PairBClaim.lean ====
module

public import proofs.«01_k».proof.Defs
public import proofs.«01_k».proof.Proof.Gen.KernelPairB.Frame
public import proofs.«01_k».proof.Proof.PairBValue
public import Idealize.ShloMosaic.Lib.Quiescent

/-! The claims about the sum of a pair of devices' parts of the output projections' gradients. -/

@[expose] public section

set_option maxRecDepth 65536

noncomputable section

namespace Cert.Proof

open Idealize.ShloMosaic Idealize.SL.Sem

theorem quiescent_KernelPairB : Cert.quiescent_KernelPairB := fun m ρ _ => Cert.KernelPairB.Gen.frame m ρ

theorem quiescent_KernelPairBIdeal : Cert.quiescent_KernelPairBIdeal := fun m ρ _ => Cert.KernelPairBIdeal.Gen.frame m ρ

theorem quiescent_ReferencePairBIdeal : Cert.quiescent_ReferencePairBIdeal := fun m ρ _ =>
  (θ_run Cert.ReferencePairBIdeal.defs _ _).mono
    (fun r h => ⟨fun c => (h c).2, Idealize.ShloMosaic.sem_eq_zero_of_no_sems (by decide) r.2⟩)
    (Cert.ReferencePairBIdeal.Value.run (F := Ideal) m ρ)

theorem algebraic_PairB : Cert.algebraic_KernelPairBIdeal_ReferencePairBIdeal := by
  intro m ρ m' ρ' _ hagree
  refine ⟨_, Cert.KernelPairBIdeal.Value.run_blocks (F := Ideal) m ρ, ?_⟩
  refine (θ_run Cert.ReferencePairBIdeal.defs _ _).mono
    (fun _ h c => ⟨(h c).1.trans ?_, (h c).2⟩)
    (Cert.ReferencePairBIdeal.Value.run (F := Ideal) m' ρ')
  · obtain ⟨h0, h1⟩ := hagree c
    change Cert.ReferencePairBIdeal.Value.REF0 (m' ((c.tc : Thread Cert.ReferencePairBIdeal.nD Cert.ReferencePairBIdeal.τ).loc Cert.ReferencePairBIdeal.main_arg0)) (m' ((c.tc : Thread Cert.ReferencePairBIdeal.nD Cert.ReferencePairBIdeal.τ).loc Cert.ReferencePairBIdeal.main_arg1)) = _
    rw [h0, h1]
    exact (Cert.KernelPairBIdeal.Value.final_2 m c).symm

end Cert.Proof

end
-- ==== Proof.AdamARef.lean ====
module

public import proofs.«01_k».proof.Proof.Gen.ReferenceAdamAIdeal.Run
public import Idealize.ShloMosaic.PureOps.Ideal

/-! The reference's results as functions of its arguments, over the extended reals. -/

@[expose] public section

set_option maxRecDepth 16384

noncomputable section

namespace Cert.ReferenceAdamAIdeal.Value

open Cert.ReferenceAdamAIdeal Cert.ReferenceAdamAIdeal.Gen Idealize.ShloMosaic Idealize.ShloMosaic.TcCoe Idealize.SL.Sem Idealize.ShloMosaic.StableHlo

/-- Result 0 of the reference. -/
abbrev REF0 (a0 : FVec Ideal S4x1024x1060 .bf16) (a1 : FVec Ideal S1024x1060 .f32) (a2 : FVec Ideal S1024x1060 .f32) (a3 : FVec Ideal S1024x1060 .f32) :
    FVec Ideal S1024x1060 .f32 :=
  Host.reduceAdd (extf .f32 a0 bitsLt_bf16_f32) (constant S_ .f32 0x00000000#32) reducesTo_S4x1024x1060_S1024x1060_d0 h_S_

/-- Result 1 of the reference. -/
abbrev REF1 (a0 : FVec Ideal S4x1024x1060 .bf16) (a1 : FVec Ideal S1024x1060 .f32) (a2 : FVec Ideal S1024x1060 .f32) (a3 : FVec Ideal S1024x1060 .f32) :
    FVec Ideal S1024x1060 .f32 :=
  mulf (broadcastInDim S1024x1060 ![] bcast_S_S1024x1060 (constant S_ .f32 0xBA83126F#32)) (addf (Host.divf (Host.divf (addf (mulf (broadcastInDim S1024x1060 ![] bcast_S_S1024x1060 (constant S_ .f32 0x3F666666#32)) a2) (mulf (broadcastInDim S1024x1060 ![] bcast_S_S1024x1060 (constant S_ .f32 0x3DCCCCCD#32)) (Host.reduceAdd (extf .f32 a0 bitsLt_bf16_f32) (constant S_ .f32 0x00000000#32) reducesTo_S4x1024x1060_S1024x1060_d0 h_S_))) (broadcastInDim S1024x1060 ![] bcast_S_S1024x1060 (constant S_ .f32 0x3F26BD02#32))) (addf (Host.sqrt (Host.divf (addf (mulf (broadcastInDim S1024x1060 ![] bcast_S_S1024x1060 (constant S_ .f32 0x3F7FBE77#32)) a3) (mulf (broadcastInDim S1024x1060 ![] bcast_S_S1024x1060 (constant S_ .f32 0x3A83126F#32)) (mulf (Host.reduceAdd (extf .f32 a0 bitsLt_bf16_f32) (constant S_ .f32 0x00000000#32) reducesTo_S4x1024x1060_S1024x1060_d0 h_S_) (Host.reduceAdd (extf .f32 a0 bitsLt_bf16_f32) (constant S_ .f32 0x00000000#32) reducesTo_S4x1024x1060_S1024x1060_d0 h_S_)))) (broadcastInDim S1024x1060 ![] bcast_S_S1024x1060 (constant S_ .f32 0x3C231ACC#32)))) (broadcastInDim S1024x1060 ![] bcast_S_S1024x1060 (constant S_ .f32 0x322BCC77#32)))) (mulf (broadcastInDim S1024x1060 ![] bcast_S_S1024x1060 (constant S_ .f32 0x3C23D70A#32)) a1))

/-- Result 2 of the reference. -/
abbrev REF2 (a0 : FVec Ideal S4x1024x1060 .bf16) (a1 : FVec Ideal S1024x1060 .f32) (a2 : FVec Ideal S1024x1060 .f32) (a3 : FVec Ideal S1024x1060 .f32) :
    FVec Ideal S1024x1060 .f32 :=
  addf (mulf (broadcastInDim S1024x1060 ![] bcast_S_S1024x1060 (constant S_ .f32 0x3F666666#32)) a2) (mulf (broadcastInDim S1024x1060 ![] bcast_S_S1024x1060 (constant S_ .f32 0x3DCCCCCD#32)) (Host.reduceAdd (extf .f32 a0 bitsLt_bf16_f32) (constant S_ .f32 0x00000000#32) reducesTo_S4x1024x1060_S1024x1060_d0 h_S_))

/-- Result 3 of the reference. -/
abbrev REF3 (a0 : FVec Ideal S4x1024x1060 .bf16) (a1 : FVec Ideal S1024x1060 .f32) (a2 : FVec Ideal S1024x1060 .f32) (a3 : FVec Ideal S1024x1060 .f32) :
    FVec Ideal S1024x1060 .f32 :=
  addf (mulf (broadcastInDim S1024x1060 ![] bcast_S_S1024x1060 (constant S_ .f32 0x3F7FBE77#32)) a3) (mulf (broadcastInDim S1024x1060 ![] bcast_S_S1024x1060 (constant S_ .f32 0x3A83126F#32)) (mulf (Host.reduceAdd (extf .f32 a0 bitsLt_bf16_f32) (constant S_ .f32 0x00000000#32) reducesTo_S4x1024x1060_S1024x1060_d0 h_S_) (Host.reduceAdd (extf .f32 a0 bitsLt_bf16_f32) (constant S_ .f32 0x00000000#32) reducesTo_S4x1024x1060_S1024x1060_d0 h_S_)))

end Cert.ReferenceAdamAIdeal.Value

end
-- ==== Proof.AdamAValue.lean ====
module

public import proofs.«01_k».proof.Proof.Gen.KernelAdamAIdeal.Value
public import proofs.«01_k».proof.Proof.AdamARef
public import Idealize.ShloMosaic.Lib.Pipeline.ValueKit
public import Idealize.ShloMosaic.Lib.Pointwise
public import Idealize.ShloMosaic.Lib.Claim

/-! The optimiser's step for the input projections of both layers, entry by entry: the devices' parts summed, the two moments and
the change of the weight over a grid point's blocks, and the reference's results as the same expressions. -/

@[expose] public section

set_option maxRecDepth 16384

noncomputable section

open Idealize.ShloMosaic Idealize.ShloMosaic.TcCoe Idealize.SL.Sem
open Idealize.ShloMosaic.Pipeline (Dat)
open scoped BigOperators

namespace Cert.KernelAdamAIdeal.Value

open Cert.KernelAdamAIdeal Cert.KernelAdamAIdeal.Gen
open Cert.ReferenceAdamAIdeal.Value (REF0 REF1 REF2 REF3)

variable (m : (ℓ : Loc nD τ sig) → Buf (Elt Ideal) ℓ)

/-- Every window's block index at a grid point. -/
theorem idx_val : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- What the body stores at an index of the block is the reference there. -/
theorem point_4 (c : Dev nD) (t : Fin cfg0.N) (y) :
    k0_pay2 (View.ld (iblk m c 0 t) r0_0) (View.ld (iblk m c 0 t) r0_1) (View.ld (iblk m c 0 t) r0_2) (View.ld (iblk m
      c 0 t) r0_3) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0]
  try simp only [Fin.sum_univ_four]
  blk_point [iblk, V, idx_val t]

/-- What the window holds after the last point is the result of the reference. -/
theorem final_4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What the body stores at an index of the block is the reference there. -/
theorem point_5 (c : Dev nD) (t : Fin cfg0.N) (y) :
    k0_pay1 (k0_pay5 (View.ld (iblk m c 0 t) r0_0) (View.ld (iblk m c 0 t) r0_1) (View.ld (iblk m c 0 t) r0_2)
      (View.ld (iblk m c 0 t) r0_3) (iblk m c 2 t)) (k0_pay6 (View.ld (iblk m c 0 t) r0_0) (View.ld (iblk m c 0 t) r0_1)
      (View.ld (iblk m c 0 t) r0_2) (View.ld (iblk m c 0 t) r0_3) (iblk m c 3 t)) (iblk m c 1 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, k0_pay5, k0_pay6, REF1]
  try simp only [Fin.sum_univ_four]
  blk_point [iblk, V, idx_val t]

/-- What the window holds after the last point is the result of the reference. -/
theorem final_5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

/-- What the body stores at an index of the block is the reference there. -/
theorem point_6 (c : Dev nD) (t : Fin cfg0.N) (y) :
    k0_pay3 (View.ld (iblk m c 0 t) r0_0) (View.ld (iblk m c 0 t) r0_1) (View.ld (iblk m c 0 t) r0_2) (View.ld (iblk m
      c 0 t) r0_3) (iblk m c 2 t) y
      = REF2 (m ((c : Thread nD τ).loc main_arg0)) (m ((c : Thread nD τ).loc main_arg1)) (m ((c : Thread nD τ).loc main_arg2)) (m ((c : Thread nD τ).loc main_arg3)) (((cfg0.win 6).blk
        t).view.emb y) := by
  pointwise [k0_pay1, k0_pay2, k0_pay3, k0_pay4, k0_pay5, k0_pay6, REF2]
  try simp only [Fin.sum_univ_four]
  blk_point [iblk, V, idx_val t]

/-- What the window holds after the last point is the result of the reference. -/
theorem final_6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point_6 m c t y

/-- What the body stores at an index of the block is the reference there. -/
theorem point_7 (c : Dev nD) (t : Fin cfg0.N) (y) :
    k0_pay4 (View.ld (iblk m c 0 t) r0_0) (View.ld (iblk m c 0 t) r0_1) (View.ld (iblk m c 0 t) r0_2) (View.ld (iblk m
      c 0 t) r0_3) (iblk m c 3 t) y
      = REF3 (m ((c : Thread nD τ).loc main_arg0)) (m ((c : Thread nD τ).loc main_arg1)) (m ((c : Thread nD τ).loc main_arg2)) (m ((c : Thread nD τ).loc main_arg3)) (((cfg0.win 7).blk
        t).view.emb y) := by
  pointwise [k0_pay1, k0_pay2, k0_pay3, k0_pay4, k0_pay5, k0_pay6, REF3]
  try simp only [Fin.sum_univ_four]
  blk_point [iblk, V, idx_val t]

/-- What the window holds after the last point is the result of the reference. -/
theorem final_7 (c : Dev nD) : (dats m 0 c).arrAt 7 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point_7 m c t y

end Cert.KernelAdamAIdeal.Value

end
-- ==== Proof.AdamAClaim.lean ====
module

public import proofs.«01_k».proof.Defs
public import proofs.«01_k».proof.Proof.Gen.KernelAdamA.Frame
public import proofs.«01_k».proof.Proof.AdamAValue
public import Idealize.ShloMosaic.Lib.Quiescent

/-! The claims about the optimiser's step for the input projections of both layers. -/

@[expose] public section

set_option maxRecDepth 65536

noncomputable section

namespace Cert.Proof

open Idealize.ShloMosaic Idealize.SL.Sem

theorem quiescent_KernelAdamA : Cert.quiescent_KernelAdamA := fun m ρ _ => Cert.KernelAdamA.Gen.frame m ρ

theorem quiescent_KernelAdamAIdeal : Cert.quiescent_KernelAdamAIdeal := fun m ρ _ => Cert.KernelAdamAIdeal.Gen.frame m ρ

theorem quiescent_ReferenceAdamAIdeal : Cert.quiescent_ReferenceAdamAIdeal := fun m ρ _ =>
  (θ_run Cert.ReferenceAdamAIdeal.defs _ _).mono
    (fun r h => ⟨fun c => (h c).2.2.2.2, Idealize.ShloMosaic.sem_eq_zero_of_no_sems (by decide) r.2⟩)
    (Cert.ReferenceAdamAIdeal.Value.run (F := Ideal) m ρ)

theorem algebraic_AdamA : Cert.algebraic_KernelAdamAIdeal_ReferenceAdamAIdeal := by
  intro m ρ m' ρ' _ hagree
  refine ⟨_, _, _, _, Cert.KernelAdamAIdeal.Value.run_blocks (F := Ideal) m ρ, ?_⟩
  refine (θ_run Cert.ReferenceAdamAIdeal.defs _ _).mono
    (fun _ h c => ⟨(h c).1.trans ?_, (h c).2.1.trans ?_, (h c).2.2.1.trans ?_, (h c).2.2.2.1.trans ?_, (h c).2.2.2.2⟩)
    (Cert.ReferenceAdamAIdeal.Value.run (F := Ideal) m' ρ')
  · obtain ⟨h0, h1, h2, h3⟩ := hagree c
    change Cert.ReferenceAdamAIdeal.Value.REF0 (m' ((c.tc : Thread Cert.ReferenceAdamAIdeal.nD Cert.ReferenceAdamAIdeal.τ).loc Cert.ReferenceAdamAIdeal.main_arg0)) (m' ((c.tc : Thread Cert.ReferenceAdamAIdeal.nD Cert.ReferenceAdamAIdeal.τ).loc Cert.ReferenceAdamAIdeal.main_arg1)) (m' ((c.tc : Thread Cert.ReferenceAdamAIdeal.nD Cert.ReferenceAdamAIdeal.τ).loc Cert.ReferenceAdamAIdeal.main_arg2)) (m' ((c.tc : Thread Cert.ReferenceAdamAIdeal.nD Cert.ReferenceAdamAIdeal.τ).loc Cert.ReferenceAdamAIdeal.main_arg3)) = _
    rw [h0, h1, h2, h3]
    exact (Cert.KernelAdamAIdeal.Value.final_4 m c).symm
  · obtain ⟨h0, h1, h2, h3⟩ := hagree c
    change Cert.ReferenceAdamAIdeal.Value.REF1 (m' ((c.tc : Thread Cert.ReferenceAdamAIdeal.nD Cert.ReferenceAdamAIdeal.τ).loc Cert.ReferenceAdamAIdeal.main_arg0)) (m' ((c.tc : Thread Cert.ReferenceAdamAIdeal.nD Cert.ReferenceAdamAIdeal.τ).loc Cert.ReferenceAdamAIdeal.main_arg1)) (m' ((c.tc : Thread Cert.ReferenceAdamAIdeal.nD Cert.ReferenceAdamAIdeal.τ).loc Cert.ReferenceAdamAIdeal.main_arg2)) (m' ((c.tc : Thread Cert.ReferenceAdamAIdeal.nD Cert.ReferenceAdamAIdeal.τ).loc Cert.ReferenceAdamAIdeal.main_arg3)) = _
    rw [h0, h1, h2, h3]
    exact (Cert.KernelAdamAIdeal.Value.final_5 m c).symm
  · obtain ⟨h0, h1, h2, h3⟩ := hagree c
    change Cert.ReferenceAdamAIdeal.Value.REF2 (m' ((c.tc : Thread Cert.ReferenceAdamAIdeal.nD Cert.ReferenceAdamAIdeal.τ).loc Cert.ReferenceAdamAIdeal.main_arg0)) (m' ((c.tc : Thread Cert.ReferenceAdamAIdeal.nD Cert.ReferenceAdamAIdeal.τ).loc Cert.ReferenceAdamAIdeal.main_arg1)) (m' ((c.tc : Thread Cert.ReferenceAdamAIdeal.nD Cert.ReferenceAdamAIdeal.τ).loc Cert.ReferenceAdamAIdeal.main_arg2)) (m' ((c.tc : Thread Cert.ReferenceAdamAIdeal.nD Cert.ReferenceAdamAIdeal.τ).loc Cert.ReferenceAdamAIdeal.main_arg3)) = _
    rw [h0, h1, h2, h3]
    exact (Cert.KernelAdamAIdeal.Value.final_6 m c).symm
  · obtain ⟨h0, h1, h2, h3⟩ := hagree c
    change Cert.ReferenceAdamAIdeal.Value.REF3 (m' ((c.tc : Thread Cert.ReferenceAdamAIdeal.nD Cert.ReferenceAdamAIdeal.τ).loc Cert.ReferenceAdamAIdeal.main_arg0)) (m' ((c.tc : Thread Cert.ReferenceAdamAIdeal.nD Cert.ReferenceAdamAIdeal.τ).loc Cert.ReferenceAdamAIdeal.main_arg1)) (m' ((c.tc : Thread Cert.ReferenceAdamAIdeal.nD Cert.ReferenceAdamAIdeal.τ).loc Cert.ReferenceAdamAIdeal.main_arg2)) (m' ((c.tc : Thread Cert.ReferenceAdamAIdeal.nD Cert.ReferenceAdamAIdeal.τ).loc Cert.ReferenceAdamAIdeal.main_arg3)) = _
    rw [h0, h1, h2, h3]
    exact (Cert.KernelAdamAIdeal.Value.final_7 m c).symm

end Cert.Proof

end
-- ==== Proof.AdamBRef.lean ====
module

public import proofs.«01_k».proof.Proof.Gen.ReferenceAdamBIdeal.Run
public import Idealize.ShloMosaic.PureOps.Ideal

/-! The reference's results as functions of its arguments, over the extended reals. -/

@[expose] public section

set_option maxRecDepth 16384

noncomputable section

namespace Cert.ReferenceAdamBIdeal.Value

open Cert.ReferenceAdamBIdeal Cert.ReferenceAdamBIdeal.Gen Idealize.ShloMosaic Idealize.ShloMosaic.TcCoe Idealize.SL.Sem Idealize.ShloMosaic.StableHlo

/-- Result 0 of the reference. -/
abbrev REF0 (a0 : FVec Ideal S4x384x1024 .bf16) (a1 : FVec Ideal S384x1024 .f32) (a2 : FVec Ideal S384x1024 .f32) (a3 : FVec Ideal S384x1024 .f32) :
    FVec Ideal S384x1024 .f32 :=
  Host.reduceAdd (extf .f32 a0 bitsLt_bf16_f32) (constant S_ .f32 0x00000000#32) reducesTo_S4x384x1024_S384x1024_d0 h_S_

/-- Result 1 of the reference. -/
abbrev REF1 (a0 : FVec Ideal S4x384x1024 .bf16) (a1 : FVec Ideal S384x1024 .f32) (a2 : FVec Ideal S384x1024 .f32) (a3 : FVec Ideal S384x1024 .f32) :
    FVec Ideal S384x1024 .f32 :=
  mulf (broadcastInDim S384x1024 ![] bcast_S_S384x1024 (constant S_ .f32 0xBA83126F#32)) (addf (Host.divf (Host.divf (addf (mulf (broadcastInDim S384x1024 ![] bcast_S_S384x1024 (constant S_ .f32 0x3F666666#32)) a2) (mulf (broadcastInDim S384x1024 ![] bcast_S_S384x1024 (constant S_ .f32 0x3DCCCCCD#32)) (Host.reduceAdd (extf .f32 a0 bitsLt_bf16_f32) (constant S_ .f32 0x00000000#32) reducesTo_S4x384x1024_S384x1024_d0 h_S_))) (broadcastInDim S384x1024 ![] bcast_S_S384x1024 (constant S_ .f32 0x3F26BD02#32))) (addf (Host.sqrt (Host.divf (addf (mulf (broadcastInDim S384x1024 ![] bcast_S_S384x1024 (constant S_ .f32 0x3F7FBE77#32)) a3) (mulf (broadcastInDim S384x1024 ![] bcast_S_S384x1024 (constant S_ .f32 0x3A83126F#32)) (mulf (Host.reduceAdd (extf .f32 a0 bitsLt_bf16_f32) (constant S_ .f32 0x00000000#32) reducesTo_S4x384x1024_S384x1024_d0 h_S_) (Host.reduceAdd (extf .f32 a0 bitsLt_bf16_f32) (constant S_ .f32 0x00000000#32) reducesTo_S4x384x1024_S384x1024_d0 h_S_)))) (broadcastInDim S384x1024 ![] bcast_S_S384x1024 (constant S_ .f32 0x3C231ACC#32)))) (broadcastInDim S384x1024 ![] bcast_S_S384x1024 (constant S_ .f32 0x322BCC77#32)))) (mulf (broadcastInDim S384x1024 ![] bcast_S_S384x1024 (constant S_ .f32 0x3C23D70A#32)) a1))

/-- Result 2 of the reference. -/
abbrev REF2 (a0 : FVec Ideal S4x384x1024 .bf16) (a1 : FVec Ideal S384x1024 .f32) (a2 : FVec Ideal S384x1024 .f32) (a3 : FVec Ideal S384x1024 .f32) :
    FVec Ideal S384x1024 .f32 :=
  addf (mulf (broadcastInDim S384x1024 ![] bcast_S_S384x1024 (constant S_ .f32 0x3F666666#32)) a2) (mulf (broadcastInDim S384x1024 ![] bcast_S_S384x1024 (constant S_ .f32 0x3DCCCCCD#32)) (Host.reduceAdd (extf .f32 a0 bitsLt_bf16_f32) (constant S_ .f32 0x00000000#32) reducesTo_S4x384x1024_S384x1024_d0 h_S_))

/-- Result 3 of the reference. -/
abbrev REF3 (a0 : FVec Ideal S4x384x1024 .bf16) (a1 : FVec Ideal S384x1024 .f32) (a2 : FVec Ideal S384x1024 .f32) (a3 : FVec Ideal S384x1024 .f32) :
    FVec Ideal S384x1024 .f32 :=
  addf (mulf (broadcastInDim S384x1024 ![] bcast_S_S384x1024 (constant S_ .f32 0x3F7FBE77#32)) a3) (mulf (broadcastInDim S384x1024 ![] bcast_S_S384x1024 (constant S_ .f32 0x3A83126F#32)) (mulf (Host.reduceAdd (extf .f32 a0 bitsLt_bf16_f32) (constant S_ .f32 0x00000000#32) reducesTo_S4x384x1024_S384x1024_d0 h_S_) (Host.reduceAdd (extf .f32 a0 bitsLt_bf16_f32) (constant S_ .f32 0x00000000#32) reducesTo_S4x384x1024_S384x1024_d0 h_S_)))

end Cert.ReferenceAdamBIdeal.Value

end
-- ==== Proof.AdamBValue.lean ====
module

public import proofs.«01_k».proof.Proof.Gen.KernelAdamBIdeal.Value
public import proofs.«01_k».proof.Proof.AdamBRef
public import Idealize.ShloMosaic.Lib.Pipeline.ValueKit
public import Idealize.ShloMosaic.Lib.Pointwise
public import Idealize.ShloMosaic.Lib.Claim

/-! The optimiser's step for the output projections of both layers, entry by entry: the devices' parts summed, the two moments and
the change of the weight over a grid point's blocks, and the reference's results as the same expressions. -/

@[expose] public section

set_option maxRecDepth 16384

noncomputable section

open Idealize.ShloMosaic Idealize.ShloMosaic.TcCoe Idealize.SL.Sem
open Idealize.ShloMosaic.Pipeline (Dat)
open scoped BigOperators

namespace Cert.KernelAdamBIdeal.Value

open Cert.KernelAdamBIdeal Cert.KernelAdamBIdeal.Gen
open Cert.ReferenceAdamBIdeal.Value (REF0 REF1 REF2 REF3)

variable (m : (ℓ : Loc nD τ sig) → Buf (Elt Ideal) ℓ)

/-- Every window's block index at a grid point. -/
theorem idx_val : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- What the body stores at an index of the block is the reference there. -/
theorem point_4 (c : Dev nD) (t : Fin cfg0.N) (y) :
    k0_pay2 (View.ld (iblk m c 0 t) r0_0) (View.ld (iblk m c 0 t) r0_1) (View.ld (iblk m c 0 t) r0_2) (View.ld (iblk m
      c 0 t) r0_3) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0]
  try simp only [Fin.sum_univ_four]
  blk_point [iblk, V, idx_val t]

/-- What the window holds after the last point is the result of the reference. -/
theorem final_4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What the body stores at an index of the block is the reference there. -/
theorem point_5 (c : Dev nD) (t : Fin cfg0.N) (y) :
    k0_pay1 (k0_pay5 (View.ld (iblk m c 0 t) r0_0) (View.ld (iblk m c 0 t) r0_1) (View.ld (iblk m c 0 t) r0_2)
      (View.ld (iblk m c 0 t) r0_3) (iblk m c 2 t)) (k0_pay6 (View.ld (iblk m c 0 t) r0_0) (View.ld (iblk m c 0 t) r0_1)
      (View.ld (iblk m c 0 t) r0_2) (View.ld (iblk m c 0 t) r0_3) (iblk m c 3 t)) (iblk m c 1 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, k0_pay5, k0_pay6, REF1]
  try simp only [Fin.sum_univ_four]
  blk_point [iblk, V, idx_val t]

/-- What the window holds after the last point is the result of the reference. -/
theorem final_5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

/-- What the body stores at an index of the block is the reference there. -/
theorem point_6 (c : Dev nD) (t : Fin cfg0.N) (y) :
    k0_pay3 (View.ld (iblk m c 0 t) r0_0) (View.ld (iblk m c 0 t) r0_1) (View.ld (iblk m c 0 t) r0_2) (View.ld (iblk m
      c 0 t) r0_3) (iblk m c 2 t) y
      = REF2 (m ((c : Thread nD τ).loc main_arg0)) (m ((c : Thread nD τ).loc main_arg1)) (m ((c : Thread nD τ).loc main_arg2)) (m ((c : Thread nD τ).loc main_arg3)) (((cfg0.win 6).blk
        t).view.emb y) := by
  pointwise [k0_pay1, k0_pay2, k0_pay3, k0_pay4, k0_pay5, k0_pay6, REF2]
  try simp only [Fin.sum_univ_four]
  blk_point [iblk, V, idx_val t]

/-- What the window holds after the last point is the result of the reference. -/
theorem final_6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point_6 m c t y

/-- What the body stores at an index of the block is the reference there. -/
theorem point_7 (c : Dev nD) (t : Fin cfg0.N) (y) :
    k0_pay4 (View.ld (iblk m c 0 t) r0_0) (View.ld (iblk m c 0 t) r0_1) (View.ld (iblk m c 0 t) r0_2) (View.ld (iblk m
      c 0 t) r0_3) (iblk m c 3 t) y
      = REF3 (m ((c : Thread nD τ).loc main_arg0)) (m ((c : Thread nD τ).loc main_arg1)) (m ((c : Thread nD τ).loc main_arg2)) (m ((c : Thread nD τ).loc main_arg3)) (((cfg0.win 7).blk
        t).view.emb y) := by
  pointwise [k0_pay1, k0_pay2, k0_pay3, k0_pay4, k0_pay5, k0_pay6, REF3]
  try simp only [Fin.sum_univ_four]
  blk_point [iblk, V, idx_val t]

/-- What the window holds after the last point is the result of the reference. -/
theorem final_7 (c : Dev nD) : (dats m 0 c).arrAt 7 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point_7 m c t y

end Cert.KernelAdamBIdeal.Value

end
-- ==== Proof.AdamBClaim.lean ====
module

public import proofs.«01_k».proof.Defs
public import proofs.«01_k».proof.Proof.Gen.KernelAdamB.Frame
public import proofs.«01_k».proof.Proof.AdamBValue
public import Idealize.ShloMosaic.Lib.Quiescent

/-! The claims about the optimiser's step for the output projections of both layers. -/

@[expose] public section

set_option maxRecDepth 65536

noncomputable section

namespace Cert.Proof

open Idealize.ShloMosaic Idealize.SL.Sem

theorem quiescent_KernelAdamB : Cert.quiescent_KernelAdamB := fun m ρ _ => Cert.KernelAdamB.Gen.frame m ρ

theorem quiescent_KernelAdamBIdeal : Cert.quiescent_KernelAdamBIdeal := fun m ρ _ => Cert.KernelAdamBIdeal.Gen.frame m ρ

theorem quiescent_ReferenceAdamBIdeal : Cert.quiescent_ReferenceAdamBIdeal := fun m ρ _ =>
  (θ_run Cert.ReferenceAdamBIdeal.defs _ _).mono
    (fun r h => ⟨fun c => (h c).2.2.2.2, Idealize.ShloMosaic.sem_eq_zero_of_no_sems (by decide) r.2⟩)
    (Cert.ReferenceAdamBIdeal.Value.run (F := Ideal) m ρ)

theorem algebraic_AdamB : Cert.algebraic_KernelAdamBIdeal_ReferenceAdamBIdeal := by
  intro m ρ m' ρ' _ hagree
  refine ⟨_, _, _, _, Cert.KernelAdamBIdeal.Value.run_blocks (F := Ideal) m ρ, ?_⟩
  refine (θ_run Cert.ReferenceAdamBIdeal.defs _ _).mono
    (fun _ h c => ⟨(h c).1.trans ?_, (h c).2.1.trans ?_, (h c).2.2.1.trans ?_, (h c).2.2.2.1.trans ?_, (h c).2.2.2.2⟩)
    (Cert.ReferenceAdamBIdeal.Value.run (F := Ideal) m' ρ')
  · obtain ⟨h0, h1, h2, h3⟩ := hagree c
    change Cert.ReferenceAdamBIdeal.Value.REF0 (m' ((c.tc : Thread Cert.ReferenceAdamBIdeal.nD Cert.ReferenceAdamBIdeal.τ).loc Cert.ReferenceAdamBIdeal.main_arg0)) (m' ((c.tc : Thread Cert.ReferenceAdamBIdeal.nD Cert.ReferenceAdamBIdeal.τ).loc Cert.ReferenceAdamBIdeal.main_arg1)) (m' ((c.tc : Thread Cert.ReferenceAdamBIdeal.nD Cert.ReferenceAdamBIdeal.τ).loc Cert.ReferenceAdamBIdeal.main_arg2)) (m' ((c.tc : Thread Cert.ReferenceAdamBIdeal.nD Cert.ReferenceAdamBIdeal.τ).loc Cert.ReferenceAdamBIdeal.main_arg3)) = _
    rw [h0, h1, h2, h3]
    exact (Cert.KernelAdamBIdeal.Value.final_4 m c).symm
  · obtain ⟨h0, h1, h2, h3⟩ := hagree c
    change Cert.ReferenceAdamBIdeal.Value.REF1 (m' ((c.tc : Thread Cert.ReferenceAdamBIdeal.nD Cert.ReferenceAdamBIdeal.τ).loc Cert.ReferenceAdamBIdeal.main_arg0)) (m' ((c.tc : Thread Cert.ReferenceAdamBIdeal.nD Cert.ReferenceAdamBIdeal.τ).loc Cert.ReferenceAdamBIdeal.main_arg1)) (m' ((c.tc : Thread Cert.ReferenceAdamBIdeal.nD Cert.ReferenceAdamBIdeal.τ).loc Cert.ReferenceAdamBIdeal.main_arg2)) (m' ((c.tc : Thread Cert.ReferenceAdamBIdeal.nD Cert.ReferenceAdamBIdeal.τ).loc Cert.ReferenceAdamBIdeal.main_arg3)) = _
    rw [h0, h1, h2, h3]
    exact (Cert.KernelAdamBIdeal.Value.final_5 m c).symm
  · obtain ⟨h0, h1, h2, h3⟩ := hagree c
    change Cert.ReferenceAdamBIdeal.Value.REF2 (m' ((c.tc : Thread Cert.ReferenceAdamBIdeal.nD Cert.ReferenceAdamBIdeal.τ).loc Cert.ReferenceAdamBIdeal.main_arg0)) (m' ((c.tc : Thread Cert.ReferenceAdamBIdeal.nD Cert.ReferenceAdamBIdeal.τ).loc Cert.ReferenceAdamBIdeal.main_arg1)) (m' ((c.tc : Thread Cert.ReferenceAdamBIdeal.nD Cert.ReferenceAdamBIdeal.τ).loc Cert.ReferenceAdamBIdeal.main_arg2)) (m' ((c.tc : Thread Cert.ReferenceAdamBIdeal.nD Cert.ReferenceAdamBIdeal.τ).loc Cert.ReferenceAdamBIdeal.main_arg3)) = _
    rw [h0, h1, h2, h3]
    exact (Cert.KernelAdamBIdeal.Value.final_6 m c).symm
  · obtain ⟨h0, h1, h2, h3⟩ := hagree c
    change Cert.ReferenceAdamBIdeal.Value.REF3 (m' ((c.tc : Thread Cert.ReferenceAdamBIdeal.nD Cert.ReferenceAdamBIdeal.τ).loc Cert.ReferenceAdamBIdeal.main_arg0)) (m' ((c.tc : Thread Cert.ReferenceAdamBIdeal.nD Cert.ReferenceAdamBIdeal.τ).loc Cert.ReferenceAdamBIdeal.main_arg1)) (m' ((c.tc : Thread Cert.ReferenceAdamBIdeal.nD Cert.ReferenceAdamBIdeal.τ).loc Cert.ReferenceAdamBIdeal.main_arg2)) (m' ((c.tc : Thread Cert.ReferenceAdamBIdeal.nD Cert.ReferenceAdamBIdeal.τ).loc Cert.ReferenceAdamBIdeal.main_arg3)) = _
    rw [h0, h1, h2, h3]
    exact (Cert.KernelAdamBIdeal.Value.final_7 m c).symm

end Cert.Proof

end
-- ==== Proof.AdamCRef.lean ====
module

public import proofs.«01_k».proof.Proof.Gen.ReferenceAdamCIdeal.Run
public import Idealize.ShloMosaic.PureOps.Ideal

/-! The reference's results as functions of its arguments, over the extended reals. -/

@[expose] public section

set_option maxRecDepth 16384

noncomputable section

namespace Cert.ReferenceAdamCIdeal.Value

open Cert.ReferenceAdamCIdeal Cert.ReferenceAdamCIdeal.Gen Idealize.ShloMosaic Idealize.ShloMosaic.TcCoe Idealize.SL.Sem Idealize.ShloMosaic.StableHlo

/-- Result 0 of the reference. -/
abbrev REF0 (a0 : FVec Ideal S8x40x128 .f32) (a1 : FVec Ideal S40x128 .f32) (a2 : FVec Ideal S40x128 .f32) (a3 : FVec Ideal S40x128 .f32) :
    FVec Ideal S40x128 .f32 :=
  Host.reduceAdd a0 (constant S_ .f32 0x00000000#32) reducesTo_S8x40x128_S40x128_d0 h_S_

/-- Result 1 of the reference. -/
abbrev REF1 (a0 : FVec Ideal S8x40x128 .f32) (a1 : FVec Ideal S40x128 .f32) (a2 : FVec Ideal S40x128 .f32) (a3 : FVec Ideal S40x128 .f32) :
    FVec Ideal S40x128 .f32 :=
  mulf (broadcastInDim S40x128 ![] bcast_S_S40x128 (constant S_ .f32 0xBA83126F#32)) (addf (Host.divf (Host.divf (addf (mulf (broadcastInDim S40x128 ![] bcast_S_S40x128 (constant S_ .f32 0x3F666666#32)) a2) (mulf (broadcastInDim S40x128 ![] bcast_S_S40x128 (constant S_ .f32 0x3DCCCCCD#32)) (Host.reduceAdd a0 (constant S_ .f32 0x00000000#32) reducesTo_S8x40x128_S40x128_d0 h_S_))) (broadcastInDim S40x128 ![] bcast_S_S40x128 (constant S_ .f32 0x3F26BD02#32))) (addf (Host.sqrt (Host.divf (addf (mulf (broadcastInDim S40x128 ![] bcast_S_S40x128 (constant S_ .f32 0x3F7FBE77#32)) a3) (mulf (broadcastInDim S40x128 ![] bcast_S_S40x128 (constant S_ .f32 0x3A83126F#32)) (mulf (Host.reduceAdd a0 (constant S_ .f32 0x00000000#32) reducesTo_S8x40x128_S40x128_d0 h_S_) (Host.reduceAdd a0 (constant S_ .f32 0x00000000#32) reducesTo_S8x40x128_S40x128_d0 h_S_)))) (broadcastInDim S40x128 ![] bcast_S_S40x128 (constant S_ .f32 0x3C231ACC#32)))) (broadcastInDim S40x128 ![] bcast_S_S40x128 (constant S_ .f32 0x322BCC77#32)))) (mulf (broadcastInDim S40x128 ![] bcast_S_S40x128 (constant S_ .f32 0x3C23D70A#32)) a1))

/-- Result 2 of the reference. -/
abbrev REF2 (a0 : FVec Ideal S8x40x128 .f32) (a1 : FVec Ideal S40x128 .f32) (a2 : FVec Ideal S40x128 .f32) (a3 : FVec Ideal S40x128 .f32) :
    FVec Ideal S40x128 .f32 :=
  addf (mulf (broadcastInDim S40x128 ![] bcast_S_S40x128 (constant S_ .f32 0x3F666666#32)) a2) (mulf (broadcastInDim S40x128 ![] bcast_S_S40x128 (constant S_ .f32 0x3DCCCCCD#32)) (Host.reduceAdd a0 (constant S_ .f32 0x00000000#32) reducesTo_S8x40x128_S40x128_d0 h_S_))

/-- Result 3 of the reference. -/
abbrev REF3 (a0 : FVec Ideal S8x40x128 .f32) (a1 : FVec Ideal S40x128 .f32) (a2 : FVec Ideal S40x128 .f32) (a3 : FVec Ideal S40x128 .f32) :
    FVec Ideal S40x128 .f32 :=
  addf (mulf (broadcastInDim S40x128 ![] bcast_S_S40x128 (constant S_ .f32 0x3F7FBE77#32)) a3) (mulf (broadcastInDim S40x128 ![] bcast_S_S40x128 (constant S_ .f32 0x3A83126F#32)) (mulf (Host.reduceAdd a0 (constant S_ .f32 0x00000000#32) reducesTo_S8x40x128_S40x128_d0 h_S_) (Host.reduceAdd a0 (constant S_ .f32 0x00000000#32) reducesTo_S8x40x128_S40x128_d0 h_S_)))

end Cert.ReferenceAdamCIdeal.Value

end
-- ==== Proof.AdamCValue.lean ====
module

public import proofs.«01_k».proof.Proof.Gen.KernelAdamCIdeal.Value
public import proofs.«01_k».proof.Proof.AdamCRef
public import Idealize.ShloMosaic.Lib.Pipeline.ValueKit
public import Idealize.ShloMosaic.Lib.Pointwise
public import Idealize.ShloMosaic.Lib.Claim

/-! The optimiser's step for the meta tokens, the convolution and the second norm, entry by entry: the devices' parts summed, the two moments and
the change of the weight over a grid point's blocks, and the reference's results as the same expressions. -/

@[expose] public section

set_option maxRecDepth 16384

noncomputable section

open Idealize.ShloMosaic Idealize.ShloMosaic.TcCoe Idealize.SL.Sem
open Idealize.ShloMosaic.Pipeline (Dat)
open scoped BigOperators

namespace Cert.KernelAdamCIdeal.Value

open Cert.KernelAdamCIdeal Cert.KernelAdamCIdeal.Gen
open Cert.ReferenceAdamCIdeal.Value (REF0 REF1 REF2 REF3)

variable (m : (ℓ : Loc nD τ sig) → Buf (Elt Ideal) ℓ)

/-- Every window's block index at a grid point. -/
theorem idx_val : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- What the body stores at an index of the block is the reference there. -/
theorem point_4 (c : Dev nD) (t : Fin cfg0.N) (y) :
    k0_pay5 (iblk m c 0 t) (iblk m c 1 t) (iblk m c 2 t) (iblk m c 3 t) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0]
  try simp only [Fin.sum_univ_eight]
  blk_point [iblk, V, idx_val t]

/-- What the window holds after the last point is the result of the reference. -/
theorem final_4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What the body stores at an index of the block is the reference there. -/
theorem point_5 (c : Dev nD) (t : Fin cfg0.N) (y) :
    k0_pay2 (k0_pay5 (iblk m c 0 t) (iblk m c 1 t) (iblk m c 2 t) (iblk m c 3 t)) (k0_pay6 (iblk m c 0 t) (iblk m c 1
      t) (iblk m c 2 t) (iblk m c 3 t)) (iblk m c 3 t) (iblk m c 1 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, k0_pay5, k0_pay6, REF1]
  try simp only [Fin.sum_univ_eight]
  blk_point [iblk, V, idx_val t]

/-- What the window holds after the last point is the result of the reference. -/
theorem final_5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

/-- What the body stores at an index of the block is the reference there. -/
theorem point_6 (c : Dev nD) (t : Fin cfg0.N) (y) :
    k0_pay6 (iblk m c 0 t) (iblk m c 1 t) (iblk m c 2 t) (iblk m c 3 t) y
      = REF2 (m ((c : Thread nD τ).loc main_arg0)) (m ((c : Thread nD τ).loc main_arg1)) (m ((c : Thread nD τ).loc main_arg2)) (m ((c : Thread nD τ).loc main_arg3)) (((cfg0.win 6).blk
        t).view.emb y) := by
  pointwise [k0_pay1, k0_pay2, k0_pay3, k0_pay4, k0_pay5, k0_pay6, REF2]
  try simp only [Fin.sum_univ_eight]
  blk_point [iblk, V, idx_val t]

/-- What the window holds after the last point is the result of the reference. -/
theorem final_6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point_6 m c t y

/-- What the body stores at an index of the block is the reference there. -/
theorem point_7 (c : Dev nD) (t : Fin cfg0.N) (y) :
    k0_pay1 (k0_pay5 (iblk m c 0 t) (iblk m c 1 t) (iblk m c 2 t) (iblk m c 3 t)) (iblk m c 3 t) y
      = REF3 (m ((c : Thread nD τ).loc main_arg0)) (m ((c : Thread nD τ).loc main_arg1)) (m ((c : Thread nD τ).loc main_arg2)) (m ((c : Thread nD τ).loc main_arg3)) (((cfg0.win 7).blk
        t).view.emb y) := by
  pointwise [k0_pay1, k0_pay2, k0_pay3, k0_pay4, k0_pay5, k0_pay6, REF3]
  try simp only [Fin.sum_univ_eight]
  blk_point [iblk, V, idx_val t]

/-- What the window holds after the last point is the result of the reference. -/
theorem final_7 (c : Dev nD) : (dats m 0 c).arrAt 7 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point_7 m c t y

end Cert.KernelAdamCIdeal.Value

end
-- ==== Proof.AdamCClaim.lean ====
module

public import proofs.«01_k».proof.Defs
public import proofs.«01_k».proof.Proof.Gen.KernelAdamC.Frame
public import proofs.«01_k».proof.Proof.AdamCValue
public import Idealize.ShloMosaic.Lib.Quiescent

/-! The claims about the optimiser's step for the meta tokens, the convolution and the second norm. -/

@[expose] public section

set_option maxRecDepth 65536

noncomputable section

namespace Cert.Proof

open Idealize.ShloMosaic Idealize.SL.Sem

theorem quiescent_KernelAdamC : Cert.quiescent_KernelAdamC := fun m ρ _ => Cert.KernelAdamC.Gen.frame m ρ

theorem quiescent_KernelAdamCIdeal : Cert.quiescent_KernelAdamCIdeal := fun m ρ _ => Cert.KernelAdamCIdeal.Gen.frame m ρ

theorem quiescent_ReferenceAdamCIdeal : Cert.quiescent_ReferenceAdamCIdeal := fun m ρ _ =>
  (θ_run Cert.ReferenceAdamCIdeal.defs _ _).mono
    (fun r h => ⟨fun c => (h c).2.2.2.2, Idealize.ShloMosaic.sem_eq_zero_of_no_sems (by decide) r.2⟩)
    (Cert.ReferenceAdamCIdeal.Value.run (F := Ideal) m ρ)

theorem algebraic_AdamC : Cert.algebraic_KernelAdamCIdeal_ReferenceAdamCIdeal := by
  intro m ρ m' ρ' _ hagree
  refine ⟨_, _, _, _, Cert.KernelAdamCIdeal.Value.run_blocks (F := Ideal) m ρ, ?_⟩
  refine (θ_run Cert.ReferenceAdamCIdeal.defs _ _).mono
    (fun _ h c => ⟨(h c).1.trans ?_, (h c).2.1.trans ?_, (h c).2.2.1.trans ?_, (h c).2.2.2.1.trans ?_, (h c).2.2.2.2⟩)
    (Cert.ReferenceAdamCIdeal.Value.run (F := Ideal) m' ρ')
  · obtain ⟨h0, h1, h2, h3⟩ := hagree c
    change Cert.ReferenceAdamCIdeal.Value.REF0 (m' ((c.tc : Thread Cert.ReferenceAdamCIdeal.nD Cert.ReferenceAdamCIdeal.τ).loc Cert.ReferenceAdamCIdeal.main_arg0)) (m' ((c.tc : Thread Cert.ReferenceAdamCIdeal.nD Cert.ReferenceAdamCIdeal.τ).loc Cert.ReferenceAdamCIdeal.main_arg1)) (m' ((c.tc : Thread Cert.ReferenceAdamCIdeal.nD Cert.ReferenceAdamCIdeal.τ).loc Cert.ReferenceAdamCIdeal.main_arg2)) (m' ((c.tc : Thread Cert.ReferenceAdamCIdeal.nD Cert.ReferenceAdamCIdeal.τ).loc Cert.ReferenceAdamCIdeal.main_arg3)) = _
    rw [h0, h1, h2, h3]
    exact (Cert.KernelAdamCIdeal.Value.final_4 m c).symm
  · obtain ⟨h0, h1, h2, h3⟩ := hagree c
    change Cert.ReferenceAdamCIdeal.Value.REF1 (m' ((c.tc : Thread Cert.ReferenceAdamCIdeal.nD Cert.ReferenceAdamCIdeal.τ).loc Cert.ReferenceAdamCIdeal.main_arg0)) (m' ((c.tc : Thread Cert.ReferenceAdamCIdeal.nD Cert.ReferenceAdamCIdeal.τ).loc Cert.ReferenceAdamCIdeal.main_arg1)) (m' ((c.tc : Thread Cert.ReferenceAdamCIdeal.nD Cert.ReferenceAdamCIdeal.τ).loc Cert.ReferenceAdamCIdeal.main_arg2)) (m' ((c.tc : Thread Cert.ReferenceAdamCIdeal.nD Cert.ReferenceAdamCIdeal.τ).loc Cert.ReferenceAdamCIdeal.main_arg3)) = _
    rw [h0, h1, h2, h3]
    exact (Cert.KernelAdamCIdeal.Value.final_5 m c).symm
  · obtain ⟨h0, h1, h2, h3⟩ := hagree c
    change Cert.ReferenceAdamCIdeal.Value.REF2 (m' ((c.tc : Thread Cert.ReferenceAdamCIdeal.nD Cert.ReferenceAdamCIdeal.τ).loc Cert.ReferenceAdamCIdeal.main_arg0)) (m' ((c.tc : Thread Cert.ReferenceAdamCIdeal.nD Cert.ReferenceAdamCIdeal.τ).loc Cert.ReferenceAdamCIdeal.main_arg1)) (m' ((c.tc : Thread Cert.ReferenceAdamCIdeal.nD Cert.ReferenceAdamCIdeal.τ).loc Cert.ReferenceAdamCIdeal.main_arg2)) (m' ((c.tc : Thread Cert.ReferenceAdamCIdeal.nD Cert.ReferenceAdamCIdeal.τ).loc Cert.ReferenceAdamCIdeal.main_arg3)) = _
    rw [h0, h1, h2, h3]
    exact (Cert.KernelAdamCIdeal.Value.final_6 m c).symm
  · obtain ⟨h0, h1, h2, h3⟩ := hagree c
    change Cert.ReferenceAdamCIdeal.Value.REF3 (m' ((c.tc : Thread Cert.ReferenceAdamCIdeal.nD Cert.ReferenceAdamCIdeal.τ).loc Cert.ReferenceAdamCIdeal.main_arg0)) (m' ((c.tc : Thread Cert.ReferenceAdamCIdeal.nD Cert.ReferenceAdamCIdeal.τ).loc Cert.ReferenceAdamCIdeal.main_arg1)) (m' ((c.tc : Thread Cert.ReferenceAdamCIdeal.nD Cert.ReferenceAdamCIdeal.τ).loc Cert.ReferenceAdamCIdeal.main_arg2)) (m' ((c.tc : Thread Cert.ReferenceAdamCIdeal.nD Cert.ReferenceAdamCIdeal.τ).loc Cert.ReferenceAdamCIdeal.main_arg3)) = _
    rw [h0, h1, h2, h3]
    exact (Cert.KernelAdamCIdeal.Value.final_7 m c).symm

end Cert.Proof

end
-- ==== Proof.AdamSRef.lean ====
module

public import proofs.«01_k».proof.Proof.Gen.ReferenceAdamSIdeal.Run
public import Idealize.ShloMosaic.PureOps.Ideal

/-! The reference's results as functions of its arguments, over the extended reals. -/

@[expose] public section

set_option maxRecDepth 16384

noncomputable section

namespace Cert.ReferenceAdamSIdeal.Value

open Cert.ReferenceAdamSIdeal Cert.ReferenceAdamSIdeal.Gen Idealize.ShloMosaic Idealize.ShloMosaic.TcCoe Idealize.SL.Sem Idealize.ShloMosaic.StableHlo

/-- Result 0 of the reference. -/
abbrev REF0 (a0 : FVec Ideal S8x16x128 .f32) (a1 : FVec Ideal S16x128 .f32) (a2 : FVec Ideal S16x128 .f32) (a3 : FVec Ideal S16x128 .f32) :
    FVec Ideal S16x128 .f32 :=
  Host.reduceAdd a0 (constant S_ .f32 0x00000000#32) reducesTo_S8x16x128_S16x128_d0 h_S_

/-- Result 1 of the reference. -/
abbrev REF1 (a0 : FVec Ideal S8x16x128 .f32) (a1 : FVec Ideal S16x128 .f32) (a2 : FVec Ideal S16x128 .f32) (a3 : FVec Ideal S16x128 .f32) :
    FVec Ideal S16x128 .f32 :=
  mulf (broadcastInDim S16x128 ![] bcast_S_S16x128 (constant S_ .f32 0xBA83126F#32)) (addf (Host.divf (Host.divf (addf (mulf (broadcastInDim S16x128 ![] bcast_S_S16x128 (constant S_ .f32 0x3F666666#32)) a2) (mulf (broadcastInDim S16x128 ![] bcast_S_S16x128 (constant S_ .f32 0x3DCCCCCD#32)) (Host.reduceAdd a0 (constant S_ .f32 0x00000000#32) reducesTo_S8x16x128_S16x128_d0 h_S_))) (broadcastInDim S16x128 ![] bcast_S_S16x128 (constant S_ .f32 0x3F26BD02#32))) (addf (Host.sqrt (Host.divf (addf (mulf (broadcastInDim S16x128 ![] bcast_S_S16x128 (constant S_ .f32 0x3F7FBE77#32)) a3) (mulf (broadcastInDim S16x128 ![] bcast_S_S16x128 (constant S_ .f32 0x3A83126F#32)) (mulf (Host.reduceAdd a0 (constant S_ .f32 0x00000000#32) reducesTo_S8x16x128_S16x128_d0 h_S_) (Host.reduceAdd a0 (constant S_ .f32 0x00000000#32) reducesTo_S8x16x128_S16x128_d0 h_S_)))) (broadcastInDim S16x128 ![] bcast_S_S16x128 (constant S_ .f32 0x3C231ACC#32)))) (broadcastInDim S16x128 ![] bcast_S_S16x128 (constant S_ .f32 0x322BCC77#32)))) (mulf (broadcastInDim S16x128 ![] bcast_S_S16x128 (constant S_ .f32 0x3C23D70A#32)) a1))

/-- Result 2 of the reference. -/
abbrev REF2 (a0 : FVec Ideal S8x16x128 .f32) (a1 : FVec Ideal S16x128 .f32) (a2 : FVec Ideal S16x128 .f32) (a3 : FVec Ideal S16x128 .f32) :
    FVec Ideal S16x128 .f32 :=
  addf (mulf (broadcastInDim S16x128 ![] bcast_S_S16x128 (constant S_ .f32 0x3F666666#32)) a2) (mulf (broadcastInDim S16x128 ![] bcast_S_S16x128 (constant S_ .f32 0x3DCCCCCD#32)) (Host.reduceAdd a0 (constant S_ .f32 0x00000000#32) reducesTo_S8x16x128_S16x128_d0 h_S_))

/-- Result 3 of the reference. -/
abbrev REF3 (a0 : FVec Ideal S8x16x128 .f32) (a1 : FVec Ideal S16x128 .f32) (a2 : FVec Ideal S16x128 .f32) (a3 : FVec Ideal S16x128 .f32) :
    FVec Ideal S16x128 .f32 :=
  addf (mulf (broadcastInDim S16x128 ![] bcast_S_S16x128 (constant S_ .f32 0x3F7FBE77#32)) a3) (mulf (broadcastInDim S16x128 ![] bcast_S_S16x128 (constant S_ .f32 0x3A83126F#32)) (mulf (Host.reduceAdd a0 (constant S_ .f32 0x00000000#32) reducesTo_S8x16x128_S16x128_d0 h_S_) (Host.reduceAdd a0 (constant S_ .f32 0x00000000#32) reducesTo_S8x16x128_S16x128_d0 h_S_)))

end Cert.ReferenceAdamSIdeal.Value

end
-- ==== Proof.AdamSValue.lean ====
module

public import proofs.«01_k».proof.Proof.Gen.KernelAdamSIdeal.Value
public import proofs.«01_k».proof.Proof.AdamSRef
public import Idealize.ShloMosaic.Lib.Pipeline.ValueKit
public import Idealize.ShloMosaic.Lib.Pointwise
public import Idealize.ShloMosaic.Lib.Claim

/-! The optimiser's step for the small weights, the loss beside them, entry by entry: the devices' parts summed, the two moments and
the change of the weight over a grid point's blocks, and the reference's results as the same expressions. -/

@[expose] public section

set_option maxRecDepth 16384

noncomputable section

open Idealize.ShloMosaic Idealize.ShloMosaic.TcCoe Idealize.SL.Sem
open Idealize.ShloMosaic.Pipeline (Dat)
open scoped BigOperators

namespace Cert.KernelAdamSIdeal.Value

open Cert.KernelAdamSIdeal Cert.KernelAdamSIdeal.Gen
open Cert.ReferenceAdamSIdeal.Value (REF0 REF1 REF2 REF3)

variable (m : (ℓ : Loc nD τ sig) → Buf (Elt Ideal) ℓ)

/-- Every window's block index at a grid point. -/
theorem idx_val : ∀ t : Fin cfg0.N, win0_0.index t = ![0, 0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- What the body stores at an index of the block is the reference there. -/
theorem point_4 (c : Dev nD) (t : Fin cfg0.N) (y) :
    k0_pay5 (iblk m c 0 t) (iblk m c 1 t) (iblk m c 2 t) (iblk m c 3 t) y
      = REF0 (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, k0_pay4, k0_pay5, k0_pay6, REF0]
  try simp only [Fin.sum_univ_eight]
  blk_point [iblk, V, idx_val t]

/-- What the window holds after the last point is the result of the reference. -/
theorem final_4 (c : Dev nD) : (dats m 0 c).arrAt 4 (cfgs 0).N = REF0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp; rw [after0_4]; frame_out
  exact point_4 m c t y

/-- What the body stores at an index of the block is the reference there. -/
theorem point_5 (c : Dev nD) (t : Fin cfg0.N) (y) :
    k0_pay2 (k0_pay5 (iblk m c 0 t) (iblk m c 1 t) (iblk m c 2 t) (iblk m c 3 t)) (k0_pay6 (iblk m c 0 t) (iblk m c 1
      t) (iblk m c 2 t) (iblk m c 3 t)) (iblk m c 3 t) (iblk m c 1 t) y
      = REF1 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay1, k0_pay2, k0_pay3, k0_pay4, k0_pay5, k0_pay6, REF1]
  try simp only [Fin.sum_univ_eight]
  blk_point [iblk, V, idx_val t]

/-- What the window holds after the last point is the result of the reference. -/
theorem final_5 (c : Dev nD) : (dats m 0 c).arrAt 5 (cfgs 0).N = REF1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

/-- What the body stores at an index of the block is the reference there. -/
theorem point_6 (c : Dev nD) (t : Fin cfg0.N) (y) :
    k0_pay6 (iblk m c 0 t) (iblk m c 1 t) (iblk m c 2 t) (iblk m c 3 t) y
      = REF2 (m ((c : Thread nD τ).loc main_arg0)) (m ((c : Thread nD τ).loc main_arg1)) (m ((c : Thread nD τ).loc main_arg2)) (m ((c : Thread nD τ).loc main_arg3)) (((cfg0.win 6).blk
        t).view.emb y) := by
  pointwise [k0_pay1, k0_pay2, k0_pay3, k0_pay4, k0_pay5, k0_pay6, REF2]
  try simp only [Fin.sum_univ_eight]
  blk_point [iblk, V, idx_val t]

/-- What the window holds after the last point is the result of the reference. -/
theorem final_6 (c : Dev nD) : (dats m 0 c).arrAt 6 (cfgs 0).N = REF2 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp; rw [after0_6]; frame_out
  exact point_6 m c t y

/-- What the body stores at an index of the block is the reference there. -/
theorem point_7 (c : Dev nD) (t : Fin cfg0.N) (y) :
    k0_pay1 (k0_pay5 (iblk m c 0 t) (iblk m c 1 t) (iblk m c 2 t) (iblk m c 3 t)) (iblk m c 3 t) y
      = REF3 (m ((c : Thread nD τ).loc main_arg0)) (m ((c : Thread nD τ).loc main_arg1)) (m ((c : Thread nD τ).loc main_arg2)) (m ((c : Thread nD τ).loc main_arg3)) (((cfg0.win 7).blk
        t).view.emb y) := by
  pointwise [k0_pay1, k0_pay2, k0_pay3, k0_pay4, k0_pay5, k0_pay6, REF3]
  try simp only [Fin.sum_univ_eight]
  blk_point [iblk, V, idx_val t]

/-- What the window holds after the last point is the result of the reference. -/
theorem final_7 (c : Dev nD) : (dats m 0 c).arrAt 7 (cfgs 0).N = REF3 (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp; rw [after0_7]; frame_out
  exact point_7 m c t y

end Cert.KernelAdamSIdeal.Value

end
-- ==== Proof.AdamSClaim.lean ====
module

public import proofs.«01_k».proof.Defs
public import proofs.«01_k».proof.Proof.Gen.KernelAdamS.Frame
public import proofs.«01_k».proof.Proof.AdamSValue
public import Idealize.ShloMosaic.Lib.Quiescent

/-! The claims about the optimiser's step for the small weights, the loss beside them. -/

@[expose] public section

set_option maxRecDepth 65536

noncomputable section

namespace Cert.Proof

open Idealize.ShloMosaic Idealize.SL.Sem

theorem quiescent_KernelAdamS : Cert.quiescent_KernelAdamS := fun m ρ _ => Cert.KernelAdamS.Gen.frame m ρ

theorem quiescent_KernelAdamSIdeal : Cert.quiescent_KernelAdamSIdeal := fun m ρ _ => Cert.KernelAdamSIdeal.Gen.frame m ρ

theorem quiescent_ReferenceAdamSIdeal : Cert.quiescent_ReferenceAdamSIdeal := fun m ρ _ =>
  (θ_run Cert.ReferenceAdamSIdeal.defs _ _).mono
    (fun r h => ⟨fun c => (h c).2.2.2.2, Idealize.ShloMosaic.sem_eq_zero_of_no_sems (by decide) r.2⟩)
    (Cert.ReferenceAdamSIdeal.Value.run (F := Ideal) m ρ)

theorem algebraic_AdamS : Cert.algebraic_KernelAdamSIdeal_ReferenceAdamSIdeal := by
  intro m ρ m' ρ' _ hagree
  refine ⟨_, _, _, _, Cert.KernelAdamSIdeal.Value.run_blocks (F := Ideal) m ρ, ?_⟩
  refine (θ_run Cert.ReferenceAdamSIdeal.defs _ _).mono
    (fun _ h c => ⟨(h c).1.trans ?_, (h c).2.1.trans ?_, (h c).2.2.1.trans ?_, (h c).2.2.2.1.trans ?_, (h c).2.2.2.2⟩)
    (Cert.ReferenceAdamSIdeal.Value.run (F := Ideal) m' ρ')
  · obtain ⟨h0, h1, h2, h3⟩ := hagree c
    change Cert.ReferenceAdamSIdeal.Value.REF0 (m' ((c.tc : Thread Cert.ReferenceAdamSIdeal.nD Cert.ReferenceAdamSIdeal.τ).loc Cert.ReferenceAdamSIdeal.main_arg0)) (m' ((c.tc : Thread Cert.ReferenceAdamSIdeal.nD Cert.ReferenceAdamSIdeal.τ).loc Cert.ReferenceAdamSIdeal.main_arg1)) (m' ((c.tc : Thread Cert.ReferenceAdamSIdeal.nD Cert.ReferenceAdamSIdeal.τ).loc Cert.ReferenceAdamSIdeal.main_arg2)) (m' ((c.tc : Thread Cert.ReferenceAdamSIdeal.nD Cert.ReferenceAdamSIdeal.τ).loc Cert.ReferenceAdamSIdeal.main_arg3)) = _
    rw [h0, h1, h2, h3]
    exact (Cert.KernelAdamSIdeal.Value.final_4 m c).symm
  · obtain ⟨h0, h1, h2, h3⟩ := hagree c
    change Cert.ReferenceAdamSIdeal.Value.REF1 (m' ((c.tc : Thread Cert.ReferenceAdamSIdeal.nD Cert.ReferenceAdamSIdeal.τ).loc Cert.ReferenceAdamSIdeal.main_arg0)) (m' ((c.tc : Thread Cert.ReferenceAdamSIdeal.nD Cert.ReferenceAdamSIdeal.τ).loc Cert.ReferenceAdamSIdeal.main_arg1)) (m' ((c.tc : Thread Cert.ReferenceAdamSIdeal.nD Cert.ReferenceAdamSIdeal.τ).loc Cert.ReferenceAdamSIdeal.main_arg2)) (m' ((c.tc : Thread Cert.ReferenceAdamSIdeal.nD Cert.ReferenceAdamSIdeal.τ).loc Cert.ReferenceAdamSIdeal.main_arg3)) = _
    rw [h0, h1, h2, h3]
    exact (Cert.KernelAdamSIdeal.Value.final_5 m c).symm
  · obtain ⟨h0, h1, h2, h3⟩ := hagree c
    change Cert.ReferenceAdamSIdeal.Value.REF2 (m' ((c.tc : Thread Cert.ReferenceAdamSIdeal.nD Cert.ReferenceAdamSIdeal.τ).loc Cert.ReferenceAdamSIdeal.main_arg0)) (m' ((c.tc : Thread Cert.ReferenceAdamSIdeal.nD Cert.ReferenceAdamSIdeal.τ).loc Cert.ReferenceAdamSIdeal.main_arg1)) (m' ((c.tc : Thread Cert.ReferenceAdamSIdeal.nD Cert.ReferenceAdamSIdeal.τ).loc Cert.ReferenceAdamSIdeal.main_arg2)) (m' ((c.tc : Thread Cert.ReferenceAdamSIdeal.nD Cert.ReferenceAdamSIdeal.τ).loc Cert.ReferenceAdamSIdeal.main_arg3)) = _
    rw [h0, h1, h2, h3]
    exact (Cert.KernelAdamSIdeal.Value.final_6 m c).symm
  · obtain ⟨h0, h1, h2, h3⟩ := hagree c
    change Cert.ReferenceAdamSIdeal.Value.REF3 (m' ((c.tc : Thread Cert.ReferenceAdamSIdeal.nD Cert.ReferenceAdamSIdeal.τ).loc Cert.ReferenceAdamSIdeal.main_arg0)) (m' ((c.tc : Thread Cert.ReferenceAdamSIdeal.nD Cert.ReferenceAdamSIdeal.τ).loc Cert.ReferenceAdamSIdeal.main_arg1)) (m' ((c.tc : Thread Cert.ReferenceAdamSIdeal.nD Cert.ReferenceAdamSIdeal.τ).loc Cert.ReferenceAdamSIdeal.main_arg2)) (m' ((c.tc : Thread Cert.ReferenceAdamSIdeal.nD Cert.ReferenceAdamSIdeal.τ).loc Cert.ReferenceAdamSIdeal.main_arg3)) = _
    rw [h0, h1, h2, h3]
    exact (Cert.KernelAdamSIdeal.Value.final_7 m c).symm

end Cert.Proof

end
-- ==== Proof.lean ====
module

public import proofs.«01_k».proof.Defs
public import proofs.«01_k».proof.Proof.GateClaim
public import proofs.«01_k».proof.Proof.InClaim
public import proofs.«01_k».proof.Proof.OutClaim
public import proofs.«01_k».proof.Proof.WQkvClaim
public import proofs.«01_k».proof.Proof.WZClaim
public import proofs.«01_k».proof.Proof.WBaClaim
public import proofs.«01_k».proof.Proof.WOutClaim
public import proofs.«01_k».proof.Proof.WQClaim
public import proofs.«01_k».proof.Proof.WKvClaim
public import proofs.«01_k».proof.Proof.WGateClaim
public import proofs.«01_k».proof.Proof.AInClaim
public import proofs.«01_k».proof.Proof.MidClaim
public import proofs.«01_k».proof.Proof.LossClaim
public import proofs.«01_k».proof.Proof.ConvClaim
public import proofs.«01_k».proof.Proof.PairAClaim
public import proofs.«01_k».proof.Proof.PairBClaim
public import proofs.«01_k».proof.Proof.AdamAClaim
public import proofs.«01_k».proof.Proof.AdamBClaim
public import proofs.«01_k».proof.Proof.AdamCClaim
public import proofs.«01_k».proof.Proof.AdamSClaim
public import proofs.«01_k».proof.Proof.Gen.KernelGate
public import proofs.«01_k».proof.Proof.Gen.KernelGateIdeal
public import proofs.«01_k».proof.Proof.Gen.ReferenceGateIdeal
public import proofs.«01_k».proof.Proof.Gen.KernelIn
public import proofs.«01_k».proof.Proof.Gen.KernelInIdeal
public import proofs.«01_k».proof.Proof.Gen.ReferenceInIdeal
public import proofs.«01_k».proof.Proof.Gen.KernelOut
public import proofs.«01_k».proof.Proof.Gen.KernelOutIdeal
public import proofs.«01_k».proof.Proof.Gen.ReferenceOutIdeal
public import proofs.«01_k».proof.Proof.Gen.KernelWQkv
public import proofs.«01_k».proof.Proof.Gen.KernelWQkvIdeal
public import proofs.«01_k».proof.Proof.Gen.ReferenceWQkvIdeal
public import proofs.«01_k».proof.Proof.Gen.KernelWZ
public import proofs.«01_k».proof.Proof.Gen.KernelWZIdeal
public import proofs.«01_k».proof.Proof.Gen.ReferenceWZIdeal
public import proofs.«01_k».proof.Proof.Gen.KernelWBa
public import proofs.«01_k».proof.Proof.Gen.KernelWBaIdeal
public import proofs.«01_k».proof.Proof.Gen.ReferenceWBaIdeal
public import proofs.«01_k».proof.Proof.Gen.KernelWOut
public import proofs.«01_k».proof.Proof.Gen.KernelWOutIdeal
public import proofs.«01_k».proof.Proof.Gen.ReferenceWOutIdeal
public import proofs.«01_k».proof.Proof.Gen.KernelWQ
public import proofs.«01_k».proof.Proof.Gen.KernelWQIdeal
public import proofs.«01_k».proof.Proof.Gen.ReferenceWQIdeal
public import proofs.«01_k».proof.Proof.Gen.KernelWKv
public import proofs.«01_k».proof.Proof.Gen.KernelWKvIdeal
public import proofs.«01_k».proof.Proof.Gen.ReferenceWKvIdeal
public import proofs.«01_k».proof.Proof.Gen.KernelWGate
public import proofs.«01_k».proof.Proof.Gen.KernelWGateIdeal
public import proofs.«01_k».proof.Proof.Gen.ReferenceWGateIdeal
public import proofs.«01_k».proof.Proof.Gen.KernelAIn
public import proofs.«01_k».proof.Proof.Gen.KernelAInIdeal
public import proofs.«01_k».proof.Proof.Gen.ReferenceAInIdeal
public import proofs.«01_k».proof.Proof.Gen.KernelMid
public import proofs.«01_k».proof.Proof.Gen.KernelMidIdeal
public import proofs.«01_k».proof.Proof.Gen.ReferenceMidIdeal
public import proofs.«01_k».proof.Proof.Gen.KernelLoss
public import proofs.«01_k».proof.Proof.Gen.KernelLossIdeal
public import proofs.«01_k».proof.Proof.Gen.ReferenceLossIdeal
public import proofs.«01_k».proof.Proof.Gen.KernelConv
public import proofs.«01_k».proof.Proof.Gen.KernelConvIdeal
public import proofs.«01_k».proof.Proof.Gen.ReferenceConvIdeal
public import proofs.«01_k».proof.Proof.Gen.KernelPairA
public import proofs.«01_k».proof.Proof.Gen.KernelPairAIdeal
public import proofs.«01_k».proof.Proof.Gen.ReferencePairAIdeal
public import proofs.«01_k».proof.Proof.Gen.KernelPairB
public import proofs.«01_k».proof.Proof.Gen.KernelPairBIdeal
public import proofs.«01_k».proof.Proof.Gen.ReferencePairBIdeal
public import proofs.«01_k».proof.Proof.Gen.KernelAdamA
public import proofs.«01_k».proof.Proof.Gen.KernelAdamAIdeal
public import proofs.«01_k».proof.Proof.Gen.ReferenceAdamAIdeal
public import proofs.«01_k».proof.Proof.Gen.KernelAdamB
public import proofs.«01_k».proof.Proof.Gen.KernelAdamBIdeal
public import proofs.«01_k».proof.Proof.Gen.ReferenceAdamBIdeal
public import proofs.«01_k».proof.Proof.Gen.KernelAdamC
public import proofs.«01_k».proof.Proof.Gen.KernelAdamCIdeal
public import proofs.«01_k».proof.Proof.Gen.ReferenceAdamCIdeal
public import proofs.«01_k».proof.Proof.Gen.KernelAdamS
public import proofs.«01_k».proof.Proof.Gen.KernelAdamSIdeal
public import proofs.«01_k».proof.Proof.Gen.ReferenceAdamSIdeal
public import proofs.«01_k».proof.Proof.Gen.KernelGateIdeal.Value
public import proofs.«01_k».proof.Proof.Gen.ReferenceGateIdeal.Run
public import proofs.«01_k».proof.Proof.Gen.KernelInIdeal.Value
public import proofs.«01_k».proof.Proof.Gen.ReferenceInIdeal.Run
public import proofs.«01_k».proof.Proof.Gen.KernelOutIdeal.Value
public import proofs.«01_k».proof.Proof.Gen.ReferenceOutIdeal.Run
public import proofs.«01_k».proof.Proof.Gen.KernelWQkvIdeal.Value
public import proofs.«01_k».proof.Proof.Gen.ReferenceWQkvIdeal.Run
public import proofs.«01_k».proof.Proof.Gen.KernelWZIdeal.Value
public import proofs.«01_k».proof.Proof.Gen.ReferenceWZIdeal.Run
public import proofs.«01_k».proof.Proof.Gen.KernelWBaIdeal.Value
public import proofs.«01_k».proof.Proof.Gen.ReferenceWBaIdeal.Run
public import proofs.«01_k».proof.Proof.Gen.KernelWOutIdeal.Value
public import proofs.«01_k».proof.Proof.Gen.ReferenceWOutIdeal.Run
public import proofs.«01_k».proof.Proof.Gen.KernelWQIdeal.Value
public import proofs.«01_k».proof.Proof.Gen.ReferenceWQIdeal.Run
public import proofs.«01_k».proof.Proof.Gen.KernelWKvIdeal.Value
public import proofs.«01_k».proof.Proof.Gen.ReferenceWKvIdeal.Run
public import proofs.«01_k».proof.Proof.Gen.KernelWGateIdeal.Value
public import proofs.«01_k».proof.Proof.Gen.ReferenceWGateIdeal.Run
public import proofs.«01_k».proof.Proof.Gen.KernelAInIdeal.Value
public import proofs.«01_k».proof.Proof.Gen.ReferenceAInIdeal.Run
public import proofs.«01_k».proof.Proof.Gen.KernelMidIdeal.Value
public import proofs.«01_k».proof.Proof.Gen.ReferenceMidIdeal.Run
public import proofs.«01_k».proof.Proof.Gen.KernelLossIdeal.Value
public import proofs.«01_k».proof.Proof.Gen.ReferenceLossIdeal.Run
public import proofs.«01_k».proof.Proof.Gen.KernelConvIdeal.Value
public import proofs.«01_k».proof.Proof.Gen.ReferenceConvIdeal.Run
public import proofs.«01_k».proof.Proof.Gen.KernelPairAIdeal.Value
public import proofs.«01_k».proof.Proof.Gen.ReferencePairAIdeal.Run
public import proofs.«01_k».proof.Proof.Gen.KernelPairBIdeal.Value
public import proofs.«01_k».proof.Proof.Gen.ReferencePairBIdeal.Run
public import proofs.«01_k».proof.Proof.Gen.KernelAdamAIdeal.Value
public import proofs.«01_k».proof.Proof.Gen.ReferenceAdamAIdeal.Run
public import proofs.«01_k».proof.Proof.Gen.KernelAdamBIdeal.Value
public import proofs.«01_k».proof.Proof.Gen.ReferenceAdamBIdeal.Run
public import proofs.«01_k».proof.Proof.Gen.KernelAdamCIdeal.Value
public import proofs.«01_k».proof.Proof.Gen.ReferenceAdamCIdeal.Run
public import proofs.«01_k».proof.Proof.Gen.KernelAdamSIdeal.Value
public import proofs.«01_k».proof.Proof.Gen.ReferenceAdamSIdeal.Run

/-! Every claim, from the modules that prove them one call at a time. -/

@[expose] public section

set_option maxRecDepth 65536

noncomputable section

namespace Cert.Proof

theorem claim : Cert.Claim :=
  ⟨Cert.KernelGate.Gen.facts,
    Cert.KernelGateIdeal.Gen.facts,
    Cert.ReferenceGateIdeal.Gen.facts,
    Cert.KernelIn.Gen.facts,
    Cert.KernelInIdeal.Gen.facts,
    Cert.ReferenceInIdeal.Gen.facts,
    Cert.KernelOut.Gen.facts,
    Cert.KernelOutIdeal.Gen.facts,
    Cert.ReferenceOutIdeal.Gen.facts,
    Cert.KernelWQkv.Gen.facts,
    Cert.KernelWQkvIdeal.Gen.facts,
    Cert.ReferenceWQkvIdeal.Gen.facts,
    Cert.KernelWZ.Gen.facts,
    Cert.KernelWZIdeal.Gen.facts,
    Cert.ReferenceWZIdeal.Gen.facts,
    Cert.KernelWBa.Gen.facts,
    Cert.KernelWBaIdeal.Gen.facts,
    Cert.ReferenceWBaIdeal.Gen.facts,
    Cert.KernelWOut.Gen.facts,
    Cert.KernelWOutIdeal.Gen.facts,
    Cert.ReferenceWOutIdeal.Gen.facts,
    Cert.KernelWQ.Gen.facts,
    Cert.KernelWQIdeal.Gen.facts,
    Cert.ReferenceWQIdeal.Gen.facts,
    Cert.KernelWKv.Gen.facts,
    Cert.KernelWKvIdeal.Gen.facts,
    Cert.ReferenceWKvIdeal.Gen.facts,
    Cert.KernelWGate.Gen.facts,
    Cert.KernelWGateIdeal.Gen.facts,
    Cert.ReferenceWGateIdeal.Gen.facts,
    Cert.KernelAIn.Gen.facts,
    Cert.KernelAInIdeal.Gen.facts,
    Cert.ReferenceAInIdeal.Gen.facts,
    Cert.KernelMid.Gen.facts,
    Cert.KernelMidIdeal.Gen.facts,
    Cert.ReferenceMidIdeal.Gen.facts,
    Cert.KernelLoss.Gen.facts,
    Cert.KernelLossIdeal.Gen.facts,
    Cert.ReferenceLossIdeal.Gen.facts,
    Cert.KernelConv.Gen.facts,
    Cert.KernelConvIdeal.Gen.facts,
    Cert.ReferenceConvIdeal.Gen.facts,
    Cert.KernelPairA.Gen.facts,
    Cert.KernelPairAIdeal.Gen.facts,
    Cert.ReferencePairAIdeal.Gen.facts,
    Cert.KernelPairB.Gen.facts,
    Cert.KernelPairBIdeal.Gen.facts,
    Cert.ReferencePairBIdeal.Gen.facts,
    Cert.KernelAdamA.Gen.facts,
    Cert.KernelAdamAIdeal.Gen.facts,
    Cert.ReferenceAdamAIdeal.Gen.facts,
    Cert.KernelAdamB.Gen.facts,
    Cert.KernelAdamBIdeal.Gen.facts,
    Cert.ReferenceAdamBIdeal.Gen.facts,
    Cert.KernelAdamC.Gen.facts,
    Cert.KernelAdamCIdeal.Gen.facts,
    Cert.ReferenceAdamCIdeal.Gen.facts,
    Cert.KernelAdamS.Gen.facts,
    Cert.KernelAdamSIdeal.Gen.facts,
    Cert.ReferenceAdamSIdeal.Gen.facts,
    quiescent_KernelGate,
    quiescent_KernelGateIdeal,
    quiescent_ReferenceGateIdeal,
    quiescent_KernelIn,
    quiescent_KernelInIdeal,
    quiescent_ReferenceInIdeal,
    quiescent_KernelOut,
    quiescent_KernelOutIdeal,
    quiescent_ReferenceOutIdeal,
    quiescent_KernelWQkv,
    quiescent_KernelWQkvIdeal,
    quiescent_ReferenceWQkvIdeal,
    quiescent_KernelWZ,
    quiescent_KernelWZIdeal,
    quiescent_ReferenceWZIdeal,
    quiescent_KernelWBa,
    quiescent_KernelWBaIdeal,
    quiescent_ReferenceWBaIdeal,
    quiescent_KernelWOut,
    quiescent_KernelWOutIdeal,
    quiescent_ReferenceWOutIdeal,
    quiescent_KernelWQ,
    quiescent_KernelWQIdeal,
    quiescent_ReferenceWQIdeal,
    quiescent_KernelWKv,
    quiescent_KernelWKvIdeal,
    quiescent_ReferenceWKvIdeal,
    quiescent_KernelWGate,
    quiescent_KernelWGateIdeal,
    quiescent_ReferenceWGateIdeal,
    quiescent_KernelAIn,
    quiescent_KernelAInIdeal,
    quiescent_ReferenceAInIdeal,
    quiescent_KernelMid,
    quiescent_KernelMidIdeal,
    quiescent_ReferenceMidIdeal,
    quiescent_KernelLoss,
    quiescent_KernelLossIdeal,
    quiescent_ReferenceLossIdeal,
    quiescent_KernelConv,
    quiescent_KernelConvIdeal,
    quiescent_ReferenceConvIdeal,
    quiescent_KernelPairA,
    quiescent_KernelPairAIdeal,
    quiescent_ReferencePairAIdeal,
    quiescent_KernelPairB,
    quiescent_KernelPairBIdeal,
    quiescent_ReferencePairBIdeal,
    quiescent_KernelAdamA,
    quiescent_KernelAdamAIdeal,
    quiescent_ReferenceAdamAIdeal,
    quiescent_KernelAdamB,
    quiescent_KernelAdamBIdeal,
    quiescent_ReferenceAdamBIdeal,
    quiescent_KernelAdamC,
    quiescent_KernelAdamCIdeal,
    quiescent_ReferenceAdamCIdeal,
    quiescent_KernelAdamS,
    quiescent_KernelAdamSIdeal,
    quiescent_ReferenceAdamSIdeal,
    trivial,
    algebraic_Gate,
    trivial,
    algebraic_In,
    trivial,
    algebraic_Out,
    trivial,
    algebraic_WQkv,
    trivial,
    algebraic_WZ,
    trivial,
    algebraic_WBa,
    trivial,
    algebraic_WOut,
    trivial,
    algebraic_WQ,
    trivial,
    algebraic_WKv,
    trivial,
    algebraic_WGate,
    trivial,
    algebraic_AIn,
    trivial,
    algebraic_Mid,
    trivial,
    algebraic_Loss,
    trivial,
    algebraic_Conv,
    trivial,
    algebraic_PairA,
    trivial,
    algebraic_PairB,
    trivial,
    algebraic_AdamA,
    trivial,
    algebraic_AdamB,
    trivial,
    algebraic_AdamC,
    trivial,
    algebraic_AdamS⟩

end Cert.Proof

end
